-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)) (v2 : (c : Dev Cert.KernelIdeal.nD) → Buf (Elt Ideal) ((c.tc : Thread Cert.KernelIdeal.nD Cert.KernelIdeal.τ).loc Cert.KernelIdeal.main_v33_2)) (v3 : (c : Dev Cert.KernelIdeal.nD) → Buf (Elt Ideal) ((c.tc : Thread Cert.KernelIdeal.nD Cert.KernelIdeal.τ).loc Cert.KernelIdeal.main_v33_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_v33_2) = v2 c
          ∧ r.2.mem ((c.tc : Thread Cert.KernelIdeal.nD Cert.KernelIdeal.τ).loc Cert.KernelIdeal.main_v33_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_v106) = v2 c
          ∧ r.2.mem ((c.tc : Thread Cert.ReferenceIdeal.nD Cert.ReferenceIdeal.τ).loc Cert.ReferenceIdeal.main_v99) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_v13) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v38) = v0 c
          ∧ r.2.mem ((c.tc : Thread Cert.Reference7Ideal.nD Cert.Reference7Ideal.τ).loc Cert.Reference7Ideal.main_v39) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_v7) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v9) = v0 c
          ∧ r.2.mem ((c.tc : Thread Cert.Reference10Ideal.nD Cert.Reference10Ideal.τ).loc Cert.Reference10Ideal.main_v10) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v45) = v0 c
          ∧ r.2.mem ((c.tc : Thread Cert.Reference11Ideal.nD Cert.Reference11Ideal.τ).loc Cert.Reference11Ideal.main_v46) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v5_0)) (v1 : (c : Dev Cert.Kernel14Ideal.nD) → Buf (Elt Ideal) ((c.tc : Thread Cert.Kernel14Ideal.nD Cert.Kernel14Ideal.τ).loc Cert.Kernel14Ideal.main_v5_1)) (v2 : (c : Dev Cert.Kernel14Ideal.nD) → Buf (Elt Ideal) ((c.tc : Thread Cert.Kernel14Ideal.nD Cert.Kernel14Ideal.τ).loc Cert.Kernel14Ideal.main_v5_2)) (v3 : (c : Dev Cert.Kernel14Ideal.nD) → Buf (Elt Ideal) ((c.tc : Thread Cert.Kernel14Ideal.nD Cert.Kernel14Ideal.τ).loc Cert.Kernel14Ideal.main_v5_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5_0) = v0 c
          ∧ r.2.mem ((c.tc : Thread Cert.Kernel14Ideal.nD Cert.Kernel14Ideal.τ).loc Cert.Kernel14Ideal.main_v5_1) = v1 c
          ∧ r.2.mem ((c.tc : Thread Cert.Kernel14Ideal.nD Cert.Kernel14Ideal.τ).loc Cert.Kernel14Ideal.main_v5_2) = v2 c
          ∧ r.2.mem ((c.tc : Thread Cert.Kernel14Ideal.nD Cert.Kernel14Ideal.τ).loc Cert.Kernel14Ideal.main_v5_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_v7) = v1 c
          ∧ r.2.mem ((c.tc : Thread Cert.Reference14Ideal.nD Cert.Reference14Ideal.τ).loc Cert.Reference14Ideal.main_v8) = v2 c
          ∧ r.2.mem ((c.tc : Thread Cert.Reference14Ideal.nD Cert.Reference14Ideal.τ).loc Cert.Reference14Ideal.main_v32) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v2_0)) (v1 : (c : Dev Cert.Kernel15Ideal.nD) → Buf (Elt Ideal) ((c.tc : Thread Cert.Kernel15Ideal.nD Cert.Kernel15Ideal.τ).loc Cert.Kernel15Ideal.main_v2_1)) (v2 : (c : Dev Cert.Kernel15Ideal.nD) → Buf (Elt Ideal) ((c.tc : Thread Cert.Kernel15Ideal.nD Cert.Kernel15Ideal.τ).loc Cert.Kernel15Ideal.main_v2_2)) (v3 : (c : Dev Cert.Kernel15Ideal.nD) → Buf (Elt Ideal) ((c.tc : Thread Cert.Kernel15Ideal.nD Cert.Kernel15Ideal.τ).loc Cert.Kernel15Ideal.main_v2_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2_0) = v0 c
          ∧ r.2.mem ((c.tc : Thread Cert.Kernel15Ideal.nD Cert.Kernel15Ideal.τ).loc Cert.Kernel15Ideal.main_v2_1) = v1 c
          ∧ r.2.mem ((c.tc : Thread Cert.Kernel15Ideal.nD Cert.Kernel15Ideal.τ).loc Cert.Kernel15Ideal.main_v2_2) = v2 c
          ∧ r.2.mem ((c.tc : Thread Cert.Kernel15Ideal.nD Cert.Kernel15Ideal.τ).loc Cert.Kernel15Ideal.main_v2_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v47) = v0 c
          ∧ r.2.mem ((c.tc : Thread Cert.Reference15Ideal.nD Cert.Reference15Ideal.τ).loc Cert.Reference15Ideal.main_v48) = v1 c
          ∧ r.2.mem ((c.tc : Thread Cert.Reference15Ideal.nD Cert.Reference15Ideal.τ).loc Cert.Reference15Ideal.main_v49) = v2 c
          ∧ r.2.mem ((c.tc : Thread Cert.Reference15Ideal.nD Cert.Reference15Ideal.τ).loc Cert.Reference15Ideal.main_v50) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v8_0)) (v1 : (c : Dev Cert.Kernel16Ideal.nD) → Buf (Elt Ideal) ((c.tc : Thread Cert.Kernel16Ideal.nD Cert.Kernel16Ideal.τ).loc Cert.Kernel16Ideal.main_v8_1)) (v2 : (c : Dev Cert.Kernel16Ideal.nD) → Buf (Elt Ideal) ((c.tc : Thread Cert.Kernel16Ideal.nD Cert.Kernel16Ideal.τ).loc Cert.Kernel16Ideal.main_v8_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v8_0) = v0 c
          ∧ r.2.mem ((c.tc : Thread Cert.Kernel16Ideal.nD Cert.Kernel16Ideal.τ).loc Cert.Kernel16Ideal.main_v8_1) = v1 c
          ∧ r.2.mem ((c.tc : Thread Cert.Kernel16Ideal.nD Cert.Kernel16Ideal.τ).loc Cert.Kernel16Ideal.main_v8_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v17) = v0 c
          ∧ r.2.mem ((c.tc : Thread Cert.Reference16Ideal.nD Cert.Reference16Ideal.τ).loc Cert.Reference16Ideal.main_v18) = v1 c
          ∧ r.2.mem ((c.tc : Thread Cert.Reference16Ideal.nD Cert.Reference16Ideal.τ).loc Cert.Reference16Ideal.main_v19) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v13) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  IdealRules.named_const.Statement Cert.Kernel18Ideal.κ "c1" .f32 0x3FC48605#32 ((8388608 / 5463681 : ℝ) : EReal)
  ∧ IdealRules.named_const.Statement Cert.Kernel18Ideal.κ "c2" .f32 0x42C8E6D3#32 ((268435456 / 2672307 : ℝ) : EReal)

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v7_0)) (v1 : (c : Dev Cert.Kernel18Ideal.nD) → Buf (Elt Ideal) ((c.tc : Thread Cert.Kernel18Ideal.nD Cert.Kernel18Ideal.τ).loc Cert.Kernel18Ideal.main_v7_1)) (v2 : (c : Dev Cert.Kernel18Ideal.nD) → Buf (Elt Ideal) ((c.tc : Thread Cert.Kernel18Ideal.nD Cert.Kernel18Ideal.τ).loc Cert.Kernel18Ideal.main_v7_2)) (v3 : (c : Dev Cert.Kernel18Ideal.nD) → Buf (Elt Ideal) ((c.tc : Thread Cert.Kernel18Ideal.nD Cert.Kernel18Ideal.τ).loc Cert.Kernel18Ideal.main_v7_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v7_0) = v0 c
          ∧ r.2.mem ((c.tc : Thread Cert.Kernel18Ideal.nD Cert.Kernel18Ideal.τ).loc Cert.Kernel18Ideal.main_v7_1) = v1 c
          ∧ r.2.mem ((c.tc : Thread Cert.Kernel18Ideal.nD Cert.Kernel18Ideal.τ).loc Cert.Kernel18Ideal.main_v7_2) = v2 c
          ∧ r.2.mem ((c.tc : Thread Cert.Kernel18Ideal.nD Cert.Kernel18Ideal.τ).loc Cert.Kernel18Ideal.main_v7_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v31) = v0 c
          ∧ r.2.mem ((c.tc : Thread Cert.Reference18Ideal.nD Cert.Reference18Ideal.τ).loc Cert.Reference18Ideal.main_v32) = v1 c
          ∧ r.2.mem ((c.tc : Thread Cert.Reference18Ideal.nD Cert.Reference18Ideal.τ).loc Cert.Reference18Ideal.main_v33) = v2 c
          ∧ r.2.mem ((c.tc : Thread Cert.Reference18Ideal.nD Cert.Reference18Ideal.τ).loc Cert.Reference18Ideal.main_v34) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  IdealRules.named_const.Statement Cert.Kernel19Ideal.κ "c1" .f32 0x3FC48605#32 ((8388608 / 5463681 : ℝ) : EReal)
  ∧ IdealRules.named_const.Statement Cert.Kernel19Ideal.κ "c2" .f32 0x42C8E6D3#32 ((268435456 / 2672307 : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v4_0)) (v1 : (c : Dev Cert.Kernel19Ideal.nD) → Buf (Elt Ideal) ((c.tc : Thread Cert.Kernel19Ideal.nD Cert.Kernel19Ideal.τ).loc Cert.Kernel19Ideal.main_v4_1)) (v2 : (c : Dev Cert.Kernel19Ideal.nD) → Buf (Elt Ideal) ((c.tc : Thread Cert.Kernel19Ideal.nD Cert.Kernel19Ideal.τ).loc Cert.Kernel19Ideal.main_v4_2)) (v3 : (c : Dev Cert.Kernel19Ideal.nD) → Buf (Elt Ideal) ((c.tc : Thread Cert.Kernel19Ideal.nD Cert.Kernel19Ideal.τ).loc Cert.Kernel19Ideal.main_v4_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4_0) = v0 c
          ∧ r.2.mem ((c.tc : Thread Cert.Kernel19Ideal.nD Cert.Kernel19Ideal.τ).loc Cert.Kernel19Ideal.main_v4_1) = v1 c
          ∧ r.2.mem ((c.tc : Thread Cert.Kernel19Ideal.nD Cert.Kernel19Ideal.τ).loc Cert.Kernel19Ideal.main_v4_2) = v2 c
          ∧ r.2.mem ((c.tc : Thread Cert.Kernel19Ideal.nD Cert.Kernel19Ideal.τ).loc Cert.Kernel19Ideal.main_v4_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_v28) = v1 c
          ∧ r.2.mem ((c.tc : Thread Cert.Reference19Ideal.nD Cert.Reference19Ideal.τ).loc Cert.Reference19Ideal.main_v9) = v2 c
          ∧ r.2.mem ((c.tc : Thread Cert.Reference19Ideal.nD Cert.Reference19Ideal.τ).loc Cert.Reference19Ideal.main_v15) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  IdealRules.named_const.Statement Cert.Kernel20Ideal.κ "c1" .f32 0x3FC48605#32 ((8388608 / 5463681 : ℝ) : EReal)
  ∧ IdealRules.named_const.Statement Cert.Kernel20Ideal.κ "c2" .f32 0x42C8E6D3#32 ((268435456 / 2672307 : ℝ) : EReal)

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v4_0)) (v1 : (c : Dev Cert.Kernel20Ideal.nD) → Buf (Elt Ideal) ((c.tc : Thread Cert.Kernel20Ideal.nD Cert.Kernel20Ideal.τ).loc Cert.Kernel20Ideal.main_v4_1)) (v2 : (c : Dev Cert.Kernel20Ideal.nD) → Buf (Elt Ideal) ((c.tc : Thread Cert.Kernel20Ideal.nD Cert.Kernel20Ideal.τ).loc Cert.Kernel20Ideal.main_v4_2)) (v3 : (c : Dev Cert.Kernel20Ideal.nD) → Buf (Elt Ideal) ((c.tc : Thread Cert.Kernel20Ideal.nD Cert.Kernel20Ideal.τ).loc Cert.Kernel20Ideal.main_v4_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4_0) = v0 c
          ∧ r.2.mem ((c.tc : Thread Cert.Kernel20Ideal.nD Cert.Kernel20Ideal.τ).loc Cert.Kernel20Ideal.main_v4_1) = v1 c
          ∧ r.2.mem ((c.tc : Thread Cert.Kernel20Ideal.nD Cert.Kernel20Ideal.τ).loc Cert.Kernel20Ideal.main_v4_2) = v2 c
          ∧ r.2.mem ((c.tc : Thread Cert.Kernel20Ideal.nD Cert.Kernel20Ideal.τ).loc Cert.Kernel20Ideal.main_v4_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_v28) = v1 c
          ∧ r.2.mem ((c.tc : Thread Cert.Reference20Ideal.nD Cert.Reference20Ideal.τ).loc Cert.Reference20Ideal.main_v9) = v2 c
          ∧ r.2.mem ((c.tc : Thread Cert.Reference20Ideal.nD Cert.Reference20Ideal.τ).loc Cert.Reference20Ideal.main_v15) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  IdealRules.named_const.Statement Cert.Kernel21Ideal.κ "c1" .f32 0x3FC48605#32 ((8388608 / 5463681 : ℝ) : EReal)
  ∧ IdealRules.named_const.Statement Cert.Kernel21Ideal.κ "c2" .f32 0x42C8E6D3#32 ((268435456 / 2672307 : ℝ) : EReal)

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v4_0)) (v1 : (c : Dev Cert.Kernel21Ideal.nD) → Buf (Elt Ideal) ((c.tc : Thread Cert.Kernel21Ideal.nD Cert.Kernel21Ideal.τ).loc Cert.Kernel21Ideal.main_v4_1)) (v2 : (c : Dev Cert.Kernel21Ideal.nD) → Buf (Elt Ideal) ((c.tc : Thread Cert.Kernel21Ideal.nD Cert.Kernel21Ideal.τ).loc Cert.Kernel21Ideal.main_v4_2)) (v3 : (c : Dev Cert.Kernel21Ideal.nD) → Buf (Elt Ideal) ((c.tc : Thread Cert.Kernel21Ideal.nD Cert.Kernel21Ideal.τ).loc Cert.Kernel21Ideal.main_v4_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4_0) = v0 c
          ∧ r.2.mem ((c.tc : Thread Cert.Kernel21Ideal.nD Cert.Kernel21Ideal.τ).loc Cert.Kernel21Ideal.main_v4_1) = v1 c
          ∧ r.2.mem ((c.tc : Thread Cert.Kernel21Ideal.nD Cert.Kernel21Ideal.τ).loc Cert.Kernel21Ideal.main_v4_2) = v2 c
          ∧ r.2.mem ((c.tc : Thread Cert.Kernel21Ideal.nD Cert.Kernel21Ideal.τ).loc Cert.Kernel21Ideal.main_v4_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_v29) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_v16) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  IdealRules.named_const.Statement Cert.Kernel22Ideal.κ "c1" .f32 0x3FC48605#32 ((8388608 / 5463681 : ℝ) : EReal)
  ∧ IdealRules.named_const.Statement Cert.Kernel22Ideal.κ "c2" .f32 0x42C8E6D3#32 ((268435456 / 2672307 : ℝ) : EReal)

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v4_0)) (v1 : (c : Dev Cert.Kernel22Ideal.nD) → Buf (Elt Ideal) ((c.tc : Thread Cert.Kernel22Ideal.nD Cert.Kernel22Ideal.τ).loc Cert.Kernel22Ideal.main_v4_1)) (v2 : (c : Dev Cert.Kernel22Ideal.nD) → Buf (Elt Ideal) ((c.tc : Thread Cert.Kernel22Ideal.nD Cert.Kernel22Ideal.τ).loc Cert.Kernel22Ideal.main_v4_2)) (v3 : (c : Dev Cert.Kernel22Ideal.nD) → Buf (Elt Ideal) ((c.tc : Thread Cert.Kernel22Ideal.nD Cert.Kernel22Ideal.τ).loc Cert.Kernel22Ideal.main_v4_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4_0) = v0 c
          ∧ r.2.mem ((c.tc : Thread Cert.Kernel22Ideal.nD Cert.Kernel22Ideal.τ).loc Cert.Kernel22Ideal.main_v4_1) = v1 c
          ∧ r.2.mem ((c.tc : Thread Cert.Kernel22Ideal.nD Cert.Kernel22Ideal.τ).loc Cert.Kernel22Ideal.main_v4_2) = v2 c
          ∧ r.2.mem ((c.tc : Thread Cert.Kernel22Ideal.nD Cert.Kernel22Ideal.τ).loc Cert.Kernel22Ideal.main_v4_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_v29) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_v16) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  IdealRules.named_const.Statement Cert.Kernel23Ideal.κ "c1" .f32 0x3FC48605#32 ((8388608 / 5463681 : ℝ) : EReal)
  ∧ IdealRules.named_const.Statement Cert.Kernel23Ideal.κ "c2" .f32 0x42C8E6D3#32 ((268435456 / 2672307 : ℝ) : EReal)

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v4_0)) (v1 : (c : Dev Cert.Kernel23Ideal.nD) → Buf (Elt Ideal) ((c.tc : Thread Cert.Kernel23Ideal.nD Cert.Kernel23Ideal.τ).loc Cert.Kernel23Ideal.main_v4_1)) (v2 : (c : Dev Cert.Kernel23Ideal.nD) → Buf (Elt Ideal) ((c.tc : Thread Cert.Kernel23Ideal.nD Cert.Kernel23Ideal.τ).loc Cert.Kernel23Ideal.main_v4_2)) (v3 : (c : Dev Cert.Kernel23Ideal.nD) → Buf (Elt Ideal) ((c.tc : Thread Cert.Kernel23Ideal.nD Cert.Kernel23Ideal.τ).loc Cert.Kernel23Ideal.main_v4_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4_0) = v0 c
          ∧ r.2.mem ((c.tc : Thread Cert.Kernel23Ideal.nD Cert.Kernel23Ideal.τ).loc Cert.Kernel23Ideal.main_v4_1) = v1 c
          ∧ r.2.mem ((c.tc : Thread Cert.Kernel23Ideal.nD Cert.Kernel23Ideal.τ).loc Cert.Kernel23Ideal.main_v4_2) = v2 c
          ∧ r.2.mem ((c.tc : Thread Cert.Kernel23Ideal.nD Cert.Kernel23Ideal.τ).loc Cert.Kernel23Ideal.main_v4_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_v29) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_v16) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  IdealRules.named_const.Statement Cert.Kernel24Ideal.κ "c1" .f32 0x3FC48605#32 ((8388608 / 5463681 : ℝ) : EReal)
  ∧ IdealRules.named_const.Statement Cert.Kernel24Ideal.κ "c2" .f32 0x42C8E6D3#32 ((268435456 / 2672307 : ℝ) : EReal)

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v5_0)) (v1 : (c : Dev Cert.Kernel24Ideal.nD) → Buf (Elt Ideal) ((c.tc : Thread Cert.Kernel24Ideal.nD Cert.Kernel24Ideal.τ).loc Cert.Kernel24Ideal.main_v5_1)) (v2 : (c : Dev Cert.Kernel24Ideal.nD) → Buf (Elt Ideal) ((c.tc : Thread Cert.Kernel24Ideal.nD Cert.Kernel24Ideal.τ).loc Cert.Kernel24Ideal.main_v5_2)) (v3 : (c : Dev Cert.Kernel24Ideal.nD) → Buf (Elt Ideal) ((c.tc : Thread Cert.Kernel24Ideal.nD Cert.Kernel24Ideal.τ).loc Cert.Kernel24Ideal.main_v5_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v5_0) = v0 c
          ∧ r.2.mem ((c.tc : Thread Cert.Kernel24Ideal.nD Cert.Kernel24Ideal.τ).loc Cert.Kernel24Ideal.main_v5_1) = v1 c
          ∧ r.2.mem ((c.tc : Thread Cert.Kernel24Ideal.nD Cert.Kernel24Ideal.τ).loc Cert.Kernel24Ideal.main_v5_2) = v2 c
          ∧ r.2.mem ((c.tc : Thread Cert.Kernel24Ideal.nD Cert.Kernel24Ideal.τ).loc Cert.Kernel24Ideal.main_v5_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v24) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v26) = v2 c
          ∧ r.2.mem ((c.tc : Thread Cert.Reference24Ideal.nD Cert.Reference24Ideal.τ).loc Cert.Reference24Ideal.main_v27) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  IdealRules.named_const.Statement Cert.Kernel25Ideal.κ "c1" .f32 0x3FC48605#32 ((8388608 / 5463681 : ℝ) : EReal)
  ∧ IdealRules.named_const.Statement Cert.Kernel25Ideal.κ "c2" .f32 0x42C8E6D3#32 ((268435456 / 2672307 : ℝ) : EReal)

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v1_0)) (v1 : (c : Dev Cert.Kernel25Ideal.nD) → Buf (Elt Ideal) ((c.tc : Thread Cert.Kernel25Ideal.nD Cert.Kernel25Ideal.τ).loc Cert.Kernel25Ideal.main_v1_1)) (v2 : (c : Dev Cert.Kernel25Ideal.nD) → Buf (Elt Ideal) ((c.tc : Thread Cert.Kernel25Ideal.nD Cert.Kernel25Ideal.τ).loc Cert.Kernel25Ideal.main_v1_2)) (v3 : (c : Dev Cert.Kernel25Ideal.nD) → Buf (Elt Ideal) ((c.tc : Thread Cert.Kernel25Ideal.nD Cert.Kernel25Ideal.τ).loc Cert.Kernel25Ideal.main_v1_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1_0) = v0 c
          ∧ r.2.mem ((c.tc : Thread Cert.Kernel25Ideal.nD Cert.Kernel25Ideal.τ).loc Cert.Kernel25Ideal.main_v1_1) = v1 c
          ∧ r.2.mem ((c.tc : Thread Cert.Kernel25Ideal.nD Cert.Kernel25Ideal.τ).loc Cert.Kernel25Ideal.main_v1_2) = v2 c
          ∧ r.2.mem ((c.tc : Thread Cert.Kernel25Ideal.nD Cert.Kernel25Ideal.τ).loc Cert.Kernel25Ideal.main_v1_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_arg0) = v0 c
          ∧ r.2.mem ((c.tc : Thread Cert.Reference25Ideal.nD Cert.Reference25Ideal.τ).loc Cert.Reference25Ideal.main_v23) = v1 c
          ∧ r.2.mem ((c.tc : Thread Cert.Reference25Ideal.nD Cert.Reference25Ideal.τ).loc Cert.Reference25Ideal.main_v4) = v2 c
          ∧ r.2.mem ((c.tc : Thread Cert.Reference25Ideal.nD Cert.Reference25Ideal.τ).loc Cert.Reference25Ideal.main_v10) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v6_0)) (v1 : (c : Dev Cert.Kernel26Ideal.nD) → Buf (Elt Ideal) ((c.tc : Thread Cert.Kernel26Ideal.nD Cert.Kernel26Ideal.τ).loc Cert.Kernel26Ideal.main_v6_1)) (v2 : (c : Dev Cert.Kernel26Ideal.nD) → Buf (Elt Ideal) ((c.tc : Thread Cert.Kernel26Ideal.nD Cert.Kernel26Ideal.τ).loc Cert.Kernel26Ideal.main_v6_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v6_0) = v0 c
          ∧ r.2.mem ((c.tc : Thread Cert.Kernel26Ideal.nD Cert.Kernel26Ideal.τ).loc Cert.Kernel26Ideal.main_v6_1) = v1 c
          ∧ r.2.mem ((c.tc : Thread Cert.Kernel26Ideal.nD Cert.Kernel26Ideal.τ).loc Cert.Kernel26Ideal.main_v6_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_v1) = v1 c
          ∧ r.2.mem ((c.tc : Thread Cert.Reference26Ideal.nD Cert.Reference26Ideal.τ).loc Cert.Reference26Ideal.main_v2) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Pre_finite.lean ====
abbrev S2048x3072 : Shape := ⟨2, ![2048, 3072]⟩
abbrev S8x128x640 : Shape := ⟨3, ![8, 128, 640]⟩
abbrev S2048x1024 : Shape := ⟨2, ![2048, 1024]⟩
abbrev S_ : Shape := ⟨0, ![]⟩

class Facts : Prop where
  slices_S2048x3072_S2048x1024_0_768 : S2048x3072.Slices ![0, 768] S2048x1024
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S8x128x640 : S_.BroadcastsInDim S8x128x640 (![] : Fin 0 → Fin S8x128x640.rank)
  reducesTo_S8x128x640_S_d0_1_2 : S8x128x640.ReducesTo [0, 1, 2] S_

variable [Facts]

def fn {F : FTy → Type} [FloatOps F] (main_arg0 : FVec F S2048x3072 .f32) (main_arg1 : FVec F S8x128x640 .f32) (main_arg2 : FVec F S2048x1024 .f32) : IVec S_ 1 :=
  let main_v0 : FVec F S2048x1024 .f32 := (extractStridedSlice S2048x1024 ![0, 768] · slices_S2048x3072_S2048x1024_0_768) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S8x128x640 .f32 := Host.absf main_arg1
  let main_cst_0 : FVec F S_ .f32 := constant S_ .f32 0x7F800000#32
  let main_v6 : FVec F S8x128x640 .f32 := broadcastInDim S8x128x640 ![] bcast_S_S8x128x640 main_cst_0
  let main_v7 : IVec S8x128x640 1 := cmpf .olt main_v5 main_v6
  let main_c_1 : IVec S_ 1 := constantI S_ 1 1#1
  let main_v8 : IVec S_ 1 := (fun x v => Host.reduce IntOp.andi x v reducesTo_S8x128x640_S_d0_1_2 h_S_) main_v7 main_c_1
  let main_v9 : IVec S_ 1 := andi main_v4 main_v8
  main_v9
-- ==== Pre_finite4.lean ====
abbrev S2048x5632 : Shape := ⟨2, ![2048, 5632]⟩
abbrev S2816x1024 : Shape := ⟨2, ![2816, 1024]⟩
abbrev S2048x1024 : Shape := ⟨2, ![2048, 1024]⟩
abbrev S2048x2816 : Shape := ⟨2, ![2048, 2816]⟩
abbrev S_ : Shape := ⟨0, ![]⟩

class Facts : Prop where
  slices_S2048x5632_S2048x2816_0_2816 : S2048x5632.Slices ![0, 2816] S2048x2816
  bcast_S_S2048x2816 : S_.BroadcastsInDim S2048x2816 (![] : Fin 0 → Fin S2048x2816.rank)
  reducesTo_S2048x2816_S_d0_1 : S2048x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S2048x5632 .f32) (main_arg1 : FVec F S2816x1024 .f32) (main_arg2 : FVec F S2048x1024 .f32) : IVec S_ 1 :=
  let main_v0 : FVec F S2048x2816 .f32 := (extractStridedSlice S2048x2816 ![0, 2816] · slices_S2048x5632_S2048x2816_0_2816) main_arg0
  let main_v1 : FVec F S2048x2816 .f32 := Host.absf main_v0
  let main_cst : FVec F S_ .f32 := constant S_ .f32 0x7F800000#32
  let main_v2 : FVec F S2048x2816 .f32 := broadcastInDim S2048x2816 ![] bcast_S_S2048x2816 main_cst
  let main_v3 : IVec S2048x2816 1 := cmpf .olt main_v1 main_v2
  let main_c : IVec S_ 1 := constantI S_ 1 1#1
  let main_v4 : IVec S_ 1 := (fun x v => Host.reduce IntOp.andi x v reducesTo_S2048x2816_S_d0_1 h_S_) main_v3 main_c
  let main_v5 : FVec F S2816x1024 .f32 := Host.absf main_arg1
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : IVec S_ 1 := andi main_v4 main_v8
  let main_v10 : FVec F S2048x1024 .f32 := Host.absf main_arg2
  let main_cst_2 : FVec F S_ .f32 := constant S_ .f32 0x7F800000#32
  let main_v11 : FVec F S2048x1024 .f32 := broadcastInDim S2048x1024 ![] bcast_S_S2048x1024 main_cst_2
  let main_v12 : IVec S2048x1024 1 := cmpf .olt main_v10 main_v11
  let main_c_3 : IVec S_ 1 := constantI S_ 1 1#1
  let main_v13 : IVec S_ 1 := (fun x v => Host.reduce IntOp.andi x v reducesTo_S2048x1024_S_d0_1 h_S_) main_v12 main_c_3
  let main_v14 : IVec S_ 1 := andi main_v9 main_v13
  main_v14
-- ==== Kernel.lean ====
abbrev S2048x3072 : Shape := ⟨2, ![2048, 3072]⟩
abbrev S8x128x640 : Shape := ⟨3, ![8, 128, 640]⟩
abbrev S2048x1024 : Shape := ⟨2, ![2048, 1024]⟩
abbrev S2048x768 : Shape := ⟨2, ![2048, 768]⟩
abbrev S2048x512 : Shape := ⟨2, ![2048, 512]⟩
abbrev S_ : Shape := ⟨0, ![]⟩
abbrev S2048x1792 : Shape := ⟨2, ![2048, 1792]⟩
abbrev S2560x512 : Shape := ⟨2, ![2560, 512]⟩
abbrev S128x640 : Shape := ⟨2, ![128, 640]⟩
abbrev S1x128x640 : Shape := ⟨3, ![1, 128, 640]⟩
abbrev S3072x2048 : Shape := ⟨2, ![3072, 2048]⟩
abbrev S1024x2048 : Shape := ⟨2, ![1024, 2048]⟩
abbrev S2x20x256x128 : Shape := ⟨4, ![2, 20, 256, 128]⟩
abbrev S128x256 : Shape := ⟨2, ![128, 256]⟩
abbrev S2560x256 : Shape := ⟨2, ![2560, 256]⟩
abbrev S4x128x640 : Shape := ⟨3, ![4, 128, 640]⟩
abbrev S256x128 : Shape := ⟨2, ![256, 128]⟩
abbrev S1x20x256x128 : Shape := ⟨4, ![1, 20, 256, 128]⟩
abbrev S20x256x128 : Shape := ⟨3, ![20, 256, 128]⟩
abbrev S1x640 : Shape := ⟨2, ![1, 640]⟩
abbrev S128x64 : Shape := ⟨2, ![128, 64]⟩
abbrev S640x64 : Shape := ⟨2, ![640, 64]⟩
abbrev S128 : Shape := ⟨1, ![128]⟩
abbrev S128x1 : Shape := ⟨2, ![128, 1]⟩
abbrev S64x128 : Shape := ⟨2, ![64, 128]⟩
abbrev S64x640 : Shape := ⟨2, ![64, 640]⟩
abbrev S1x1x64x128 : Shape := ⟨4, ![1, 1, 64, 128]⟩

abbrev nBuf : Space → Nat
  | .hbm => 54
  | .vmem => 22
  | .smem => 0
  | _ => 0

abbrev bufTy : (tb : Table) → Fin (tcTables nBuf tb) → BufTy
  | .hbm, ⟨0, _⟩ => ⟨S2048x3072, .f32⟩
  | .hbm, ⟨1, _⟩ => ⟨S8x128x640, .f32⟩
  | .hbm, ⟨2, _⟩ => ⟨S2048x1024, .f32⟩
  | .hbm, ⟨3, _⟩ => ⟨S2048x768, .f32⟩
  | .hbm, ⟨4, _⟩ => ⟨S2048x512, .f32⟩
  | .hbm, ⟨5, _⟩ => ⟨S_, .f32⟩
  | .hbm, ⟨6, _⟩ => ⟨S2048x512, .f32⟩
  | .hbm, ⟨7, _⟩ => ⟨S2048x512, .f32⟩
  | .hbm, ⟨8, _⟩ => ⟨S2048x1792, .f32⟩
  | .hbm, ⟨9, _⟩ => ⟨S2048x3072, .f32⟩
  | .hbm, ⟨10, _⟩ => ⟨S2048x3072, .bf16⟩
  | .hbm, ⟨11, _⟩ => ⟨S2048x1024, .bf16⟩
  | .hbm, ⟨12, _⟩ => ⟨S2048x512, .bf16⟩
  | .hbm, ⟨13, _⟩ => ⟨S_, .i32⟩
  | .hbm, ⟨14, _⟩ => ⟨S_, .bf16⟩
  | .hbm, ⟨15, _⟩ => ⟨S2560x512, .bf16⟩
  | .hbm, ⟨16, _⟩ => ⟨S2048x512, .bf16⟩
  | .hbm, ⟨17, _⟩ => ⟨S_, .i32⟩
  | .hbm, ⟨18, _⟩ => ⟨S_, .bf16⟩
  | .hbm, ⟨19, _⟩ => ⟨S2560x512, .bf16⟩
  | .hbm, ⟨20, _⟩ => ⟨S128x640, .i32⟩
  | .hbm, ⟨21, _⟩ => ⟨S128x640, .i32⟩
  | .hbm, ⟨22, _⟩ => ⟨S_, .i32⟩
  | .hbm, ⟨23, _⟩ => ⟨S128x640, .i32⟩
  | .hbm, ⟨24, _⟩ => ⟨S128x640, .i32⟩
  | .hbm, ⟨25, _⟩ => ⟨S_, .i32⟩
  | .hbm, ⟨26, _⟩ => ⟨S128x640, .i32⟩
  | .hbm, ⟨27, _⟩ => ⟨S128x640, .i32⟩
  | .hbm, ⟨28, _⟩ => ⟨S_, .i32⟩
  | .hbm, ⟨29, _⟩ => ⟨S128x640, .i32⟩
  | .hbm, ⟨30, _⟩ => ⟨S128x640, .i32⟩
  | .hbm, ⟨31, _⟩ => ⟨S128x640, .i32⟩
  | .hbm, ⟨32, _⟩ => ⟨S_, .i32⟩
  | .hbm, ⟨33, _⟩ => ⟨S128x640, .i32⟩
  | .hbm, ⟨34, _⟩ => ⟨S128x640, .i1⟩
  | .hbm, ⟨35, _⟩ => ⟨S_, .i32⟩
  | .hbm, ⟨36, _⟩ => ⟨S128x640, .i32⟩
  | .hbm, ⟨37, _⟩ => ⟨S128x640, .i1⟩
  | .hbm, ⟨38, _⟩ => ⟨S128x640, .i1⟩
  | .hbm, ⟨39, _⟩ => ⟨S_, .f32⟩
  | .hbm, ⟨40, _⟩ => ⟨S_, .f32⟩
  | .hbm, ⟨41, _⟩ => ⟨S128x640, .f32⟩
  | .hbm, ⟨42, _⟩ => ⟨S128x640, .f32⟩
  | .hbm, ⟨43, _⟩ => ⟨S128x640, .f32⟩
  | .hbm, ⟨44, _⟩ => ⟨S128x640, .f32⟩
  | .hbm, ⟨45, _⟩ => ⟨S1x128x640, .f32⟩
  | .hbm, ⟨46, _⟩ => ⟨S8x128x640, .f32⟩
  | .hbm, ⟨47, _⟩ => ⟨S8x128x640, .f32⟩
  | .hbm, ⟨48, _⟩ => ⟨S3072x2048, .bf16⟩
  | .hbm, ⟨49, _⟩ => ⟨S1024x2048, .bf16⟩
  | .hbm, ⟨50, _⟩ => ⟨S2048x512, .bf16⟩
  | .hbm, ⟨51, _⟩ => ⟨S2x20x256x128, .f32⟩
  | .hbm, ⟨52, _⟩ => ⟨S2x20x256x128, .f32⟩
  | .hbm, ⟨53, _⟩ => ⟨S8x128x640, .f32⟩
  | .local _ .vmem, ⟨0, _⟩ => ⟨S128x256, .bf16⟩
  | .local _ .vmem, ⟨1, _⟩ => ⟨S128x256, .bf16⟩
  | .local _ .vmem, ⟨2, _⟩ => ⟨S2560x256, .bf16⟩
  | .local _ .vmem, ⟨3, _⟩ => ⟨S2560x256, .bf16⟩
  | .local _ .vmem, ⟨4, _⟩ => ⟨S2560x256, .bf16⟩
  | .local _ .vmem, ⟨5, _⟩ => ⟨S2560x256, .bf16⟩
  | .local _ .vmem, ⟨6, _⟩ => ⟨S4x128x640, .f32⟩
  | .local _ .vmem, ⟨7, _⟩ => ⟨S4x128x640, .f32⟩
  | .local _ .vmem, ⟨8, _⟩ => ⟨S128x256, .bf16⟩
  | .local _ .vmem, ⟨9, _⟩ => ⟨S128x256, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S128x256, .bf16⟩
  | .local _ .vmem, ⟨15, _⟩ => ⟨S128x256, .bf16⟩
  | .local _ .vmem, ⟨16, _⟩ => ⟨S1x20x256x128, .f32⟩
  | .local _ .vmem, ⟨17, _⟩ => ⟨S1x20x256x128, .f32⟩
  | .local _ .vmem, ⟨18, _⟩ => ⟨S1x20x256x128, .f32⟩
  | .local _ .vmem, ⟨19, _⟩ => ⟨S1x20x256x128, .f32⟩
  | .local _ .vmem, ⟨20, _⟩ => ⟨S4x128x640, .f32⟩
  | .local _ .vmem, ⟨21, _⟩ => ⟨S4x128x640, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_call1_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_cst_7 : Ref sig .tc := ⟨.hbm, 40, rfl⟩
abbrev main_call2_v0 : Ref sig .tc := ⟨.hbm, 41, rfl⟩
abbrev main_call2_v1 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33_0 : Ref sig .tc := ⟨.hbm, 50, rfl⟩
abbrev main_v33_1 : Ref sig .tc := ⟨.hbm, 51, rfl⟩
abbrev main_v33_2 : Ref sig .tc := ⟨.hbm, 52, rfl⟩
abbrev main_v33_3 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c128_i32_6 : BitVec 32 := 128#32
  let v17 : BitVec 32 := Scalar.muli arg1 c128_i32_6
  v17
def k0_off1 (i : grid0.Coords) : Fin 2 → Nat :=
  let arg1 : BitVec 32 := BitVec.ofNat 32 (i 1).val
  let c128_i32_6 : BitVec 32 := 128#32
  let v17 : BitVec 32 := Scalar.muli arg1 c128_i32_6
  let v18 : BitVec 32 := v17
  let v19 : Index := Scalar.indexCast v18
  let c0_7 : Index := 0#32
  ![v19.toNat, 0]
def k0_mult2 (i : grid0.Coords) : BitVec 32 :=
  let arg1 : BitVec 32 := BitVec.ofNat 32 (i 1).val
  let c128_i32_15 : BitVec 32 := 128#32
  let v39 : BitVec 32 := Scalar.muli arg1 c128_i32_15
  v39
def k0_off2 (i : grid0.Coords) (c0_i32_35 : BitVec 32) : Fin 4 → Nat :=
  let c0_36 : Index := 0#32
  let arg1 : BitVec 32 := BitVec.ofNat 32 (i 1).val
  let v70 : BitVec 32 := Scalar.addi arg1 c0_i32_35
  let v71 : Index := Scalar.indexCast v70
  let c0_37 : Index := 0#32
  let c0_38 : Index := 0#32
  ![0, v71.toNat, 0, 0]
def k0_mult3 (i : grid0.Coords) : BitVec 32 :=
  let arg1 : BitVec 32 := BitVec.ofNat 32 (i 1).val
  let c128_i32_105 : BitVec 32 := 128#32
  let v174 : BitVec 32 := Scalar.muli arg1 c128_i32_105
  v174
def k0_off3 (i : grid0.Coords) : Fin 2 → Nat :=
  let arg1 : BitVec 32 := BitVec.ofNat 32 (i 1).val
  let c128_i32_105 : BitVec 32 := 128#32
  let v174 : BitVec 32 := Scalar.muli arg1 c128_i32_105
  let v175 : BitVec 32 := v174
  let v176 : Index := Scalar.indexCast v175
  let c64_106 : Index := 64#32
  ![v176.toNat, 64]
def k0_mult4 (i : grid0.Coords) : BitVec 32 :=
  let arg1 : BitVec 32 := BitVec.ofNat 32 (i 1).val
  let c128_i32_113 : BitVec 32 := 128#32
  let v196 : BitVec 32 := Scalar.muli arg1 c128_i32_113
  v196
def k0_off4 (i : grid0.Coords) (c0_i32_133 : BitVec 32) : Fin 4 → Nat :=
  let c0_134 : Index := 0#32
  let arg1 : BitVec 32 := BitVec.ofNat 32 (i 1).val
  let v227 : BitVec 32 := Scalar.addi arg1 c0_i32_133
  let v228 : Index := Scalar.indexCast v227
  let c64_135 : Index := 64#32
  let c0_136 : Index := 0#32
  ![0, v228.toNat, 64, 0]
def k0_mult5 (i : grid0.Coords) : BitVec 32 :=
  let arg1 : BitVec 32 := BitVec.ofNat 32 (i 1).val
  let c128_i32_206 : BitVec 32 := 128#32
  let v331 : BitVec 32 := Scalar.muli arg1 c128_i32_206
  v331
def k0_off5 (i : grid0.Coords) : Fin 2 → Nat :=
  let arg1 : BitVec 32 := BitVec.ofNat 32 (i 1).val
  let c128_i32_206 : BitVec 32 := 128#32
  let v331 : BitVec 32 := Scalar.muli arg1 c128_i32_206
  let v332 : BitVec 32 := v331
  let v333 : Index := Scalar.indexCast v332
  let c128_207 : Index := 128#32
  ![v333.toNat, 128]
def k0_mult6 (i : grid0.Coords) : BitVec 32 :=
  let arg1 : BitVec 32 := BitVec.ofNat 32 (i 1).val
  let c128_i32_214 : BitVec 32 := 128#32
  let v353 : BitVec 32 := Scalar.muli arg1 c128_i32_214
  v353
def k0_off6 (i : grid0.Coords) (c0_i32_234 : BitVec 32) : Fin 4 → Nat :=
  let c0_235 : Index := 0#32
  let arg1 : BitVec 32 := BitVec.ofNat 32 (i 1).val
  let v384 : BitVec 32 := Scalar.addi arg1 c0_i32_234
  let v385 : Index := Scalar.indexCast v384
  let c128_236 : Index := 128#32
  let c0_237 : Index := 0#32
  ![0, v385.toNat, 128, 0]
def k0_mult7 (i : grid0.Coords) : BitVec 32 :=
  let arg1 : BitVec 32 := BitVec.ofNat 32 (i 1).val
  let c128_i32_307 : BitVec 32 := 128#32
  let v488 : BitVec 32 := Scalar.muli arg1 c128_i32_307
  v488
def k0_off7 (i : grid0.Coords) : Fin 2 → Nat :=
  let arg1 : BitVec 32 := BitVec.ofNat 32 (i 1).val
  let c128_i32_307 : BitVec 32 := 128#32
  let v488 : BitVec 32 := Scalar.muli arg1 c128_i32_307
  let v489 : BitVec 32 := v488
  let v490 : Index := Scalar.indexCast v489
  let c192_308 : Index := 192#32
  ![v490.toNat, 192]
def k0_mult8 (i : grid0.Coords) : BitVec 32 :=
  let arg1 : BitVec 32 := BitVec.ofNat 32 (i 1).val
  let c128_i32_315 : BitVec 32 := 128#32
  let v510 : BitVec 32 := Scalar.muli arg1 c128_i32_315
  v510
def k0_off8 (i : grid0.Coords) (c0_i32_335 : BitVec 32) : Fin 4 → Nat :=
  let c0_336 : Index := 0#32
  let arg1 : BitVec 32 := BitVec.ofNat 32 (i 1).val
  let v541 : BitVec 32 := Scalar.addi arg1 c0_i32_335
  let v542 : Index := Scalar.indexCast v541
  let c192_337 : Index := 192#32
  let c0_338 : Index := 0#32
  ![0, v542.toNat, 192, 0]
def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![v0.toNat, arg1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![v0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2560x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2560x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x128x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x20x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x20x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S4x128x640 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S2048x3072 : Shape := ⟨2, ![2048, 3072]⟩
abbrev S8x128x640 : Shape := ⟨3, ![8, 128, 640]⟩
abbrev S2048x1024 : Shape := ⟨2, ![2048, 1024]⟩
abbrev S2048x512 : Shape := ⟨2, ![2048, 512]⟩
abbrev S16x640x2048 : Shape := ⟨3, ![16, 640, 2048]⟩
abbrev S_ : Shape := ⟨0, ![]⟩
abbrev S16x2048x8x128 : Shape := ⟨4, ![16, 2048, 8, 128]⟩
abbrev S8x16x128x2048 : Shape := ⟨4, ![8, 16, 128, 2048]⟩
abbrev S8x2048x2048 : Shape := ⟨3, ![8, 2048, 2048]⟩
abbrev S2048x8x64 : Shape := ⟨3, ![2048, 8, 64]⟩
abbrev S8x2048x64 : Shape := ⟨3, ![8, 2048, 64]⟩
abbrev S2048x2048 : Shape := ⟨2, ![2048, 2048]⟩
abbrev S8x2048 : Shape := ⟨2, ![8, 2048]⟩
abbrev S8x2048x1 : Shape := ⟨3, ![8, 2048, 1]⟩
abbrev S8x64x2048 : Shape := ⟨3, ![8, 64, 2048]⟩
abbrev S2560x512 : Shape := ⟨2, ![2560, 512]⟩
abbrev S20x128x2x256 : Shape := ⟨4, ![20, 128, 2, 256]⟩
abbrev S2x20x256x128 : Shape := ⟨4, ![2, 20, 256, 128]⟩

abbrev nBuf : Space → Nat
  | .hbm => 174
  | .vmem => 0
  | .smem => 0
  | _ => 0

abbrev hbmTy0_0 (i : Nat) : BufTy := match i % 128 with
  | 0 => ⟨S2048x3072, .f32⟩
  | 1 => ⟨S8x128x640, .f32⟩
  | 2 => ⟨S2048x1024, .f32⟩
  | 3 => ⟨S2048x512, .f32⟩
  | 4 => ⟨S2048x512, .f32⟩
  | 5 => ⟨S2048x512, .f32⟩
  | 6 => ⟨S16x640x2048, .i32⟩
  | 7 => ⟨S_, .i32⟩
  | 8 => ⟨S16x640x2048, .i32⟩
  | 9 => ⟨S16x640x2048, .i32⟩
  | 10 => ⟨S16x640x2048, .i32⟩
  | 11 => ⟨S_, .i32⟩
  | 12 => ⟨S16x640x2048, .i32⟩
  | 13 => ⟨S16x640x2048, .i32⟩
  | 14 => ⟨S16x640x2048, .i32⟩
  | 15 => ⟨S16x640x2048, .i32⟩
  | 16 => ⟨S16x640x2048, .i1⟩
  | 17 => ⟨S16x640x2048, .f32⟩
  | 18 => ⟨S16x2048x8x128, .f32⟩
  | 19 => ⟨S8x16x128x2048, .f32⟩
  | 20 => ⟨S8x2048x2048, .f32⟩
  | 21 => ⟨S2048x8x64, .f32⟩
  | 22 => ⟨S8x2048x64, .f32⟩
  | 23 => ⟨S2048x8x64, .f32⟩
  | 24 => ⟨S8x2048x64, .f32⟩
  | 25 => ⟨S2048x8x64, .f32⟩
  | 26 => ⟨S8x2048x64, .f32⟩
  | 27 => ⟨S8x2048x2048, .f32⟩
  | 28 => ⟨S_, .f32⟩
  | 29 => ⟨S8x2048x2048, .f32⟩
  | 30 => ⟨S8x2048x2048, .f32⟩
  | 31 => ⟨S8x2048x2048, .f32⟩
  | 32 => ⟨S2048x2048, .i32⟩
  | 33 => ⟨S_, .i32⟩
  | 34 => ⟨S_, .i32⟩
  | 35 => ⟨S2048x2048, .i32⟩
  | 36 => ⟨S2048x2048, .i32⟩
  | 37 => ⟨S2048x2048, .i32⟩
  | 38 => ⟨S_, .i32⟩
  | 39 => ⟨S2048x2048, .i32⟩
  | 40 => ⟨S2048x2048, .i1⟩
  | 41 => ⟨S2048x2048, .i32⟩
  | 42 => ⟨S2048x2048, .i32⟩
  | 43 => ⟨S_, .i32⟩
  | 44 => ⟨S2048x2048, .i32⟩
  | 45 => ⟨S2048x2048, .i1⟩
  | 46 => ⟨S2048x2048, .i1⟩
  | 47 => ⟨S_, .i32⟩
  | 48 => ⟨S2048x2048, .i32⟩
  | 49 => ⟨S2048x2048, .i32⟩
  | 50 => ⟨S2048x2048, .i32⟩
  | 51 => ⟨S2048x2048, .i32⟩
  | 52 => ⟨S_, .i32⟩
  | 53 => ⟨S_, .i32⟩
  | 54 => ⟨S2048x2048, .i32⟩
  | 55 => ⟨S2048x2048, .i32⟩
  | 56 => ⟨S2048x2048, .i32⟩
  | 57 => ⟨S_, .i32⟩
  | 58 => ⟨S2048x2048, .i32⟩
  | 59 => ⟨S2048x2048, .i1⟩
  | 60 => ⟨S2048x2048, .i32⟩
  | 61 => ⟨S2048x2048, .i32⟩
  | 62 => ⟨S_, .i32⟩
  | 63 => ⟨S2048x2048, .i32⟩
  | 64 => ⟨S2048x2048, .i1⟩
  | 65 => ⟨S2048x2048, .i1⟩
  | 66 => ⟨S_, .i32⟩
  | 67 => ⟨S2048x2048, .i32⟩
  | 68 => ⟨S2048x2048, .i32⟩
  | 69 => ⟨S2048x2048, .i32⟩
  | 70 => ⟨S2048x2048, .i32⟩
  | 71 => ⟨S_, .i32⟩
  | 72 => ⟨S2048x2048, .i32⟩
  | 73 => ⟨S2048x2048, .i1⟩
  | 74 => ⟨S_, .i32⟩
  | 75 => ⟨S2048x2048, .i32⟩
  | 76 => ⟨S2048x2048, .i1⟩
  | 77 => ⟨S2048x2048, .i1⟩
  | 78 => ⟨S_, .f32⟩
  | 79 => ⟨S_, .f32⟩
  | 80 => ⟨S8x2048x2048, .i1⟩
  | 81 => ⟨S8x2048x2048, .f32⟩
  | 82 => ⟨S8x2048x2048, .f32⟩
  | 83 => ⟨S_, .f32⟩
  | 84 => ⟨S8x2048x2048, .f32⟩
  | 85 => ⟨S_, .f32⟩
  | 86 => ⟨S8x2048, .f32⟩
  | 87 => ⟨S8x2048x1, .f32⟩
  | 88 => ⟨S8x2048x2048, .f32⟩
  | 89 => ⟨S8x2048x2048, .i1⟩
  | 90 => ⟨S8x2048x2048, .f32⟩
  | 91 => ⟨S_, .f32⟩
  | 92 => ⟨S8x2048, .f32⟩
  | 93 => ⟨S_, .f32⟩
  | 94 => ⟨S8x2048, .f32⟩
  | 95 => ⟨S8x2048, .f32⟩
  | 96 => ⟨S_, .f32⟩
  | 97 => ⟨S8x2048, .f32⟩
  | 98 => ⟨S8x2048, .i1⟩
  | 99 => ⟨S_, .f32⟩
  | 100 => ⟨S8x2048, .f32⟩
  | 101 => ⟨S8x2048, .i1⟩
  | 102 => ⟨S_, .f32⟩
  | 103 => ⟨S8x2048, .f32⟩
  | 104 => ⟨S_, .f32⟩
  | 105 => ⟨S8x2048, .f32⟩
  | 106 => ⟨S_, .f32⟩
  | 107 => ⟨S8x2048, .f32⟩
  | 108 => ⟨S8x2048, .f32⟩
  | 109 => ⟨S8x2048, .f32⟩
  | 110 => ⟨S8x2048x1, .f32⟩
  | 111 => ⟨S8x2048x2048, .f32⟩
  | 112 => ⟨S8x2048x2048, .f32⟩
  | 113 => ⟨S8x2048x2048, .f32⟩
  | 114 => ⟨S_, .f32⟩
  | 115 => ⟨S8x2048, .f32⟩
  | 116 => ⟨S8x2048x1, .f32⟩
  | 117 => ⟨S8x2048x2048, .f32⟩
  | 118 => ⟨S8x2048x2048, .f32⟩
  | 119 => ⟨S8x2048x1, .f32⟩
  | 120 => ⟨S_, .f32⟩
  | 121 => ⟨S8x2048x1, .f32⟩
  | 122 => ⟨S8x2048x1, .f32⟩
  | 123 => ⟨S8x2048x64, .f32⟩
  | 124 => ⟨S2048x8x64, .f32⟩
  | 125 => ⟨S2048x512, .f32⟩
  | 126 => ⟨S2048x512, .f32⟩
  | 127 => ⟨S2048x8x64, .f32⟩
  | _ => ⟨S2048x3072, .f32⟩

abbrev hbmTy0_1 (i : Nat) : BufTy := match i % 128 with
  | 0 => ⟨S8x2048x64, .f32⟩
  | 1 => ⟨S8x64x2048, .f32⟩
  | 2 => ⟨S8x2048x64, .f32⟩
  | 3 => ⟨S8x2048x2048, .f32⟩
  | 4 => ⟨S8x2048x2048, .f32⟩
  | 5 => ⟨S8x2048x2048, .f32⟩
  | 6 => ⟨S8x2048x2048, .f32⟩
  | 7 => ⟨S_, .f32⟩
  | 8 => ⟨S8x2048, .f32⟩
  | 9 => ⟨S8x2048x1, .f32⟩
  | 10 => ⟨S8x2048x1, .f32⟩
  | 11 => ⟨S8x2048x2048, .f32⟩
  | 12 => ⟨S8x2048x2048, .f32⟩
  | 13 => ⟨S_, .f32⟩
  | 14 => ⟨S8x2048, .f32⟩
  | 15 => ⟨S8x2048x2048, .f32⟩
  | 16 => ⟨S8x2048x2048, .f32⟩
  | 17 => ⟨S8x2048x2048, .f32⟩
  | 18 => ⟨S_, .f32⟩
  | 19 => ⟨S8x2048x2048, .f32⟩
  | 20 => ⟨S8x2048x2048, .f32⟩
  | 21 => ⟨S_, .f32⟩
  | 22 => ⟨S8x2048x2048, .f32⟩
  | 23 => ⟨S8x2048x2048, .f32⟩
  | 24 => ⟨S8x2048x64, .f32⟩
  | 25 => ⟨S8x2048x64, .f32⟩
  | 26 => ⟨S2048x8x64, .f32⟩
  | 27 => ⟨S2048x512, .f32⟩
  | 28 => ⟨S2048x8x64, .f32⟩
  | 29 => ⟨S2048x512, .f32⟩
  | 30 => ⟨S2048x8x64, .f32⟩
  | 31 => ⟨S2048x512, .f32⟩
  | 32 => ⟨S8x16x128x2048, .f32⟩
  | 33 => ⟨S16x2048x8x128, .f32⟩
  | 34 => ⟨S8x128x640, .f32⟩
  | 35 => ⟨S2048x512, .bf16⟩
  | 36 => ⟨S_, .i32⟩
  | 37 => ⟨S_, .f32⟩
  | 38 => ⟨S2560x512, .f32⟩
  | 39 => ⟨S20x128x2x256, .f32⟩
  | 40 => ⟨S2x20x256x128, .f32⟩
  | 41 => ⟨S_, .i32⟩
  | 42 => ⟨S_, .f32⟩
  | 43 => ⟨S2560x512, .f32⟩
  | 44 => ⟨S20x128x2x256, .f32⟩
  | 45 => ⟨S2x20x256x128, .f32⟩
  | _ => ⟨S2048x3072, .f32⟩

abbrev hbmTy (i : Nat) : BufTy := match i / 128 with
  | 0 => hbmTy0_0 i
  | 1 => hbmTy0_1 i
  | _ => ⟨S2048x3072, .f32⟩

abbrev bufTy : (tb : Table) → Fin (tcTables nBuf tb) → BufTy
  | .hbm, ⟨i, _⟩ => hbmTy i
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_1 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_c : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_0 : Ref sig .tc := ⟨.hbm, 47, rfl⟩
abbrev main_call0_v12 : Ref sig .tc := ⟨.hbm, 48, rfl⟩
abbrev main_call0_v13 : Ref sig .tc := ⟨.hbm, 49, rfl⟩
abbrev main_v27 : Ref sig .tc := ⟨.hbm, 50, rfl⟩
abbrev main_v28 : Ref sig .tc := ⟨.hbm, 51, rfl⟩
abbrev main_c_2 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_c : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_0 : Ref sig .tc := ⟨.hbm, 66, rfl⟩
abbrev main_call1_v12 : Ref sig .tc := ⟨.hbm, 67, rfl⟩
abbrev main_call1_v13 : Ref sig .tc := ⟨.hbm, 68, rfl⟩
abbrev main_v29 : Ref sig .tc := ⟨.hbm, 69, rfl⟩
abbrev main_v30 : Ref sig .tc := ⟨.hbm, 70, rfl⟩
abbrev main_c_3 : Ref sig .tc := ⟨.hbm, 71, rfl⟩
abbrev main_v31 : Ref sig .tc := ⟨.hbm, 72, rfl⟩
abbrev main_v32 : Ref sig .tc := ⟨.hbm, 73, rfl⟩
abbrev main_c_4 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_cst_5 : Ref sig .tc := ⟨.hbm, 78, rfl⟩
abbrev main_call2_v0 : Ref sig .tc := ⟨.hbm, 79, rfl⟩
abbrev main_v36_1 : Ref sig .tc := ⟨.hbm, 80, rfl⟩
abbrev main_call2_v2 : Ref sig .tc := ⟨.hbm, 81, rfl⟩
abbrev main_v36_0 : Ref sig .tc := ⟨.hbm, 82, rfl⟩
abbrev main_call2_cst : Ref sig .tc := ⟨.hbm, 83, rfl⟩
abbrev main_v36_2 : Ref sig .tc := ⟨.hbm, 84, rfl⟩
abbrev main_cst_6 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_7 : Ref sig .tc := ⟨.hbm, 91, rfl⟩
abbrev main_v42 : Ref sig .tc := ⟨.hbm, 92, rfl⟩
abbrev main_cst_8 : Ref sig .tc := ⟨.hbm, 93, rfl⟩
abbrev main_v43 : Ref sig .tc := ⟨.hbm, 94, rfl⟩
abbrev main_v44 : Ref sig .tc := ⟨.hbm, 95, rfl⟩
abbrev main_cst_9 : Ref sig .tc := ⟨.hbm, 96, rfl⟩
abbrev main_v45 : Ref sig .tc := ⟨.hbm, 97, rfl⟩
abbrev main_v46 : Ref sig .tc := ⟨.hbm, 98, rfl⟩
abbrev main_cst_10 : Ref sig .tc := ⟨.hbm, 99, rfl⟩
abbrev main_v47 : Ref sig .tc := ⟨.hbm, 100, rfl⟩
abbrev main_v48 : Ref sig .tc := ⟨.hbm, 101, rfl⟩
abbrev main_cst_11 : Ref sig .tc := ⟨.hbm, 102, rfl⟩
abbrev main_v49 : Ref sig .tc := ⟨.hbm, 103, rfl⟩
abbrev main_cst_12 : Ref sig .tc := ⟨.hbm, 104, rfl⟩
abbrev main_v50 : Ref sig .tc := ⟨.hbm, 105, rfl⟩
abbrev main_cst_13 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_cst_14 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_cst_15 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_cst_16 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_cst_17 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_call3_cst : Ref sig .tc := ⟨.hbm, 146, rfl⟩
abbrev main_call3_v0 : Ref sig .tc := ⟨.hbm, 147, rfl⟩
abbrev main_v86 : Ref sig .tc := ⟨.hbm, 148, rfl⟩
abbrev main_cst_18 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_c_19 : Ref sig .tc := ⟨.hbm, 164, rfl⟩
abbrev main_call4_v0 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_c_20 : Ref sig .tc := ⟨.hbm, 169, rfl⟩
abbrev main_call5_v0 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩

abbrev nD : Nat := 1
abbrev τ : Topo := Topo.v7x

variable {F : FTy → Type} [FloatOps F]
-- ==== Kernel2.lean ====
abbrev S2048x1024 : Shape := ⟨2, ![2048, 1024]⟩
abbrev S2048x5632 : Shape := ⟨2, ![2048, 5632]⟩
abbrev S2048x2x4x704 : Shape := ⟨4, ![2048, 2, 4, 704]⟩
abbrev S4x2x2048x704 : Shape := ⟨4, ![4, 2, 2048, 704]⟩
abbrev S8x704x1024 : Shape := ⟨3, ![8, 704, 1024]⟩
abbrev S1x1x2048x704 : Shape := ⟨4, ![1, 1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S2048x5632, .bf16⟩
  | .hbm, ⟨3, _⟩ => ⟨S2048x2x4x704, .bf16⟩
  | .hbm, ⟨4, _⟩ => ⟨S4x2x2048x704, .bf16⟩
  | .hbm, ⟨5, _⟩ => ⟨S2048x1024, .bf16⟩
  | .hbm, ⟨6, _⟩ => ⟨S8x704x1024, .bf16⟩
  | .local _ .vmem, ⟨0, _⟩ => ⟨S1x1x2048x704, .bf16⟩
  | .local _ .vmem, ⟨1, _⟩ => ⟨S1x1x2048x704, .bf16⟩
  | .local _ .vmem, ⟨2, _⟩ => ⟨S2048x1024, .bf16⟩
  | .local _ .vmem, ⟨3, _⟩ => ⟨S1x704x1024, .bf16⟩
  | .local _ .vmem, ⟨4, _⟩ => ⟨S1x704x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg1 c4_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg1 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![v9.toNat, v26.toNat, c0_i32_10.toNat, c0_i32_11.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S1x1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference2Ideal.lean ====
abbrev S2048x1024 : Shape := ⟨2, ![2048, 1024]⟩
abbrev S2048x5632 : Shape := ⟨2, ![2048, 5632]⟩
abbrev S5632x1024 : Shape := ⟨2, ![5632, 1024]⟩
abbrev S1024x5632 : Shape := ⟨2, ![1024, 5632]⟩
abbrev S8x704x1024 : Shape := ⟨3, ![8, 704, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S5632x1024, .f32⟩
  | .hbm, ⟨3, _⟩ => ⟨S1024x5632, .f32⟩
  | .hbm, ⟨4, _⟩ => ⟨S5632x1024, .f32⟩
  | .hbm, ⟨5, _⟩ => ⟨S8x704x1024, .f32⟩
  | .hbm, ⟨6, _⟩ => ⟨S8x704x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel3.lean ====
abbrev S2048x1024 : Shape := ⟨2, ![2048, 1024]⟩
abbrev S1024x5632 : Shape := ⟨2, ![1024, 5632]⟩
abbrev S1024x8x704 : Shape := ⟨3, ![1024, 8, 704]⟩
abbrev S8x1024x704 : Shape := ⟨3, ![8, 1024, 704]⟩
abbrev S1x8x1024x704 : Shape := ⟨4, ![1, 8, 1024, 704]⟩
abbrev S4x2x2048x704 : Shape := ⟨4, ![4, 2, 2048, 704]⟩
abbrev S4x2048x704 : Shape := ⟨3, ![4, 2048, 704]⟩
abbrev S1024x1024 : Shape := ⟨2, ![1024, 1024]⟩
abbrev S1x1x1024x704 : Shape := ⟨4, ![1, 1, 1024, 704]⟩
abbrev S1x2x1024x704 : Shape := ⟨4, ![1, 2, 1024, 704]⟩
abbrev S1x1024x704 : Shape := ⟨3, ![1, 1024, 704]⟩
abbrev S512x1024 : Shape := ⟨2, ![512, 1024]⟩
abbrev S1024x704 : Shape := ⟨2, ![1024, 704]⟩
abbrev S512x704 : Shape := ⟨2, ![512, 704]⟩
abbrev S1x1x512x704 : Shape := ⟨4, ![1, 1, 512, 704]⟩
abbrev S1x512x704 : Shape := ⟨3, ![1, 512, 704]⟩

abbrev nBuf : Space → Nat
  | .hbm => 9
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S1024x5632, .bf16⟩
  | .hbm, ⟨3, _⟩ => ⟨S1024x8x704, .bf16⟩
  | .hbm, ⟨4, _⟩ => ⟨S8x1024x704, .bf16⟩
  | .hbm, ⟨5, _⟩ => ⟨S1x8x1024x704, .bf16⟩
  | .hbm, ⟨6, _⟩ => ⟨S2048x1024, .bf16⟩
  | .hbm, ⟨7, _⟩ => ⟨S4x2x2048x704, .bf16⟩
  | .hbm, ⟨8, _⟩ => ⟨S4x2048x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x704, .bf16⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x2x1024x704, .bf16⟩
  | .local _ .vmem, ⟨7, _⟩ => ⟨S1x2x1024x704, .bf16⟩
  | .local _ .vmem, ⟨8, _⟩ => ⟨S1x1024x704, .bf16⟩
  | .local _ .vmem, ⟨9, _⟩ => ⟨S1x1024x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S2048x1024 : Shape := ⟨2, ![2048, 1024]⟩
abbrev S1024x5632 : Shape := ⟨2, ![1024, 5632]⟩
abbrev S2048x5632 : Shape := ⟨2, ![2048, 5632]⟩
abbrev S2048x2816 : Shape := ⟨2, ![2048, 2816]⟩
abbrev S_ : Shape := ⟨0, ![]⟩
abbrev S1x2048x2816 : Shape := ⟨3, ![1, 2048, 2816]⟩
abbrev S2x2048x2816 : Shape := ⟨3, ![2, 2048, 2816]⟩
abbrev S2x2048x4x704 : Shape := ⟨4, ![2, 2048, 4, 704]⟩
abbrev S4x2x2048x704 : Shape := ⟨4, ![4, 2, 2048, 704]⟩
abbrev S2048x4x704 : Shape := ⟨3, ![2048, 4, 704]⟩
abbrev S4x2048x704 : Shape := ⟨3, ![4, 2048, 704]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S1x2048x2816, .f32⟩
  | .hbm, ⟨16, _⟩ => ⟨S1x2048x2816, .f32⟩
  | .hbm, ⟨17, _⟩ => ⟨S2x2048x2816, .f32⟩
  | .hbm, ⟨18, _⟩ => ⟨S2x2048x4x704, .f32⟩
  | .hbm, ⟨19, _⟩ => ⟨S4x2x2048x704, .f32⟩
  | .hbm, ⟨20, _⟩ => ⟨S4x2x2048x704, .bf16⟩
  | .hbm, ⟨21, _⟩ => ⟨S2048x4x704, .f32⟩
  | .hbm, ⟨22, _⟩ => ⟨S4x2048x704, .f32⟩
  | .hbm, ⟨23, _⟩ => ⟨S4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel4.lean ====
abbrev S2048x5632 : Shape := ⟨2, ![2048, 5632]⟩
abbrev S2816x1024 : Shape := ⟨2, ![2816, 1024]⟩
abbrev S2048x1024 : Shape := ⟨2, ![2048, 1024]⟩
abbrev S1x4x704x1024 : Shape := ⟨4, ![1, 4, 704, 1024]⟩
abbrev S2048x2x4x704 : Shape := ⟨4, ![2048, 2, 4, 704]⟩
abbrev S4x2x2048x704 : Shape := ⟨4, ![4, 2, 2048, 704]⟩
abbrev S1024x1024 : Shape := ⟨2, ![1024, 1024]⟩
abbrev S1x1x704x1024 : Shape := ⟨4, ![1, 1, 704, 1024]⟩
abbrev S1x2x1024x704 : Shape := ⟨4, ![1, 2, 1024, 704]⟩
abbrev S704x1024 : Shape := ⟨2, ![704, 1024]⟩
abbrev S1024x704 : Shape := ⟨2, ![1024, 704]⟩
abbrev S1x1x1024x704 : Shape := ⟨4, ![1, 1, 1024, 704]⟩

abbrev nBuf : Space → Nat
  | .hbm => 9
  | .vmem => 8
  | .smem => 0
  | _ => 0

abbrev bufTy : (tb : Table) → Fin (tcTables nBuf tb) → BufTy
  | .hbm, ⟨0, _⟩ => ⟨S2048x5632, .f32⟩
  | .hbm, ⟨1, _⟩ => ⟨S2816x1024, .f32⟩
  | .hbm, ⟨2, _⟩ => ⟨S2048x1024, .f32⟩
  | .hbm, ⟨3, _⟩ => ⟨S2816x1024, .bf16⟩
  | .hbm, ⟨4, _⟩ => ⟨S1x4x704x1024, .bf16⟩
  | .hbm, ⟨5, _⟩ => ⟨S2048x5632, .bf16⟩
  | .hbm, ⟨6, _⟩ => ⟨S2048x2x4x704, .bf16⟩
  | .hbm, ⟨7, _⟩ => ⟨S4x2x2048x704, .bf16⟩
  | .hbm, ⟨8, _⟩ => ⟨S4x2x2048x704, .bf16⟩
  | .local _ .vmem, ⟨0, _⟩ => ⟨S1024x1024, .f32⟩
  | .local _ .vmem, ⟨1, _⟩ => ⟨S1024x1024, .f32⟩
  | .local _ .vmem, ⟨2, _⟩ => ⟨S1x1x704x1024, .bf16⟩
  | .local _ .vmem, ⟨3, _⟩ => ⟨S1x1x704x1024, .bf16⟩
  | .local _ .vmem, ⟨4, _⟩ => ⟨S1x2x1024x704, .bf16⟩
  | .local _ .vmem, ⟨5, _⟩ => ⟨S1x2x1024x704, .bf16⟩
  | .local _ .vmem, ⟨6, _⟩ => ⟨S1x2x1024x704, .bf16⟩
  | .local _ .vmem, ⟨7, _⟩ => ⟨S1x2x1024x704, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S2048x5632 : Shape := ⟨2, ![2048, 5632]⟩
abbrev S2816x1024 : Shape := ⟨2, ![2816, 1024]⟩
abbrev S2048x1024 : Shape := ⟨2, ![2048, 1024]⟩
abbrev S2048x2816 : Shape := ⟨2, ![2048, 2816]⟩
abbrev S_ : Shape := ⟨0, ![]⟩
abbrev S2048x2x4x704 : Shape := ⟨4, ![2048, 2, 4, 704]⟩
abbrev S4x2x2048x704 : Shape := ⟨4, ![4, 2, 2048, 704]⟩

abbrev nBuf : Space → Nat
  | .hbm => 37
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2816x1024, .f32⟩
  | .hbm, ⟨2, _⟩ => ⟨S2048x1024, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x5632, .f32⟩
  | .hbm, ⟨34, _⟩ => ⟨S2048x2x4x704, .f32⟩
  | .hbm, ⟨35, _⟩ => ⟨S4x2x2048x704, .f32⟩
  | .hbm, ⟨36, _⟩ => ⟨S4x2x2048x704, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩

abbrev nD : Nat := 1
abbrev τ : Topo := Topo.v7x

variable {F : FTy → Type} [FloatOps F]
-- ==== Kernel5.lean ====
abbrev S2048x2816 : Shape := ⟨2, ![2048, 2816]⟩
abbrev S2048x1024 : Shape := ⟨2, ![2048, 1024]⟩
abbrev S2048x4x704 : Shape := ⟨3, ![2048, 4, 704]⟩
abbrev S4x2048x704 : Shape := ⟨3, ![4, 2048, 704]⟩
abbrev S4x704x1024 : Shape := ⟨3, ![4, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S2048x2816, .bf16⟩
  | .hbm, ⟨3, _⟩ => ⟨S2048x4x704, .bf16⟩
  | .hbm, ⟨4, _⟩ => ⟨S4x2048x704, .bf16⟩
  | .hbm, ⟨5, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .f32⟩
  | .local _ .vmem, ⟨3, _⟩ => ⟨S1x704x1024, .bf16⟩
  | .local _ .vmem, ⟨4, _⟩ => ⟨S1x704x1024, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference5Ideal.lean ====
abbrev S2048x2816 : Shape := ⟨2, ![2048, 2816]⟩
abbrev S2048x1024 : Shape := ⟨2, ![2048, 1024]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S1024x2816, .f32⟩
  | .hbm, ⟨6, _⟩ => ⟨S2816x1024, .f32⟩
  | .hbm, ⟨7, _⟩ => ⟨S4x704x1024, .f32⟩
  | .hbm, ⟨8, _⟩ => ⟨S4x704x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S2048x2816 : Shape := ⟨2, ![2048, 2816]⟩
abbrev S2816x1024 : Shape := ⟨2, ![2816, 1024]⟩
abbrev S2048x1024 : Shape := ⟨2, ![2048, 1024]⟩
abbrev S1x4x704x1024 : Shape := ⟨4, ![1, 4, 704, 1024]⟩
abbrev S2048x4x704 : Shape := ⟨3, ![2048, 4, 704]⟩
abbrev S4x2048x704 : Shape := ⟨3, ![4, 2048, 704]⟩
abbrev S4x1024x704 : Shape := ⟨3, ![4, 1024, 704]⟩
abbrev S1024x1024 : Shape := ⟨2, ![1024, 1024]⟩
abbrev S1x1024x704 : Shape := ⟨3, ![1, 1024, 704]⟩
abbrev S1024x704 : Shape := ⟨2, ![1024, 704]⟩
abbrev S1x1x704x1024 : Shape := ⟨4, ![1, 1, 704, 1024]⟩
abbrev S704x1024 : Shape := ⟨2, ![704, 1024]⟩

abbrev nBuf : Space → Nat
  | .hbm => 9
  | .vmem => 7
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2816x1024, .bf16⟩
  | .hbm, ⟨4, _⟩ => ⟨S1x4x704x1024, .bf16⟩
  | .hbm, ⟨5, _⟩ => ⟨S2048x2816, .bf16⟩
  | .hbm, ⟨6, _⟩ => ⟨S2048x4x704, .bf16⟩
  | .hbm, ⟨7, _⟩ => ⟨S4x2048x704, .bf16⟩
  | .hbm, ⟨8, _⟩ => ⟨S2048x1024, .f32⟩
  | .local _ .vmem, ⟨0, _⟩ => ⟨S4x1024x704, .bf16⟩
  | .local _ .vmem, ⟨1, _⟩ => ⟨S4x1024x704, .bf16⟩
  | .local _ .vmem, ⟨2, _⟩ => ⟨S1x4x704x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S2048x2816 : Shape := ⟨2, ![2048, 2816]⟩
abbrev S2816x1024 : Shape := ⟨2, ![2816, 1024]⟩
abbrev S2048x1024 : Shape := ⟨2, ![2048, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel7.lean ====
abbrev S2048x1024 : Shape := ⟨2, ![2048, 1024]⟩
abbrev S1024 : Shape := ⟨1, ![1024]⟩
abbrev S1024x5632 : Shape := ⟨2, ![1024, 5632]⟩
abbrev S2048x5632 : Shape := ⟨2, ![2048, 5632]⟩
abbrev S1024x8x704 : Shape := ⟨3, ![1024, 8, 704]⟩
abbrev S8x1024x704 : Shape := ⟨3, ![8, 1024, 704]⟩
abbrev S1x8x1024x704 : Shape := ⟨4, ![1, 8, 1024, 704]⟩
abbrev S2048x2x4x704 : Shape := ⟨4, ![2048, 2, 4, 704]⟩
abbrev S4x2x2048x704 : Shape := ⟨4, ![4, 2, 2048, 704]⟩
abbrev S1x1024 : Shape := ⟨2, ![1, 1024]⟩
abbrev S4x2x512x704 : Shape := ⟨4, ![4, 2, 512, 704]⟩
abbrev S512x1024 : Shape := ⟨2, ![512, 1024]⟩
abbrev S1x1x512x704 : Shape := ⟨4, ![1, 1, 512, 704]⟩
abbrev S512x704 : Shape := ⟨2, ![512, 704]⟩
abbrev S1x1x1024x704 : Shape := ⟨4, ![1, 1, 1024, 704]⟩
abbrev S1024x704 : Shape := ⟨2, ![1024, 704]⟩
abbrev S512 : Shape := ⟨1, ![512]⟩
abbrev S512x1 : Shape := ⟨2, ![512, 1]⟩

abbrev nBuf : Space → Nat
  | .hbm => 15
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x5632, .f32⟩
  | .hbm, ⟨3, _⟩ => ⟨S2048x5632, .f32⟩
  | .hbm, ⟨4, _⟩ => ⟨S2048x1024, .f32⟩
  | .hbm, ⟨5, _⟩ => ⟨S1024x5632, .bf16⟩
  | .hbm, ⟨6, _⟩ => ⟨S1024x8x704, .bf16⟩
  | .hbm, ⟨7, _⟩ => ⟨S8x1024x704, .bf16⟩
  | .hbm, ⟨8, _⟩ => ⟨S1x8x1024x704, .bf16⟩
  | .hbm, ⟨9, _⟩ => ⟨S2048x5632, .bf16⟩
  | .hbm, ⟨10, _⟩ => ⟨S2048x2x4x704, .bf16⟩
  | .hbm, ⟨11, _⟩ => ⟨S4x2x2048x704, .bf16⟩
  | .hbm, ⟨12, _⟩ => ⟨S1x1024, .f32⟩
  | .hbm, ⟨13, _⟩ => ⟨S2048x1024, .f32⟩
  | .hbm, ⟨14, _⟩ => ⟨S1x1024, .f32⟩
  | .local _ .vmem, ⟨0, _⟩ => ⟨S4x2x512x704, .bf16⟩
  | .local _ .vmem, ⟨1, _⟩ => ⟨S4x2x512x704, .bf16⟩
  | .local _ .vmem, ⟨2, _⟩ => ⟨S1x8x1024x704, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v78 : BitVec 1 := Scalar.cmpi .eq arg0 c0_i32
  let v79 : BitVec 32 := Scalar.extui v78
  let c0_i32_77 : BitVec 32 := 0#32
  let v80 : BitVec 1 := Scalar.cmpi .ne v79 c0_i32_77
  v80

def k0_cond2 (i : grid0.Coords) : BitVec 1 :=
  let arg0 : BitVec 32 := BitVec.ofNat 32 (i 0).val
  let c0_i32_78 : BitVec 32 := 0#32
  let v81 : BitVec 1 := Scalar.cmpi .sgt arg0 c0_i32_78
  let v82 : BitVec 32 := Scalar.extui v81
  let c0_i32_79 : BitVec 32 := 0#32
  let v83 : BitVec 1 := Scalar.cmpi .ne v82 c0_i32_79
  v83

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x2x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference7Ideal.lean ====
abbrev S2048x1024 : Shape := ⟨2, ![2048, 1024]⟩
abbrev S1024 : Shape := ⟨1, ![1024]⟩
abbrev S1024x5632 : Shape := ⟨2, ![1024, 5632]⟩
abbrev S2048x5632 : Shape := ⟨2, ![2048, 5632]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x5632, .f32⟩
  | .hbm, ⟨3, _⟩ => ⟨S2048x5632, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x5632, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel8.lean ====
abbrev S2048x1024 : Shape := ⟨2, ![2048, 1024]⟩
abbrev S2048x3072 : Shape := ⟨2, ![2048, 3072]⟩
abbrev S1024x3072 : Shape := ⟨2, ![1024, 3072]⟩
abbrev S1x3072 : Shape := ⟨2, ![1, 3072]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x3072, .f32⟩
  | .hbm, ⟨2, _⟩ => ⟨S2048x1024, .bf16⟩
  | .hbm, ⟨3, _⟩ => ⟨S2048x3072, .bf16⟩
  | .hbm, ⟨4, _⟩ => ⟨S1024x3072, .bf16⟩
  | .hbm, ⟨5, _⟩ => ⟨S1x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 3, 1], ![false, false, false]⟩

def k0_cond1 (i : grid0.Coords) : BitVec 1 :=
  let arg2 : BitVec 32 := BitVec.ofNat 32 (i 2).val
  let c0_i32 : BitVec 32 := 0#32
  let v8 : BitVec 1 := Scalar.cmpi .eq arg2 c0_i32
  let v9 : BitVec 32 := Scalar.extui v8
  let c0_i32_4 : BitVec 32 := 0#32
  let v10 : BitVec 1 := Scalar.cmpi .ne v9 c0_i32_4
  v10

def k0_cond2 (i : grid0.Coords) : BitVec 1 :=
  let arg2 : BitVec 32 := BitVec.ofNat 32 (i 2).val
  let c0_i32_5 : BitVec 32 := 0#32
  let v11 : BitVec 1 := Scalar.cmpi .sgt arg2 c0_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== Reference8Ideal.lean ====
abbrev S2048x1024 : Shape := ⟨2, ![2048, 1024]⟩
abbrev S2048x3072 : Shape := ⟨2, ![2048, 3072]⟩
abbrev S_ : Shape := ⟨0, ![]⟩
abbrev S3072 : Shape := ⟨1, ![3072]⟩
abbrev S1x3072 : Shape := ⟨2, ![1, 3072]⟩
abbrev S3072x1024 : Shape := ⟨2, ![3072, 1024]⟩
abbrev S1024x3072 : Shape := ⟨2, ![1024, 3072]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x3072, .f32⟩
  | .hbm, ⟨2, _⟩ => ⟨S2048x3072, .f32⟩
  | .hbm, ⟨3, _⟩ => ⟨S_, .f32⟩
  | .hbm, ⟨4, _⟩ => ⟨S3072, .f32⟩
  | .hbm, ⟨5, _⟩ => ⟨S1x3072, .f32⟩
  | .hbm, ⟨6, _⟩ => ⟨S_, .f32⟩
  | .hbm, ⟨7, _⟩ => ⟨S3072, .f32⟩
  | .hbm, ⟨8, _⟩ => ⟨S3072x1024, .f32⟩
  | .hbm, ⟨9, _⟩ => ⟨S1024x3072, .f32⟩
  | .hbm, ⟨10, _⟩ => ⟨S1024x3072, .bf16⟩
  | .hbm, ⟨11, _⟩ => ⟨S1x3072, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel9.lean ====
abbrev S2x1024x3072 : Shape := ⟨3, ![2, 1024, 3072]⟩
abbrev S2048x3072 : Shape := ⟨2, ![2048, 3072]⟩
abbrev S2048x1024 : Shape := ⟨2, ![2048, 1024]⟩
abbrev S512x3072 : Shape := ⟨2, ![512, 3072]⟩
abbrev S1x1024x3072 : Shape := ⟨3, ![1, 1024, 3072]⟩
abbrev S512x1024 : Shape := ⟨2, ![512, 1024]⟩
abbrev S1024x3072 : Shape := ⟨2, ![1024, 3072]⟩

abbrev nBuf : Space → Nat
  | .hbm => 5
  | .vmem => 5
  | .smem => 0
  | _ => 0

abbrev bufTy : (tb : Table) → Fin (tcTables nBuf tb) → BufTy
  | .hbm, ⟨0, _⟩ => ⟨S2x1024x3072, .f32⟩
  | .hbm, ⟨1, _⟩ => ⟨S2048x3072, .f32⟩
  | .hbm, ⟨2, _⟩ => ⟨S2048x3072, .bf16⟩
  | .hbm, ⟨3, _⟩ => ⟨S2x1024x3072, .bf16⟩
  | .hbm, ⟨4, _⟩ => ⟨S2048x1024, .f32⟩
  | .local _ .vmem, ⟨0, _⟩ => ⟨S512x3072, .bf16⟩
  | .local _ .vmem, ⟨1, _⟩ => ⟨S512x3072, .bf16⟩
  | .local _ .vmem, ⟨2, _⟩ => ⟨S1x1024x3072, .bf16⟩
  | .local _ .vmem, ⟨3, _⟩ => ⟨S512x1024, .f32⟩
  | .local _ .vmem, ⟨4, _⟩ => ⟨S512x1024, .f32⟩
  | _, _ => ⟨S2x1024x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference9Ideal.lean ====
abbrev S2x1024x3072 : Shape := ⟨3, ![2, 1024, 3072]⟩
abbrev S2048x3072 : Shape := ⟨2, ![2048, 3072]⟩
abbrev S1x1024x3072 : Shape := ⟨3, ![1, 1024, 3072]⟩
abbrev S1024x3072 : Shape := ⟨2, ![1024, 3072]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2x1024x3072, .f32⟩
  | .hbm, ⟨1, _⟩ => ⟨S2048x3072, .f32⟩
  | .hbm, ⟨2, _⟩ => ⟨S1x1024x3072, .f32⟩
  | .hbm, ⟨3, _⟩ => ⟨S1024x3072, .f32⟩
  | .hbm, ⟨4, _⟩ => ⟨S2048x1024, .f32⟩
  | _, _ => ⟨S2x1024x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S2048x1024 : Shape := ⟨2, ![2048, 1024]⟩
abbrev S2x1024x3072 : Shape := ⟨3, ![2, 1024, 3072]⟩
abbrev S3072 : Shape := ⟨1, ![3072]⟩
abbrev S1x3072 : Shape := ⟨2, ![1, 3072]⟩
abbrev S2048x3072 : Shape := ⟨2, ![2048, 3072]⟩
abbrev S3072x2048 : Shape := ⟨2, ![3072, 2048]⟩
abbrev S1024x1024 : Shape := ⟨2, ![1024, 1024]⟩
abbrev S1x1024x1024 : Shape := ⟨3, ![1, 1024, 1024]⟩
abbrev S1x1024 : Shape := ⟨2, ![1, 1024]⟩

abbrev nBuf : Space → Nat
  | .hbm => 10
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2x1024x3072, .f32⟩
  | .hbm, ⟨2, _⟩ => ⟨S3072, .f32⟩
  | .hbm, ⟨3, _⟩ => ⟨S3072, .f32⟩
  | .hbm, ⟨4, _⟩ => ⟨S2048x1024, .bf16⟩
  | .hbm, ⟨5, _⟩ => ⟨S2x1024x3072, .bf16⟩
  | .hbm, ⟨6, _⟩ => ⟨S1x3072, .f32⟩
  | .hbm, ⟨7, _⟩ => ⟨S1x3072, .f32⟩
  | .hbm, ⟨8, _⟩ => ⟨S2048x3072, .bf16⟩
  | .hbm, ⟨9, _⟩ => ⟨S3072x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference10Ideal.lean ====
abbrev S2048x1024 : Shape := ⟨2, ![2048, 1024]⟩
abbrev S2x1024x3072 : Shape := ⟨3, ![2, 1024, 3072]⟩
abbrev S3072 : Shape := ⟨1, ![3072]⟩
abbrev S1x1024x3072 : Shape := ⟨3, ![1, 1024, 3072]⟩
abbrev S1024x3072 : Shape := ⟨2, ![1024, 3072]⟩
abbrev S2048x3072 : Shape := ⟨2, ![2048, 3072]⟩
abbrev S1x3072 : Shape := ⟨2, ![1, 3072]⟩
abbrev S3072x2048 : Shape := ⟨2, ![3072, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2x1024x3072, .f32⟩
  | .hbm, ⟨2, _⟩ => ⟨S3072, .f32⟩
  | .hbm, ⟨3, _⟩ => ⟨S3072, .f32⟩
  | .hbm, ⟨4, _⟩ => ⟨S1x1024x3072, .f32⟩
  | .hbm, ⟨5, _⟩ => ⟨S1024x3072, .f32⟩
  | .hbm, ⟨6, _⟩ => ⟨S2048x3072, .f32⟩
  | .hbm, ⟨7, _⟩ => ⟨S1x3072, .f32⟩
  | .hbm, ⟨8, _⟩ => ⟨S2048x3072, .f32⟩
  | .hbm, ⟨9, _⟩ => ⟨S2048x3072, .f32⟩
  | .hbm, ⟨10, _⟩ => ⟨S1x3072, .f32⟩
  | .hbm, ⟨11, _⟩ => ⟨S2048x3072, .f32⟩
  | .hbm, ⟨12, _⟩ => ⟨S2048x3072, .f32⟩
  | .hbm, ⟨13, _⟩ => ⟨S2048x3072, .bf16⟩
  | .hbm, ⟨14, _⟩ => ⟨S3072x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel11.lean ====
abbrev S2048x1024 : Shape := ⟨2, ![2048, 1024]⟩
abbrev S1024 : Shape := ⟨1, ![1024]⟩
abbrev S2x1024x3072 : Shape := ⟨3, ![2, 1024, 3072]⟩
abbrev S1x1024x128 : Shape := ⟨3, ![1, 1024, 128]⟩
abbrev S2048x3072 : Shape := ⟨2, ![2048, 3072]⟩
abbrev S2048x128 : Shape := ⟨2, ![2048, 128]⟩
abbrev S1x1024 : Shape := ⟨2, ![1, 1024]⟩
abbrev S512x1024 : Shape := ⟨2, ![512, 1024]⟩
abbrev S512x3072 : Shape := ⟨2, ![512, 3072]⟩
abbrev S1x1024x3072 : Shape := ⟨3, ![1, 1024, 3072]⟩
abbrev S512x128 : Shape := ⟨2, ![512, 128]⟩
abbrev S1024x3072 : Shape := ⟨2, ![1024, 3072]⟩
abbrev S1024x128 : Shape := ⟨2, ![1024, 128]⟩
abbrev S512 : Shape := ⟨1, ![512]⟩
abbrev S512x1 : Shape := ⟨2, ![512, 1]⟩

abbrev nBuf : Space → Nat
  | .hbm => 14
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2x1024x3072, .f32⟩
  | .hbm, ⟨3, _⟩ => ⟨S1x1024x128, .f32⟩
  | .hbm, ⟨4, _⟩ => ⟨S2048x1024, .f32⟩
  | .hbm, ⟨5, _⟩ => ⟨S2048x3072, .f32⟩
  | .hbm, ⟨6, _⟩ => ⟨S2048x128, .f32⟩
  | .hbm, ⟨7, _⟩ => ⟨S2048x1024, .f32⟩
  | .hbm, ⟨8, _⟩ => ⟨S2048x3072, .bf16⟩
  | .hbm, ⟨9, _⟩ => ⟨S2x1024x3072, .bf16⟩
  | .hbm, ⟨10, _⟩ => ⟨S1x1024x128, .bf16⟩
  | .hbm, ⟨11, _⟩ => ⟨S1x1024, .f32⟩
  | .hbm, ⟨12, _⟩ => ⟨S2048x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x3072, .bf16⟩
  | .local _ .vmem, ⟨3, _⟩ => ⟨S512x3072, .bf16⟩
  | .local _ .vmem, ⟨4, _⟩ => ⟨S1x1024x3072, .bf16⟩
  | .local _ .vmem, ⟨5, _⟩ => ⟨S512x128, .f32⟩
  | .local _ .vmem, ⟨6, _⟩ => ⟨S512x128, .f32⟩
  | .local _ .vmem, ⟨7, _⟩ => ⟨S1x1024x128, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_26 : BitVec 32 := 0#32
  let v46 : BitVec 1 := Scalar.cmpi .ne v45 c0_i32_26
  v46

def k0_cond2 (i : grid0.Coords) : BitVec 1 :=
  let arg0 : BitVec 32 := BitVec.ofNat 32 (i 0).val
  let c0_i32_27 : BitVec 32 := 0#32
  let v47 : BitVec 1 := Scalar.cmpi .sgt arg0 c0_i32_27
  let v48 : BitVec 32 := Scalar.extui v47
  let c0_i32_28 : BitVec 32 := 0#32
  let v49 : BitVec 1 := Scalar.cmpi .ne v48 c0_i32_28
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference11Ideal.lean ====
abbrev S2048x1024 : Shape := ⟨2, ![2048, 1024]⟩
abbrev S1024 : Shape := ⟨1, ![1024]⟩
abbrev S2x1024x3072 : Shape := ⟨3, ![2, 1024, 3072]⟩
abbrev S1x1024x128 : Shape := ⟨3, ![1, 1024, 128]⟩
abbrev S2048x3072 : Shape := ⟨2, ![2048, 3072]⟩
abbrev S2048x128 : Shape := ⟨2, ![2048, 128]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x1024x3072 : Shape := ⟨3, ![1, 1024, 3072]⟩
abbrev S1024x3072 : Shape := ⟨2, ![1024, 3072]⟩
abbrev S1024x128 : Shape := ⟨2, ![1024, 128]⟩

abbrev nBuf : Space → Nat
  | .hbm => 64
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2x1024x3072, .f32⟩
  | .hbm, ⟨3, _⟩ => ⟨S1x1024x128, .f32⟩
  | .hbm, ⟨4, _⟩ => ⟨S2048x1024, .f32⟩
  | .hbm, ⟨5, _⟩ => ⟨S2048x3072, .f32⟩
  | .hbm, ⟨6, _⟩ => ⟨S2048x128, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S1x1024x3072, .f32⟩
  | .hbm, ⟨29, _⟩ => ⟨S1024x3072, .f32⟩
  | .hbm, ⟨30, _⟩ => ⟨S2048x3072, .f32⟩
  | .hbm, ⟨31, _⟩ => ⟨S1024x128, .f32⟩
  | .hbm, ⟨32, _⟩ => ⟨S2048x128, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S1024, .f32⟩
  | .hbm, ⟨45, _⟩ => ⟨S2048x1024, .f32⟩
  | .hbm, ⟨46, _⟩ => ⟨S_, .f32⟩
  | .hbm, ⟨47, _⟩ => ⟨S2048, .f32⟩
  | .hbm, ⟨48, _⟩ => ⟨S2048x1, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1, .f32⟩
  | .hbm, ⟨53, _⟩ => ⟨S_, .f32⟩
  | .hbm, ⟨54, _⟩ => ⟨S2048x1, .f32⟩
  | .hbm, ⟨55, _⟩ => ⟨S2048x1, .f32⟩
  | .hbm, ⟨56, _⟩ => ⟨S_, .f32⟩
  | .hbm, ⟨57, _⟩ => ⟨S2048, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Kernel12.lean ====
abbrev S2048x1024 : Shape := ⟨2, ![2048, 1024]⟩
abbrev S1024x1024 : Shape := ⟨2, ![1024, 1024]⟩
abbrev S1x1024x1024 : Shape := ⟨3, ![1, 1024, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .bf16⟩
  | .hbm, ⟨4, _⟩ => ⟨S1024x1024, .bf16⟩
  | .hbm, ⟨5, _⟩ => ⟨S1x1024x1024, .bf16⟩
  | .hbm, ⟨6, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference12Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel13.lean ====
abbrev S2048x1024 : Shape := ⟨2, ![2048, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S1024x1024, .bf16⟩
  | .local _ .vmem, ⟨0, _⟩ => ⟨S2048x1024, .bf16⟩
  | .local _ .vmem, ⟨1, _⟩ => ⟨S2048x1024, .f32⟩
  | .local _ .vmem, ⟨2, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== Reference13Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S2048x256 : Shape := ⟨2, ![2048, 256]⟩
abbrev S2048x512 : Shape := ⟨2, ![2048, 512]⟩
abbrev S1024x1024 : Shape := ⟨2, ![1024, 1024]⟩
abbrev S2048x3072 : Shape := ⟨2, ![2048, 3072]⟩
abbrev S1x1024x1024 : Shape := ⟨3, ![1, 1024, 1024]⟩
abbrev S2048x1024 : Shape := ⟨2, ![2048, 1024]⟩
abbrev S512x256 : Shape := ⟨2, ![512, 256]⟩
abbrev S512x512 : Shape := ⟨2, ![512, 512]⟩
abbrev S512x3072 : Shape := ⟨2, ![512, 3072]⟩
abbrev S512x1024 : Shape := ⟨2, ![512, 1024]⟩
abbrev S1x256x1024 : Shape := ⟨3, ![1, 256, 1024]⟩
abbrev S256x1024 : Shape := ⟨2, ![256, 1024]⟩
abbrev S1x512x1024 : Shape := ⟨3, ![1, 512, 1024]⟩

abbrev nBuf : Space → Nat
  | .hbm => 14
  | .vmem => 17
  | .smem => 0
  | _ => 0

abbrev bufTy : (tb : Table) → Fin (tcTables nBuf tb) → BufTy
  | .hbm, ⟨0, _⟩ => ⟨S2048x256, .f32⟩
  | .hbm, ⟨1, _⟩ => ⟨S2048x512, .f32⟩
  | .hbm, ⟨2, _⟩ => ⟨S2048x256, .f32⟩
  | .hbm, ⟨3, _⟩ => ⟨S1024x1024, .f32⟩
  | .hbm, ⟨4, _⟩ => ⟨S2048x3072, .f32⟩
  | .hbm, ⟨5, _⟩ => ⟨S2048x256, .bf16⟩
  | .hbm, ⟨6, _⟩ => ⟨S2048x512, .bf16⟩
  | .hbm, ⟨7, _⟩ => ⟨S2048x256, .bf16⟩
  | .hbm, ⟨8, _⟩ => ⟨S1024x1024, .bf16⟩
  | .hbm, ⟨9, _⟩ => ⟨S1x1024x1024, .bf16⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .bf16⟩
  | .local _ .vmem, ⟨0, _⟩ => ⟨S512x256, .bf16⟩
  | .local _ .vmem, ⟨1, _⟩ => ⟨S512x256, .bf16⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S1x1024x1024, .bf16⟩
  | .local _ .vmem, ⟨7, _⟩ => ⟨S512x3072, .f32⟩
  | .local _ .vmem, ⟨8, _⟩ => ⟨S512x3072, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S2048x256 : Shape := ⟨2, ![2048, 256]⟩
abbrev S2048x512 : Shape := ⟨2, ![2048, 512]⟩
abbrev S1024x1024 : Shape := ⟨2, ![1024, 1024]⟩
abbrev S2048x3072 : Shape := ⟨2, ![2048, 3072]⟩
abbrev S256x1024 : Shape := ⟨2, ![256, 1024]⟩
abbrev S512x1024 : Shape := ⟨2, ![512, 1024]⟩
abbrev S2048x1024 : Shape := ⟨2, ![2048, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x512, .f32⟩
  | .hbm, ⟨2, _⟩ => ⟨S2048x256, .f32⟩
  | .hbm, ⟨3, _⟩ => ⟨S1024x1024, .f32⟩
  | .hbm, ⟨4, _⟩ => ⟨S2048x3072, .f32⟩
  | .hbm, ⟨5, _⟩ => ⟨S256x1024, .f32⟩
  | .hbm, ⟨6, _⟩ => ⟨S512x1024, .f32⟩
  | .hbm, ⟨7, _⟩ => ⟨S256x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel15.lean ====
abbrev S2048x1024 : Shape := ⟨2, ![2048, 1024]⟩
abbrev S1024x1024 : Shape := ⟨2, ![1024, 1024]⟩
abbrev S2048x3072 : Shape := ⟨2, ![2048, 3072]⟩
abbrev S1x1024x1024 : Shape := ⟨3, ![1, 1024, 1024]⟩
abbrev S256x1024 : Shape := ⟨2, ![256, 1024]⟩
abbrev S256x3072 : Shape := ⟨2, ![256, 3072]⟩

abbrev nBuf : Space → Nat
  | .hbm => 12
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x3072, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S1024x1024, .bf16⟩
  | .hbm, ⟨7, _⟩ => ⟨S1x1024x1024, .bf16⟩
  | .hbm, ⟨8, _⟩ => ⟨S2048x3072, .bf16⟩
  | .hbm, ⟨9, _⟩ => ⟨S2048x1024, .bf16⟩
  | .hbm, ⟨10, _⟩ => ⟨S2048x1024, .bf16⟩
  | .hbm, ⟨11, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024x1024, .bf16⟩
  | .local _ .vmem, ⟨3, _⟩ => ⟨S256x3072, .f32⟩
  | .local _ .vmem, ⟨4, _⟩ => ⟨S256x3072, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x3072, .bf16⟩
  | .local _ .vmem, ⟨12, _⟩ => ⟨S256x3072, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference15Ideal.lean ====
abbrev S2048x1024 : Shape := ⟨2, ![2048, 1024]⟩
abbrev S1024x1024 : Shape := ⟨2, ![1024, 1024]⟩
abbrev S2048x3072 : Shape := ⟨2, ![2048, 3072]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x3072, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x3072, .f32⟩
  | .hbm, ⟨62, _⟩ => ⟨S2048x3072, .bf16⟩
  | .hbm, ⟨63, _⟩ => ⟨S2048x1024, .bf16⟩
  | .hbm, ⟨64, _⟩ => ⟨S2048x1024, .bf16⟩
  | .hbm, ⟨65, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== Kernel16.lean ====
abbrev S2048x1024 : Shape := ⟨2, ![2048, 1024]⟩
abbrev S2048x256 : Shape := ⟨2, ![2048, 256]⟩
abbrev S2048x512 : Shape := ⟨2, ![2048, 512]⟩
abbrev S1024x1024 : Shape := ⟨2, ![1024, 1024]⟩
abbrev S1x1024x1024 : Shape := ⟨3, ![1, 1024, 1024]⟩
abbrev S1024x2048 : Shape := ⟨2, ![1024, 2048]⟩
abbrev S512x1024 : Shape := ⟨2, ![512, 1024]⟩
abbrev S512x256 : Shape := ⟨2, ![512, 256]⟩
abbrev S512x512 : Shape := ⟨2, ![512, 512]⟩
abbrev S1024x512 : Shape := ⟨2, ![1024, 512]⟩
abbrev S1x256x1024 : Shape := ⟨3, ![1, 256, 1024]⟩
abbrev S256x1024 : Shape := ⟨2, ![256, 1024]⟩
abbrev S256x512 : Shape := ⟨2, ![256, 512]⟩
abbrev S1x512x1024 : Shape := ⟨3, ![1, 512, 1024]⟩

abbrev nBuf : Space → Nat
  | .hbm => 18
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x256, .f32⟩
  | .hbm, ⟨4, _⟩ => ⟨S2048x512, .f32⟩
  | .hbm, ⟨5, _⟩ => ⟨S2048x256, .f32⟩
  | .hbm, ⟨6, _⟩ => ⟨S1024x1024, .f32⟩
  | .hbm, ⟨7, _⟩ => ⟨S2048x1024, .bf16⟩
  | .hbm, ⟨8, _⟩ => ⟨S2048x1024, .bf16⟩
  | .hbm, ⟨9, _⟩ => ⟨S2048x1024, .bf16⟩
  | .hbm, ⟨10, _⟩ => ⟨S2048x256, .bf16⟩
  | .hbm, ⟨11, _⟩ => ⟨S2048x512, .bf16⟩
  | .hbm, ⟨12, _⟩ => ⟨S2048x256, .bf16⟩
  | .hbm, ⟨13, _⟩ => ⟨S1024x1024, .bf16⟩
  | .hbm, ⟨14, _⟩ => ⟨S1x1024x1024, .bf16⟩
  | .hbm, ⟨15, _⟩ => ⟨S2048x1024, .bf16⟩
  | .hbm, ⟨16, _⟩ => ⟨S1024x2048, .bf16⟩
  | .hbm, ⟨17, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x256, .bf16⟩
  | .local _ .vmem, ⟨7, _⟩ => ⟨S512x256, .bf16⟩
  | .local _ .vmem, ⟨8, _⟩ => ⟨S512x512, .bf16⟩
  | .local _ .vmem, ⟨9, _⟩ => ⟨S512x512, .bf16⟩
  | .local _ .vmem, ⟨10, _⟩ => ⟨S512x256, .bf16⟩
  | .local _ .vmem, ⟨11, _⟩ => ⟨S512x256, .bf16⟩
  | .local _ .vmem, ⟨12, _⟩ => ⟨S1x1024x1024, .bf16⟩
  | .local _ .vmem, ⟨13, _⟩ => ⟨S512x1024, .bf16⟩
  | .local _ .vmem, ⟨14, _⟩ => ⟨S512x1024, .bf16⟩
  | .local _ .vmem, ⟨15, _⟩ => ⟨S1024x512, .bf16⟩
  | .local _ .vmem, ⟨16, _⟩ => ⟨S1024x512, .bf16⟩
  | .local _ .vmem, ⟨17, _⟩ => ⟨S1024x1024, .bf16⟩
  | .local _ .vmem, ⟨18, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![4], ![false]⟩

def k0_cond7 (i : grid0.Coords) : BitVec 1 :=
  let arg0 : BitVec 32 := BitVec.ofNat 32 (i 0).val
  let c3_i32 : BitVec 32 := 3#32
  let v57 : BitVec 1 := Scalar.cmpi .eq arg0 c3_i32
  let v58 : BitVec 32 := Scalar.extui v57
  let c0_i32_46 : BitVec 32 := 0#32
  let v59 : BitVec 1 := Scalar.cmpi .ne v58 c0_i32_46
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference16Ideal.lean ====
abbrev S2048x1024 : Shape := ⟨2, ![2048, 1024]⟩
abbrev S2048x256 : Shape := ⟨2, ![2048, 256]⟩
abbrev S2048x512 : Shape := ⟨2, ![2048, 512]⟩
abbrev S1024x1024 : Shape := ⟨2, ![1024, 1024]⟩
abbrev S256x1024 : Shape := ⟨2, ![256, 1024]⟩
abbrev S512x1024 : Shape := ⟨2, ![512, 1024]⟩
abbrev S1024x256 : Shape := ⟨2, ![1024, 256]⟩
abbrev S1024x512 : Shape := ⟨2, ![1024, 512]⟩
abbrev S1024x2048 : Shape := ⟨2, ![1024, 2048]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x256, .f32⟩
  | .hbm, ⟨4, _⟩ => ⟨S2048x512, .f32⟩
  | .hbm, ⟨5, _⟩ => ⟨S2048x256, .f32⟩
  | .hbm, ⟨6, _⟩ => ⟨S1024x1024, .f32⟩
  | .hbm, ⟨7, _⟩ => ⟨S256x1024, .f32⟩
  | .hbm, ⟨8, _⟩ => ⟨S512x1024, .f32⟩
  | .hbm, ⟨9, _⟩ => ⟨S256x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S1024x256, .f32⟩
  | .hbm, ⟨14, _⟩ => ⟨S256x1024, .f32⟩
  | .hbm, ⟨15, _⟩ => ⟨S2048x256, .f32⟩
  | .hbm, ⟨16, _⟩ => ⟨S1024x512, .f32⟩
  | .hbm, ⟨17, _⟩ => ⟨S512x1024, .f32⟩
  | .hbm, ⟨18, _⟩ => ⟨S2048x512, .f32⟩
  | .hbm, ⟨19, _⟩ => ⟨S1024x256, .f32⟩
  | .hbm, ⟨20, _⟩ => ⟨S256x1024, .f32⟩
  | .hbm, ⟨21, _⟩ => ⟨S2048x256, .f32⟩
  | .hbm, ⟨22, _⟩ => ⟨S1024x1024, .f32⟩
  | .hbm, ⟨23, _⟩ => ⟨S2048x1024, .f32⟩
  | .hbm, ⟨24, _⟩ => ⟨S2048x1024, .bf16⟩
  | .hbm, ⟨25, _⟩ => ⟨S1024x2048, .bf16⟩
  | .hbm, ⟨26, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel17.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1x1024, .f32⟩
  | .hbm, ⟨3, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel18.lean ====
abbrev S8x704x1024 : Shape := ⟨3, ![8, 704, 1024]⟩
abbrev S2x1024x704 : Shape := ⟨3, ![2, 1024, 704]⟩
abbrev S8x1x704x1024 : Shape := ⟨4, ![8, 1, 704, 1024]⟩
abbrev S2x704x1024 : Shape := ⟨3, ![2, 704, 1024]⟩
abbrev S8x1x176x1024 : Shape := ⟨4, ![8, 1, 176, 1024]⟩
abbrev S1x176x1024 : Shape := ⟨3, ![1, 176, 1024]⟩
abbrev S1x1x176x1024 : Shape := ⟨4, ![1, 1, 176, 1024]⟩
abbrev S176x1024 : Shape := ⟨2, ![176, 1024]⟩

abbrev nBuf : Space → Nat
  | .hbm => 16
  | .vmem => 18
  | .smem => 0
  | _ => 0

abbrev bufTy : (tb : Table) → Fin (tcTables nBuf tb) → BufTy
  | .hbm, ⟨0, _⟩ => ⟨S8x704x1024, .f32⟩
  | .hbm, ⟨1, _⟩ => ⟨S8x704x1024, .f32⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S8x1x704x1024, .f32⟩
  | .hbm, ⟨6, _⟩ => ⟨S8x1x704x1024, .bf16⟩
  | .hbm, ⟨7, _⟩ => ⟨S8x1x704x1024, .f32⟩
  | .hbm, ⟨8, _⟩ => ⟨S8x1x704x1024, .bf16⟩
  | .hbm, ⟨9, _⟩ => ⟨S2x704x1024, .f32⟩
  | .hbm, ⟨10, _⟩ => ⟨S2x704x1024, .f32⟩
  | .hbm, ⟨11, _⟩ => ⟨S2x704x1024, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S2x704x1024, .f32⟩
  | .local _ .vmem, ⟨0, _⟩ => ⟨S8x1x176x1024, .bf16⟩
  | .local _ .vmem, ⟨1, _⟩ => ⟨S8x1x176x1024, .bf16⟩
  | .local _ .vmem, ⟨2, _⟩ => ⟨S8x1x176x1024, .bf16⟩
  | .local _ .vmem, ⟨3, _⟩ => ⟨S8x1x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v2.toNat, c0_i32_3.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v2.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel18Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference18Ideal.lean ====
abbrev S8x704x1024 : Shape := ⟨3, ![8, 704, 1024]⟩
abbrev S2x1024x704 : Shape := ⟨3, ![2, 1024, 704]⟩
abbrev S_ : Shape := ⟨0, ![]⟩
abbrev S704x1024 : Shape := ⟨2, ![704, 1024]⟩
abbrev S1024x704 : Shape := ⟨2, ![1024, 704]⟩
abbrev S1x1024x704 : Shape := ⟨3, ![1, 1024, 704]⟩
abbrev S2x704x1024 : Shape := ⟨3, ![2, 704, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8x704x1024, .f32⟩
  | .hbm, ⟨1, _⟩ => ⟨S8x704x1024, .f32⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S_, .f32⟩
  | .hbm, ⟨6, _⟩ => ⟨S704x1024, .f32⟩
  | .hbm, ⟨7, _⟩ => ⟨S1024x704, .f32⟩
  | .hbm, ⟨8, _⟩ => ⟨S_, .f32⟩
  | .hbm, ⟨9, _⟩ => ⟨S704x1024, .f32⟩
  | .hbm, ⟨10, _⟩ => ⟨S1024x704, .f32⟩
  | .hbm, ⟨11, _⟩ => ⟨S1x1024x704, .f32⟩
  | .hbm, ⟨12, _⟩ => ⟨S1x1024x704, .f32⟩
  | .hbm, ⟨13, _⟩ => ⟨S2x1024x704, .f32⟩
  | .hbm, ⟨14, _⟩ => ⟨S_, .f32⟩
  | .hbm, ⟨15, _⟩ => ⟨S2x1024x704, .f32⟩
  | .hbm, ⟨16, _⟩ => ⟨S2x1024x704, .f32⟩
  | .hbm, ⟨17, _⟩ => ⟨S_, .f32⟩
  | .hbm, ⟨18, _⟩ => ⟨S2x1024x704, .f32⟩
  | .hbm, ⟨19, _⟩ => ⟨S2x1024x704, .f32⟩
  | .hbm, ⟨20, _⟩ => ⟨S2x1024x704, .f32⟩
  | .hbm, ⟨21, _⟩ => ⟨S_, .f32⟩
  | .hbm, ⟨22, _⟩ => ⟨S2x1024x704, .f32⟩
  | .hbm, ⟨23, _⟩ => ⟨S2x1024x704, .f32⟩
  | .hbm, ⟨24, _⟩ => ⟨S2x1024x704, .f32⟩
  | .hbm, ⟨25, _⟩ => ⟨S_, .f32⟩
  | .hbm, ⟨26, _⟩ => ⟨S2x1024x704, .f32⟩
  | .hbm, ⟨27, _⟩ => ⟨S2x1024x704, .f32⟩
  | .hbm, ⟨28, _⟩ => ⟨S2x1024x704, .f32⟩
  | .hbm, ⟨29, _⟩ => ⟨S_, .f32⟩
  | .hbm, ⟨30, _⟩ => ⟨S2x1024x704, .f32⟩
  | .hbm, ⟨31, _⟩ => ⟨S2x1024x704, .f32⟩
  | .hbm, ⟨32, _⟩ => ⟨S_, .f32⟩
  | .hbm, ⟨33, _⟩ => ⟨S2x1024x704, .f32⟩
  | .hbm, ⟨34, _⟩ => ⟨S2x1024x704, .f32⟩
  | .hbm, ⟨35, _⟩ => ⟨S2x1024x704, .f32⟩
  | .hbm, ⟨36, _⟩ => ⟨S_, .f32⟩
  | .hbm, ⟨37, _⟩ => ⟨S2x1024x704, .f32⟩
  | .hbm, ⟨38, _⟩ => ⟨S2x1024x704, .f32⟩
  | .hbm, ⟨39, _⟩ => ⟨S2x1024x704, .f32⟩
  | .hbm, ⟨40, _⟩ => ⟨S_, .f32⟩
  | .hbm, ⟨41, _⟩ => ⟨S2x1024x704, .f32⟩
  | .hbm, ⟨42, _⟩ => ⟨S2x1024x704, .f32⟩
  | .hbm, ⟨43, _⟩ => ⟨S2x1024x704, .f32⟩
  | .hbm, ⟨44, _⟩ => ⟨S_, .f32⟩
  | .hbm, ⟨45, _⟩ => ⟨S2x1024x704, .f32⟩
  | .hbm, ⟨46, _⟩ => ⟨S2x1024x704, .f32⟩
  | .hbm, ⟨47, _⟩ => ⟨S2x704x1024, .f32⟩
  | .hbm, ⟨48, _⟩ => ⟨S2x704x1024, .f32⟩
  | .hbm, ⟨49, _⟩ => ⟨S2x704x1024, .f32⟩
  | .hbm, ⟨50, _⟩ => ⟨S2x704x1024, .f32⟩
  | _, _ => ⟨S8x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Kernel19.lean ====
abbrev S8x352x1024 : Shape := ⟨3, ![8, 352, 1024]⟩
abbrev S2x352x1024 : Shape := ⟨3, ![2, 352, 1024]⟩
abbrev S8x1x352x1024 : Shape := ⟨4, ![8, 1, 352, 1024]⟩
abbrev S8x1x176x1024 : Shape := ⟨4, ![8, 1, 176, 1024]⟩
abbrev S1x176x1024 : Shape := ⟨3, ![1, 176, 1024]⟩
abbrev S1x1x176x1024 : Shape := ⟨4, ![1, 1, 176, 1024]⟩
abbrev S176x1024 : Shape := ⟨2, ![176, 1024]⟩

abbrev nBuf : Space → Nat
  | .hbm => 13
  | .vmem => 18
  | .smem => 0
  | _ => 0

abbrev bufTy : (tb : Table) → Fin (tcTables nBuf tb) → BufTy
  | .hbm, ⟨0, _⟩ => ⟨S8x352x1024, .f32⟩
  | .hbm, ⟨1, _⟩ => ⟨S8x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x1x352x1024, .f32⟩
  | .hbm, ⟨6, _⟩ => ⟨S8x1x352x1024, .bf16⟩
  | .hbm, ⟨7, _⟩ => ⟨S8x1x352x1024, .f32⟩
  | .hbm, ⟨8, _⟩ => ⟨S8x1x352x1024, .bf16⟩
  | .hbm, ⟨9, _⟩ => ⟨S2x352x1024, .f32⟩
  | .hbm, ⟨10, _⟩ => ⟨S2x352x1024, .f32⟩
  | .hbm, ⟨11, _⟩ => ⟨S2x352x1024, .f32⟩
  | .hbm, ⟨12, _⟩ => ⟨S2x352x1024, .f32⟩
  | .local _ .vmem, ⟨0, _⟩ => ⟨S8x1x176x1024, .bf16⟩
  | .local _ .vmem, ⟨1, _⟩ => ⟨S8x1x176x1024, .bf16⟩
  | .local _ .vmem, ⟨2, _⟩ => ⟨S8x1x176x1024, .bf16⟩
  | .local _ .vmem, ⟨3, _⟩ => ⟨S8x1x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v2.toNat, c0_i32_3.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v2.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel19Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference19Ideal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S8x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S1x352x1024, .f32⟩
  | .hbm, ⟨10, _⟩ => ⟨S1x352x1024, .f32⟩
  | .hbm, ⟨11, _⟩ => ⟨S2x352x1024, .f32⟩
  | .hbm, ⟨12, _⟩ => ⟨S_, .f32⟩
  | .hbm, ⟨13, _⟩ => ⟨S2x352x1024, .f32⟩
  | .hbm, ⟨14, _⟩ => ⟨S2x352x1024, .f32⟩
  | .hbm, ⟨15, _⟩ => ⟨S_, .f32⟩
  | .hbm, ⟨16, _⟩ => ⟨S2x352x1024, .f32⟩
  | .hbm, ⟨17, _⟩ => ⟨S2x352x1024, .f32⟩
  | .hbm, ⟨18, _⟩ => ⟨S2x352x1024, .f32⟩
  | .hbm, ⟨19, _⟩ => ⟨S_, .f32⟩
  | .hbm, ⟨20, _⟩ => ⟨S2x352x1024, .f32⟩
  | .hbm, ⟨21, _⟩ => ⟨S2x352x1024, .f32⟩
  | .hbm, ⟨22, _⟩ => ⟨S2x352x1024, .f32⟩
  | .hbm, ⟨23, _⟩ => ⟨S_, .f32⟩
  | .hbm, ⟨24, _⟩ => ⟨S2x352x1024, .f32⟩
  | .hbm, ⟨25, _⟩ => ⟨S2x352x1024, .f32⟩
  | .hbm, ⟨26, _⟩ => ⟨S2x352x1024, .f32⟩
  | .hbm, ⟨27, _⟩ => ⟨S_, .f32⟩
  | .hbm, ⟨28, _⟩ => ⟨S2x352x1024, .f32⟩
  | .hbm, ⟨29, _⟩ => ⟨S2x352x1024, .f32⟩
  | .hbm, ⟨30, _⟩ => ⟨S_, .f32⟩
  | .hbm, ⟨31, _⟩ => ⟨S2x352x1024, .f32⟩
  | .hbm, ⟨32, _⟩ => ⟨S2x352x1024, .f32⟩
  | .hbm, ⟨33, _⟩ => ⟨S2x352x1024, .f32⟩
  | .hbm, ⟨34, _⟩ => ⟨S_, .f32⟩
  | .hbm, ⟨35, _⟩ => ⟨S2x352x1024, .f32⟩
  | .hbm, ⟨36, _⟩ => ⟨S2x352x1024, .f32⟩
  | .hbm, ⟨37, _⟩ => ⟨S2x352x1024, .f32⟩
  | .hbm, ⟨38, _⟩ => ⟨S_, .f32⟩
  | .hbm, ⟨39, _⟩ => ⟨S2x352x1024, .f32⟩
  | .hbm, ⟨40, _⟩ => ⟨S2x352x1024, .f32⟩
  | .hbm, ⟨41, _⟩ => ⟨S2x352x1024, .f32⟩
  | .hbm, ⟨42, _⟩ => ⟨S_, .f32⟩
  | .hbm, ⟨43, _⟩ => ⟨S2x352x1024, .f32⟩
  | .hbm, ⟨44, _⟩ => ⟨S2x352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel20.lean ====
abbrev S8x128x1024 : Shape := ⟨3, ![8, 128, 1024]⟩
abbrev S2x128x1024 : Shape := ⟨3, ![2, 128, 1024]⟩
abbrev S8x1x128x1024 : Shape := ⟨4, ![8, 1, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 13
  | .vmem => 18
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x1x128x1024, .f32⟩
  | .hbm, ⟨6, _⟩ => ⟨S8x1x128x1024, .bf16⟩
  | .hbm, ⟨7, _⟩ => ⟨S8x1x128x1024, .f32⟩
  | .hbm, ⟨8, _⟩ => ⟨S8x1x128x1024, .bf16⟩
  | .hbm, ⟨9, _⟩ => ⟨S2x128x1024, .f32⟩
  | .hbm, ⟨10, _⟩ => ⟨S2x128x1024, .f32⟩
  | .hbm, ⟨11, _⟩ => ⟨S2x128x1024, .f32⟩
  | .hbm, ⟨12, _⟩ => ⟨S2x128x1024, .f32⟩
  | .local _ .vmem, ⟨0, _⟩ => ⟨S8x1x128x1024, .bf16⟩
  | .local _ .vmem, ⟨1, _⟩ => ⟨S8x1x128x1024, .bf16⟩
  | .local _ .vmem, ⟨2, _⟩ => ⟨S8x1x128x1024, .bf16⟩
  | .local _ .vmem, ⟨3, _⟩ => ⟨S8x1x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let v2 : BitVec 32 := Scalar.addi c0_i32_1 v1
  let c0_i32_2 : BitVec 32 := 0#32
  let c0_i32_3 : BitVec 32 := 0#32
  let c0_i32_4 : BitVec 32 := 0#32
  let c0_i32_5 : BitVec 32 := 0#32
  ![c0_i32_2.toNat, c0_i32_3.toNat, v2.toNat, c0_i32_4.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v2.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel20Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference20Ideal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S1x128x1024, .f32⟩
  | .hbm, ⟨10, _⟩ => ⟨S1x128x1024, .f32⟩
  | .hbm, ⟨11, _⟩ => ⟨S2x128x1024, .f32⟩
  | .hbm, ⟨12, _⟩ => ⟨S_, .f32⟩
  | .hbm, ⟨13, _⟩ => ⟨S2x128x1024, .f32⟩
  | .hbm, ⟨14, _⟩ => ⟨S2x128x1024, .f32⟩
  | .hbm, ⟨15, _⟩ => ⟨S_, .f32⟩
  | .hbm, ⟨16, _⟩ => ⟨S2x128x1024, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S2x128x1024, .f32⟩
  | .hbm, ⟨23, _⟩ => ⟨S_, .f32⟩
  | .hbm, ⟨24, _⟩ => ⟨S2x128x1024, .f32⟩
  | .hbm, ⟨25, _⟩ => ⟨S2x128x1024, .f32⟩
  | .hbm, ⟨26, _⟩ => ⟨S2x128x1024, .f32⟩
  | .hbm, ⟨27, _⟩ => ⟨S_, .f32⟩
  | .hbm, ⟨28, _⟩ => ⟨S2x128x1024, .f32⟩
  | .hbm, ⟨29, _⟩ => ⟨S2x128x1024, .f32⟩
  | .hbm, ⟨30, _⟩ => ⟨S_, .f32⟩
  | .hbm, ⟨31, _⟩ => ⟨S2x128x1024, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | .hbm, ⟨37, _⟩ => ⟨S2x128x1024, .f32⟩
  | .hbm, ⟨38, _⟩ => ⟨S_, .f32⟩
  | .hbm, ⟨39, _⟩ => ⟨S2x128x1024, .f32⟩
  | .hbm, ⟨40, _⟩ => ⟨S2x128x1024, .f32⟩
  | .hbm, ⟨41, _⟩ => ⟨S2x128x1024, .f32⟩
  | .hbm, ⟨42, _⟩ => ⟨S_, .f32⟩
  | .hbm, ⟨43, _⟩ => ⟨S2x128x1024, .f32⟩
  | .hbm, ⟨44, _⟩ => ⟨S2x128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel21.lean ====
abbrev S8x1024x128 : Shape := ⟨3, ![8, 1024, 128]⟩
abbrev S2x256x128 : Shape := ⟨3, ![2, 256, 128]⟩
abbrev S8x1x1024x128 : Shape := ⟨4, ![8, 1, 1024, 128]⟩
abbrev S8x1x256x128 : Shape := ⟨4, ![8, 1, 256, 128]⟩
abbrev S1x256x128 : Shape := ⟨3, ![1, 256, 128]⟩
abbrev S1x1x256x128 : Shape := ⟨4, ![1, 1, 256, 128]⟩
abbrev S256x128 : Shape := ⟨2, ![256, 128]⟩

abbrev nBuf : Space → Nat
  | .hbm => 13
  | .vmem => 18
  | .smem => 0
  | _ => 0

abbrev bufTy : (tb : Table) → Fin (tcTables nBuf tb) → BufTy
  | .hbm, ⟨0, _⟩ => ⟨S8x1024x128, .f32⟩
  | .hbm, ⟨1, _⟩ => ⟨S8x1024x128, .f32⟩
  | .hbm, ⟨2, _⟩ => ⟨S2x256x128, .f32⟩
  | .hbm, ⟨3, _⟩ => ⟨S2x256x128, .f32⟩
  | .hbm, ⟨4, _⟩ => ⟨S2x256x128, .f32⟩
  | .hbm, ⟨5, _⟩ => ⟨S8x1x1024x128, .f32⟩
  | .hbm, ⟨6, _⟩ => ⟨S8x1x1024x128, .bf16⟩
  | .hbm, ⟨7, _⟩ => ⟨S8x1x1024x128, .f32⟩
  | .hbm, ⟨8, _⟩ => ⟨S8x1x1024x128, .bf16⟩
  | .hbm, ⟨9, _⟩ => ⟨S2x256x128, .f32⟩
  | .hbm, ⟨10, _⟩ => ⟨S2x256x128, .f32⟩
  | .hbm, ⟨11, _⟩ => ⟨S2x256x128, .f32⟩
  | .hbm, ⟨12, _⟩ => ⟨S2x256x128, .f32⟩
  | .local _ .vmem, ⟨0, _⟩ => ⟨S8x1x256x128, .bf16⟩
  | .local _ .vmem, ⟨1, _⟩ => ⟨S8x1x256x128, .bf16⟩
  | .local _ .vmem, ⟨2, _⟩ => ⟨S8x1x256x128, .bf16⟩
  | .local _ .vmem, ⟨3, _⟩ => ⟨S8x1x256x128, .bf16⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | _, _ => ⟨S8x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let v2 : BitVec 32 := Scalar.addi c0_i32_1 v1
  let c0_i32_2 : BitVec 32 := 0#32
  let c0_i32_3 : BitVec 32 := 0#32
  let c0_i32_4 : BitVec 32 := 0#32
  let c0_i32_5 : BitVec 32 := 0#32
  ![c0_i32_2.toNat, c0_i32_3.toNat, v2.toNat, c0_i32_4.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let v2 : BitVec 32 := Scalar.addi c0_i32_0 v1
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v2.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel21Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference21Ideal.lean ====
abbrev S8x1024x128 : Shape := ⟨3, ![8, 1024, 128]⟩
abbrev S2x256x128 : Shape := ⟨3, ![2, 256, 128]⟩
abbrev S_ : Shape := ⟨0, ![]⟩
abbrev S1024x128 : Shape := ⟨2, ![1024, 128]⟩
abbrev S1x1024x128 : Shape := ⟨3, ![1, 1024, 128]⟩
abbrev S2x1024x128 : Shape := ⟨3, ![2, 1024, 128]⟩

abbrev nBuf : Space → Nat
  | .hbm => 46
  | .vmem => 0
  | .smem => 0
  | _ => 0

abbrev bufTy : (tb : Table) → Fin (tcTables nBuf tb) → BufTy
  | .hbm, ⟨0, _⟩ => ⟨S8x1024x128, .f32⟩
  | .hbm, ⟨1, _⟩ => ⟨S8x1024x128, .f32⟩
  | .hbm, ⟨2, _⟩ => ⟨S2x256x128, .f32⟩
  | .hbm, ⟨3, _⟩ => ⟨S2x256x128, .f32⟩
  | .hbm, ⟨4, _⟩ => ⟨S2x256x128, .f32⟩
  | .hbm, ⟨5, _⟩ => ⟨S_, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1x1024x128, .f32⟩
  | .hbm, ⟨10, _⟩ => ⟨S1x1024x128, .f32⟩
  | .hbm, ⟨11, _⟩ => ⟨S2x1024x128, .f32⟩
  | .hbm, ⟨12, _⟩ => ⟨S2x256x128, .f32⟩
  | .hbm, ⟨13, _⟩ => ⟨S_, .f32⟩
  | .hbm, ⟨14, _⟩ => ⟨S2x256x128, .f32⟩
  | .hbm, ⟨15, _⟩ => ⟨S2x256x128, .f32⟩
  | .hbm, ⟨16, _⟩ => ⟨S_, .f32⟩
  | .hbm, ⟨17, _⟩ => ⟨S2x256x128, .f32⟩
  | .hbm, ⟨18, _⟩ => ⟨S2x256x128, .f32⟩
  | .hbm, ⟨19, _⟩ => ⟨S2x256x128, .f32⟩
  | .hbm, ⟨20, _⟩ => ⟨S_, .f32⟩
  | .hbm, ⟨21, _⟩ => ⟨S2x256x128, .f32⟩
  | .hbm, ⟨22, _⟩ => ⟨S2x256x128, .f32⟩
  | .hbm, ⟨23, _⟩ => ⟨S2x256x128, .f32⟩
  | .hbm, ⟨24, _⟩ => ⟨S_, .f32⟩
  | .hbm, ⟨25, _⟩ => ⟨S2x256x128, .f32⟩
  | .hbm, ⟨26, _⟩ => ⟨S2x256x128, .f32⟩
  | .hbm, ⟨27, _⟩ => ⟨S2x256x128, .f32⟩
  | .hbm, ⟨28, _⟩ => ⟨S_, .f32⟩
  | .hbm, ⟨29, _⟩ => ⟨S2x256x128, .f32⟩
  | .hbm, ⟨30, _⟩ => ⟨S2x256x128, .f32⟩
  | .hbm, ⟨31, _⟩ => ⟨S_, .f32⟩
  | .hbm, ⟨32, _⟩ => ⟨S2x256x128, .f32⟩
  | .hbm, ⟨33, _⟩ => ⟨S2x256x128, .f32⟩
  | .hbm, ⟨34, _⟩ => ⟨S2x256x128, .f32⟩
  | .hbm, ⟨35, _⟩ => ⟨S_, .f32⟩
  | .hbm, ⟨36, _⟩ => ⟨S2x256x128, .f32⟩
  | .hbm, ⟨37, _⟩ => ⟨S2x256x128, .f32⟩
  | .hbm, ⟨38, _⟩ => ⟨S2x256x128, .f32⟩
  | .hbm, ⟨39, _⟩ => ⟨S_, .f32⟩
  | .hbm, ⟨40, _⟩ => ⟨S2x256x128, .f32⟩
  | .hbm, ⟨41, _⟩ => ⟨S2x256x128, .f32⟩
  | .hbm, ⟨42, _⟩ => ⟨S2x256x128, .f32⟩
  | .hbm, ⟨43, _⟩ => ⟨S_, .f32⟩
  | .hbm, ⟨44, _⟩ => ⟨S2x256x128, .f32⟩
  | .hbm, ⟨45, _⟩ => ⟨S2x256x128, .f32⟩
  | _, _ => ⟨S8x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel22.lean ====
abbrev S8x1024x128 : Shape := ⟨3, ![8, 1024, 128]⟩
abbrev S2x512x128 : Shape := ⟨3, ![2, 512, 128]⟩
abbrev S8x1x1024x128 : Shape := ⟨4, ![8, 1, 1024, 128]⟩
abbrev S8x1x256x128 : Shape := ⟨4, ![8, 1, 256, 128]⟩
abbrev S1x256x128 : Shape := ⟨3, ![1, 256, 128]⟩
abbrev S1x1x256x128 : Shape := ⟨4, ![1, 1, 256, 128]⟩
abbrev S256x128 : Shape := ⟨2, ![256, 128]⟩

abbrev nBuf : Space → Nat
  | .hbm => 13
  | .vmem => 18
  | .smem => 0
  | _ => 0

abbrev bufTy : (tb : Table) → Fin (tcTables nBuf tb) → BufTy
  | .hbm, ⟨0, _⟩ => ⟨S8x1024x128, .f32⟩
  | .hbm, ⟨1, _⟩ => ⟨S8x1024x128, .f32⟩
  | .hbm, ⟨2, _⟩ => ⟨S2x512x128, .f32⟩
  | .hbm, ⟨3, _⟩ => ⟨S2x512x128, .f32⟩
  | .hbm, ⟨4, _⟩ => ⟨S2x512x128, .f32⟩
  | .hbm, ⟨5, _⟩ => ⟨S8x1x1024x128, .f32⟩
  | .hbm, ⟨6, _⟩ => ⟨S8x1x1024x128, .bf16⟩
  | .hbm, ⟨7, _⟩ => ⟨S8x1x1024x128, .f32⟩
  | .hbm, ⟨8, _⟩ => ⟨S8x1x1024x128, .bf16⟩
  | .hbm, ⟨9, _⟩ => ⟨S2x512x128, .f32⟩
  | .hbm, ⟨10, _⟩ => ⟨S2x512x128, .f32⟩
  | .hbm, ⟨11, _⟩ => ⟨S2x512x128, .f32⟩
  | .hbm, ⟨12, _⟩ => ⟨S2x512x128, .f32⟩
  | .local _ .vmem, ⟨0, _⟩ => ⟨S8x1x256x128, .bf16⟩
  | .local _ .vmem, ⟨1, _⟩ => ⟨S8x1x256x128, .bf16⟩
  | .local _ .vmem, ⟨2, _⟩ => ⟨S8x1x256x128, .bf16⟩
  | .local _ .vmem, ⟨3, _⟩ => ⟨S8x1x256x128, .bf16⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | _, _ => ⟨S8x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c1_i32_0 : BitVec 32 := 1#32
  let v2 : BitVec 32 := Scalar.addi c1_i32_0 v1
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v2.toNat, c0_i32_3.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c1_i32_0 : BitVec 32 := 1#32
  let v2 : BitVec 32 := Scalar.addi c1_i32_0 v1
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v2.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel22Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference22Ideal.lean ====
abbrev S8x1024x128 : Shape := ⟨3, ![8, 1024, 128]⟩
abbrev S2x512x128 : Shape := ⟨3, ![2, 512, 128]⟩
abbrev S_ : Shape := ⟨0, ![]⟩
abbrev S1024x128 : Shape := ⟨2, ![1024, 128]⟩
abbrev S1x1024x128 : Shape := ⟨3, ![1, 1024, 128]⟩
abbrev S2x1024x128 : Shape := ⟨3, ![2, 1024, 128]⟩

abbrev nBuf : Space → Nat
  | .hbm => 46
  | .vmem => 0
  | .smem => 0
  | _ => 0

abbrev bufTy : (tb : Table) → Fin (tcTables nBuf tb) → BufTy
  | .hbm, ⟨0, _⟩ => ⟨S8x1024x128, .f32⟩
  | .hbm, ⟨1, _⟩ => ⟨S8x1024x128, .f32⟩
  | .hbm, ⟨2, _⟩ => ⟨S2x512x128, .f32⟩
  | .hbm, ⟨3, _⟩ => ⟨S2x512x128, .f32⟩
  | .hbm, ⟨4, _⟩ => ⟨S2x512x128, .f32⟩
  | .hbm, ⟨5, _⟩ => ⟨S_, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1x1024x128, .f32⟩
  | .hbm, ⟨10, _⟩ => ⟨S1x1024x128, .f32⟩
  | .hbm, ⟨11, _⟩ => ⟨S2x1024x128, .f32⟩
  | .hbm, ⟨12, _⟩ => ⟨S2x512x128, .f32⟩
  | .hbm, ⟨13, _⟩ => ⟨S_, .f32⟩
  | .hbm, ⟨14, _⟩ => ⟨S2x512x128, .f32⟩
  | .hbm, ⟨15, _⟩ => ⟨S2x512x128, .f32⟩
  | .hbm, ⟨16, _⟩ => ⟨S_, .f32⟩
  | .hbm, ⟨17, _⟩ => ⟨S2x512x128, .f32⟩
  | .hbm, ⟨18, _⟩ => ⟨S2x512x128, .f32⟩
  | .hbm, ⟨19, _⟩ => ⟨S2x512x128, .f32⟩
  | .hbm, ⟨20, _⟩ => ⟨S_, .f32⟩
  | .hbm, ⟨21, _⟩ => ⟨S2x512x128, .f32⟩
  | .hbm, ⟨22, _⟩ => ⟨S2x512x128, .f32⟩
  | .hbm, ⟨23, _⟩ => ⟨S2x512x128, .f32⟩
  | .hbm, ⟨24, _⟩ => ⟨S_, .f32⟩
  | .hbm, ⟨25, _⟩ => ⟨S2x512x128, .f32⟩
  | .hbm, ⟨26, _⟩ => ⟨S2x512x128, .f32⟩
  | .hbm, ⟨27, _⟩ => ⟨S2x512x128, .f32⟩
  | .hbm, ⟨28, _⟩ => ⟨S_, .f32⟩
  | .hbm, ⟨29, _⟩ => ⟨S2x512x128, .f32⟩
  | .hbm, ⟨30, _⟩ => ⟨S2x512x128, .f32⟩
  | .hbm, ⟨31, _⟩ => ⟨S_, .f32⟩
  | .hbm, ⟨32, _⟩ => ⟨S2x512x128, .f32⟩
  | .hbm, ⟨33, _⟩ => ⟨S2x512x128, .f32⟩
  | .hbm, ⟨34, _⟩ => ⟨S2x512x128, .f32⟩
  | .hbm, ⟨35, _⟩ => ⟨S_, .f32⟩
  | .hbm, ⟨36, _⟩ => ⟨S2x512x128, .f32⟩
  | .hbm, ⟨37, _⟩ => ⟨S2x512x128, .f32⟩
  | .hbm, ⟨38, _⟩ => ⟨S2x512x128, .f32⟩
  | .hbm, ⟨39, _⟩ => ⟨S_, .f32⟩
  | .hbm, ⟨40, _⟩ => ⟨S2x512x128, .f32⟩
  | .hbm, ⟨41, _⟩ => ⟨S2x512x128, .f32⟩
  | .hbm, ⟨42, _⟩ => ⟨S2x512x128, .f32⟩
  | .hbm, ⟨43, _⟩ => ⟨S_, .f32⟩
  | .hbm, ⟨44, _⟩ => ⟨S2x512x128, .f32⟩
  | .hbm, ⟨45, _⟩ => ⟨S2x512x128, .f32⟩
  | _, _ => ⟨S8x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel23.lean ====
abbrev S8x1024x128 : Shape := ⟨3, ![8, 1024, 128]⟩
abbrev S2x256x128 : Shape := ⟨3, ![2, 256, 128]⟩
abbrev S8x1x1024x128 : Shape := ⟨4, ![8, 1, 1024, 128]⟩
abbrev S8x1x256x128 : Shape := ⟨4, ![8, 1, 256, 128]⟩
abbrev S1x256x128 : Shape := ⟨3, ![1, 256, 128]⟩
abbrev S1x1x256x128 : Shape := ⟨4, ![1, 1, 256, 128]⟩
abbrev S256x128 : Shape := ⟨2, ![256, 128]⟩

abbrev nBuf : Space → Nat
  | .hbm => 13
  | .vmem => 18
  | .smem => 0
  | _ => 0

abbrev bufTy : (tb : Table) → Fin (tcTables nBuf tb) → BufTy
  | .hbm, ⟨0, _⟩ => ⟨S8x1024x128, .f32⟩
  | .hbm, ⟨1, _⟩ => ⟨S8x1024x128, .f32⟩
  | .hbm, ⟨2, _⟩ => ⟨S2x256x128, .f32⟩
  | .hbm, ⟨3, _⟩ => ⟨S2x256x128, .f32⟩
  | .hbm, ⟨4, _⟩ => ⟨S2x256x128, .f32⟩
  | .hbm, ⟨5, _⟩ => ⟨S8x1x1024x128, .f32⟩
  | .hbm, ⟨6, _⟩ => ⟨S8x1x1024x128, .bf16⟩
  | .hbm, ⟨7, _⟩ => ⟨S8x1x1024x128, .f32⟩
  | .hbm, ⟨8, _⟩ => ⟨S8x1x1024x128, .bf16⟩
  | .hbm, ⟨9, _⟩ => ⟨S2x256x128, .f32⟩
  | .hbm, ⟨10, _⟩ => ⟨S2x256x128, .f32⟩
  | .hbm, ⟨11, _⟩ => ⟨S2x256x128, .f32⟩
  | .hbm, ⟨12, _⟩ => ⟨S2x256x128, .f32⟩
  | .local _ .vmem, ⟨0, _⟩ => ⟨S8x1x256x128, .bf16⟩
  | .local _ .vmem, ⟨1, _⟩ => ⟨S8x1x256x128, .bf16⟩
  | .local _ .vmem, ⟨2, _⟩ => ⟨S8x1x256x128, .bf16⟩
  | .local _ .vmem, ⟨3, _⟩ => ⟨S8x1x256x128, .bf16⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | _, _ => ⟨S8x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c3_i32 : BitVec 32 := 3#32
  let v2 : BitVec 32 := Scalar.addi c3_i32 v1
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v2.toNat, c0_i32_3.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c3_i32 : BitVec 32 := 3#32
  let v2 : BitVec 32 := Scalar.addi c3_i32 v1
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v2.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel23Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference23Ideal.lean ====
abbrev S8x1024x128 : Shape := ⟨3, ![8, 1024, 128]⟩
abbrev S2x256x128 : Shape := ⟨3, ![2, 256, 128]⟩
abbrev S_ : Shape := ⟨0, ![]⟩
abbrev S1024x128 : Shape := ⟨2, ![1024, 128]⟩
abbrev S1x1024x128 : Shape := ⟨3, ![1, 1024, 128]⟩
abbrev S2x1024x128 : Shape := ⟨3, ![2, 1024, 128]⟩

abbrev nBuf : Space → Nat
  | .hbm => 46
  | .vmem => 0
  | .smem => 0
  | _ => 0

abbrev bufTy : (tb : Table) → Fin (tcTables nBuf tb) → BufTy
  | .hbm, ⟨0, _⟩ => ⟨S8x1024x128, .f32⟩
  | .hbm, ⟨1, _⟩ => ⟨S8x1024x128, .f32⟩
  | .hbm, ⟨2, _⟩ => ⟨S2x256x128, .f32⟩
  | .hbm, ⟨3, _⟩ => ⟨S2x256x128, .f32⟩
  | .hbm, ⟨4, _⟩ => ⟨S2x256x128, .f32⟩
  | .hbm, ⟨5, _⟩ => ⟨S_, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1x1024x128, .f32⟩
  | .hbm, ⟨10, _⟩ => ⟨S1x1024x128, .f32⟩
  | .hbm, ⟨11, _⟩ => ⟨S2x1024x128, .f32⟩
  | .hbm, ⟨12, _⟩ => ⟨S2x256x128, .f32⟩
  | .hbm, ⟨13, _⟩ => ⟨S_, .f32⟩
  | .hbm, ⟨14, _⟩ => ⟨S2x256x128, .f32⟩
  | .hbm, ⟨15, _⟩ => ⟨S2x256x128, .f32⟩
  | .hbm, ⟨16, _⟩ => ⟨S_, .f32⟩
  | .hbm, ⟨17, _⟩ => ⟨S2x256x128, .f32⟩
  | .hbm, ⟨18, _⟩ => ⟨S2x256x128, .f32⟩
  | .hbm, ⟨19, _⟩ => ⟨S2x256x128, .f32⟩
  | .hbm, ⟨20, _⟩ => ⟨S_, .f32⟩
  | .hbm, ⟨21, _⟩ => ⟨S2x256x128, .f32⟩
  | .hbm, ⟨22, _⟩ => ⟨S2x256x128, .f32⟩
  | .hbm, ⟨23, _⟩ => ⟨S2x256x128, .f32⟩
  | .hbm, ⟨24, _⟩ => ⟨S_, .f32⟩
  | .hbm, ⟨25, _⟩ => ⟨S2x256x128, .f32⟩
  | .hbm, ⟨26, _⟩ => ⟨S2x256x128, .f32⟩
  | .hbm, ⟨27, _⟩ => ⟨S2x256x128, .f32⟩
  | .hbm, ⟨28, _⟩ => ⟨S_, .f32⟩
  | .hbm, ⟨29, _⟩ => ⟨S2x256x128, .f32⟩
  | .hbm, ⟨30, _⟩ => ⟨S2x256x128, .f32⟩
  | .hbm, ⟨31, _⟩ => ⟨S_, .f32⟩
  | .hbm, ⟨32, _⟩ => ⟨S2x256x128, .f32⟩
  | .hbm, ⟨33, _⟩ => ⟨S2x256x128, .f32⟩
  | .hbm, ⟨34, _⟩ => ⟨S2x256x128, .f32⟩
  | .hbm, ⟨35, _⟩ => ⟨S_, .f32⟩
  | .hbm, ⟨36, _⟩ => ⟨S2x256x128, .f32⟩
  | .hbm, ⟨37, _⟩ => ⟨S2x256x128, .f32⟩
  | .hbm, ⟨38, _⟩ => ⟨S2x256x128, .f32⟩
  | .hbm, ⟨39, _⟩ => ⟨S_, .f32⟩
  | .hbm, ⟨40, _⟩ => ⟨S2x256x128, .f32⟩
  | .hbm, ⟨41, _⟩ => ⟨S2x256x128, .f32⟩
  | .hbm, ⟨42, _⟩ => ⟨S2x256x128, .f32⟩
  | .hbm, ⟨43, _⟩ => ⟨S_, .f32⟩
  | .hbm, ⟨44, _⟩ => ⟨S2x256x128, .f32⟩
  | .hbm, ⟨45, _⟩ => ⟨S2x256x128, .f32⟩
  | _, _ => ⟨S8x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel24.lean ====
abbrev S2x128x6148 : Shape := ⟨3, ![2, 128, 6148]⟩
abbrev S6148x2x128 : Shape := ⟨3, ![6148, 2, 128]⟩
abbrev S1x6148x2x128 : Shape := ⟨4, ![1, 6148, 2, 128]⟩
abbrev S1x1537x2x128 : Shape := ⟨4, ![1, 1537, 2, 128]⟩
abbrev S1537x2x128 : Shape := ⟨3, ![1537, 2, 128]⟩

abbrev nBuf : Space → Nat
  | .hbm => 13
  | .vmem => 16
  | .smem => 0
  | _ => 0

abbrev bufTy : (tb : Table) → Fin (tcTables nBuf tb) → BufTy
  | .hbm, ⟨0, _⟩ => ⟨S2x128x6148, .f32⟩
  | .hbm, ⟨1, _⟩ => ⟨S2x128x6148, .f32⟩
  | .hbm, ⟨2, _⟩ => ⟨S2x128x6148, .f32⟩
  | .hbm, ⟨3, _⟩ => ⟨S2x128x6148, .f32⟩
  | .hbm, ⟨4, _⟩ => ⟨S6148x2x128, .f32⟩
  | .hbm, ⟨5, _⟩ => ⟨S1x6148x2x128, .f32⟩
  | .hbm, ⟨6, _⟩ => ⟨S6148x2x128, .f32⟩
  | .hbm, ⟨7, _⟩ => ⟨S6148x2x128, .f32⟩
  | .hbm, ⟨8, _⟩ => ⟨S6148x2x128, .f32⟩
  | .hbm, ⟨9, _⟩ => ⟨S6148x2x128, .f32⟩
  | .hbm, ⟨10, _⟩ => ⟨S6148x2x128, .f32⟩
  | .hbm, ⟨11, _⟩ => ⟨S6148x2x128, .f32⟩
  | .hbm, ⟨12, _⟩ => ⟨S6148x2x128, .f32⟩
  | .local _ .vmem, ⟨0, _⟩ => ⟨S1x1537x2x128, .f32⟩
  | .local _ .vmem, ⟨1, _⟩ => ⟨S1x1537x2x128, .f32⟩
  | .local _ .vmem, ⟨2, _⟩ => ⟨S1537x2x128, .f32⟩
  | .local _ .vmem, ⟨3, _⟩ => ⟨S1537x2x128, .f32⟩
  | .local _ .vmem, ⟨4, _⟩ => ⟨S1537x2x128, .f32⟩
  | .local _ .vmem, ⟨5, _⟩ => ⟨S1537x2x128, .f32⟩
  | .local _ .vmem, ⟨6, _⟩ => ⟨S1537x2x128, .f32⟩
  | .local _ .vmem, ⟨7, _⟩ => ⟨S1537x2x128, .f32⟩
  | .local _ .vmem, ⟨8, _⟩ => ⟨S1537x2x128, .f32⟩
  | .local _ .vmem, ⟨9, _⟩ => ⟨S1537x2x128, .f32⟩
  | .local _ .vmem, ⟨10, _⟩ => ⟨S1537x2x128, .f32⟩
  | .local _ .vmem, ⟨11, _⟩ => ⟨S1537x2x128, .f32⟩
  | .local _ .vmem, ⟨12, _⟩ => ⟨S1537x2x128, .f32⟩
  | .local _ .vmem, ⟨13, _⟩ => ⟨S1537x2x128, .f32⟩
  | .local _ .vmem, ⟨14, _⟩ => ⟨S1537x2x128, .f32⟩
  | .local _ .vmem, ⟨15, _⟩ => ⟨S1537x2x128, .f32⟩
  | _, _ => ⟨S2x128x6148, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1537x2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1537x2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1537x2x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1537x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1537x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1537x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1537x2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1537x2x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel24Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference24Ideal.lean ====
abbrev S2x128x6148 : Shape := ⟨3, ![2, 128, 6148]⟩
abbrev S_ : Shape := ⟨0, ![]⟩
abbrev S6148x2x128 : Shape := ⟨3, ![6148, 2, 128]⟩

abbrev nBuf : Space → Nat
  | .hbm => 41
  | .vmem => 0
  | .smem => 0
  | _ => 0

abbrev bufTy : (tb : Table) → Fin (tcTables nBuf tb) → BufTy
  | .hbm, ⟨0, _⟩ => ⟨S2x128x6148, .f32⟩
  | .hbm, ⟨1, _⟩ => ⟨S2x128x6148, .f32⟩
  | .hbm, ⟨2, _⟩ => ⟨S2x128x6148, .f32⟩
  | .hbm, ⟨3, _⟩ => ⟨S2x128x6148, .f32⟩
  | .hbm, ⟨4, _⟩ => ⟨S_, .f32⟩
  | .hbm, ⟨5, _⟩ => ⟨S2x128x6148, .f32⟩
  | .hbm, ⟨6, _⟩ => ⟨S2x128x6148, .f32⟩
  | .hbm, ⟨7, _⟩ => ⟨S_, .f32⟩
  | .hbm, ⟨8, _⟩ => ⟨S2x128x6148, .f32⟩
  | .hbm, ⟨9, _⟩ => ⟨S2x128x6148, .f32⟩
  | .hbm, ⟨10, _⟩ => ⟨S2x128x6148, .f32⟩
  | .hbm, ⟨11, _⟩ => ⟨S_, .f32⟩
  | .hbm, ⟨12, _⟩ => ⟨S2x128x6148, .f32⟩
  | .hbm, ⟨13, _⟩ => ⟨S2x128x6148, .f32⟩
  | .hbm, ⟨14, _⟩ => ⟨S2x128x6148, .f32⟩
  | .hbm, ⟨15, _⟩ => ⟨S_, .f32⟩
  | .hbm, ⟨16, _⟩ => ⟨S2x128x6148, .f32⟩
  | .hbm, ⟨17, _⟩ => ⟨S2x128x6148, .f32⟩
  | .hbm, ⟨18, _⟩ => ⟨S2x128x6148, .f32⟩
  | .hbm, ⟨19, _⟩ => ⟨S_, .f32⟩
  | .hbm, ⟨20, _⟩ => ⟨S2x128x6148, .f32⟩
  | .hbm, ⟨21, _⟩ => ⟨S2x128x6148, .f32⟩
  | .hbm, ⟨22, _⟩ => ⟨S_, .f32⟩
  | .hbm, ⟨23, _⟩ => ⟨S2x128x6148, .f32⟩
  | .hbm, ⟨24, _⟩ => ⟨S2x128x6148, .f32⟩
  | .hbm, ⟨25, _⟩ => ⟨S2x128x6148, .f32⟩
  | .hbm, ⟨26, _⟩ => ⟨S_, .f32⟩
  | .hbm, ⟨27, _⟩ => ⟨S2x128x6148, .f32⟩
  | .hbm, ⟨28, _⟩ => ⟨S2x128x6148, .f32⟩
  | .hbm, ⟨29, _⟩ => ⟨S2x128x6148, .f32⟩
  | .hbm, ⟨30, _⟩ => ⟨S_, .f32⟩
  | .hbm, ⟨31, _⟩ => ⟨S2x128x6148, .f32⟩
  | .hbm, ⟨32, _⟩ => ⟨S2x128x6148, .f32⟩
  | .hbm, ⟨33, _⟩ => ⟨S2x128x6148, .f32⟩
  | .hbm, ⟨34, _⟩ => ⟨S_, .f32⟩
  | .hbm, ⟨35, _⟩ => ⟨S2x128x6148, .f32⟩
  | .hbm, ⟨36, _⟩ => ⟨S2x128x6148, .f32⟩
  | .hbm, ⟨37, _⟩ => ⟨S6148x2x128, .f32⟩
  | .hbm, ⟨38, _⟩ => ⟨S6148x2x128, .f32⟩
  | .hbm, ⟨39, _⟩ => ⟨S6148x2x128, .f32⟩
  | .hbm, ⟨40, _⟩ => ⟨S6148x2x128, .f32⟩
  | _, _ => ⟨S2x128x6148, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel25.lean ====
abbrev S192x128 : Shape := ⟨2, ![192, 128]⟩
abbrev S1x192x128 : Shape := ⟨3, ![1, 192, 128]⟩

abbrev nBuf : Space → Nat
  | .hbm => 9
  | .vmem => 8
  | .smem => 0
  | _ => 0

abbrev bufTy : (tb : Table) → Fin (tcTables nBuf tb) → BufTy
  | .hbm, ⟨0, _⟩ => ⟨S192x128, .f32⟩
  | .hbm, ⟨1, _⟩ => ⟨S192x128, .f32⟩
  | .hbm, ⟨2, _⟩ => ⟨S192x128, .f32⟩
  | .hbm, ⟨3, _⟩ => ⟨S192x128, .f32⟩
  | .hbm, ⟨4, _⟩ => ⟨S1x192x128, .f32⟩
  | .hbm, ⟨5, _⟩ => ⟨S192x128, .f32⟩
  | .hbm, ⟨6, _⟩ => ⟨S192x128, .f32⟩
  | .hbm, ⟨7, _⟩ => ⟨S192x128, .f32⟩
  | .hbm, ⟨8, _⟩ => ⟨S192x128, .f32⟩
  | .local _ .vmem, ⟨0, _⟩ => ⟨S1x192x128, .f32⟩
  | .local _ .vmem, ⟨1, _⟩ => ⟨S192x128, .f32⟩
  | .local _ .vmem, ⟨2, _⟩ => ⟨S192x128, .f32⟩
  | .local _ .vmem, ⟨3, _⟩ => ⟨S192x128, .f32⟩
  | .local _ .vmem, ⟨4, _⟩ => ⟨S192x128, .f32⟩
  | .local _ .vmem, ⟨5, _⟩ => ⟨S192x128, .f32⟩
  | .local _ .vmem, ⟨6, _⟩ => ⟨S192x128, .f32⟩
  | .local _ .vmem, ⟨7, _⟩ => ⟨S192x128, .f32⟩
  | _, _ => ⟨S192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S192x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Kernel25Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference25Ideal.lean ====
abbrev S192x128 : Shape := ⟨2, ![192, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S192x128, .f32⟩
  | .hbm, ⟨1, _⟩ => ⟨S192x128, .f32⟩
  | .hbm, ⟨2, _⟩ => ⟨S192x128, .f32⟩
  | .hbm, ⟨3, _⟩ => ⟨S192x128, .f32⟩
  | .hbm, ⟨4, _⟩ => ⟨S_, .f32⟩
  | .hbm, ⟨5, _⟩ => ⟨S192x128, .f32⟩
  | .hbm, ⟨6, _⟩ => ⟨S192x128, .f32⟩
  | .hbm, ⟨7, _⟩ => ⟨S_, .f32⟩
  | .hbm, ⟨8, _⟩ => ⟨S192x128, .f32⟩
  | .hbm, ⟨9, _⟩ => ⟨S192x128, .f32⟩
  | .hbm, ⟨10, _⟩ => ⟨S192x128, .f32⟩
  | .hbm, ⟨11, _⟩ => ⟨S_, .f32⟩
  | .hbm, ⟨12, _⟩ => ⟨S192x128, .f32⟩
  | .hbm, ⟨13, _⟩ => ⟨S192x128, .f32⟩
  | .hbm, ⟨14, _⟩ => ⟨S192x128, .f32⟩
  | .hbm, ⟨15, _⟩ => ⟨S_, .f32⟩
  | .hbm, ⟨16, _⟩ => ⟨S192x128, .f32⟩
  | .hbm, ⟨17, _⟩ => ⟨S192x128, .f32⟩
  | .hbm, ⟨18, _⟩ => ⟨S192x128, .f32⟩
  | .hbm, ⟨19, _⟩ => ⟨S_, .f32⟩
  | .hbm, ⟨20, _⟩ => ⟨S192x128, .f32⟩
  | .hbm, ⟨21, _⟩ => ⟨S192x128, .f32⟩
  | .hbm, ⟨22, _⟩ => ⟨S_, .f32⟩
  | .hbm, ⟨23, _⟩ => ⟨S192x128, .f32⟩
  | .hbm, ⟨24, _⟩ => ⟨S192x128, .f32⟩
  | .hbm, ⟨25, _⟩ => ⟨S192x128, .f32⟩
  | .hbm, ⟨26, _⟩ => ⟨S_, .f32⟩
  | .hbm, ⟨27, _⟩ => ⟨S192x128, .f32⟩
  | .hbm, ⟨28, _⟩ => ⟨S192x128, .f32⟩
  | .hbm, ⟨29, _⟩ => ⟨S192x128, .f32⟩
  | .hbm, ⟨30, _⟩ => ⟨S_, .f32⟩
  | .hbm, ⟨31, _⟩ => ⟨S192x128, .f32⟩
  | .hbm, ⟨32, _⟩ => ⟨S192x128, .f32⟩
  | .hbm, ⟨33, _⟩ => ⟨S192x128, .f32⟩
  | .hbm, ⟨34, _⟩ => ⟨S_, .f32⟩
  | .hbm, ⟨35, _⟩ => ⟨S192x128, .f32⟩
  | .hbm, ⟨36, _⟩ => ⟨S192x128, .f32⟩
  | _, _ => ⟨S192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S8x128x3072 : Shape := ⟨3, ![8, 128, 3072]⟩
abbrev S8x128x128 : Shape := ⟨3, ![8, 128, 128]⟩
abbrev S8x1x128x3072 : Shape := ⟨4, ![8, 1, 128, 3072]⟩
abbrev S8x1x128x128 : Shape := ⟨4, ![8, 1, 128, 128]⟩
abbrev S128x3072 : Shape := ⟨2, ![128, 3072]⟩
abbrev S128x128 : Shape := ⟨2, ![128, 128]⟩
abbrev S1x1x128x3072 : Shape := ⟨4, ![1, 1, 128, 3072]⟩
abbrev S1x1x128x128 : Shape := ⟨4, ![1, 1, 128, 128]⟩

abbrev nBuf : Space → Nat
  | .hbm => 12
  | .vmem => 6
  | .smem => 0
  | _ => 0

abbrev bufTy : (tb : Table) → Fin (tcTables nBuf tb) → BufTy
  | .hbm, ⟨0, _⟩ => ⟨S8x128x3072, .f32⟩
  | .hbm, ⟨1, _⟩ => ⟨S8x128x128, .f32⟩
  | .hbm, ⟨2, _⟩ => ⟨S8x128x3072, .f32⟩
  | .hbm, ⟨3, _⟩ => ⟨S8x1x128x3072, .f32⟩
  | .hbm, ⟨4, _⟩ => ⟨S8x1x128x3072, .bf16⟩
  | .hbm, ⟨5, _⟩ => ⟨S8x1x128x128, .f32⟩
  | .hbm, ⟨6, _⟩ => ⟨S8x1x128x128, .bf16⟩
  | .hbm, ⟨7, _⟩ => ⟨S8x1x128x3072, .f32⟩
  | .hbm, ⟨8, _⟩ => ⟨S8x1x128x3072, .bf16⟩
  | .hbm, ⟨9, _⟩ => ⟨S128x3072, .f32⟩
  | .hbm, ⟨10, _⟩ => ⟨S128x128, .f32⟩
  | .hbm, ⟨11, _⟩ => ⟨S128x3072, .f32⟩
  | .local _ .vmem, ⟨0, _⟩ => ⟨S8x1x128x3072, .bf16⟩
  | .local _ .vmem, ⟨1, _⟩ => ⟨S8x1x128x128, .bf16⟩
  | .local _ .vmem, ⟨2, _⟩ => ⟨S8x1x128x3072, .bf16⟩
  | .local _ .vmem, ⟨3, _⟩ => ⟨S128x3072, .f32⟩
  | .local _ .vmem, ⟨4, _⟩ => ⟨S128x128, .f32⟩
  | .local _ .vmem, ⟨5, _⟩ => ⟨S128x3072, .f32⟩
  | _, _ => ⟨S8x128x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1x128x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x1x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x128x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference26Ideal.lean ====
abbrev S8x128x3072 : Shape := ⟨3, ![8, 128, 3072]⟩
abbrev S8x128x128 : Shape := ⟨3, ![8, 128, 128]⟩
abbrev S_ : Shape := ⟨0, ![]⟩
abbrev S128x3072 : Shape := ⟨2, ![128, 3072]⟩
abbrev S128x128 : Shape := ⟨2, ![128, 128]⟩

abbrev nBuf : Space → Nat
  | .hbm => 9
  | .vmem => 0
  | .smem => 0
  | _ => 0

abbrev bufTy : (tb : Table) → Fin (tcTables nBuf tb) → BufTy
  | .hbm, ⟨0, _⟩ => ⟨S8x128x3072, .f32⟩
  | .hbm, ⟨1, _⟩ => ⟨S8x128x128, .f32⟩
  | .hbm, ⟨2, _⟩ => ⟨S8x128x3072, .f32⟩
  | .hbm, ⟨3, _⟩ => ⟨S_, .f32⟩
  | .hbm, ⟨4, _⟩ => ⟨S128x3072, .f32⟩
  | .hbm, ⟨5, _⟩ => ⟨S_, .f32⟩
  | .hbm, ⟨6, _⟩ => ⟨S128x128, .f32⟩
  | .hbm, ⟨7, _⟩ => ⟨S_, .f32⟩
  | .hbm, ⟨8, _⟩ => ⟨S128x3072, .f32⟩
  | _, _ => ⟨S8x128x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩

abbrev nD : Nat := 1
abbrev τ : Topo := Topo.v7x

variable {F : FTy → Type} [FloatOps F]
-- ==== Proof.Spec.lean ====
module

public import Idealize.ShloMosaic.Lib.Pipeline.ValueKit
public import Idealize.ShloMosaic.Lib.IdealHost

@[expose] public section

noncomputable section

/-! The gradients of the chunked attention with relative biases, over the extended reals, one sum over all 2048 keys
    (or queries) each. `x0` holds the queries, keys and values of the eight heads side by side, `x1` the biases of one
    tile of 128 queries, `x2` the gradient of the attention's result. -/

namespace Cert.Spec

open Idealize.ShloMosaic

abbrev A0 : Type := (⟨2, ![2048, 3072]⟩ : Shape).Idx → EReal
abbrev A1 : Type := (⟨3, ![8, 128, 640]⟩ : Shape).Idx → EReal
abbrev A2 : Type := (⟨2, ![2048, 1024]⟩ : Shape).Idx → EReal

/-- The scale of the logits, one over the root of the head's 64 columns. -/
def eighth : EReal := ((1 / 8 : ℝ) : EReal)

variable (x0 : A0) (x1 : A1) (x2 : A2)

def q (h : Fin 8) (t : Fin 2048) (d : Fin 64) : EReal := x0 (ix2 t ⟨768 + 64 * h.val + d.val, by omega⟩)
def k (h : Fin 8) (t : Fin 2048) (d : Fin 64) : EReal := x0 (ix2 t ⟨1280 + 64 * h.val + d.val, by omega⟩)
def v (h : Fin 8) (t : Fin 2048) (d : Fin 64) : EReal := x0 (ix2 t ⟨1792 + 64 * h.val + d.val, by omega⟩)
def o (h : Fin 8) (t : Fin 2048) (d : Fin 64) : EReal := x2 (ix2 t ⟨256 + 64 * h.val + d.val, by omega⟩)

/-- The query `t` looks at the key `s`: its chunk of 64 is the key's or one of the eight after it. -/
def Sees (t s : Fin 2048) : Prop := s.val / 64 ≤ t.val / 64 ∧ t.val / 64 ≤ s.val / 64 + 8

instance (t s : Fin 2048) : Decidable (Sees t s) := by unfold Sees; infer_instance

/-- The place of the key `s` among the 640 that the query's tile of 128 looks at. -/
def place (t s : Fin 2048) : Fin 640 := ⟨(s.val + 512 - 128 * (t.val / 128)) % 640, by omega⟩

/-- The relative bias of a query and a key. -/
def bias (h : Fin 8) (t s : Fin 2048) : EReal := x1 (ix3 h ⟨t.val % 128, by omega⟩ (place t s))

/-- The logits: scaled product and bias where the query looks at the key, minus infinity elsewhere. -/
def lg (h : Fin 8) (t s : Fin 2048) : EReal := if Sees t s then (∑ d, q x0 h t d * k x0 h s d) * eighth + bias x1 h t s else ⊥

/-- The greatest logit of a query. -/
def mx (h : Fin 8) (t : Fin 2048) : EReal := Finset.univ.fold max ⊥ fun s : Fin 2048 => lg x0 x1 h t s

def ex (h : Fin 8) (t s : Fin 2048) : EReal := Ideal.exp (lg x0 x1 h t s - mx x0 x1 h t)

def sm (h : Fin 8) (t : Fin 2048) : EReal := ∑ s, ex x0 x1 h t s

/-- The weights. -/
def p (h : Fin 8) (t s : Fin 2048) : EReal := ex x0 x1 h t s * Ideal.div 1 (sm x0 x1 h t)

/-- The gradient of the weights, -/
def dp (h : Fin 8) (t s : Fin 2048) : EReal := ∑ d, o x2 h t d * v x0 h s d

/-- and that of the logits. -/
def ds (h : Fin 8) (t s : Fin 2048) : EReal := p x0 x1 h t s * (dp x0 x2 h t s - ∑ s', p x0 x1 h t s' * dp x0 x2 h t s')

/-- The gradients of the queries, the keys, the values and the biases. -/
def dq (h : Fin 8) (t : Fin 2048) (d : Fin 64) : EReal := (∑ s, ds x0 x1 x2 h t s * k x0 h s d) * eighth
def dk (h : Fin 8) (s : Fin 2048) (d : Fin 64) : EReal := ∑ t, q x0 h t d * eighth * ds x0 x1 x2 h t s
def dv (h : Fin 8) (s : Fin 2048) (d : Fin 64) : EReal := ∑ t, o x2 h t d * p x0 x1 h t s
def db (h : Fin 8) (r : Fin 128) (j : Fin 640) : EReal :=
  ∑ i : Fin 16, if hj : 512 ≤ 128 * i.val + j.val ∧ 128 * i.val + j.val < 2560 then
    ds x0 x1 x2 h ⟨128 * i.val + r.val, by omega⟩ ⟨128 * i.val + j.val - 512, by omega⟩ else 0

/-- All 512 columns of the heads side by side, with 512 rows of padding before, in tiles of 128 keys, half the heads a time. -/
def tiles (f : Fin 8 → Fin 2048 → Fin 64 → EReal) (w : Fin 2) (b : Fin 20) (c : Fin 256) (r : Fin 128) : EReal :=
  if hb : 4 ≤ b.val then f ⟨4 * w.val + c.val / 64, by omega⟩ ⟨128 * b.val + r.val - 512, by omega⟩ ⟨c.val % 64, by omega⟩ else 0

end Cert.Spec

end
-- ==== Proof.Finite.lean ====
module

public import proofs.«01_k».proof.Proof.Spec

@[expose] public section

noncomputable section

/-! Where the queries, keys and biases are real numbers, the softmax's sums are positive real numbers. -/

namespace Cert.Spec

open Idealize.ShloMosaic

/-- The number is real. -/
def IsR (x : EReal) : Prop := ∃ r : ℝ, x = (r : EReal)

theorem IsR.add {x y : EReal} (hx : IsR x) (hy : IsR y) : IsR (x + y) := by
  obtain ⟨a, rfl⟩ := hx; obtain ⟨b, rfl⟩ := hy; exact ⟨a + b, by push_cast; rfl⟩

theorem IsR.mul {x y : EReal} (hx : IsR x) (hy : IsR y) : IsR (x * y) := by
  obtain ⟨a, rfl⟩ := hx; obtain ⟨b, rfl⟩ := hy; exact ⟨a * b, by push_cast; rfl⟩

theorem IsR.sum {ι : Type} (s : Finset ι) (f : ι → EReal) (hf : ∀ i, IsR (f i)) : IsR (∑ i ∈ s, f i) := by
  classical
  induction s using Finset.induction_on with
  | empty => exact ⟨0, by simp⟩
  | insert a s ha ih => rw [Finset.sum_insert ha]; exact (hf a).add ih

theorem IsR.of_ne {x : EReal} (h1 : x ≠ ⊤) (h2 : x ≠ ⊥) : IsR x := ⟨x.toReal, (EReal.coe_toReal h1 h2).symm⟩

/-- A real number that is not negative goes into a sum. -/
theorem coe_mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (EReal.coe_nonneg.mpr hc) (EReal.coe_ne_top c), ih]

theorem eighth_mul_sum {ι : Type} (s : Finset ι) (f : ι → EReal) : (∑ i ∈ s, f i) * eighth = ∑ i ∈ s, f i * eighth := by
  rw [mul_comm]
  exact (coe_mul_sum s (1 / 8) (by norm_num) f).trans (Finset.sum_congr rfl fun _ _ => mul_comm _ _)

theorem eighth_f32 : Ideal.ofBits .f32 0x3E000000#32 = eighth := by
  unfold eighth; simp [Ideal.ofBits, Ideal.ieee, -EReal.coe_mul]; norm_num

theorem bot_f32 : Ideal.ofBits .f32 0xFF800000#32 = ⊥ := by
  simp [Ideal.ofBits, Ideal.ieee]

variable (x0 : A0) (x1 : A1) (x2 : A2)

/-- A logit that the mask removes has weight zero. -/
theorem ex_masked (h : Fin 8) (t s : Fin 2048) (hv : ¬Sees t s) : ex x0 x1 h t s = 0 := by
  unfold ex lg; rw [if_neg hv, EReal.bot_sub]; rfl

theorem p_masked (h : Fin 8) (t s : Fin 2048) (hv : ¬Sees t s) : p x0 x1 h t s = 0 := by
  unfold p; rw [ex_masked x0 x1 h t s hv, zero_mul]

theorem ds_masked (h : Fin 8) (t s : Fin 2048) (hv : ¬Sees t s) : ds x0 x1 x2 h t s = 0 := by
  unfold ds; rw [p_masked x0 x1 h t s hv, zero_mul]

theorem sm_real (hq : ∀ h t d, IsR (q x0 h t d)) (hk : ∀ h t d, IsR (k x0 h t d)) (hb : ∀ i, IsR (x1 i)) (h : Fin 8) (t : Fin 2048) :
    ∃ L : ℝ, 0 < L ∧ sm x0 x1 h t = (L : EReal) := by
  have hl : ∀ s, Sees t s → IsR (lg x0 x1 h t s) := fun s hv => by
    unfold lg; rw [if_pos hv]
    exact ((IsR.sum _ _ fun d => (hq h t d).mul (hk h s d)).mul ⟨1 / 8, rfl⟩).add (hb _)
  have htop : ∀ s, lg x0 x1 h t s < ⊤ := fun s => by
    by_cases hv : Sees t s
    · obtain ⟨r, hr⟩ := hl s hv; rw [hr]; exact EReal.coe_lt_top r
    · unfold lg; rw [if_neg hv]; exact bot_lt_top
  have hself : Sees t t := ⟨le_refl _, Nat.le_add_right _ _⟩
  have hM : IsR (mx x0 x1 h t) := by
    refine IsR.of_ne (ne_of_lt ?_) (ne_of_gt ?_)
    · exact (Finset.fold_max_lt _).mpr ⟨bot_lt_top, fun s _ => htop s⟩
    · refine (Finset.lt_fold_max _).mpr (Or.inr ⟨t, Finset.mem_univ _, ?_⟩)
      obtain ⟨r, hr⟩ := hl t hself; rw [hr]; exact EReal.bot_lt_coe r
  obtain ⟨M, hM⟩ := hM
  have hex : ∀ s, ∃ e : ℝ, 0 ≤ e ∧ (Sees t s → 0 < e) ∧ ex x0 x1 h t s = (e : EReal) := fun s => by
    by_cases hv : Sees t s
    · obtain ⟨r, hr⟩ := hl s hv
      refine ⟨Real.exp (r - M), (Real.exp_pos _).le, fun _ => Real.exp_pos _, ?_⟩
      unfold ex; rw [hr, hM, ← EReal.coe_sub]; rfl
    · exact ⟨0, le_refl _, fun c => absurd c hv, by rw [ex_masked x0 x1 h t s hv]; rfl⟩
  choose e he0 hep hee using hex
  refine ⟨∑ s, e s, Finset.sum_pos' (fun s _ => he0 s) ⟨t, Finset.mem_univ _, hep t hself⟩, ?_⟩
  unfold sm
  rw [Finset.sum_congr rfl fun s _ => hee s]
  exact (map_sum (⟨⟨Real.toEReal, EReal.coe_zero⟩, EReal.coe_add⟩ : ℝ →+ EReal) e Finset.univ).symm

end Cert.Spec

end
-- ==== Proof.RefA.lean ====
module

public import proofs.«01_k».proof.Proof.Gen.ReferenceIdeal.Read
public import proofs.«01_k».proof.Proof.Finite
public import Idealize.ShloMosaic.PureOps.Reduce

@[expose] public section

set_option maxRecDepth 16384

noncomputable section

/-! The reference's operations up to the softmax's quotient, read at an index. -/

namespace Cert.ReferenceIdeal.Read

open Idealize.ShloMosaic Idealize.ShloMosaic.TcCoe Cert.ReferenceIdeal Cert.ReferenceIdeal.Gen Idealize.ShloMosaic.StableHlo

variable (x0 : Spec.A0) (x1 : Spec.A1) (x2 : Spec.A2)

theorem at_q (h : Fin 8) (t : Fin 2048) (d : Fin 64) : val_main_v17 (F := Ideal) x0 (ix3 h t d) = Spec.q x0 h t d := by
  rw [val_main_v17_apply, val_main_v16_apply, val_main_v0_apply]
  refine congrArg x0 (funext fun a => Fin.ext ?_)
  have := h.isLt; have := t.isLt; have := d.isLt
  match a with
  | ⟨0, _⟩ => show _ = t.val; simp only [idx_main_v0, idx_main_v16, idx_main_v17, ix3_0, ix3_1, ix3_2]; omega
  | ⟨1, _⟩ => show _ = 768 + 64 * h.val + d.val; simp only [idx_main_v0, idx_main_v16, idx_main_v17, ix3_0, ix3_1, ix3_2]; omega

theorem at_k (h : Fin 8) (t : Fin 2048) (d : Fin 64) : val_main_v19 (F := Ideal) x0 (ix3 h t d) = Spec.k x0 h t d := by
  rw [val_main_v19_apply, val_main_v18_apply, val_main_v1_apply]
  refine congrArg x0 (funext fun a => Fin.ext ?_)
  have := h.isLt; have := t.isLt; have := d.isLt
  match a with
  | ⟨0, _⟩ => show _ = t.val; simp only [idx_main_v1, idx_main_v18, idx_main_v19, ix3_0, ix3_1, ix3_2]; omega
  | ⟨1, _⟩ => show _ = 1280 + 64 * h.val + d.val; simp only [idx_main_v1, idx_main_v18, idx_main_v19, ix3_0, ix3_1, ix3_2]; omega

theorem at_v (h : Fin 8) (t : Fin 2048) (d : Fin 64) : val_main_v21 (F := Ideal) x0 (ix3 h t d) = Spec.v x0 h t d := by
  rw [val_main_v21_apply, val_main_v20_apply, val_main_v2_apply]
  refine congrArg x0 (funext fun a => Fin.ext ?_)
  have := h.isLt; have := t.isLt; have := d.isLt
  match a with
  | ⟨0, _⟩ => show _ = t.val; simp only [idx_main_v2, idx_main_v20, idx_main_v21, ix3_0, ix3_1, ix3_2]; omega
  | ⟨1, _⟩ => show _ = 1792 + 64 * h.val + d.val; simp only [idx_main_v2, idx_main_v20, idx_main_v21, ix3_0, ix3_1, ix3_2]; omega

theorem at_o (h : Fin 8) (t : Fin 2048) (d : Fin 64) : val_main_v70 (F := Ideal) x2 (ix3 h t d) = Spec.o x2 h t d := by
  rw [val_main_v70_apply, val_main_v69_apply, val_main_v68_apply]
  refine congrArg x2 (funext fun a => Fin.ext ?_)
  have := h.isLt; have := t.isLt; have := d.isLt
  match a with
  | ⟨0, _⟩ => show _ = t.val; simp only [idx_main_v68, idx_main_v69, idx_main_v70, ix3_0, ix3_1, ix3_2]; omega
  | ⟨1, _⟩ => show _ = 256 + 64 * h.val + d.val; simp only [idx_main_v68, idx_main_v69, idx_main_v70, ix3_0, ix3_1, ix3_2]; omega

/-- One key's place in one tile's window, as the number one. -/
theorem at_place (i : Fin 16) (j : Fin 640) (s : Fin 2048) :
    val_main_v12 (F := Ideal) (ix3 i j s) = if s.val + 512 = 128 * i.val + j.val then (1 : EReal) else 0 := by
  rw [val_main_v12_apply, val_main_v11_apply, val_main_v5_apply, val_main_v10_apply, val_main_v8_apply, val_main_v3_apply, val_main_v6_apply, val_main_v9_apply,
    val_main_v4_apply, val_main_v7_apply, val_main_c_apply, val_main_c_0_apply]
  have hs := s.isLt; have hi := i.isLt; have hj := j.isLt
  have e : (IntOp.addi (BitVec.ofNat 32 s.val) 512#32 = IntOp.addi (IntOp.muli (BitVec.ofNat 32 i.val) 128#32) (BitVec.ofNat 32 j.val)) ↔ s.val + 512 = 128 * i.val + j.val := by
    simp only [IntOp.addi, IntOp.muli]
    rw [← BitVec.toNat_inj]
    simp only [BitVec.toNat_add, BitVec.toNat_mul, BitVec.toNat_ofNat]
    omega
  by_cases hc : s.val + 512 = 128 * i.val + j.val
  · rw [if_pos hc]
    have e' := e.mpr hc
    simp only [ix3_0, ix3_1, ix3_2, e', IntOp.cmpi]
    simp [FloatOps.uitofp]
  · rw [if_neg hc]
    have e' := fun x => hc (e.mp x)
    simp only [ix3_0, ix3_1, ix3_2, IntOp.cmpi, beq_eq_false_iff_ne.mpr e']
    simp [FloatOps.uitofp]

theorem chunk_row (t s : Fin 2048) : val_main_v27 (F := Ideal) (ix2 t s) = BitVec.ofNat 32 (t.val / 64) := by
  have e : val_main_v27 (F := Ideal) (ix2 t s) = val_main_v27 (F := Ideal) (ix2 t (0 : Fin 2048)) := rfl
  rw [e]
  exact (by decide +kernel : ∀ t : Fin 2048, val_main_v27 (F := Ideal) (ix2 t (0 : Fin 2048)) = BitVec.ofNat 32 (t.val / 64)) t

theorem chunk_col (t s : Fin 2048) : val_main_v29 (F := Ideal) (ix2 t s) = BitVec.ofNat 32 (s.val / 64) := by
  have e : val_main_v29 (F := Ideal) (ix2 t s) = val_main_v29 (F := Ideal) (ix2 (0 : Fin 2048) s) := rfl
  rw [e]
  exact (by decide +kernel : ∀ s : Fin 2048, val_main_v29 (F := Ideal) (ix2 (0 : Fin 2048) s) = BitVec.ofNat 32 (s.val / 64)) s

/-- The mask. -/
theorem at_mask (h : Fin 8) (t s : Fin 2048) : val_main_v36_1 (F := Ideal) (ix3 h t s) = if Spec.Sees t s then 1#1 else 0#1 := by
  rw [val_main_v36_1_apply, show idx_main_v36_1 (ix3 h t s) = ix2 t s from funext fun a => Fin.ext (by match a with | ⟨0, _⟩ => rfl | ⟨1, _⟩ => rfl), val_main_v35_apply, val_main_v32_apply, val_main_v34_apply, val_main_v30_apply, val_main_v31_apply, val_main_v33_apply, chunk_row, chunk_col]
  have key : ∀ a b : Fin 32, IntOp.andi (IntOp.cmpi .sge (IntOp.subi (BitVec.ofNat 32 a.val) (BitVec.ofNat 32 b.val)) 0#32) (IntOp.cmpi .sle (IntOp.subi (BitVec.ofNat 32 a.val) (BitVec.ofNat 32 b.val)) 8#32)
      = if b.val ≤ a.val ∧ a.val ≤ b.val + 8 then 1#1 else 0#1 := by decide +kernel
  exact key ⟨t.val / 64, by omega⟩ ⟨s.val / 64, by omega⟩

/-- The biases, where the query looks at the key. -/
theorem at_bias (h : Fin 8) (t s : Fin 2048) (hv : Spec.Sees t s) : val_main_v15 (F := Ideal) x1 (ix3 h t s) = Spec.bias x1 h t s := by
  have hh := h.isLt; have ht := t.isLt; have hs := s.isLt
  obtain ⟨hv1, hv2⟩ := hv
  have a1 : ((h.val * 2048 + t.val) * 2048 + s.val) / 262144 = h.val * 16 + t.val / 128 := by omega
  rw [val_main_v15_apply, show idx_main_v15 (ix3 h t s) = ix4 h ⟨t.val / 128, by omega⟩ ⟨t.val % 128, by omega⟩ s from
    funext fun a => Fin.ext (by
      match a with
      | ⟨0, _⟩ => show _ = h.val; simp only [idx_main_v15, ix3_0, ix3_1, ix3_2]; omega
      | ⟨1, _⟩ => show _ = t.val / 128; simp only [idx_main_v15, ix3_0, ix3_1, ix3_2]; omega
      | ⟨2, _⟩ => show _ = t.val % 128; simp only [idx_main_v15, ix3_0, ix3_1, ix3_2]; omega
      | ⟨3, _⟩ => show _ = s.val; simp only [idx_main_v15, ix3_0, ix3_1, ix3_2]; omega),
    val_main_v14_apply, val_main_v13_apply]
  rw [Finset.sum_eq_single (Spec.place t s)]
  · rw [show lidx_main_v13 (idx_main_v14 (ix4 h ⟨t.val / 128, by omega⟩ ⟨t.val % 128, by omega⟩ s)) (Spec.place t s) = ix3 ⟨t.val / 128, by omega⟩ (Spec.place t s) s from
      funext fun a => Fin.ext (by match a with | ⟨0, _⟩ => rfl | ⟨1, _⟩ => rfl | ⟨2, _⟩ => rfl), at_place, if_pos (by dsimp only [Spec.place]; omega), one_mul]
    refine congrArg x1 (funext fun a => Fin.ext ?_)
    match a with | ⟨0, _⟩ => rfl | ⟨1, _⟩ => rfl | ⟨2, _⟩ => rfl
  · intro j _ hj
    rw [show lidx_main_v13 (idx_main_v14 (ix4 h ⟨t.val / 128, by omega⟩ ⟨t.val % 128, by omega⟩ s)) j = ix3 ⟨t.val / 128, by omega⟩ j s from
      funext fun a => Fin.ext (by match a with | ⟨0, _⟩ => rfl | ⟨1, _⟩ => rfl | ⟨2, _⟩ => rfl), at_place, if_neg, zero_mul]
    intro e
    refine hj (Fin.ext ?_)
    have := j.isLt
    dsimp only [Spec.place] at e ⊢; omega
  · intro hn; exact absurd (Finset.mem_univ _) hn

theorem at_lg (h : Fin 8) (t s : Fin 2048) : val_main_v36_0 (F := Ideal) x0 x1 (ix3 h t s) = Spec.lg x0 x1 h t s := by
  rw [val_main_v36_0_apply, at_mask]
  unfold Spec.lg
  by_cases hv : Spec.Sees t s
  · rw [if_pos hv, if_pos hv, val_main_v25_apply, val_main_v24_apply, val_main_v22_apply, val_main_v23_apply, val_main_cst_apply, at_bias x1 h t s hv]
    simp only [Scalar.select, Ideal.addf_def, Ideal.mulf_def, Ideal.ofBits_def, Spec.eighth_f32]
    rw [if_pos (by decide)]
    congr 2
    refine Finset.sum_congr rfl fun d _ => ?_
    rw [← at_q, ← at_k]
    congr 2 <;> exact funext fun a => Fin.ext (by match a with | ⟨0, _⟩ => rfl | ⟨1, _⟩ => rfl | ⟨2, _⟩ => rfl)
  · rw [if_neg hv, if_neg hv, val_main_call2_v2_apply, val_main_call2_v0_apply, val_main_cst_5_apply]
    simp only [Scalar.select, Ideal.ofBits_def, Spec.bot_f32]
    rw [if_neg (by decide)]

theorem at_mx0 (h : Fin 8) (t : Fin 2048) : val_main_v37 (F := Ideal) x0 x1 (ix2 h t) = Spec.mx x0 x1 h t := by
  unfold val_main_v37 Spec.mx
  simp only [← at_lg]
  generalize val_main_v36_0 (F := Ideal) x0 x1 = y
  pointwise [val_main_cst_6]
  simp only [Ideal.ofBits_def, Spec.bot_f32]

theorem at_mx (h : Fin 8) (t s : Fin 2048) : val_main_v55 (F := Ideal) x0 x1 (ix3 h t s) = Spec.mx x0 x1 h t := by
  rw [val_main_v55_apply, val_main_v54_apply, val_main_v44_apply, val_main_v43_apply, val_main_cst_8_apply,
    show idx_main_v54 (idx_main_v55 (ix3 h t s)) = ix2 h t from funext fun a => Fin.ext (by match a with | ⟨0, _⟩ => rfl | ⟨1, _⟩ => rfl), at_mx0]
  simp only [Ideal.maximumf_def, Ideal.ofBits_def, Spec.bot_f32]
  exact max_eq_right bot_le

theorem at_ex (h : Fin 8) (t s : Fin 2048) : val_main_v57 (F := Ideal) x0 x1 (ix3 h t s) = Spec.ex x0 x1 h t s := by
  rw [val_main_v57_apply, val_main_v56_apply, at_lg, at_mx]; rfl

theorem at_sm (h : Fin 8) (t s : Fin 2048) : val_main_v58 (F := Ideal) x0 x1 (ix2 h t) = Spec.sm x0 x1 h t := by
  rw [val_main_v58_apply, val_main_cst_14_apply]
  simp only [Ideal.ofBits_def, Ideal.ofBits_zero_f32, zero_add]
  refine Finset.sum_congr rfl fun s _ => ?_
  rw [← at_ex]
  congr 1; exact funext fun a => Fin.ext (by match a with | ⟨0, _⟩ => rfl | ⟨1, _⟩ => rfl | ⟨2, _⟩ => rfl)

end Cert.ReferenceIdeal.Read

end
-- ==== Proof.RefB.lean ====
module

public import proofs.«01_k».proof.Proof.RefA
public import proofs.«01_k».proof.Proof.Finite

@[expose] public section

set_option maxRecDepth 16384

noncomputable section

/-! The reference's gradients, read at an index. -/

namespace Cert.ReferenceIdeal.Read

open Idealize.ShloMosaic Idealize.ShloMosaic.TcCoe Cert.ReferenceIdeal Cert.ReferenceIdeal.Gen Idealize.ShloMosaic.StableHlo

variable (x0 : Spec.A0) (x1 : Spec.A1) (x2 : Spec.A2)
variable (hL : ∀ h t, ∃ L : ℝ, 0 < L ∧ Spec.sm x0 x1 h t = (L : EReal))

theorem at_sm2 (h : Fin 8) (t : Fin 2048) : val_main_v59 (F := Ideal) x0 x1 (ix3 h t 0) = Spec.sm x0 x1 h t := by
  rw [val_main_v59_apply, show idx_main_v59 (ix3 h t 0) = ix2 h t from funext fun a => Fin.ext (by match a with | ⟨0, _⟩ => rfl | ⟨1, _⟩ => rfl), at_sm x0 x1 h t t]

include hL in
theorem at_p (h : Fin 8) (t s : Fin 2048) : val_main_v61 (F := Ideal) x0 x1 (ix3 h t s) = Spec.p x0 x1 h t s := by
  rw [val_main_v61_apply, val_main_v60_apply,
    show idx_main_v60 (ix3 h t s) = ix3 h t 0 from funext fun a => Fin.ext (by match a with | ⟨0, _⟩ => rfl | ⟨1, _⟩ => rfl | ⟨2, _⟩ => rfl), at_ex, at_sm2]
  obtain ⟨L, h0, e⟩ := hL h t
  exact (Ideal.mul_one_div (by rw [e]; exact fun c => h0.ne' (EReal.coe_eq_zero.mp c))).symm

theorem at_dp (h : Fin 8) (t s : Fin 2048) : val_main_v73 (F := Ideal) x0 x2 (ix3 h t s) = Spec.dp x0 x2 h t s := by
  rw [val_main_v73_apply]
  refine Finset.sum_congr rfl fun d _ => ?_
  rw [← at_o, ← at_v]
  congr 2 <;> exact funext fun a => Fin.ext (by match a with | ⟨0, _⟩ => rfl | ⟨1, _⟩ => rfl | ⟨2, _⟩ => rfl)

theorem at_rest (h : Fin 8) (t s : Fin 2048) : val_main_v84 (F := Ideal) x0 x1 x2 (ix3 h t s)
    = Ideal.div (Spec.dp x0 x2 h t s) (Spec.sm x0 x1 h t) + -(∑ s', Spec.dp x0 x2 h t s' * Ideal.div 1 (Spec.sm x0 x1 h t * Spec.sm x0 x1 h t) * Spec.ex x0 x1 h t s') := by
  rw [val_main_v84_apply, val_main_v81_apply, val_main_v80_apply, val_main_v83_apply,
    show idx_main_v80 (ix3 h t s) = ix3 h t 0 from funext fun a => Fin.ext (by match a with | ⟨0, _⟩ => rfl | ⟨1, _⟩ => rfl | ⟨2, _⟩ => rfl), at_dp, at_sm2,
    show idx_main_v83 (ix3 h t s) = ix2 h t from funext fun a => Fin.ext (by match a with | ⟨0, _⟩ => rfl | ⟨1, _⟩ => rfl), val_main_v82_apply,
    Fin.sum_univ_one, val_main_v79_apply, val_main_v78_apply, val_main_v77_apply, val_main_cst_17_apply, val_main_cst_16_apply]
  simp only [Ideal.ofBits_def, Ideal.ofBits_zero_f32, zero_add, Ideal.hostDivf_def, Ideal.addf_def, Ideal.negf_def]
  congr 2
  refine Finset.sum_congr rfl fun s' _ => ?_
  rw [show idx_main_v77 (idx_main_v78 (idx_main_v82 (ix2 h t) 0)) s' = ix3 h t s' from funext fun a => Fin.ext (by
      have hh := h.isLt; have ht := t.isLt
      match a with
      | ⟨0, _⟩ => show _ = h.val; simp only [idx_main_v77, idx_main_v78, idx_main_v82, ix2_0, ix2_1]; first | omega | (simp; omega)
      | ⟨1, _⟩ => show _ = t.val; simp only [idx_main_v77, idx_main_v78, idx_main_v82, ix2_0, ix2_1]; first | omega | (simp; omega)
      | ⟨2, _⟩ => rfl),
    val_main_v76_apply, val_main_v75_apply, val_main_v74_apply, at_dp, at_ex,
    show idx_main_v74 (ix3 h t s') = ix3 h t 0 from funext fun a => Fin.ext (by match a with | ⟨0, _⟩ => rfl | ⟨1, _⟩ => rfl | ⟨2, _⟩ => rfl),
    val_main_v64_apply, val_main_v63_apply, val_main_v62_apply, at_sm2, val_main_cst_15_apply]
  simp only [Ideal.ofBits_def, Ideal.ofBits_one_f32, Ideal.hostDivf_def, Ideal.mulf_def]

include hL in
theorem at_ds (h : Fin 8) (t s : Fin 2048) : val_main_v86 (F := Ideal) x0 x1 x2 (ix3 h t s) = Spec.ds x0 x1 x2 h t s := by
  rw [val_main_v86_apply, at_mask]
  by_cases hv : Spec.Sees t s
  · rw [if_pos hv, val_main_v85_apply, at_rest, at_ex]
    simp only [Scalar.select, Ideal.mulf_def]
    rw [if_pos (by decide)]
    obtain ⟨L, h0, e⟩ := hL h t
    unfold Spec.ds Spec.p
    have hc : (0 : ℝ) ≤ 1 / L := by positivity
    rw [e, Ideal.div_coe h0.ne', ← EReal.coe_mul, Ideal.div_coe (mul_pos h0 h0).ne', Ideal.div_coe h0.ne', one_mul, one_mul,
      show (1 / (L * L) : ℝ) = 1 / L * (1 / L) by field_simp, EReal.coe_mul]
    generalize (1 / L : ℝ) = c at hc
    rw [show (∑ s', Spec.dp x0 x2 h t s' * ((c : EReal) * c) * Spec.ex x0 x1 h t s') = (c : EReal) * ∑ s', Spec.ex x0 x1 h t s' * c * Spec.dp x0 x2 h t s' by
      rw [Spec.coe_mul_sum _ c hc]; exact Finset.sum_congr rfl fun _ _ => by ac_rfl]
    generalize (∑ s', Spec.ex x0 x1 h t s' * c * Spec.dp x0 x2 h t s') = S
    rw [← mul_neg, mul_comm (Spec.dp x0 x2 h t s), ← EReal.left_distrib_of_nonneg_of_ne_top (EReal.coe_nonneg.mpr hc) (EReal.coe_ne_top c), ← sub_eq_add_neg]
    ac_rfl
  · rw [if_neg hv, Spec.ds_masked x0 x1 x2 h t s hv]
    simp only [Scalar.select]
    rw [if_neg (by decide), val_main_call3_v0_apply]
    exact (val_main_call3_cst_apply _).trans Ideal.ofBits_zero_f32

include hL in
/-- The gradient of the queries. -/
theorem at_dq (t : Fin 2048) (c : Fin 512) : val_main_v100 (F := Ideal) x0 x1 x2 (ix2 t c) = Spec.dq x0 x1 x2 ⟨c.val / 64, by omega⟩ t ⟨c.val % 64, by omega⟩ := by
  have ht := t.isLt; have hc := c.isLt
  rw [val_main_v100_apply, val_main_v96_apply, val_main_v95_apply,
    show idx_main_v95 (idx_main_v96 (ix2 t c)) = ix3 ⟨c.val / 64, by omega⟩ t ⟨c.val % 64, by omega⟩ from funext fun a => Fin.ext (by
      match a with
      | ⟨0, _⟩ => show _ = c.val / 64; simp only [idx_main_v95, idx_main_v96, ix2_0, ix2_1]; omega
      | ⟨1, _⟩ => show _ = t.val; simp only [idx_main_v95, idx_main_v96, ix2_0, ix2_1]; omega
      | ⟨2, _⟩ => show _ = c.val % 64; simp only [idx_main_v95, idx_main_v96, ix2_0, ix2_1]; omega), val_main_v90_apply]
  unfold Spec.dq
  rw [Spec.eighth_mul_sum]
  simp only [Ideal.truncf_def]
  refine Finset.sum_congr rfl fun s _ => ?_
  rw [show lidx_main_v90 (ix3 ⟨c.val / 64, by omega⟩ t ⟨c.val % 64, by omega⟩) s = ix3 ⟨c.val / 64, by omega⟩ t s from funext fun a => Fin.ext (by match a with | ⟨0, _⟩ => rfl | ⟨1, _⟩ => rfl | ⟨2, _⟩ => rfl),
    show ridx_main_v90 (ix3 ⟨c.val / 64, by omega⟩ t ⟨c.val % 64, by omega⟩) s = ix3 ⟨c.val / 64, by omega⟩ s ⟨c.val % 64, by omega⟩ from funext fun a => Fin.ext (by match a with | ⟨0, _⟩ => rfl | ⟨1, _⟩ => rfl | ⟨2, _⟩ => rfl),
    at_k, val_main_v88_apply, at_ds x0 x1 x2 hL, val_main_v87_apply, val_main_cst_18_apply]
  simp only [Ideal.mulf_def, Ideal.ofBits_def, Spec.eighth_f32]
  ac_rfl

include hL in
theorem at_dk0 (h : Fin 8) (s : Fin 2048) (d : Fin 64) : val_main_v89 (F := Ideal) x0 x1 x2 (ix3 h s d) = Spec.dk x0 x1 x2 h s d := by
  rw [val_main_v89_apply]
  refine Finset.sum_congr rfl fun t _ => ?_
  rw [show lidx_main_v89 (ix3 h s d) t = ix3 h t s from funext fun a => Fin.ext (by match a with | ⟨0, _⟩ => rfl | ⟨1, _⟩ => rfl | ⟨2, _⟩ => rfl),
    show ridx_main_v89 (ix3 h s d) t = ix3 h t d from funext fun a => Fin.ext (by match a with | ⟨0, _⟩ => rfl | ⟨1, _⟩ => rfl | ⟨2, _⟩ => rfl),
    at_q, val_main_v88_apply, at_ds x0 x1 x2 hL, val_main_v87_apply, val_main_cst_18_apply]
  simp only [Ideal.mulf_def, Ideal.ofBits_def, Spec.eighth_f32]
  ac_rfl

include hL in
theorem at_dv0 (h : Fin 8) (s : Fin 2048) (d : Fin 64) : val_main_v72 (F := Ideal) x0 x1 x2 (ix3 h s d) = Spec.dv x0 x1 x2 h s d := by
  rw [val_main_v72_apply, show idx_main_v72 (ix3 h s d) = ix3 h d s from funext fun a => Fin.ext (by match a with | ⟨0, _⟩ => rfl | ⟨1, _⟩ => rfl | ⟨2, _⟩ => rfl), val_main_v71_apply]
  refine Finset.sum_congr rfl fun t _ => ?_
  rw [show lidx_main_v71 (ix3 h d s) t = ix3 h t d from funext fun a => Fin.ext (by match a with | ⟨0, _⟩ => rfl | ⟨1, _⟩ => rfl | ⟨2, _⟩ => rfl),
    show ridx_main_v71 (ix3 h d s) t = ix3 h t s from funext fun a => Fin.ext (by match a with | ⟨0, _⟩ => rfl | ⟨1, _⟩ => rfl | ⟨2, _⟩ => rfl),
    at_o, at_p x0 x1 hL]

theorem rows (z : (⟨S2560x512, .f32⟩ : BufTy).Contents (Elt Ideal)) (y : (⟨S2048x512, .f32⟩ : BufTy).Contents (Elt Ideal)) (f : Fin 8 → Fin 2048 → Fin 64 → EReal)
    (e0 : EReal) (he : e0 = 0) (hy : ∀ (s : Fin 2048) (c : Fin 512), y (ix2 s c) = f ⟨c.val / 64, by omega⟩ s ⟨c.val % 64, by omega⟩)
    (hz : z = pad S2560x512 ![512, 0] ![0, 0] ![0, 0] y (fun _ => e0) pads_S2048x512_S2560x512_51200_000 h_S_)
    (w : Fin 2) (b : Fin 20) (c : Fin 256) (r : Fin 128) :
    z (ix2 ⟨128 * b.val + r.val, by omega⟩ ⟨256 * w.val + c.val, by omega⟩) = Spec.tiles f w b c r := by
  subst hz he
  unfold Spec.tiles
  pointwise
  have hb := b.isLt; have hr := r.isLt; have hc := c.isLt; have hw := w.isLt
  by_cases h4 : 4 ≤ b.val
  · rw [dif_pos h4, dif_pos (by omega), hy]
    congr 1 <;> (try congr 1) <;> (first | exact Fin.ext (by dsimp only; omega) | (dsimp only; omega))
  · rw [dif_neg h4, dif_neg (by omega)]

include hL in
/-- The gradient of the keys. -/
theorem at_dk (w : Fin 2) (b : Fin 20) (c : Fin 256) (r : Fin 128) : val_main_v103 (F := Ideal) x0 x1 x2 (ix4 w b c r) = Spec.tiles (Spec.dk x0 x1 x2) w b c r := by
  have hb := b.isLt; have hr := r.isLt; have hc := c.isLt; have hw := w.isLt
  rw [val_main_v103_apply, val_main_v102_apply]
  rw [show idx_main_v102 (idx_main_v103 (ix4 w b c r)) = ix2 ⟨128 * b.val + r.val, by omega⟩ ⟨256 * w.val + c.val, by omega⟩ from funext fun a => Fin.ext (by
    match a with
    | ⟨0, _⟩ => show _ = 128 * b.val + r.val; simp only [idx_main_v102, idx_main_v103, ix4_0, ix4_1, ix4_2, ix4_3]; omega
    | ⟨1, _⟩ => show _ = 256 * w.val + c.val; simp only [idx_main_v102, idx_main_v103, ix4_0, ix4_1, ix4_2, ix4_3]; omega)]
  refine rows _ (val_main_v94 (F := Ideal) x0 x1 x2) _ (FloatOps.sitofp (F := Ideal) .f32 (0#32 : BitVec 32)) (by simp [FloatOps.sitofp]) (fun s c => ?_) rfl w b c r
  have hs := s.isLt; have hc := c.isLt
  rw [← at_dk0 x0 x1 x2 hL, val_main_v94_apply, val_main_v93_apply]
  refine congrArg _ (funext fun a => Fin.ext ?_)
  match a with
  | ⟨0, _⟩ => show _ = c.val / 64; simp only [idx_main_v93, idx_main_v94, ix2_0, ix2_1]; omega
  | ⟨1, _⟩ => show _ = s.val; simp only [idx_main_v93, idx_main_v94, ix2_0, ix2_1]; omega
  | ⟨2, _⟩ => show _ = c.val % 64; simp only [idx_main_v93, idx_main_v94, ix2_0, ix2_1]; omega

include hL in
/-- The gradient of the values. -/
theorem at_dv (w : Fin 2) (b : Fin 20) (c : Fin 256) (r : Fin 128) : val_main_v106 (F := Ideal) x0 x1 x2 (ix4 w b c r) = Spec.tiles (Spec.dv x0 x1 x2) w b c r := by
  have hb := b.isLt; have hr := r.isLt; have hc := c.isLt; have hw := w.isLt
  rw [val_main_v106_apply, val_main_v105_apply]
  rw [show idx_main_v105 (idx_main_v106 (ix4 w b c r)) = ix2 ⟨128 * b.val + r.val, by omega⟩ ⟨256 * w.val + c.val, by omega⟩ from funext fun a => Fin.ext (by
    match a with
    | ⟨0, _⟩ => show _ = 128 * b.val + r.val; simp only [idx_main_v105, idx_main_v106, ix4_0, ix4_1, ix4_2, ix4_3]; omega
    | ⟨1, _⟩ => show _ = 256 * w.val + c.val; simp only [idx_main_v105, idx_main_v106, ix4_0, ix4_1, ix4_2, ix4_3]; omega)]
  refine rows _ (val_main_v92 (F := Ideal) x0 x1 x2) _ (FloatOps.sitofp (F := Ideal) .f32 (0#32 : BitVec 32)) (by simp [FloatOps.sitofp]) (fun s c => ?_) rfl w b c r
  have hs := s.isLt; have hc := c.isLt
  rw [← at_dv0 x0 x1 x2 hL, val_main_v92_apply, val_main_v91_apply]
  refine congrArg _ (funext fun a => Fin.ext ?_)
  match a with
  | ⟨0, _⟩ => show _ = c.val / 64; simp only [idx_main_v91, idx_main_v92, ix2_0, ix2_1]; omega
  | ⟨1, _⟩ => show _ = s.val; simp only [idx_main_v91, idx_main_v92, ix2_0, ix2_1]; omega
  | ⟨2, _⟩ => show _ = c.val % 64; simp only [idx_main_v91, idx_main_v92, ix2_0, ix2_1]; omega

include hL in
/-- The gradient of the biases. -/
theorem at_db (h : Fin 8) (r : Fin 128) (j : Fin 640) : val_main_v99 (F := Ideal) x0 x1 x2 (ix3 h r j) = Spec.db x0 x1 x2 h r j := by
  unfold val_main_v99 Spec.db
  have e : ∀ (i : Fin 16) (s : Fin 2048), val_main_v98 (F := Ideal) x0 x1 x2 (ix4 i s h r) = Spec.ds x0 x1 x2 h ⟨128 * i.val + r.val, by omega⟩ s := fun i s => by
    have hi := i.isLt; have hs := s.isLt; have hh := h.isLt; have hr := r.isLt
    rw [val_main_v98_apply, val_main_v97_apply, ← at_ds x0 x1 x2 hL]
    have a1 : (((h.val * 16 + i.val) * 128 + r.val) * 2048 + s.val) / 2048 = (h.val * 16 + i.val) * 128 + r.val := by omega
    refine congrArg _ (funext fun a => Fin.ext ?_)
    match a with
    | ⟨0, _⟩ => show _ = h.val; simp only [idx_main_v97, idx_main_v98, ix4_0, ix4_1, ix4_2, ix4_3]; omega
    | ⟨1, _⟩ => show _ = 128 * i.val + r.val; simp only [idx_main_v97, idx_main_v98, ix4_0, ix4_1, ix4_2, ix4_3]; omega
    | ⟨2, _⟩ => show _ = s.val; simp only [idx_main_v97, idx_main_v98, ix4_0, ix4_1, ix4_2, ix4_3]; omega
  have e2 := at_place
  generalize val_main_v98 (F := Ideal) x0 x1 x2 = y at e
  generalize val_main_v12 (F := Ideal) = z at e2
  pointwise
  refine Finset.sum_congr rfl fun i _ => ?_
  have hi := i.isLt; have hj := j.isLt
  simp only [e, e2]
  by_cases hc : 512 ≤ 128 * i.val + j.val ∧ 128 * i.val + j.val < 2560
  · rw [dif_pos hc, Finset.sum_eq_single (⟨128 * i.val + j.val - 512, by omega⟩ : Fin 2048)]
    · rw [if_pos (by dsimp only; omega), mul_one]
    · intro s _ hs
      rw [if_neg, mul_zero]
      intro c; exact hs (Fin.ext (by dsimp only; omega))
    · intro hn; exact absurd (Finset.mem_univ _) hn
  · rw [dif_neg hc]
    refine Finset.sum_eq_zero fun s _ => ?_
    have hs := s.isLt
    rw [if_neg (by omega), mul_zero]

end Cert.ReferenceIdeal.Read

end
-- ==== Proof.Cond.lean ====
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-! ## The kernel body on any staging memrefs: a subtype the run finds -/

/-- Each window's current staging memref at point `t`, spelled as the pipeline passes it (`bodyAt0`), and its wholeness. -/
abbrev ms0_0 (t : Fin cfg0.N) : Memref sig .tc .vmem S128x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2560x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2560x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x128x640 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x20x256x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x20x256x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x128x640 .f32 := win0_10.stage (cfg0.slots t 10)
abbrev hs0_10 (t : Fin cfg0.N) : (ms0_10 t).IsWhole := hstage0_10 ((cfg0.slots t 10).cast nbuf0_10)

end Cert.KernelIdeal.Gen

end
-- ==== Proof.Body.lean ====
module

public import proofs.«01_k».proof.Proof.Cond
public import proofs.«01_k».proof.Proof.Gen.KernelIdeal.Skeleton
public import Idealize.ShloMosaic.Lib.Pipeline.ValueKit

@[expose] public section

set_option maxRecDepth 16384

noncomputable section

/-! What the body of the call computes at one grid point, head by head: the blocks' slices of a head, the head's values
as the first head's payloads of those slices, and the contents of the four result blocks after the point. -/

namespace Cert.KernelIdeal.Gen

open Idealize.ShloMosaic Idealize.ShloMosaic.TcCoe Idealize.SL.Sem

variable {F : FTy → Type} [FloatOps F] [Named F]

/-! ## The slices of head `h` -/

/-- The head's columns of a tile of 128 rows. -/
def qRect (h : Fin 4) : Rect S128x256 := Rect.unit ![0, 64 * h.val] S128x64.size (by revert h; decide)
/-- The head's rows of a transposed tile. -/
def tRect (h : Fin 4) : Rect S256x128 := Rect.unit ![64 * h.val, 0] S64x128.size (by revert h; decide)
/-- The head's table of biases. -/
def bRect (h : Fin 4) : Rect S4x128x640 := Rect.unit ![h.val, 0, 0] S1x128x640.size (by revert h; decide)
/-- Where the head's window of keys begins. -/
def kOff (i : grid0.Coords) (h : Fin 4) : Fin 2 → ℕ :=
  match h with | 0 => k0_off1 i | 1 => k0_off3 i | 2 => k0_off5 i | 3 => k0_off7 i
theorem kOff_eq (i : grid0.Coords) (h : Fin 4) : kOff i h = ![128 * (i 1).val, 64 * h.val] :=
  match h with | 0 => k0_off1_eq i | 1 => k0_off3_eq i | 2 => k0_off5_eq i | 3 => k0_off7_eq i
theorem kOff_inb (i : grid0.Coords) (h : Fin 4) : ∀ a, kOff i h a + S640x64.size a ≤ S2560x256.size a :=
  match h with | 0 => k0_off1_inb i | 1 => k0_off3_inb i | 2 => k0_off5_inb i | 3 => k0_off7_inb i
/-- The head's window of 640 keys. -/
def kRect (i : grid0.Coords) (h : Fin 4) : Rect S2560x256 := Rect.unit (kOff i h) S640x64.size (kOff_inb i h)
/-- Where the `b`-th tile of the head's window lies in an accumulator. -/
def aOff (i : grid0.Coords) (h : Fin 4) (b : Fin 5) : Fin 4 → ℕ :=
  match h with
  | 0 => k0_off2 i (BitVec.ofNat 32 b.val) | 1 => k0_off4 i (BitVec.ofNat 32 b.val)
  | 2 => k0_off6 i (BitVec.ofNat 32 b.val) | 3 => k0_off8 i (BitVec.ofNat 32 b.val)
theorem aOff_eq (i : grid0.Coords) (h : Fin 4) (b : Fin 5) : aOff i h b = ![0, (i 1).val + b.val, 64 * h.val, 0] :=
  match h with | 0 => k0_off2_eq i b | 1 => k0_off4_eq i b | 2 => k0_off6_eq i b | 3 => k0_off8_eq i b
theorem aOff_inb (i : grid0.Coords) (h : Fin 4) (b : Fin 5) : ∀ a, aOff i h b a + S1x1x64x128.size a ≤ S1x20x256x128.size a :=
  match h with | 0 => k0_off2_inb i b | 1 => k0_off4_inb i b | 2 => k0_off6_inb i b | 3 => k0_off8_inb i b
/-- The `b`-th tile of the head's window in an accumulator. -/
def aRect (i : grid0.Coords) (h : Fin 4) (b : Fin 5) : Rect S1x20x256x128 := Rect.unit (aOff i h b) S1x1x64x128.size (aOff_inb i h b)

/-! ## The head's values -/

/-- The head's weights before they are normalised. -/
def headE (i : grid0.Coords) (x0 : Vec F S128x256 .bf16) (x1 : Vec F S2560x256 .bf16) (x3 : Vec F S4x128x640 .f32) (h : Fin 4) : FVec F S128x640 .f32 :=
  k0_pay9 i (fun j => x0 ((qRect h).idx j)) (fun j => x1 ((kRect i h).idx j)) (fun j => x3 ((bRect h).idx j))
/-- The reciprocals of the rows' sums. -/
def headInv (i : grid0.Coords) (x0 : Vec F S128x256 .bf16) (x1 : Vec F S2560x256 .bf16) (x3 : Vec F S4x128x640 .f32) (h : Fin 4) : FVec F S128x1 .f32 :=
  k0_pay10 i (fun j => x0 ((qRect h).idx j)) (fun j => x1 ((kRect i h).idx j)) (fun j => x3 ((bRect h).idx j))
/-- The gradient of the head's logits. -/
def headDs (i : grid0.Coords) (x0 : Vec F S128x256 .bf16) (x1 x2 : Vec F S2560x256 .bf16) (x3 : Vec F S4x128x640 .f32) (x4 : Vec F S128x256 .bf16) (h : Fin 4) : FVec F S128x640 .f32 :=
  k0_pay12 (k0_pay7 (fun j => x4 ((qRect h).idx j))) (headE i x0 x1 x3 h) (headInv i x0 x1 x3 h) (fun j => x2 ((kRect i h).idx j))
/-- The gradient of the head's queries. -/
def headDq (i : grid0.Coords) (x0 : Vec F S128x256 .bf16) (x1 x2 : Vec F S2560x256 .bf16) (x3 : Vec F S4x128x640 .f32) (x4 : Vec F S128x256 .bf16) (h : Fin 4) : FVec F S128x64 .bf16 :=
  k0_pay15 (k0_pay7 (fun j => x4 ((qRect h).idx j))) (k0_pay8 (fun j => x1 ((kRect i h).idx j))) (headE i x0 x1 x3 h) (headInv i x0 x1 x3 h) (fun j => x2 ((kRect i h).idx j))
/-- The tile's share of the gradient of the head's keys. -/
def headDk (i : grid0.Coords) (x0 : Vec F S128x256 .bf16) (x1 x2 : Vec F S2560x256 .bf16) (x3 : Vec F S4x128x640 .f32) (x4 : Vec F S128x256 .bf16) (x5 : Vec F S256x128 .bf16) (h : Fin 4) : FVec F S64x640 .f32 :=
  k0_pay16 (k0_pay7 (fun j => x4 ((qRect h).idx j))) (headE i x0 x1 x3 h) (headInv i x0 x1 x3 h) (fun j => x2 ((kRect i h).idx j)) (fun j => x5 ((tRect h).idx j))
/-- The tile's share of the gradient of the head's values. -/
def headDv (i : grid0.Coords) (x0 : Vec F S128x256 .bf16) (x1 : Vec F S2560x256 .bf16) (x3 : Vec F S4x128x640 .f32) (x6 : Vec F S256x128 .bf16) (h : Fin 4) : FVec F S64x640 .f32 :=
  k0_pay17 (headE i x0 x1 x3 h) (headInv i x0 x1 x3 h) (fun j => x6 ((tRect h).idx j))

/-! ## The blocks after the point -/

/-- The `b`-th tile of a share, added to what an accumulator held. -/
def rmw (b : Fin 5) (d : FVec F S64x640 .f32) (old : Vec F S1x1x64x128 .f32) : FVec F S1x1x64x128 .f32 :=
  shapeCast S1x1x64x128 (addf (shapeCast S64x128 old shapeCasts_S1x1x64x128_S64x128)
    (extractStridedSlice S64x128 ![0, 128 * b.val] d (by revert b; decide))) shapeCasts_S64x128_S1x1x64x128
/-- A head's gradient of the logits, added to what the block held. -/
def dbw (d : FVec F S128x640 .f32) (old : Vec F S1x128x640 .f32) : FVec F S1x128x640 .f32 :=
  shapeCast S1x128x640 (addf (shapeCast S128x640 old shapeCasts_S1x128x640_S128x640) d) shapeCasts_S128x640_S1x128x640

/-- The store of the `b`-th tile of head `h`. -/
def accPiece (i : grid0.Coords) (D : Fin 4 → FVec F S64x640 .f32) (X : Vec F S1x20x256x128 .f32) (h : Fin 4) (b : Fin 5) :
    View.Piece (Elt F) S1x20x256x128 .f32 :=
  ⟨aRect i h b, rmw b (D h) (fun x => X ((aRect i h b).idx x))⟩
/-- The point's stores into an accumulator, the last one first. -/
def accPieces (i : grid0.Coords) (D : Fin 4 → FVec F S64x640 .f32) (X : Vec F S1x20x256x128 .f32) : List (View.Piece (Elt F) S1x20x256x128 .f32) :=
  [accPiece i D X 3 4, accPiece i D X 3 3, accPiece i D X 3 2, accPiece i D X 3 1, accPiece i D X 3 0,
   accPiece i D X 2 4, accPiece i D X 2 3, accPiece i D X 2 2, accPiece i D X 2 1, accPiece i D X 2 0,
   accPiece i D X 1 4, accPiece i D X 1 3, accPiece i D X 1 2, accPiece i D X 1 1, accPiece i D X 1 0,
   accPiece i D X 0 4, accPiece i D X 0 3, accPiece i D X 0 2, accPiece i D X 0 1, accPiece i D X 0 0]
/-- The point's stores into the block of the biases' gradient. -/
def dbPieces (D : Fin 4 → FVec F S128x640 .f32) (X : Vec F S4x128x640 .f32) : List (View.Piece (Elt F) S4x128x640 .f32) :=
  [⟨bRect 3, dbw (D 3) (fun x => X ((bRect 3).idx x))⟩, ⟨bRect 2, dbw (D 2) (fun x => X ((bRect 2).idx x))⟩,
   ⟨bRect 1, dbw (D 1) (fun x => X ((bRect 1).idx x))⟩, ⟨bRect 0, dbw (D 0) (fun x => X ((bRect 0).idx x))⟩]
/-- The point's stores into the block of the queries' gradient. -/
def dqPieces (D : Fin 4 → FVec F S128x64 .bf16) : List (View.Piece (Elt F) S128x256 .bf16) :=
  [⟨qRect 3, D 3⟩, ⟨qRect 2, D 2⟩, ⟨qRect 1, D 1⟩, ⟨qRect 0, D 0⟩]

/-- An accumulator after the point. -/
def accStep (i : grid0.Coords) (D : Fin 4 → FVec F S64x640 .f32) (X : Vec F S1x20x256x128 .f32) : Vec F S1x20x256x128 .f32 := fun y =>
  if hy : (i 1).val ≤ (y 1).val ∧ (y 1).val < (i 1).val + 5 then
    FloatOps.addf (X y) (D ⟨(y 2).val / 64, by have : (y 2).val < 256 := (y 2).isLt; omega⟩
      (ix2 (n0 := 64) (n1 := 640) ⟨(y 2).val % 64, by omega⟩
        ⟨((y 1).val - (i 1).val) * 128 + (y 3).val, by have : (y 3).val < 128 := (y 3).isLt; omega⟩))
  else X y
/-- The block of the biases' gradient after the point. -/
def dbStep (D : Fin 4 → FVec F S128x640 .f32) (X : Vec F S4x128x640 .f32) : Vec F S4x128x640 .f32 := fun y =>
  FloatOps.addf (X y) (D (y 0) (ix2 (n0 := 128) (n1 := 640) (y 1) (y 2)))
/-- The block of the queries' gradient after the point. -/
def dqOut (D : Fin 4 → FVec F S128x64 .bf16) : Vec F S128x256 .bf16 := fun y =>
  D ⟨(y 1).val / 64, by have : (y 1).val < 256 := (y 1).isLt; omega⟩ (ix2 (n0 := 128) (n1 := 64) (y 0) ⟨(y 1).val % 64, by omega⟩)

theorem rmw_apply (b : Fin 5) (d : FVec F S64x640 .f32) (old : Vec F S1x1x64x128 .f32) (x : S1x1x64x128.Idx) :
    rmw b d old x = FloatOps.addf (old x) (d (ix2 (n0 := 64) (n1 := 640) (x 2) ⟨b.val * 128 + (x 3).val, by
      have : (x 3).val < 128 := (x 3).isLt; have := b.isLt; omega⟩)) := by
  rw [eq_ix4 x]
  fin_cases b <;> pointwise! [rmw]

theorem dbw_apply (d : FVec F S128x640 .f32) (old : Vec F S1x128x640 .f32) (x : S1x128x640.Idx) :
    dbw d old x = FloatOps.addf (old x) (d (ix2 (n0 := 128) (n1 := 640) (x 1) (x 2))) := by
  rw [eq_ix3 x]
  pointwise! [dbw]

theorem accPiece_ok (i : grid0.Coords) (D : Fin 4 → FVec F S64x640 .f32) (X : Vec F S1x20x256x128 .f32) (h : Fin 4) (b : Fin 5)
    (x : (accPiece i D X h b).1.shape.Idx) : (accPiece i D X h b).2 x = accStep i D X ((accPiece i D X h b).1.emb x) := by
  have e : ∀ a, (((aRect i h b).emb x) a).val = ![0, (i 1).val + b.val, 64 * h.val, 0] a + (x a).val := fun a => by
    rw [← aOff_eq i h b]; show aOff i h b a + 1 * (x a).val = _; omega
  have hx1 : (x 1).val < 1 := (x 1).isLt
  have hx2 : (x 2).val < 64 := (x 2).isLt
  have hx3 : (x 3).val < 128 := (x 3).isLt
  have e1 := e 1
  have e2 := e 2
  have e3 := e 3
  simp at e1 e2 e3
  have hb := b.isLt
  refine (rmw_apply b (D h) (fun x => X ((aRect i h b).idx x)) x).trans ?_
  refine Eq.trans ?_ (dif_pos (by dsimp only [accPiece]; omega) : accStep i D X ((aRect i h b).emb x) = _).symm
  refine congrArg₂ _ rfl ?_
  congr 1
  · congr 1; ext; simp only [accPiece]; omega
  · congr 1 <;> (ext; simp only [accPiece]; omega)

theorem accPieces_ok (i : grid0.Coords) (D : Fin 4 → FVec F S64x640 .f32) (X : Vec F S1x20x256x128 .f32) :
    ∀ p ∈ accPieces i D X, ∀ x : p.1.shape.Idx, p.2 x = accStep i D X (p.1.emb x) := by
  simp only [accPieces, List.forall_mem_cons]
  exact ⟨accPiece_ok _ _ _ _ _, accPiece_ok _ _ _ _ _, accPiece_ok _ _ _ _ _, accPiece_ok _ _ _ _ _, accPiece_ok _ _ _ _ _, accPiece_ok _ _ _ _ _, accPiece_ok _ _ _ _ _, accPiece_ok _ _ _ _ _,
    accPiece_ok _ _ _ _ _, accPiece_ok _ _ _ _ _, accPiece_ok _ _ _ _ _, accPiece_ok _ _ _ _ _, accPiece_ok _ _ _ _ _, accPiece_ok _ _ _ _ _, accPiece_ok _ _ _ _ _, accPiece_ok _ _ _ _ _,
    accPiece_ok _ _ _ _ _, accPiece_ok _ _ _ _ _, accPiece_ok _ _ _ _ _, accPiece_ok _ _ _ _ _, fun p hp => absurd hp List.not_mem_nil⟩

theorem accPiece_mem (i : grid0.Coords) (D : Fin 4 → FVec F S64x640 .f32) (X : Vec F S1x20x256x128 .f32) (h : Fin 4) (b : Fin 5) :
    accPiece i D X h b ∈ accPieces i D X := by
  fin_cases h <;> fin_cases b <;> simp [accPieces]

theorem accPieces_shape (i : grid0.Coords) (D : Fin 4 → FVec F S64x640 .f32) (X : Vec F S1x20x256x128 .f32) :
    ∀ p ∈ accPieces i D X, ∃ h b, p = accPiece i D X h b := by
  simp only [accPieces, List.forall_mem_cons]
  exact ⟨⟨_, _, rfl⟩, ⟨_, _, rfl⟩, ⟨_, _, rfl⟩, ⟨_, _, rfl⟩, ⟨_, _, rfl⟩, ⟨_, _, rfl⟩, ⟨_, _, rfl⟩, ⟨_, _, rfl⟩, ⟨_, _, rfl⟩, ⟨_, _, rfl⟩,
    ⟨_, _, rfl⟩, ⟨_, _, rfl⟩, ⟨_, _, rfl⟩, ⟨_, _, rfl⟩, ⟨_, _, rfl⟩, ⟨_, _, rfl⟩, ⟨_, _, rfl⟩, ⟨_, _, rfl⟩, ⟨_, _, rfl⟩, ⟨_, _, rfl⟩,
    fun p hp => absurd hp List.not_mem_nil⟩

theorem mem_aRect (i : grid0.Coords) (h : Fin 4) (b : Fin 5) (y : S1x20x256x128.Idx) :
    y ∈ (aRect i h b).set ↔ (y 1).val = (i 1).val + b.val ∧ (y 2).val / 64 = h.val := by
  have h0 : (y 0).val < 1 := (y 0).isLt
  have h3 : (y 3).val < 128 := (y 3).isLt
  rw [aRect, Rect.mem_set_unit, aOff_eq]
  constructor
  · intro H
    have H1 := H 1
    have H2 := H 2
    simp [S1x1x64x128] at H1 H2
    omega
  · rintro ⟨H1, H2⟩ a
    fin_cases a <;> simp [S1x1x64x128] <;> omega

/-- The stores into an accumulator that held `X` leave `accStep` of it. -/
theorem read_accPieces (v : View sig .tc .vmem S1x20x256x128 .f32) (f : v.ty.Contents (Elt F)) (i : grid0.Coords) (D : Fin 4 → FVec F S64x640 .f32)
    (X : Vec F S1x20x256x128 .f32) (hX : v.read (Elt F) f = X) : v.read (Elt F) (v.writes (Elt F) f (accPieces i D X)) = accStep i D X := by
  funext y
  by_cases hy : (i 1).val ≤ (y 1).val ∧ (y 1).val < (i 1).val + 5
  · refine View.read_writes_apply_of_pieces v f (accStep i D X) (accPieces i D X) (accPieces_ok i D X) y ?_
    have h2 : (y 2).val < 256 := (y 2).isLt
    refine ⟨_, accPiece_mem i D X ⟨(y 2).val / 64, by omega⟩ ⟨(y 1).val - (i 1).val, by omega⟩, ?_⟩
    exact (mem_aRect _ _ _ _).2 ⟨by simp only; omega, rfl⟩
  · rw [View.read_writes_apply_of_forall_not_mem, hX, accStep, dif_neg hy]
    intro p hp hm
    obtain ⟨h, b, rfl⟩ := accPieces_shape i D X p hp
    have := (mem_aRect i h b y).1 hm
    have := b.isLt
    omega

/-- The stores into the block of the biases' gradient that held `X` leave `dbStep` of it. -/
theorem read_dbPieces (v : View sig .tc .vmem S4x128x640 .f32) (f : v.ty.Contents (Elt F)) (D : Fin 4 → FVec F S128x640 .f32)
    (X : Vec F S4x128x640 .f32) : v.read (Elt F) (v.writes (Elt F) f (dbPieces D X)) = dbStep D X := by
  have hok : ∀ (h : Fin 4) (x : (bRect h).shape.Idx), dbw (D h) (fun x => X ((bRect h).idx x)) x = dbStep D X ((bRect h).emb x) := by
    intro h x
    have hx0 : (x 0).val < 1 := (x 0).isLt
    have e : ∀ a, (((bRect h).emb x) a).val = ![h.val, 0, 0] a + (x a).val := fun a => by
      show ![h.val, 0, 0] a + 1 * (x a).val = _; omega
    have e0 : (((bRect h).emb x) 0).val = h.val + (x 0).val := e 0
    have e1 : (((bRect h).emb x) 1).val = (x 1).val := (e 1).trans (Nat.zero_add _)
    have e2 : (((bRect h).emb x) 2).val = (x 2).val := (e 2).trans (Nat.zero_add _)
    refine (dbw_apply (D h) (fun x => X ((bRect h).idx x)) x).trans ?_
    refine congrArg₂ _ rfl ?_
    congr 1
    · congr 1; exact Fin.ext (by show h.val = _; omega)
    · congr 1
      · exact Fin.ext e1.symm
      · exact Fin.ext e2.symm
  funext y
  refine View.read_writes_apply_of_pieces v f (dbStep D X) (dbPieces D X) ?_ y ?_
  · simp only [dbPieces, List.forall_mem_cons]
    exact ⟨hok 3, hok 2, hok 1, hok 0, fun p hp => absurd hp List.not_mem_nil⟩
  · obtain ⟨h, hh⟩ : ∃ h : Fin 4, h.val = (y 0).val := ⟨y 0, rfl⟩
    refine ⟨⟨bRect h, dbw (D h) (fun x => X ((bRect h).idx x))⟩, ?_, ?_⟩
    · clear hh
      fin_cases h <;> simp [dbPieces]
    · show y ∈ (bRect h).set
      have h1 : (y 1).val < 128 := (y 1).isLt
      have h2 : (y 2).val < 640 := (y 2).isLt
      rw [bRect, Rect.mem_set_unit]
      intro a
      fin_cases a <;> simp [S1x128x640] <;> omega

/-- The stores into the block of the queries' gradient leave `dqOut`. -/
theorem read_dqPieces (v : View sig .tc .vmem S128x256 .bf16) (f : v.ty.Contents (Elt F)) (D : Fin 4 → FVec F S128x64 .bf16) :
    v.read (Elt F) (v.writes (Elt F) f (dqPieces D)) = dqOut D := by
  have hok : ∀ (h : Fin 4) (x : (qRect h).shape.Idx), D h x = dqOut D ((qRect h).emb x) := by
    intro h x
    have hx1 : (x 1).val < 64 := (x 1).isLt
    have e : ∀ a, (((qRect h).emb x) a).val = ![0, 64 * h.val] a + (x a).val := fun a => by
      show ![0, 64 * h.val] a + 1 * (x a).val = _; omega
    have e0 : (((qRect h).emb x) 0).val = (x 0).val := (e 0).trans (Nat.zero_add _)
    have e1 : (((qRect h).emb x) 1).val = 64 * h.val + (x 1).val := e 1
    unfold dqOut
    have eh : (⟨(((qRect h).emb x) 1).val / 64, by have : (((qRect h).emb x) 1).val < 256 := (((qRect h).emb x) 1).isLt; omega⟩ : Fin 4) = h :=
      Fin.ext (by show (((qRect h).emb x) 1).val / 64 = h.val; omega)
    rw [eh]
    congr 1
    rw [eq_ix2 x]
    congr 1
    · exact Fin.ext e0.symm
    · exact Fin.ext (by show (x 1).val = (((qRect h).emb x) 1).val % 64; omega)
  funext y
  have h1 : (y 1).val < 256 := (y 1).isLt
  refine View.read_writes_apply_of_pieces v f (dqOut D) (dqPieces D) ?_ y ?_
  · simp only [dqPieces, List.forall_mem_cons]
    exact ⟨hok 3, hok 2, hok 1, hok 0, fun p hp => absurd hp List.not_mem_nil⟩
  · refine ⟨⟨qRect ⟨(y 1).val / 64, by omega⟩, D ⟨(y 1).val / 64, by omega⟩⟩, ?_, ?_⟩
    · obtain ⟨h, hh⟩ : ∃ h : Fin 4, h = ⟨(y 1).val / 64, by omega⟩ := ⟨_, rfl⟩
      rw [← hh]
      fin_cases h <;> simp [dqPieces]
    · show y ∈ (qRect ⟨(y 1).val / 64, by omega⟩).set
      have h0 : (y 0).val < 128 := (y 0).isLt
      rw [qRect, Rect.mem_set_unit]
      intro a
      fin_cases a <;> simp [S128x64] <;> omega

end Cert.KernelIdeal.Gen

end
-- ==== Proof.Window.lean ====
module

public import proofs.«01_k».proof.Proof.Finite

@[expose] public section

noncomputable section

/-! A tile of 128 queries looks at a window of 640 keys: its sums and maxima over the window are those over all keys. -/

namespace Cert.Spec

open Idealize.ShloMosaic

/-- The values of `f` over the window of tile `i`, `z` where the window reaches before the first key. -/
def win (i : Fin 16) (z : EReal) (f : Fin 2048 → EReal) (j : Fin 640) : EReal :=
  if hj : 512 ≤ 128 * i.val + j.val then f ⟨128 * i.val + j.val - 512, by omega⟩ else z

/-- The key `s` lies in the window of tile `i`. -/
def Inside (i : Fin 16) (s : Fin 2048) : Prop := 128 * i.val ≤ s.val + 512 ∧ s.val + 512 < 128 * i.val + 640

theorem inside_of_sees (i : Fin 16) (r : Fin 128) (t s : Fin 2048) (ht : t.val = 128 * i.val + r.val) (hv : Sees t s) : Inside i s := by
  unfold Sees at hv; unfold Inside; have := r.isLt; omega

theorem win_at (i : Fin 16) (z : EReal) (f : Fin 2048 → EReal) (s : Fin 2048) (hs : Inside i s) :
    win i z f ⟨s.val + 512 - 128 * i.val, by unfold Inside at hs; omega⟩ = f s := by
  unfold Inside at hs
  unfold win
  rw [dif_pos (by dsimp only; omega)]
  congr 1; exact Fin.ext (by dsimp only; omega)

theorem sum_win (i : Fin 16) (f : Fin 2048 → EReal) (hf : ∀ s, ¬Inside i s → f s = 0) : ∑ j, win i 0 f j = ∑ s, f s := by
  classical
  rw [← Finset.sum_filter_add_sum_filter_not (Finset.univ : Finset (Fin 2048)) (fun s => Inside i s) f,
    Finset.sum_eq_zero (s := Finset.filter (fun s => ¬Inside i s) Finset.univ) (fun s hs => hf s (Finset.mem_filter.mp hs).2), add_zero]
  symm
  rw [← Finset.sum_filter_add_sum_filter_not (Finset.univ : Finset (Fin 640)) (fun j => 512 ≤ 128 * i.val + j.val) (win i 0 f),
    Finset.sum_eq_zero (s := Finset.filter (fun j : Fin 640 => ¬512 ≤ 128 * i.val + j.val) Finset.univ)
      (fun j hj => by unfold win; rw [dif_neg (Finset.mem_filter.mp hj).2]), add_zero]
  refine Finset.sum_bij' (fun s hs => ⟨s.val + 512 - 128 * i.val, by have := (Finset.mem_filter.mp hs).2; unfold Inside at this; omega⟩)
    (fun j hj => ⟨128 * i.val + j.val - 512, by omega⟩) ?_ ?_ ?_ ?_ ?_
  · intro s hs
    have := (Finset.mem_filter.mp hs).2; unfold Inside at this
    exact Finset.mem_filter.mpr ⟨Finset.mem_univ _, by dsimp only; omega⟩
  · intro j hj
    have := (Finset.mem_filter.mp hj).2
    exact Finset.mem_filter.mpr ⟨Finset.mem_univ _, by unfold Inside; dsimp only; omega⟩
  · intro s hs
    have := (Finset.mem_filter.mp hs).2; unfold Inside at this
    exact Fin.ext (by dsimp only; omega)
  · intro j hj
    have := (Finset.mem_filter.mp hj).2
    exact Fin.ext (by dsimp only; omega)
  · intro s hs
    exact (win_at i 0 f s (Finset.mem_filter.mp hs).2).symm

theorem fold_win (i : Fin 16) (f : Fin 2048 → EReal) (hf : ∀ s, ¬Inside i s → f s = ⊥) :
    (Finset.univ.fold max ⊥ fun j => win i ⊥ f j) = Finset.univ.fold max ⊥ f := by
  refine le_antisymm ?_ ?_
  · refine (Finset.fold_max_le _).mpr ⟨bot_le, fun j _ => ?_⟩
    unfold win
    by_cases hj : 512 ≤ 128 * i.val + j.val
    · rw [dif_pos hj]; exact (Finset.le_fold_max _).mpr (Or.inr ⟨_, Finset.mem_univ _, le_refl _⟩)
    · rw [dif_neg hj]; exact bot_le
  · refine (Finset.fold_max_le _).mpr ⟨bot_le, fun s _ => ?_⟩
    by_cases hs : Inside i s
    · rw [← win_at i ⊥ f s hs]; exact (Finset.le_fold_max _).mpr (Or.inr ⟨_, Finset.mem_univ _, le_refl _⟩)
    · rw [hf s hs]; exact bot_le

theorem win_mul (i : Fin 16) (z w : EReal) (f g : Fin 2048 → EReal) (j : Fin 640) : win i z f j * win i w g j = win i (z * w) (fun s => f s * g s) j := by
  unfold win; by_cases hj : 512 ≤ 128 * i.val + j.val
  · rw [dif_pos hj, dif_pos hj, dif_pos hj]
  · rw [dif_neg hj, dif_neg hj, dif_neg hj]

theorem win_sum {ι : Type} [Fintype ι] (i : Fin 16) (z : ι → EReal) (f : ι → Fin 2048 → EReal) (j : Fin 640) :
    ∑ d, win i (z d) (f d) j = win i (∑ d, z d) (fun s => ∑ d, f d s) j := by
  unfold win; by_cases hj : 512 ≤ 128 * i.val + j.val
  · simp only [dif_pos hj]
  · simp only [dif_neg hj]

/-- A map of all values is one of the window's. -/
theorem win_map (i : Fin 16) (z : EReal) (f : Fin 2048 → EReal) (φ : EReal → EReal) (j : Fin 640) : φ (win i z f j) = win i (φ z) (fun s => φ (f s)) j := by
  unfold win; by_cases hj : 512 ≤ 128 * i.val + j.val
  · rw [dif_pos hj, dif_pos hj]
  · rw [dif_neg hj, dif_neg hj]

end Cert.Spec

end
-- ==== Proof.Head.lean ====
module

public import proofs.«01_k».proof.Proof.Body
public import proofs.«01_k».proof.Proof.Window

@[expose] public section

set_option maxRecDepth 16384

noncomputable section

/-! The head's values over the extended reals, read at an index. -/

namespace Cert.KernelIdeal.Gen

open Idealize.ShloMosaic Idealize.ShloMosaic.TcCoe

theorem named_mask : Named.named (F := Ideal) κ "mask" (φ := .f32) 0xF149F2CA#32 = ⊥ :=
  IdealRules.named_const.ideal_named_scalar _ _ _ _ rfl

/-- The padding's row. -/
theorem pay6_at (i : grid0.Coords) (j : Fin 640) :
    k0_pay6 (F := Ideal) i (ix2 0 j) = if 512 ≤ 128 * (i 1).val + j.val then 0 else ⊥ := by
  have key : ∀ (a : Fin 16) (j : Fin 640),
      IntOp.cmpi .sge (IntOp.addi (IntOp.muli (IntOp.subi (BitVec.ofNat 32 a.val) 4#32) 128#32) (BitVec.ofNat 32 j.val)) 0#32
        = if 512 ≤ 128 * a.val + j.val then 1#1 else 0#1 := by decide +kernel
  have := key (i 1) j
  pointwise [k0_pay6]
  have hk : ∀ x, Scalar.muli (Scalar.subi (BitVec.ofNat 32 (i 1).val) 4#32) 128#32 = x → IntOp.muli (IntOp.subi (BitVec.ofNat 32 (i 1).val) 4#32) 128#32 = x := fun _ h => h
  rw [← hk _ rfl, this, named_mask]
  by_cases hj : 512 ≤ 128 * (i 1).val + j.val
  · rw [if_pos hj, if_pos hj]; rfl
  · rw [if_neg hj, if_neg hj]; rfl

variable (a : Vec Ideal S128x64 .bf16) (b : Vec Ideal S640x64 .bf16) (c : Vec Ideal S1x128x640 .f32)

theorem pay9_at (i : grid0.Coords) (r : Fin 128) (j : Fin 640) (Z : Fin 640 → EReal)
    (hZ : ∀ j, ∑ d : Fin 64, a (ix2 r d) * b (ix2 j d) + c (ix3 0 r j) + k0_pay6 (F := Ideal) i (ix2 0 j) = Z j) :
    k0_pay9 (F := Ideal) i a b c (ix2 r j) = Ideal.exp (Z j - Finset.univ.fold max ⊥ Z) := by
  simp only [← hZ]
  generalize hy : k0_pay6 (F := Ideal) i = y
  unfold k0_pay9
  rw [hy]
  pointwise [k0_pay8]
  rw [Spec.bot_f32]

theorem pay10_at (i : grid0.Coords) (r : Fin 128) :
    k0_pay10 (F := Ideal) i a b c (ix2 r 0) = Ideal.div 1 (∑ j : Fin 640, k0_pay9 (F := Ideal) i a b c (ix2 r j)) := by
  unfold k0_pay10
  generalize k0_pay9 (F := Ideal) i a b c = y
  pointwise

variable (e : FVec Ideal S128x640 .f32) (inv : FVec Ideal S128x1 .f32) (o : FVec Ideal S128x64 .bf16) (v : Vec Ideal S640x64 .bf16)

theorem pay12_at (r : Fin 128) (j : Fin 640) :
    k0_pay12 (F := Ideal) o e inv v (ix2 r j) = e (ix2 r j) * inv (ix2 r 0) * (∑ d : Fin 64, o (ix2 r d) * v (ix2 j d)
      - ∑ j' : Fin 640, e (ix2 r j') * inv (ix2 r 0) * ∑ d : Fin 64, o (ix2 r d) * v (ix2 j' d)) := by
  pointwise [k0_pay12, k0_pay11]

theorem pay15_at (r : Fin 128) (d : Fin 64) :
    k0_pay15 (F := Ideal) o b e inv v (ix2 r d) = (∑ j : Fin 640, k0_pay12 (F := Ideal) o e inv v (ix2 r j) * b (ix2 j d)) * Spec.eighth := by
  unfold k0_pay15 k0_pay14
  generalize k0_pay12 (F := Ideal) o e inv v = y
  pointwise
  rw [Spec.eighth_f32]

theorem pay16_at (qt : Vec Ideal S64x128 .bf16) (d : Fin 64) (j : Fin 640) :
    k0_pay16 (F := Ideal) o e inv v qt (ix2 d j) = ∑ r : Fin 128, qt (ix2 d r) * k0_pay12 (F := Ideal) o e inv v (ix2 r j) := by
  unfold k0_pay16 k0_pay14
  generalize k0_pay12 (F := Ideal) o e inv v = y
  pointwise

theorem pay17_at (dot : Vec Ideal S64x128 .bf16) (d : Fin 64) (j : Fin 640) :
    k0_pay17 (F := Ideal) e inv dot (ix2 d j) = ∑ r : Fin 128, dot (ix2 d r) * (e (ix2 r j) * inv (ix2 r 0)) := by
  pointwise [k0_pay17, k0_pay11]

/-! ## The head's values as the gradients' terms -/

/-- The query in row `r` of tile `ti`. -/
def row (ti : Fin 16) (r : Fin 128) : Fin 2048 := ⟨128 * ti.val + r.val, by omega⟩

section
variable (x0 : Spec.A0) (x1 : Spec.A1) (x2 : Spec.A2) (i : grid0.Coords) (ti : Fin 16) (hi : (i 1).val = ti.val) (hd : Fin 8)
variable (ha : ∀ r d, a (ix2 r d) = Spec.q x0 hd (row ti r) d * Spec.eighth) (hb : ∀ j d, b (ix2 j d) = Spec.win ti 0 (fun s => Spec.k x0 hd s d) j)
variable (hc : ∀ r j, c (ix3 0 r j) = x1 (ix3 hd r j) + if r.val / 64 ≤ j.val / 64 ∧ j.val / 64 ≤ r.val / 64 + 8 then 0 else ⊥)

include hi ha hb hc in
theorem head_lg (r : Fin 128) (j : Fin 640) :
    ∑ d : Fin 64, a (ix2 r d) * b (ix2 j d) + c (ix3 0 r j) + k0_pay6 (F := Ideal) i (ix2 0 j) = Spec.win ti ⊥ (Spec.lg x0 x1 hd (row ti r)) j := by
  rw [pay6_at, hi]
  unfold Spec.win
  by_cases hj : 512 ≤ 128 * ti.val + j.val
  · rw [if_pos hj, dif_pos hj, add_zero, hc]
    have hr := r.isLt; have hjj := j.isLt; have hti := ti.isLt
    have hs : Spec.Sees (row ti r) ⟨128 * ti.val + j.val - 512, by omega⟩ ↔ r.val / 64 ≤ j.val / 64 ∧ j.val / 64 ≤ r.val / 64 + 8 := by
      unfold Spec.Sees row; dsimp only; omega
    unfold Spec.lg
    by_cases hv : r.val / 64 ≤ j.val / 64 ∧ j.val / 64 ≤ r.val / 64 + 8
    · rw [if_pos hv, if_pos (hs.mpr hv), add_zero, Spec.eighth_mul_sum]
      congr 1
      · refine Finset.sum_congr rfl fun d _ => ?_
        rw [ha, hb]; unfold Spec.win; rw [dif_pos hj]; dsimp only; ac_rfl
      · unfold Spec.bias
        congr 1
        have e1 : (⟨(row ti r).val % 128, by omega⟩ : Fin 128) = r := Fin.ext (by unfold row; dsimp only; omega)
        have e2 : Spec.place (row ti r) ⟨128 * ti.val + j.val - 512, by omega⟩ = j := Fin.ext (by unfold Spec.place row; dsimp only; omega)
        rw [e1, e2]
    · rw [if_neg hv, if_neg (fun c => hv (hs.mp c)), EReal.add_bot, EReal.add_bot]
  · rw [if_neg hj, dif_neg hj, EReal.add_bot]

theorem lg_outside (r : Fin 128) (s : Fin 2048) (hs : ¬Spec.Inside ti s) : Spec.lg x0 x1 hd (row ti r) s = ⊥ := by
  unfold Spec.lg; exact if_neg fun hv => hs (Spec.inside_of_sees ti r _ s rfl hv)

theorem ex_outside (r : Fin 128) (s : Fin 2048) (hs : ¬Spec.Inside ti s) : Spec.ex x0 x1 hd (row ti r) s = 0 :=
  Spec.ex_masked _ _ _ _ _ fun hv => hs (Spec.inside_of_sees ti r _ s rfl hv)

theorem p_outside (r : Fin 128) (s : Fin 2048) (hs : ¬Spec.Inside ti s) : Spec.p x0 x1 hd (row ti r) s = 0 :=
  Spec.p_masked _ _ _ _ _ fun hv => hs (Spec.inside_of_sees ti r _ s rfl hv)

theorem ds_outside (r : Fin 128) (s : Fin 2048) (hs : ¬Spec.Inside ti s) : Spec.ds x0 x1 x2 hd (row ti r) s = 0 :=
  Spec.ds_masked _ _ _ _ _ _ fun hv => hs (Spec.inside_of_sees ti r _ s rfl hv)

include hi ha hb hc in
theorem head_E (r : Fin 128) (j : Fin 640) : k0_pay9 (F := Ideal) i a b c (ix2 r j) = Spec.win ti 0 (Spec.ex x0 x1 hd (row ti r)) j := by
  rw [pay9_at a b c i r j _ (head_lg a b c x0 x1 i ti hi hd ha hb hc r), Spec.fold_win ti _ (lg_outside x0 x1 ti hd r)]
  exact (Spec.win_map ti ⊥ _ (fun y => Ideal.exp (y - Spec.mx x0 x1 hd (row ti r))) j).trans
    (congrArg (fun z => Spec.win ti z _ j) (show Ideal.exp (⊥ - _) = 0 by rw [EReal.bot_sub]; rfl))

include hi ha hb hc in
theorem head_Inv (r : Fin 128) : k0_pay10 (F := Ideal) i a b c (ix2 r 0) = Ideal.div 1 (Spec.sm x0 x1 hd (row ti r)) := by
  rw [pay10_at, Finset.sum_congr rfl fun j _ => head_E a b c x0 x1 i ti hi hd ha hb hc r j, Spec.sum_win ti _ (ex_outside x0 x1 ti hd r)]
  rfl

include hi ha hb hc in
theorem head_P (r : Fin 128) (j : Fin 640) :
    k0_pay9 (F := Ideal) i a b c (ix2 r j) * k0_pay10 (F := Ideal) i a b c (ix2 r 0) = Spec.win ti 0 (Spec.p x0 x1 hd (row ti r)) j := by
  rw [head_E a b c x0 x1 i ti hi hd ha hb hc, head_Inv a b c x0 x1 i ti hi hd ha hb hc]
  exact (Spec.win_map ti 0 _ (fun y => y * Ideal.div 1 (Spec.sm x0 x1 hd (row ti r))) j).trans (congrArg (fun z => Spec.win ti z _ j) (zero_mul _))

variable (ho : ∀ r d, o (ix2 r d) = Spec.o x2 hd (row ti r) d) (hv : ∀ j d, v (ix2 j d) = Spec.win ti 0 (fun s => Spec.v x0 hd s d) j)

include ho hv in
theorem head_dp (r : Fin 128) (j : Fin 640) : ∑ d : Fin 64, o (ix2 r d) * v (ix2 j d) = Spec.win ti 0 (Spec.dp x0 x2 hd (row ti r)) j := by
  refine (Finset.sum_congr rfl fun d _ => ?_).trans ((Spec.win_sum ti (fun _ : Fin 64 => 0) (fun d s => Spec.o x2 hd (row ti r) d * Spec.v x0 hd s d) j).trans
    (congrArg (fun z => Spec.win ti z _ j) (by simp)))
  rw [ho, hv]
  exact (Spec.win_map ti 0 _ (fun y => Spec.o x2 hd (row ti r) d * y) j).trans (congrArg (fun z => Spec.win ti z _ j) (mul_zero _))

include hi ha hb hc ho hv in
theorem head_ds (r : Fin 128) (j : Fin 640) :
    k0_pay12 (F := Ideal) o (k0_pay9 i a b c) (k0_pay10 i a b c) v (ix2 r j) = Spec.win ti 0 (Spec.ds x0 x1 x2 hd (row ti r)) j := by
  rw [pay12_at]
  simp only [head_P a b c x0 x1 i ti hi hd ha hb hc, head_dp o v x0 x2 ti hd ho hv, Spec.win_mul, mul_zero]
  rw [Spec.sum_win ti (fun s => Spec.p x0 x1 hd (row ti r) s * Spec.dp x0 x2 hd (row ti r) s) (fun s hs => by rw [p_outside x0 x1 ti hd r s hs, zero_mul])]
  rw [Spec.win_map ti 0 (Spec.dp x0 x2 hd (row ti r)) (fun y => y - ∑ s, Spec.p x0 x1 hd (row ti r) s * Spec.dp x0 x2 hd (row ti r) s), Spec.win_mul, zero_mul]
  rfl

include hi ha hb hc ho hv in
theorem head_dq (r : Fin 128) (d : Fin 64) :
    k0_pay15 (F := Ideal) o b (k0_pay9 i a b c) (k0_pay10 i a b c) v (ix2 r d) = Spec.dq x0 x1 x2 hd (row ti r) d := by
  rw [pay15_at]
  simp only [head_ds a b c o v x0 x1 x2 i ti hi hd ha hb hc ho hv, hb, Spec.win_mul, mul_zero]
  rw [Spec.sum_win ti (fun s => Spec.ds x0 x1 x2 hd (row ti r) s * Spec.k x0 hd s d) (fun s hs => by rw [ds_outside x0 x1 x2 ti hd r s hs, zero_mul])]
  rfl

include hi ha hb hc ho hv in
theorem head_dk (qt : Vec Ideal S64x128 .bf16) (hq : ∀ d r, qt (ix2 d r) = Spec.q x0 hd (row ti r) d * Spec.eighth) (d : Fin 64) (j : Fin 640) :
    k0_pay16 (F := Ideal) o (k0_pay9 i a b c) (k0_pay10 i a b c) v qt (ix2 d j)
      = Spec.win ti 0 (fun s => ∑ r, Spec.q x0 hd (row ti r) d * Spec.eighth * Spec.ds x0 x1 x2 hd (row ti r) s) j := by
  rw [pay16_at]
  simp only [head_ds a b c o v x0 x1 x2 i ti hi hd ha hb hc ho hv, hq]
  refine (Finset.sum_congr rfl fun r _ => ?_).trans ((Spec.win_sum ti (fun _ : Fin 128 => 0) (fun r s => Spec.q x0 hd (row ti r) d * Spec.eighth * Spec.ds x0 x1 x2 hd (row ti r) s) j).trans
    (congrArg (fun z => Spec.win ti z _ j) (by simp)))
  exact (Spec.win_map ti 0 _ (fun y => Spec.q x0 hd (row ti r) d * Spec.eighth * y) j).trans (congrArg (fun z => Spec.win ti z _ j) (mul_zero _))

include hi ha hb hc in
theorem head_dv (dot : Vec Ideal S64x128 .bf16) (hq : ∀ d r, dot (ix2 d r) = Spec.o x2 hd (row ti r) d) (d : Fin 64) (j : Fin 640) :
    k0_pay17 (F := Ideal) (k0_pay9 i a b c) (k0_pay10 i a b c) dot (ix2 d j)
      = Spec.win ti 0 (fun s => ∑ r, Spec.o x2 hd (row ti r) d * Spec.p x0 x1 hd (row ti r) s) j := by
  rw [pay17_at]
  simp only [head_P a b c x0 x1 i ti hi hd ha hb hc, hq]
  refine (Finset.sum_congr rfl fun r _ => ?_).trans ((Spec.win_sum ti (fun _ : Fin 128 => 0) (fun r s => Spec.o x2 hd (row ti r) d * Spec.p x0 x1 hd (row ti r) s) j).trans
    (congrArg (fun z => Spec.win ti z _ j) (by simp)))
  exact (Spec.win_map ti 0 _ (fun y => Spec.o x2 hd (row ti r) d * y) j).trans (congrArg (fun z => Spec.win ti z _ j) (mul_zero _))

end

end Cert.KernelIdeal.Gen

end
-- ==== Proof.RunA.lean ====
module

public import proofs.«01_k».proof.Proof.Body
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1680000 in
/-- The body at the first grid point of a half of the heads. -/
theorem run_A (c : Dev nD) (i : grid0.Coords) (arg2 : Memref sig .tc .vmem S128x256 .bf16) (harg2 : arg2.IsWhole) (arg3 : Memref sig .tc .vmem S2560x256 .bf16) (harg3 : arg3.IsWhole) (arg4 : Memref sig .tc .vmem S2560x256 .bf16) (harg4 : arg4.IsWhole) (arg5 : Memref sig .tc .vmem S4x128x640 .f32) (harg5 : arg5.IsWhole) (arg6 : Memref sig .tc .vmem S128x256 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S128x256 .bf16) (harg9 : arg9.IsWhole) (arg10 : Memref sig .tc .vmem S1x20x256x128 .f32) (harg10 : arg10.IsWhole) (arg11 : Memref sig .tc .vmem S1x20x256x128 .f32) (harg11 : arg11.IsWhole) (arg12 : Memref sig .tc .vmem S4x128x640 .f32) (harg12 : arg12.IsWhole) (hc0 : cond0_0 i)
    (x0 : Vec F S128x256 .bf16) (x1 : Vec F S2560x256 .bf16) (x2 : Vec F S2560x256 .bf16) (x3 : Vec F S4x128x640 .f32) (x4 : Vec F S128x256 .bf16) (x5 : Vec F S256x128 .bf16) (x6 : Vec F S256x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (dqOut (headDq i x0 x1 x2 x3 x4)) ∗ owns (c : Thread nD τ) arg10 fullShare (accStep i (headDk i x0 x1 x2 x3 x4 x5) k0_pay3) ∗ owns (c : Thread nD τ) arg11 fullShare (accStep i (headDv i x0 x1 x3 x6) k0_pay4) ∗ owns (c : Thread nD τ) arg12 fullShare (dbStep (headDs i x0 x1 x2 x3 x4) k0_pay5)) -∗ K ⟨⟩))
          ⊢ wp frame (wpE (defs₀ (F := F)) Variants.none c none) E (cc0_chunk_bwd i arg2 harg2 arg3 harg3 arg4 harg4 arg5 harg5 arg6 harg6 arg7 harg7 arg8 harg8 arg9 harg9 arg10 harg10 arg11 harg11 arg12 harg12) K := by
    intro E K
    simp only [cc0_chunk_bwd_eq_skeleton]; unfold cc0_chunk_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    have r0 : ∀ R : Rect _, arg2.view.readAt (Elt F) R.toLoadRect (harg2.unread x0) = fun j => x0 (R.idx j) := fun R => by
      funext j; rw [View.readAt_apply, harg2.read_unread]
    have r1 : ∀ R : Rect _, arg3.view.readAt (Elt F) R.toLoadRect (harg3.unread x1) = fun j => x1 (R.idx j) := fun R => by
      funext j; rw [View.readAt_apply, harg3.read_unread]
    have r2 : ∀ R : Rect _, arg4.view.readAt (Elt F) R.toLoadRect (harg4.unread x2) = fun j => x2 (R.idx j) := fun R => by
      funext j; rw [View.readAt_apply, harg4.read_unread]
    have r3 : ∀ R : Rect _, arg5.view.readAt (Elt F) R.toLoadRect (harg5.unread x3) = fun j => x3 (R.idx j) := fun R => by
      funext j; rw [View.readAt_apply, harg5.read_unread]
    have r4 : ∀ R : Rect _, arg6.view.readAt (Elt F) R.toLoadRect (harg6.unread x4) = fun j => x4 (R.idx j) := fun R => by
      funext j; rw [View.readAt_apply, harg6.read_unread]
    have r5 : ∀ R : Rect _, arg7.view.readAt (Elt F) R.toLoadRect (harg7.unread x5) = fun j => x5 (R.idx j) := fun R => by
      funext j; rw [View.readAt_apply, harg7.read_unread]
    have r6 : ∀ R : Rect _, arg8.view.readAt (Elt F) R.toLoadRect (harg8.unread x6) = fun j => x6 (R.idx j) := fun R => by
      funext j; rw [View.readAt_apply, harg8.read_unread]
    have r8 : ∀ R : Rect _, arg10.view.readAt (Elt F) R.toLoadRect (harg10.unread k0_pay3) = fun j => k0_pay3 (R.idx j) := fun R => by
      funext j; rw [View.readAt_apply, harg10.read_unread]
    have r9 : ∀ R : Rect _, arg11.view.readAt (Elt F) R.toLoadRect (harg11.unread k0_pay4) = fun j => k0_pay4 (R.idx j) := fun R => by
      funext j; rw [View.readAt_apply, harg11.read_unread]
    have r10 : ∀ R : Rect _, arg12.view.readAt (Elt F) R.toLoadRect (harg12.unread k0_pay5) = fun j => k0_pay5 (R.idx j) := fun R => by
      funext j; rw [View.readAt_apply, harg12.read_unread]
    set_option sl_exec.maxSteps 8 in sl_exec (disch := first | sl_exact hc0)
    rw [show arg10.view.writes (Elt F) f8 [⟨Rect.unit _ _ inb_S1x20x256x128_S1x20x256x128_0_0_0_0, k0_pay3⟩] = harg10.unread k0_pay3 from
        harg10.eq_unread (View.read_writes_full arg10.view f8 _ _ []),
      show arg11.view.writes (Elt F) f9 [⟨Rect.unit _ _ inb_S1x20x256x128_S1x20x256x128_0_0_0_0, k0_pay4⟩] = harg11.unread k0_pay4 from
        harg11.eq_unread (View.read_writes_full arg11.view f9 _ _ []),
      show arg12.view.writes (Elt F) f10 [⟨Rect.unit _ _ inb_S4x128x640_S4x128x640_0_0_0, k0_pay5⟩] = harg12.unread k0_pay5 from
        harg12.eq_unread (View.read_writes_full arg12.view f10 _ _ [])]
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro; exact read_dqPieces arg9.view f7 (headDq i x0 x1 x2 x3 x4)
    isplitl [H8]
    · iexists _; isplitr; swap; · iexact H8
      ipureintro; exact read_accPieces arg10.view _ i (headDk i x0 x1 x2 x3 x4 x5) k0_pay3 (harg10.read_unread _)
    isplitl [H9]
    · iexists _; isplitr; swap; · iexact H9
      ipureintro; exact read_accPieces arg11.view _ i (headDv i x0 x1 x3 x6) k0_pay4 (harg11.read_unread _)
    iexists _; isplitr; swap; · iexact H10
    ipureintro; exact read_dbPieces arg12.view _ (headDs i x0 x1 x2 x3 x4) k0_pay5

end Cert.KernelIdeal.Gen

end
-- ==== Proof.RunB.lean ====
module

public import proofs.«01_k».proof.Proof.Body

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1680000 in
/-- The body at a point that is not the first of its half of the heads. -/
theorem run_B (c : Dev nD) (i : grid0.Coords) (arg2 : Memref sig .tc .vmem S128x256 .bf16) (harg2 : arg2.IsWhole) (arg3 : Memref sig .tc .vmem S2560x256 .bf16) (harg3 : arg3.IsWhole) (arg4 : Memref sig .tc .vmem S2560x256 .bf16) (harg4 : arg4.IsWhole) (arg5 : Memref sig .tc .vmem S4x128x640 .f32) (harg5 : arg5.IsWhole) (arg6 : Memref sig .tc .vmem S128x256 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S128x256 .bf16) (harg9 : arg9.IsWhole) (arg10 : Memref sig .tc .vmem S1x20x256x128 .f32) (harg10 : arg10.IsWhole) (arg11 : Memref sig .tc .vmem S1x20x256x128 .f32) (harg11 : arg11.IsWhole) (arg12 : Memref sig .tc .vmem S4x128x640 .f32) (harg12 : arg12.IsWhole) (hc0 : ¬cond0_0 i)
    (x0 : Vec F S128x256 .bf16) (x1 : Vec F S2560x256 .bf16) (x2 : Vec F S2560x256 .bf16) (x3 : Vec F S4x128x640 .f32) (x4 : Vec F S128x256 .bf16) (x5 : Vec F S256x128 .bf16) (x6 : Vec F S256x128 .bf16) (x8 x9 : Vec F S1x20x256x128 .f32) (x10 : Vec F S4x128x640 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare x8 ∗ owns (c : Thread nD τ) arg11 fullShare x9 ∗ owns (c : Thread nD τ) arg12 fullShare x10
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (dqOut (headDq i x0 x1 x2 x3 x4)) ∗ owns (c : Thread nD τ) arg10 fullShare (accStep i (headDk i x0 x1 x2 x3 x4 x5) x8) ∗ owns (c : Thread nD τ) arg11 fullShare (accStep i (headDv i x0 x1 x3 x6) x9) ∗ owns (c : Thread nD τ) arg12 fullShare (dbStep (headDs i x0 x1 x2 x3 x4) x10)) -∗ K ⟨⟩))
          ⊢ wp frame (wpE (defs₀ (F := F)) Variants.none c none) E (cc0_chunk_bwd i arg2 harg2 arg3 harg3 arg4 harg4 arg5 harg5 arg6 harg6 arg7 harg7 arg8 harg8 arg9 harg9 arg10 harg10 arg11 harg11 arg12 harg12) K := by
    intro E K
    simp only [cc0_chunk_bwd_eq_skeleton]; unfold cc0_chunk_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8; obtain rfl := harg11.eq_unread hf9; obtain rfl := harg12.eq_unread hf10; obtain rfl := harg8.eq_unread hf6
    have r0 : ∀ R : Rect _, arg2.view.readAt (Elt F) R.toLoadRect (harg2.unread x0) = fun j => x0 (R.idx j) := fun R => by
      funext j; rw [View.readAt_apply, harg2.read_unread]
    have r1 : ∀ R : Rect _, arg3.view.readAt (Elt F) R.toLoadRect (harg3.unread x1) = fun j => x1 (R.idx j) := fun R => by
      funext j; rw [View.readAt_apply, harg3.read_unread]
    have r2 : ∀ R : Rect _, arg4.view.readAt (Elt F) R.toLoadRect (harg4.unread x2) = fun j => x2 (R.idx j) := fun R => by
      funext j; rw [View.readAt_apply, harg4.read_unread]
    have r3 : ∀ R : Rect _, arg5.view.readAt (Elt F) R.toLoadRect (harg5.unread x3) = fun j => x3 (R.idx j) := fun R => by
      funext j; rw [View.readAt_apply, harg5.read_unread]
    have r4 : ∀ R : Rect _, arg6.view.readAt (Elt F) R.toLoadRect (harg6.unread x4) = fun j => x4 (R.idx j) := fun R => by
      funext j; rw [View.readAt_apply, harg6.read_unread]
    have r5 : ∀ R : Rect _, arg7.view.readAt (Elt F) R.toLoadRect (harg7.unread x5) = fun j => x5 (R.idx j) := fun R => by
      funext j; rw [View.readAt_apply, harg7.read_unread]
    have r6 : ∀ R : Rect _, arg8.view.readAt (Elt F) R.toLoadRect (harg8.unread x6) = fun j => x6 (R.idx j) := fun R => by
      funext j; rw [View.readAt_apply, harg8.read_unread]
    have r8 : ∀ R : Rect _, arg10.view.readAt (Elt F) R.toLoadRect (harg10.unread x8) = fun j => x8 (R.idx j) := fun R => by
      funext j; rw [View.readAt_apply, harg10.read_unread]
    have r9 : ∀ R : Rect _, arg11.view.readAt (Elt F) R.toLoadRect (harg11.unread x9) = fun j => x9 (R.idx j) := fun R => by
      funext j; rw [View.readAt_apply, harg11.read_unread]
    have r10 : ∀ R : Rect _, arg12.view.readAt (Elt F) R.toLoadRect (harg12.unread x10) = fun j => x10 (R.idx j) := fun R => by
      funext j; rw [View.readAt_apply, harg12.read_unread]
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro; exact read_dqPieces arg9.view f7 (headDq i x0 x1 x2 x3 x4)
    isplitl [H8]
    · iexists _; isplitr; swap; · iexact H8
      ipureintro; exact read_accPieces arg10.view _ i (headDk i x0 x1 x2 x3 x4 x5) x8 (harg10.read_unread _)
    isplitl [H9]
    · iexists _; isplitr; swap; · iexact H9
      ipureintro; exact read_accPieces arg11.view _ i (headDv i x0 x1 x3 x6) x9 (harg11.read_unread _)
    iexists _; isplitr; swap; · iexact H10
    ipureintro; exact read_dbPieces arg12.view _ (headDs i x0 x1 x2 x3 x4) x10

end Cert.KernelIdeal.Gen

end
-- ==== Proof.Dats.lean ====
module

public import proofs.«01_k».proof.Proof.RunA
public import proofs.«01_k».proof.Proof.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## What the accumulated blocks hold, point by point -/

/-- The contents of the three accumulated blocks: the gradients of the keys, of the values and of the biases. -/
abbrev Acc (F : FTy → Type) : Type := Vec F S1x20x256x128 .f32 × Vec F S1x20x256x128 .f32 × Vec F S4x128x640 .f32

/-- What the first point of a half of the heads starts from. -/
def acc0 : Acc F := (k0_pay3, k0_pay4, k0_pay5)

/-- The accumulated blocks after point `t`, from what they held before it. -/
def accNext (c : Dev nD) (t : Fin cfg0.N) (p : Acc F) : Acc F :=
  (accStep (grid0.coords t) (headDk (grid0.coords t) (iblk m c 0 t) (iblk m c 1 t) (iblk m c 2 t) (iblk m c 3 t) (iblk m c 4 t) (iblk m c 5 t)) p.1,
   accStep (grid0.coords t) (headDv (grid0.coords t) (iblk m c 0 t) (iblk m c 1 t) (iblk m c 3 t) (iblk m c 6 t)) p.2.1,
   dbStep (headDs (grid0.coords t) (iblk m c 0 t) (iblk m c 1 t) (iblk m c 2 t) (iblk m c 3 t) (iblk m c 4 t)) p.2.2)

/-- The accumulated blocks after point `n`. -/
def accAtK (c : Dev nD) : (n : ℕ) → n < cfg0.N → Acc F
  | 0, h => accNext m c ⟨0, h⟩ acc0
  | n + 1, h => accNext m c ⟨n + 1, h⟩ (if (n + 1) % 16 = 0 then acc0 else accAtK c n (Nat.lt_of_succ_lt h))

theorem accAtK_reset (c : Dev nD) (t : Fin cfg0.N) (h : t.val % 16 = 0) : accAtK m c t.val t.isLt = accNext m c t acc0 := by
  obtain ⟨n, hn⟩ := t
  cases n with
  | zero => rfl
  | succ n => show accNext m c ⟨n + 1, hn⟩ (if (n + 1) % 16 = 0 then acc0 else accAtK m c n (Nat.lt_of_succ_lt hn)) = _; rw [if_pos h]

theorem accAtK_step (c : Dev nD) (t : Fin cfg0.N) (h : ¬t.val % 16 = 0) :
    accAtK m c t.val t.isLt = accNext m c t (accAtK m c (t.val - 1) (Nat.lt_of_le_of_lt (Nat.sub_le _ _) t.isLt)) := by
  obtain ⟨n, hn⟩ := t
  cases n with
  | zero => exact absurd rfl h
  | succ n => show accNext m c ⟨n + 1, hn⟩ (if (n + 1) % 16 = 0 then acc0 else accAtK m c n (Nat.lt_of_succ_lt hn)) = _; rw [if_neg h]; rfl

/-! ## The pipeline's proof data -/

/-- The proof data of the pipeline on core `c`: the arrays as the region finds them, each input's buffer at its block, the
    queries' gradient at the point's own, the accumulated blocks at the accumulation up to the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqOut (headDq (grid0.coords t) (iblk m c 0 t) (iblk m c 1 t) (iblk m c 2 t) (iblk m c 3 t) (iblk m c 4 t))
    | ⟨8, _⟩ => (accAtK m c t.val t.isLt).1
    | ⟨9, _⟩ => (accAtK m c t.val t.isLt).2.1
    | ⟨10, _⟩ => (accAtK m c t.val t.isLt).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = dqOut (headDq (grid0.coords t) (iblk m c 0 t) (iblk m c 1 t) (iblk m c 2 t) (iblk m c 3 t) (iblk m c 4 t)) := by dsimp only [dats]
theorem after0_8 (c : Dev nD) (t : Fin cfg0.N) : (dats m 0 c).after 8 t = (accAtK m c t.val t.isLt).1 := by dsimp only [dats]
theorem after0_9 (c : Dev nD) (t : Fin cfg0.N) : (dats m 0 c).after 9 t = (accAtK m c t.val t.isLt).2.1 := by dsimp only [dats]
theorem after0_10 (c : Dev nD) (t : Fin cfg0.N) : (dats m 0 c).after 10 t = (accAtK m c t.val t.isLt).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- At a point that is not the first of its half, block 8 holds what the point before left. -/
theorem before0_8 (c : Dev nD) (t : Fin cfg0.N) (h0 : ¬t.val % 16 = 0) (d) :
    (dats m 0 c).before 8 t d = (accAtK m c (t.val - 1) (Nat.lt_of_le_of_lt (Nat.sub_le _ _) t.isLt)).1 := by
  have hN : t.val < 32 := lt_of_lt_of_eq t.isLt (show cfg0.N = 32 from N_0)
  rw [Dat.before_out_kept _ 8 rfl t (by omega) (Bool.eq_false_iff.mpr fun h => by have := (flush0_8 _).mp h; dsimp only at this; omega)
    (fun _ => rfl) (fun _ _ => rfl)]
  dsimp only [dats]
/-- At a point that is not the first of its half, block 9 holds what the point before left. -/
theorem before0_9 (c : Dev nD) (t : Fin cfg0.N) (h0 : ¬t.val % 16 = 0) (d) :
    (dats m 0 c).before 9 t d = (accAtK m c (t.val - 1) (Nat.lt_of_le_of_lt (Nat.sub_le _ _) t.isLt)).2.1 := by
  have hN : t.val < 32 := lt_of_lt_of_eq t.isLt (show cfg0.N = 32 from N_0)
  rw [Dat.before_out_kept _ 9 rfl t (by omega) (Bool.eq_false_iff.mpr fun h => by have := (flush0_9 _).mp h; dsimp only at this; omega)
    (fun _ => rfl) (fun _ _ => rfl)]
  dsimp only [dats]
/-- At a point that is not the first of its half, block 10 holds what the point before left. -/
theorem before0_10 (c : Dev nD) (t : Fin cfg0.N) (h0 : ¬t.val % 16 = 0) (d) :
    (dats m 0 c).before 10 t d = (accAtK m c (t.val - 1) (Nat.lt_of_le_of_lt (Nat.sub_le _ _) t.isLt)).2.2 := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 1600000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  have hN : t.val < 32 := lt_of_lt_of_eq t.isLt (show cfg0.N = 32 from N_0)
  by_cases h0 : t.val % 16 = 0
  · rw [accAtK_reset m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((run_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [accAtK_step m c t h0]
    simp only [before0_8 m c t h0, before0_9 m c t h0, before0_10 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((run_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (accAtK m c (t.val - 1) (Nat.lt_of_le_of_lt (Nat.sub_le _ _) t.isLt)).1 (accAtK m c (t.val - 1) (Nat.lt_of_le_of_lt (Nat.sub_le _ _) t.isLt)).2.1 (accAtK m c (t.val - 1) (Nat.lt_of_le_of_lt (Nat.sub_le _ _) t.isLt)).2.2) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every array as the proof data names it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every weakly fair execution terminates, and ends with the arrays at the contents that the proof data names. -/
theorem run_main : θ_run defs (onTc (τ := τ) (main (F := F))) (s₀ m ρ) (Pipeline.FramePost cfgs (dats m) 0 (V m)) :=
  (θ_run defs _ _).mono (fun _ h => h.1) (run_main_quiescent m ρ)

/-- The frame without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.Host.lean ====
module

public import proofs.«01_k».proof.Proof.Head
public import proofs.«01_k».proof.Proof.Dats
public import Idealize.ShloMosaic.Lib.StableHlo.RunRead

@[expose] public section

set_option maxRecDepth 16384

noncomputable section

/-! The operands that the host prepares, read at an index. -/

namespace Cert.KernelIdeal.Gen

open Idealize.ShloMosaic Idealize.ShloMosaic.TcCoe Idealize.ShloMosaic.Tactic

variable (m : (ℓ : Loc nD τ sig) → Buf (Elt Ideal) ℓ) (c : Dev nD)

abbrev arg0 : Spec.A0 := m ((c.tc : Thread nD τ).loc main_arg0)
abbrev arg1 : Spec.A1 := m ((c.tc : Thread nD τ).loc main_arg1)
abbrev arg2 : Spec.A2 := m ((c.tc : Thread nD τ).loc main_arg2)

theorem V_do (t : Fin 2048) (j : Fin 1024) : (V m c main_v7 : FVec Ideal _ .bf16) (ix2 t j) = arg2 m c (ix2 t j) := by
  simp only [V, hostOps0, hostOps0_1, hostOps0_2, hostOps0_3, hostOps0_4, hostOps0_5, hostOps0_6, List.flatten_cons, List.flatten_nil, List.append_nil, List.cons_append, List.nil_append]
  after_results_simp
  rfl

theorem V_q (t : Fin 2048) (j : Fin 3072) : (V m c main_v6 : FVec Ideal _ .bf16) (ix2 t j) = if 768 ≤ j.val ∧ j.val < 1280 then arg0 m c (ix2 t j) * Spec.eighth else arg0 m c (ix2 t j) := by
  simp only [V, hostOps0, hostOps0_1, hostOps0_2, hostOps0_3, hostOps0_4, hostOps0_5, hostOps0_6, List.flatten_cons, List.flatten_nil, List.append_nil, List.cons_append, List.nil_append]
  after_results_simp
  pointwise
  after_results_simp
  pointwise
  rw [Spec.eighth_f32]
  by_cases h1 : j.val < 768
  · rw [dif_pos h1, if_neg (show ¬(768 ≤ j.val ∧ j.val < 1280) by omega)]
  · rw [dif_neg h1]
    by_cases h2 : j.val - 768 < 512
    · rw [dif_pos h2, if_pos (show 768 ≤ j.val ∧ j.val < 1280 by omega)]
      exact congrArg (fun j => arg0 m c (ix2 t j) * Spec.eighth) (Fin.ext (show 768 + (j.val - 768) = j.val by omega))
    · rw [dif_neg h2, if_neg (show ¬(768 ≤ j.val ∧ j.val < 1280) by omega)]
      exact congrArg (fun j => arg0 m c (ix2 t j)) (Fin.ext (show 1280 + (j.val - 768 - 512) = j.val by omega))

theorem V_main_v9 : (V m c main_v9 : FVec Ideal _ .bf16) = pad (α := Ideal .bf16) S2560x512 ![512, 0] ![0, 0] ![0, 0]
    (extractStridedSlice (α := Ideal .bf16) (s := S2048x3072) S2048x512 ![0, 1280] (V m c main_v6) slices_S2048x3072_S2048x512_0_1280) (sitofp .bf16 (constantI S_ 32 0#32))
    pads_S2048x512_S2560x512_51200_000 h_S_ := by
  simp only [V, hostOps0, hostOps0_1, hostOps0_2, hostOps0_3, hostOps0_4, hostOps0_5, hostOps0_6, List.flatten_cons, List.flatten_nil, List.append_nil, List.cons_append, List.nil_append]
  after_results_simp
  rfl

theorem V_k (s : Fin 2560) (j : Fin 512) : (V m c main_v9 : FVec Ideal _ .bf16) (ix2 s j)
    = if hs : 512 ≤ s.val then arg0 m c (ix2 ⟨s.val - 512, by omega⟩ ⟨1280 + j.val, by omega⟩) else 0 := by
  rw [V_main_v9]
  have hq := V_q m c
  generalize (V m c main_v6 : FVec Ideal _ .bf16) = y at hq ⊢
  pointwise
  by_cases hs : 512 ≤ s.val
  · rw [dif_pos hs, dif_pos (show 512 ≤ s.val ∧ s.val - 512 < 2048 by omega), hq, if_neg (show ¬(768 ≤ 1280 + j.val ∧ 1280 + j.val < 1280) by omega)]
  · rw [dif_neg hs, dif_neg (show ¬(512 ≤ s.val ∧ s.val - 512 < 2048) by omega)]
    simp [FloatOps.sitofp]

theorem V_main_v11 : (V m c main_v11 : FVec Ideal _ .bf16) = pad (α := Ideal .bf16) S2560x512 ![512, 0] ![0, 0] ![0, 0]
    (extractStridedSlice (α := Ideal .bf16) (s := S2048x3072) S2048x512 ![0, 1792] (V m c main_v6) slices_S2048x3072_S2048x512_0_1792) (sitofp .bf16 (constantI S_ 32 0#32))
    pads_S2048x512_S2560x512_51200_000 h_S_ := by
  simp only [V, hostOps0, hostOps0_1, hostOps0_2, hostOps0_3, hostOps0_4, hostOps0_5, hostOps0_6, List.flatten_cons, List.flatten_nil, List.append_nil, List.cons_append, List.nil_append]
  after_results_simp
  rfl

theorem V_v (s : Fin 2560) (j : Fin 512) : (V m c main_v11 : FVec Ideal _ .bf16) (ix2 s j)
    = if hs : 512 ≤ s.val then arg0 m c (ix2 ⟨s.val - 512, by omega⟩ ⟨1792 + j.val, by omega⟩) else 0 := by
  rw [V_main_v11]
  have hq := V_q m c
  generalize (V m c main_v6 : FVec Ideal _ .bf16) = y at hq ⊢
  pointwise
  by_cases hs : 512 ≤ s.val
  · rw [dif_pos hs, dif_pos (show 512 ≤ s.val ∧ s.val - 512 < 2048 by omega), hq, if_neg (show ¬(768 ≤ 1792 + j.val ∧ 1792 + j.val < 1280) by omega)]
  · rw [dif_neg hs, dif_neg (show ¬(512 ≤ s.val ∧ s.val - 512 < 2048) by omega)]
    simp [FloatOps.sitofp]

theorem shr_word (r : Fin 640) : IntOp.shrsi .host (BitVec.ofNat 32 r.val) 6#32 = BitVec.ofNat 32 (r.val / 64) := by
  revert r; decide +kernel

theorem band_word (r : Fin 128) (j : Fin 640) :
    IntOp.andi (IntOp.cmpi .sge (IntOp.subi (IntOp.addi (IntOp.shrsi .host (BitVec.ofNat 32 r.val) 6#32) 8#32) (IntOp.shrsi .host (BitVec.ofNat 32 j.val) 6#32)) 0#32)
      (IntOp.cmpi .sle (IntOp.subi (IntOp.addi (IntOp.shrsi .host (BitVec.ofNat 32 r.val) 6#32) 8#32) (IntOp.shrsi .host (BitVec.ofNat 32 j.val) 6#32)) 8#32)
      = if r.val / 64 ≤ j.val / 64 ∧ j.val / 64 ≤ r.val / 64 + 8 then 1#1 else 0#1 := by
  have key : ∀ (a : Fin 2) (b : Fin 10), IntOp.andi (IntOp.cmpi .sge (IntOp.subi (IntOp.addi (BitVec.ofNat 32 a.val) 8#32) (BitVec.ofNat 32 b.val)) 0#32)
      (IntOp.cmpi .sle (IntOp.subi (IntOp.addi (BitVec.ofNat 32 a.val) 8#32) (BitVec.ofNat 32 b.val)) 8#32)
      = if a.val ≤ b.val ∧ b.val ≤ a.val + 8 then 1#1 else 0#1 := by decide +kernel
  rw [shr_word j, shr_word ⟨r.val, by omega⟩]
  exact key ⟨r.val / 64, by omega⟩ ⟨j.val / 64, by omega⟩

theorem V_b (h : Fin 8) (r : Fin 128) (j : Fin 640) : (V m c main_v30 : FVec Ideal _ .f32) (ix3 h r j) = arg1 m c (ix3 h r j) + if r.val / 64 ≤ j.val / 64 ∧ j.val / 64 ≤ r.val / 64 + 8 then 0 else ⊥ := by
  simp only [V, hostOps0, hostOps0_1, hostOps0_2, hostOps0_3, hostOps0_4, hostOps0_5, hostOps0_6, List.flatten_cons, List.flatten_nil, List.append_nil, List.cons_append, List.nil_append]
  after_results_simp
  simp only [StableHlo.TRef.toBuf, StableHlo.TRef.ofBuf, cast_cast, cast_eq]
  simp only [id]
  pointwise
  rw [band_word r j, Spec.bot_f32]
  by_cases hv : r.val / 64 ≤ j.val / 64 ∧ j.val / 64 ≤ r.val / 64 + 8
  · rw [if_pos hv, if_pos hv]; rfl
  · rw [if_neg hv, if_neg hv]; rfl

theorem V_qt (j : Fin 3072) (t : Fin 2048) : (V m c main_v31 : FVec Ideal _ .bf16) (ix2 j t) = if 768 ≤ j.val ∧ j.val < 1280 then arg0 m c (ix2 t j) * Spec.eighth else arg0 m c (ix2 t j) := by
  simp only [V, hostOps0, hostOps0_1, hostOps0_2, hostOps0_3, hostOps0_4, hostOps0_5, hostOps0_6, List.flatten_cons, List.flatten_nil, List.append_nil, List.cons_append, List.nil_append]
  after_results_simp
  pointwise
  after_results_simp
  pointwise
  rw [Spec.eighth_f32]
  by_cases h1 : j.val < 768
  · rw [dif_pos h1, if_neg (show ¬(768 ≤ j.val ∧ j.val < 1280) by omega)]
  · rw [dif_neg h1]
    by_cases h2 : j.val - 768 < 512
    · rw [dif_pos h2, if_pos (show 768 ≤ j.val ∧ j.val < 1280 by omega)]
      exact congrArg (fun j => arg0 m c (ix2 t j) * Spec.eighth) (Fin.ext (show 768 + (j.val - 768) = j.val by omega))
    · rw [dif_neg h2, if_neg (show ¬(768 ≤ j.val ∧ j.val < 1280) by omega)]
      exact congrArg (fun j => arg0 m c (ix2 t j)) (Fin.ext (show 1280 + (j.val - 768 - 512) = j.val by omega))

theorem V_dot (j : Fin 1024) (t : Fin 2048) : (V m c main_v32 : FVec Ideal _ .bf16) (ix2 j t) = arg2 m c (ix2 t j) := by
  simp only [V, hostOps0, hostOps0_1, hostOps0_2, hostOps0_3, hostOps0_4, hostOps0_5, hostOps0_6, List.flatten_cons, List.flatten_nil, List.append_nil, List.cons_append, List.nil_append]
  after_results_simp
  pointwise

/-! ## The blocks of a point -/

theorem blk_idx : ∀ t : Fin cfg0.N, win0_0.index t = ![t.val % 16, 3 + t.val / 16] ∧ win0_1.index t = ![0, t.val / 16] ∧ win0_2.index t = ![0, t.val / 16]
    ∧ win0_3.index t = ![t.val / 16, 0, 0] ∧ win0_4.index t = ![t.val % 16, 1 + t.val / 16] ∧ win0_5.index t = ![3 + t.val / 16, t.val % 16]
    ∧ win0_6.index t = ![1 + t.val / 16, t.val % 16] ∧ win0_7.index t = ![t.val % 16, t.val / 16] ∧ win0_8.index t = ![t.val / 16, 0, 0, 0]
    ∧ win0_9.index t = ![t.val / 16, 0, 0, 0] ∧ win0_10.index t = ![t.val / 16, 0, 0] :=
  (by decide +kernel : ∀ t : Fin grid0.N, _)

theorem t_lt (t : Fin cfg0.N) : t.val < 32 := lt_of_lt_of_eq t.isLt (by decide +kernel)

/-- The tile of a point. -/
abbrev tile (t : Fin cfg0.N) : Fin 16 := ⟨t.val % 16, by omega⟩

/-- The head of a point's row `h`. -/
abbrev head (t : Fin cfg0.N) (h : Fin 4) : Fin 8 := ⟨4 * (t.val / 16) + h.val, by have := t_lt t; omega⟩

theorem coords_1 : ∀ t : Fin cfg0.N, (grid0.coords t 1).val = t.val % 16 := (by decide +kernel : ∀ t : Fin grid0.N, _)

theorem qRect_at (h : Fin 4) (r : Fin 128) (d : Fin 64) : (qRect h).idx (ix2 r d) = ix2 r ⟨64 * h.val + d.val, by omega⟩ :=
  funext fun a => Fin.ext (by
    match a with
    | ⟨0, _⟩ => show 0 + 1 * r.val = r.val; omega
    | ⟨1, _⟩ => show 64 * h.val + 1 * d.val = 64 * h.val + d.val; omega)

theorem tRect_at (h : Fin 4) (d : Fin 64) (r : Fin 128) : (tRect h).idx (ix2 d r) = ix2 ⟨64 * h.val + d.val, by omega⟩ r :=
  funext fun a => Fin.ext (by
    match a with
    | ⟨0, _⟩ => show 64 * h.val + 1 * d.val = 64 * h.val + d.val; omega
    | ⟨1, _⟩ => show 0 + 1 * r.val = r.val; omega)

theorem bRect_at (h : Fin 4) (r : Fin 128) (j : Fin 640) : (bRect h).idx (ix3 0 r j) = ix3 h r j :=
  funext fun a => Fin.ext (by
    match a with
    | ⟨0, _⟩ => show h.val + 1 * 0 = h.val; omega
    | ⟨1, _⟩ => show 0 + 1 * r.val = r.val; omega
    | ⟨2, _⟩ => show 0 + 1 * j.val = j.val; omega)

theorem kRect_at (t : Fin cfg0.N) (h : Fin 4) (j : Fin 640) (d : Fin 64) :
    (kRect (grid0.coords t) h).idx (ix2 j d) = ix2 ⟨128 * (t.val % 16) + j.val, by omega⟩ ⟨64 * h.val + d.val, by omega⟩ := by
  have e := kOff_eq (grid0.coords t) h
  rw [coords_1] at e
  exact funext fun a => Fin.ext (by
    match a with
    | ⟨0, _⟩ =>
      show kOff (grid0.coords t) h 0 + 1 * j.val = 128 * (t.val % 16) + j.val
      rw [congrFun e 0]; show 128 * (t.val % 16) + 1 * j.val = _; omega
    | ⟨1, _⟩ =>
      show kOff (grid0.coords t) h 1 + 1 * d.val = 64 * h.val + d.val
      rw [congrFun e 1]; show 64 * h.val + 1 * d.val = _; omega)

theorem blk_q (t : Fin cfg0.N) (h : Fin 4) (r : Fin 128) (d : Fin 64) :
    (iblk m c 0 t : FVec Ideal S128x256 .bf16) ((qRect h).idx (ix2 r d)) = Spec.q (arg0 m c) (head t h) (row (tile t) r) d * Spec.eighth := by
  rw [qRect_at]
  have ht := t_lt t
  have e : (win0_0.blk t).view.emb (ix2 r ⟨64 * h.val + d.val, by omega⟩) = ix2 (row (tile t) r) ⟨768 + 64 * (head t h).val + d.val, by omega⟩ := by
    blk_ext [blk_idx t]
    show _ = 128 * (t.val % 16) + r.val; omega
  exact (congrArg (V m c main_v6 : FVec Ideal _ .bf16) e).trans ((V_q m c _ _).trans (if_pos (by dsimp only; omega)))

theorem blk_k (t : Fin cfg0.N) (h : Fin 4) (j : Fin 640) (d : Fin 64) :
    (iblk m c 1 t : FVec Ideal S2560x256 .bf16) ((kRect (grid0.coords t) h).idx (ix2 j d)) = Spec.win (tile t) 0 (fun s => Spec.k (arg0 m c) (head t h) s d) j := by
  rw [kRect_at]
  have ht := t_lt t
  have e : (win0_1.blk t).view.emb (ix2 ⟨128 * (t.val % 16) + j.val, by omega⟩ ⟨64 * h.val + d.val, by omega⟩)
      = ix2 ⟨128 * (t.val % 16) + j.val, by omega⟩ ⟨64 * (head t h).val + d.val, by omega⟩ := by
    blk_ext [blk_idx t]
  refine (congrArg (V m c main_v9 : FVec Ideal _ .bf16) e).trans ((V_k m c _ _).trans ?_)
  unfold Spec.win
  by_cases hs : 512 ≤ 128 * (t.val % 16) + j.val
  · rw [dif_pos hs, dif_pos hs]
    exact congrArg (fun x => arg0 m c (ix2 _ x)) (Fin.ext (Nat.add_assoc _ _ _).symm)
  · rw [dif_neg hs, dif_neg hs]

theorem blk_v (t : Fin cfg0.N) (h : Fin 4) (j : Fin 640) (d : Fin 64) :
    (iblk m c 2 t : FVec Ideal S2560x256 .bf16) ((kRect (grid0.coords t) h).idx (ix2 j d)) = Spec.win (tile t) 0 (fun s => Spec.v (arg0 m c) (head t h) s d) j := by
  rw [kRect_at]
  have ht := t_lt t
  have e : (win0_2.blk t).view.emb (ix2 ⟨128 * (t.val % 16) + j.val, by omega⟩ ⟨64 * h.val + d.val, by omega⟩)
      = ix2 ⟨128 * (t.val % 16) + j.val, by omega⟩ ⟨64 * (head t h).val + d.val, by omega⟩ := by
    blk_ext [blk_idx t]
  refine (congrArg (V m c main_v11 : FVec Ideal _ .bf16) e).trans ((V_v m c _ _).trans ?_)
  unfold Spec.win
  by_cases hs : 512 ≤ 128 * (t.val % 16) + j.val
  · rw [dif_pos hs, dif_pos hs]
    exact congrArg (fun x => arg0 m c (ix2 _ x)) (Fin.ext (Nat.add_assoc _ _ _).symm)
  · rw [dif_neg hs, dif_neg hs]

theorem blk_b (t : Fin cfg0.N) (h : Fin 4) (r : Fin 128) (j : Fin 640) :
    (iblk m c 3 t : FVec Ideal S4x128x640 .f32) ((bRect h).idx (ix3 0 r j))
      = arg1 m c (ix3 (head t h) r j) + if r.val / 64 ≤ j.val / 64 ∧ j.val / 64 ≤ r.val / 64 + 8 then 0 else ⊥ := by
  rw [bRect_at]
  have ht := t_lt t
  have e : (win0_3.blk t).view.emb (ix3 h r j) = ix3 (head t h) r j := by
    blk_ext [blk_idx t]
  exact (congrArg (V m c main_v30 : FVec Ideal _ .f32) e).trans (V_b m c _ _ _)

theorem blk_do (t : Fin cfg0.N) (h : Fin 4) (r : Fin 128) (d : Fin 64) :
    (iblk m c 4 t : FVec Ideal S128x256 .bf16) ((qRect h).idx (ix2 r d)) = Spec.o (arg2 m c) (head t h) (row (tile t) r) d := by
  rw [qRect_at]
  have ht := t_lt t
  have e : (win0_4.blk t).view.emb (ix2 r ⟨64 * h.val + d.val, by omega⟩) = ix2 (row (tile t) r) ⟨256 + 64 * (head t h).val + d.val, by omega⟩ := by
    blk_ext [blk_idx t]
    show _ = 128 * (t.val % 16) + r.val; omega
  exact (congrArg (V m c main_v7 : FVec Ideal _ .bf16) e).trans (V_do m c _ _)

theorem blk_qt (t : Fin cfg0.N) (h : Fin 4) (d : Fin 64) (r : Fin 128) :
    (iblk m c 5 t : FVec Ideal S256x128 .bf16) ((tRect h).idx (ix2 d r)) = Spec.q (arg0 m c) (head t h) (row (tile t) r) d * Spec.eighth := by
  rw [tRect_at]
  have ht := t_lt t
  have e : (win0_5.blk t).view.emb (ix2 ⟨64 * h.val + d.val, by omega⟩ r) = ix2 ⟨768 + 64 * (head t h).val + d.val, by omega⟩ (row (tile t) r) := by
    blk_ext [blk_idx t]
    show _ = 128 * (t.val % 16) + r.val; omega
  exact (congrArg (V m c main_v31 : FVec Ideal _ .bf16) e).trans ((V_qt m c _ _).trans (if_pos (by dsimp only; omega)))

theorem blk_dot (t : Fin cfg0.N) (h : Fin 4) (d : Fin 64) (r : Fin 128) :
    (iblk m c 6 t : FVec Ideal S256x128 .bf16) ((tRect h).idx (ix2 d r)) = Spec.o (arg2 m c) (head t h) (row (tile t) r) d := by
  rw [tRect_at]
  have ht := t_lt t
  have e : (win0_6.blk t).view.emb (ix2 ⟨64 * h.val + d.val, by omega⟩ r) = ix2 ⟨256 + 64 * (head t h).val + d.val, by omega⟩ (row (tile t) r) := by
    blk_ext [blk_idx t]
    show _ = 128 * (t.val % 16) + r.val; omega
  exact (congrArg (V m c main_v32 : FVec Ideal _ .bf16) e).trans (V_dot m c _ _)

/-! ## One head of a point -/

theorem pay7_eq (x : Vec Ideal S128x64 .bf16) : k0_pay7 x = x := funext fun y => by
  rw [eq_ix2 y]; pointwise [k0_pay7]

theorem pay8_eq (x : Vec Ideal S640x64 .bf16) : k0_pay8 x = x := funext fun y => by
  rw [eq_ix2 y]; pointwise [k0_pay8]

section
variable (i : grid0.Coords) (x0 : Vec Ideal S128x256 .bf16) (x1 x2 : Vec Ideal S2560x256 .bf16) (x3 : Vec Ideal S4x128x640 .f32) (x4 : Vec Ideal S128x256 .bf16)
variable (x5 x6 : Vec Ideal S256x128 .bf16) (h : Fin 4) (X0 : Spec.A0) (X1 : Spec.A1) (X2 : Spec.A2) (ti : Fin 16) (hi : (i 1).val = ti.val) (hd : Fin 8)
variable (h0 : ∀ r d, x0 ((qRect h).idx (ix2 r d)) = Spec.q X0 hd (row ti r) d * Spec.eighth)
variable (h1 : ∀ j d, x1 ((kRect i h).idx (ix2 j d)) = Spec.win ti 0 (fun s => Spec.k X0 hd s d) j)
variable (h2 : ∀ j d, x2 ((kRect i h).idx (ix2 j d)) = Spec.win ti 0 (fun s => Spec.v X0 hd s d) j)
variable (h3 : ∀ r j, x3 ((bRect h).idx (ix3 0 r j)) = X1 (ix3 hd r j) + if r.val / 64 ≤ j.val / 64 ∧ j.val / 64 ≤ r.val / 64 + 8 then 0 else ⊥)
variable (h4 : ∀ r d, x4 ((qRect h).idx (ix2 r d)) = Spec.o X2 hd (row ti r) d)
variable (h5 : ∀ d r, x5 ((tRect h).idx (ix2 d r)) = Spec.q X0 hd (row ti r) d * Spec.eighth)
variable (h6 : ∀ d r, x6 ((tRect h).idx (ix2 d r)) = Spec.o X2 hd (row ti r) d)

include hi h0 h1 h2 h3 h4 in
theorem gen_ds (r : Fin 128) (j : Fin 640) : headDs (F := Ideal) i x0 x1 x2 x3 x4 h (ix2 r j) = Spec.win ti 0 (Spec.ds X0 X1 X2 hd (row ti r)) j := by
  rw [headDs, headE, headInv, pay7_eq]
  exact head_ds (fun j => x0 ((qRect h).idx j)) (fun j => x1 ((kRect i h).idx j)) (fun j => x3 ((bRect h).idx j)) (fun j => x4 ((qRect h).idx j))
    (fun j => x2 ((kRect i h).idx j)) X0 X1 X2 i ti hi hd h0 h1 h3 h4 h2 r j

include hi h0 h1 h2 h3 h4 in
theorem gen_dq (r : Fin 128) (d : Fin 64) : headDq (F := Ideal) i x0 x1 x2 x3 x4 h (ix2 r d) = Spec.dq X0 X1 X2 hd (row ti r) d := by
  rw [headDq, headE, headInv, pay7_eq, pay8_eq]
  exact head_dq (fun j => x0 ((qRect h).idx j)) (fun j => x1 ((kRect i h).idx j)) (fun j => x3 ((bRect h).idx j)) (fun j => x4 ((qRect h).idx j))
    (fun j => x2 ((kRect i h).idx j)) X0 X1 X2 i ti hi hd h0 h1 h3 h4 h2 r d

include hi h0 h1 h2 h3 h4 h5 in
theorem gen_dk (d : Fin 64) (j : Fin 640) : headDk (F := Ideal) i x0 x1 x2 x3 x4 x5 h (ix2 d j)
    = Spec.win ti 0 (fun s => ∑ r, Spec.q X0 hd (row ti r) d * Spec.eighth * Spec.ds X0 X1 X2 hd (row ti r) s) j := by
  rw [headDk, headE, headInv, pay7_eq]
  exact head_dk (fun j => x0 ((qRect h).idx j)) (fun j => x1 ((kRect i h).idx j)) (fun j => x3 ((bRect h).idx j)) (fun j => x4 ((qRect h).idx j))
    (fun j => x2 ((kRect i h).idx j)) X0 X1 X2 i ti hi hd h0 h1 h3 h4 h2 (fun j => x5 ((tRect h).idx j)) h5 d j

include hi h0 h1 h3 h6 in
theorem gen_dv (d : Fin 64) (j : Fin 640) : headDv (F := Ideal) i x0 x1 x3 x6 h (ix2 d j)
    = Spec.win ti 0 (fun s => ∑ r, Spec.o X2 hd (row ti r) d * Spec.p X0 X1 hd (row ti r) s) j := by
  rw [headDv, headE, headInv]
  exact head_dv (fun j => x0 ((qRect h).idx j)) (fun j => x1 ((kRect i h).idx j)) (fun j => x3 ((bRect h).idx j)) X0 X1 X2 i ti hi hd h0 h1 h3
    (fun j => x6 ((tRect h).idx j)) h6 d j

end

theorem point_ds (t : Fin cfg0.N) (h : Fin 4) (r : Fin 128) (j : Fin 640) :
    headDs (F := Ideal) (grid0.coords t) (iblk m c 0 t) (iblk m c 1 t) (iblk m c 2 t) (iblk m c 3 t) (iblk m c 4 t) h (ix2 r j)
      = Spec.win (tile t) 0 (Spec.ds (arg0 m c) (arg1 m c) (arg2 m c) (head t h) (row (tile t) r)) j :=
  gen_ds (grid0.coords t) _ _ _ _ _ h _ _ _ (tile t) (coords_1 t) (head t h) (blk_q m c t h) (blk_k m c t h) (blk_v m c t h) (blk_b m c t h) (blk_do m c t h) r j

theorem point_dq (t : Fin cfg0.N) (h : Fin 4) (r : Fin 128) (d : Fin 64) :
    headDq (F := Ideal) (grid0.coords t) (iblk m c 0 t) (iblk m c 1 t) (iblk m c 2 t) (iblk m c 3 t) (iblk m c 4 t) h (ix2 r d)
      = Spec.dq (arg0 m c) (arg1 m c) (arg2 m c) (head t h) (row (tile t) r) d :=
  gen_dq (grid0.coords t) _ _ _ _ _ h _ _ _ (tile t) (coords_1 t) (head t h) (blk_q m c t h) (blk_k m c t h) (blk_v m c t h) (blk_b m c t h) (blk_do m c t h) r d

theorem point_dk (t : Fin cfg0.N) (h : Fin 4) (d : Fin 64) (j : Fin 640) :
    headDk (F := Ideal) (grid0.coords t) (iblk m c 0 t) (iblk m c 1 t) (iblk m c 2 t) (iblk m c 3 t) (iblk m c 4 t) (iblk m c 5 t) h (ix2 d j)
      = Spec.win (tile t) 0 (fun s => ∑ r, Spec.q (arg0 m c) (head t h) (row (tile t) r) d * Spec.eighth
          * Spec.ds (arg0 m c) (arg1 m c) (arg2 m c) (head t h) (row (tile t) r) s) j :=
  gen_dk (grid0.coords t) _ _ _ _ _ _ h _ _ _ (tile t) (coords_1 t) (head t h) (blk_q m c t h) (blk_k m c t h) (blk_v m c t h) (blk_b m c t h) (blk_do m c t h)
    (blk_qt m c t h) d j

theorem point_dv (t : Fin cfg0.N) (h : Fin 4) (d : Fin 64) (j : Fin 640) :
    headDv (F := Ideal) (grid0.coords t) (iblk m c 0 t) (iblk m c 1 t) (iblk m c 3 t) (iblk m c 6 t) h (ix2 d j)
      = Spec.win (tile t) 0 (fun s => ∑ r, Spec.o (arg2 m c) (head t h) (row (tile t) r) d
          * Spec.p (arg0 m c) (arg1 m c) (head t h) (row (tile t) r) s) j :=
  gen_dv (grid0.coords t) _ _ _ _ h _ _ _ (tile t) (coords_1 t) (head t h) (blk_q m c t h) (blk_k m c t h) (blk_b m c t h) (blk_dot m c t h) d j

end Cert.KernelIdeal.Gen
-- ==== Proof.Final.lean ====
module

public import proofs.«01_k».proof.Proof.Host
public import Idealize.ShloMosaic.Lib.Pipeline.ValueKit

@[expose] public section

set_option maxRecDepth 16384

noncomputable section

/-! The results' contents after the last point. -/

namespace Cert.KernelIdeal.Gen

open Idealize.ShloMosaic Idealize.ShloMosaic.TcCoe Idealize.ShloMosaic.Tactic

variable (m : (ℓ : Loc nD τ sig) → Buf (Elt Ideal) ℓ) (c : Dev nD)

/-! ## The keys' and the values' gradients: sums over the tiles of queries -/

section
variable (G : Fin 8 → Fin 2048 → Fin 64 → Fin 2048 → EReal)

/-- What a point adds to an element of an accumulated block: the terms of its tile's queries. -/
def accTerm (t : Fin cfg0.N) (y : S1x20x256x128.Idx) : EReal :=
  if hb : 4 ≤ (y 1).val then
    ∑ r : Fin 128, G (head t ⟨(y 2).val / 64, by have : (y 2).val < 256 := (y 2).isLt; omega⟩) (row (tile t) r) ⟨(y 2).val % 64, by omega⟩
      ⟨128 * (y 1).val + (y 3).val - 512, by have : (y 1).val < 20 := (y 1).isLt; have : (y 3).val < 128 := (y 3).isLt; omega⟩
  else 0

theorem accStep_eq (t : Fin cfg0.N) (D : Fin 4 → FVec Ideal S64x640 .f32)
    (hD : ∀ h d j, D h (ix2 d j) = Spec.win (tile t) 0 (fun s => ∑ r, G (head t h) (row (tile t) r) d s) j)
    (hG : ∀ h r d s, ¬Spec.Inside (tile t) s → G h (row (tile t) r) d s = 0) (X : Vec Ideal S1x20x256x128 .f32) (y : S1x20x256x128.Idx) :
    accStep (grid0.coords t) D X y = X y + accTerm G t y := by
  have y1 : (y 1).val < 20 := (y 1).isLt
  have y2 : (y 2).val < 256 := (y 2).isLt
  have y3 : (y 3).val < 128 := (y 3).isLt
  have e := coords_1 t
  unfold accStep accTerm
  by_cases hw : (grid0.coords t 1).val ≤ (y 1).val ∧ (y 1).val < (grid0.coords t 1).val + 5
  · rw [dif_pos hw, Ideal.addf_def, hD]
    congr 1
    unfold Spec.win
    by_cases hb : 4 ≤ (y 1).val
    · rw [dif_pos hb, dif_pos (by dsimp only; omega)]
      refine Finset.sum_congr rfl fun r _ => congrArg (G _ _ _) (Fin.ext (by dsimp only; omega))
    · rw [dif_neg hb, dif_neg (by dsimp only; omega)]
  · rw [dif_neg hw]
    refine (add_zero _).symm.trans (congrArg (X y + ·) ?_)
    by_cases hb : 4 ≤ (y 1).val
    · rw [dif_pos hb]
      exact (Finset.sum_eq_zero fun r _ => hG _ r _ _ (by unfold Spec.Inside; dsimp only; omega)).symm
    · rw [dif_neg hb]

theorem sum_accTerm (t : Fin cfg0.N) (hr : t.val % 16 = 15) (b : Fin 20) (k : Fin 256) (r : Fin 128) :
    ∑ s : Fin 16, accTerm G ⟨16 * (t.val / 16) + s.val, Pipeline.run_point_lt_of_flush t hr s⟩ (ix4 0 b k r)
      = Spec.tiles (fun h s d => ∑ t, G h t d s) ⟨t.val / 16, by have := t_lt t; omega⟩ b k r := by
  unfold accTerm Spec.tiles
  by_cases hb : 4 ≤ b.val
  · rw [dif_pos hb]
    refine Eq.trans ?_ (Fin.sum_univ_tiles 16 128 (by decide) _).symm
    refine Finset.sum_congr rfl fun s _ => (dif_pos hb).trans ?_
    refine Finset.sum_congr rfl fun r' _ => ?_
    have e1 : ∀ h : Fin 4, head ⟨16 * (t.val / 16) + s.val, Pipeline.run_point_lt_of_flush t hr s⟩ h = ⟨4 * (t.val / 16) + h.val, by have := t_lt t; omega⟩ :=
      fun h => Fin.ext (by dsimp only; omega)
    have e2 : row (tile ⟨16 * (t.val / 16) + s.val, Pipeline.run_point_lt_of_flush t hr s⟩) r' = ⟨s.val * 128 + r'.val, by omega⟩ :=
      Fin.ext (by unfold row; dsimp only; omega)
    rw [e1, e2]
    rfl
  · rw [dif_neg hb]
    exact Finset.sum_eq_zero fun s _ => dif_neg hb

end

/-- The terms of the keys' gradient and of the values'. -/
def gk (h : Fin 8) (t : Fin 2048) (d : Fin 64) (s : Fin 2048) : EReal :=
  Spec.q (arg0 m c) h t d * Spec.eighth * Spec.ds (arg0 m c) (arg1 m c) (arg2 m c) h t s
def gv (h : Fin 8) (t : Fin 2048) (d : Fin 64) (s : Fin 2048) : EReal :=
  Spec.o (arg2 m c) h t d * Spec.p (arg0 m c) (arg1 m c) h t s

theorem next_dk (t : Fin cfg0.N) (p : Acc Ideal) (y : S1x20x256x128.Idx) : (accNext m c t p).1 y = p.1 y + accTerm (gk m c) t y :=
  accStep_eq (gk m c) t _ (point_dk m c t) (fun h r d s hs => by unfold gk; rw [ds_outside _ _ _ _ _ _ _ hs, mul_zero]) p.1 y

theorem next_dv (t : Fin cfg0.N) (p : Acc Ideal) (y : S1x20x256x128.Idx) : (accNext m c t p).2.1 y = p.2.1 y + accTerm (gv m c) t y :=
  accStep_eq (gv m c) t _ (point_dv m c t) (fun h r d s hs => by unfold gv; rw [p_outside _ _ _ _ _ _ hs, mul_zero]) p.2.1 y

/-- What a point adds to an element of the block of the biases' gradient. -/
def dbTerm (t : Fin cfg0.N) (y : S4x128x640.Idx) : EReal :=
  Spec.win (tile t) 0 (Spec.ds (arg0 m c) (arg1 m c) (arg2 m c) (head t (y 0)) (row (tile t) (y 1))) (y 2)

theorem next_db (t : Fin cfg0.N) (p : Acc Ideal) (y : S4x128x640.Idx) : (accNext m c t p).2.2 y = p.2.2 y + dbTerm m c t y :=
  congrArg (p.2.2 y + ·) (point_ds m c t (y 0) (y 1) (y 2))

theorem acc0_1 (y : S1x20x256x128.Idx) : (acc0 (F := Ideal)).1 y = 0 := by
  rw [eq_ix4 y]; show k0_pay3 (F := Ideal) (ix4 (y 0) (y 1) (y 2) (y 3)) = 0; pointwise [k0_pay3]
theorem acc0_2 (y : S1x20x256x128.Idx) : (acc0 (F := Ideal)).2.1 y = 0 := by
  rw [eq_ix4 y]; show k0_pay4 (F := Ideal) (ix4 (y 0) (y 1) (y 2) (y 3)) = 0; pointwise [k0_pay4]
theorem acc0_3 (y : S4x128x640.Idx) : (acc0 (F := Ideal)).2.2 y = 0 := by
  rw [eq_ix3 y]; show k0_pay5 (F := Ideal) (ix3 (y 0) (y 1) (y 2)) = 0; pointwise [k0_pay5]

theorem acc_dk (t : Fin cfg0.N) (hr : t.val % 16 = 15) (b : Fin 20) (k : Fin 256) (r : Fin 128) :
    (accAtK m c t.val t.isLt).1 (ix4 0 b k r) = Spec.tiles (Spec.dk (arg0 m c) (arg1 m c) (arg2 m c)) ⟨t.val / 16, by have := t_lt t; omega⟩ b k r := by
  refine (Pipeline.eq_sum_fin_of_reset_step_apply_of_flush (fun n h => (accAtK m c n h).1) 16 (fun _ => 0) (accTerm (gk m c)) ?_ ?_ t hr (ix4 0 b k r)).trans ?_
  · intro t h y; rw [accAtK_reset m c t h, next_dk, acc0_1]
  · intro t h y; rw [accAtK_step m c t h, next_dk]
  · exact (zero_add _).trans (sum_accTerm (gk m c) t hr b k r)

theorem acc_dv (t : Fin cfg0.N) (hr : t.val % 16 = 15) (b : Fin 20) (k : Fin 256) (r : Fin 128) :
    (accAtK m c t.val t.isLt).2.1 (ix4 0 b k r) = Spec.tiles (Spec.dv (arg0 m c) (arg1 m c) (arg2 m c)) ⟨t.val / 16, by have := t_lt t; omega⟩ b k r := by
  refine (Pipeline.eq_sum_fin_of_reset_step_apply_of_flush (fun n h => (accAtK m c n h).2.1) 16 (fun _ => 0) (accTerm (gv m c)) ?_ ?_ t hr (ix4 0 b k r)).trans ?_
  · intro t h y; rw [accAtK_reset m c t h, next_dv, acc0_2]
  · intro t h y; rw [accAtK_step m c t h, next_dv]
  · exact (zero_add _).trans (sum_accTerm (gv m c) t hr b k r)

theorem acc_db (t : Fin cfg0.N) (hr : t.val % 16 = 15) (h : Fin 4) (r : Fin 128) (j : Fin 640) :
    (accAtK m c t.val t.isLt).2.2 (ix3 h r j) = Spec.db (arg0 m c) (arg1 m c) (arg2 m c) (head t h) r j := by
  refine (Pipeline.eq_sum_fin_of_reset_step_apply_of_flush (fun n h => (accAtK m c n h).2.2) 16 (fun _ => 0) (dbTerm m c) ?_ ?_ t hr (ix3 h r j)).trans ?_
  · intro t h y; rw [accAtK_reset m c t h, next_db, acc0_3]
  · intro t h y; rw [accAtK_step m c t h, next_db]
  refine (zero_add _).trans (Finset.sum_congr rfl fun s _ => ?_)
  unfold dbTerm Spec.win
  have e1 : head ⟨16 * (t.val / 16) + s.val, Pipeline.run_point_lt_of_flush t hr s⟩ h = head t h := Fin.ext (by dsimp only; omega)
  have e2 : tile ⟨16 * (t.val / 16) + s.val, Pipeline.run_point_lt_of_flush t hr s⟩ = s := Fin.ext (by dsimp only; omega)
  rw [e2, ix3_0, ix3_1, ix3_2, e1]
  by_cases hj : 512 ≤ 128 * s.val + j.val
  · rw [dif_pos hj, dif_pos ⟨hj, by omega⟩]; rfl
  · rw [dif_neg hj, dif_neg (fun e => hj e.1)]

/-! ## The four results -/

theorem point_dqOut (t : Fin cfg0.N) (r : Fin 128) (k : Fin 256) :
    dqOut (F := Ideal) (headDq (grid0.coords t) (iblk m c 0 t) (iblk m c 1 t) (iblk m c 2 t) (iblk m c 3 t) (iblk m c 4 t)) (ix2 r k)
      = Spec.dq (arg0 m c) (arg1 m c) (arg2 m c) ⟨(t.val / 16 * 256 + k.val) / 64, by have := t_lt t; omega⟩ (row (tile t) r) ⟨(t.val / 16 * 256 + k.val) % 64, by omega⟩ := by
  have ht := t_lt t
  refine (point_dq m c t ⟨k.val / 64, by omega⟩ r ⟨k.val % 64, by omega⟩).trans ?_
  have e1 : head t ⟨k.val / 64, by omega⟩ = ⟨(t.val / 16 * 256 + k.val) / 64, by omega⟩ := Fin.ext (by dsimp only; omega)
  have e2 : (⟨k.val % 64, by omega⟩ : Fin 64) = ⟨(t.val / 16 * 256 + k.val) % 64, by omega⟩ := Fin.ext (by dsimp only; omega)
  rw [e1, e2]

theorem final_dq : (dats m 0 c).arrAt 7 cfg0.N = fun y : S2048x512.Idx =>
    Spec.dq (arg0 m c) (arg1 m c) (arg2 m c) ⟨(y 1).val / 64, by have : (y 1).val < 512 := (y 1).isLt; omega⟩ (y 0) ⟨(y 1).val % 64, by omega⟩ := by
  refine (dats m 0 c).arrAt_eq_of_covers 7 _ (by decide +kernel) fun t hf y => ?_
  have ht := t_lt t
  have e : (win0_7.blk t).view.emb y = ix2 (row (tile t) (y 0)) ⟨t.val / 16 * 256 + (y 1).val, by have : (y 1).val < 256 := (y 1).isLt; omega⟩ := by
    blk_ext [blk_idx t]
    show _ = 128 * (t.val % 16) + (y 0).val; omega
  refine Eq.trans ?_ (congrArg (fun y : S2048x512.Idx =>
    Spec.dq (arg0 m c) (arg1 m c) (arg2 m c) ⟨(y 1).val / 64, by have : (y 1).val < 512 := (y 1).isLt; omega⟩ (y 0) ⟨(y 1).val % 64, by omega⟩) e).symm
  blk_simp
  rw [after0_7]
  exact (congrArg _ (eq_ix2 (n0 := 128) (n1 := 256) y)).trans (point_dqOut m c t (y 0) (y 1))

theorem final_dk : (dats m 0 c).arrAt 8 cfg0.N = fun y : S2x20x256x128.Idx => Spec.tiles (Spec.dk (arg0 m c) (arg1 m c) (arg2 m c)) (y 0) (y 1) (y 2) (y 3) := by
  refine (dats m 0 c).arrAt_eq_of_covers 8 _ (by decide +kernel) fun t hf y => ?_
  have ht := t_lt t
  have e : (win0_8.blk t).view.emb y = ix4 ⟨t.val / 16, by omega⟩ (y 1) (y 2) (y 3) := by
    blk_ext [blk_idx t]
  refine Eq.trans ?_ (congrArg (fun y : S2x20x256x128.Idx => Spec.tiles (Spec.dk (arg0 m c) (arg1 m c) (arg2 m c)) (y 0) (y 1) (y 2) (y 3)) e).symm
  blk_simp
  rw [after0_8]
  have ey : y = ix4 0 (y 1) (y 2) (y 3) := by blk_ext []
  exact (congrArg _ ey).trans (acc_dk m c t ((flush0_8 t).mp hf) (y 1) (y 2) (y 3))

theorem final_dv : (dats m 0 c).arrAt 9 cfg0.N = fun y : S2x20x256x128.Idx => Spec.tiles (Spec.dv (arg0 m c) (arg1 m c) (arg2 m c)) (y 0) (y 1) (y 2) (y 3) := by
  refine (dats m 0 c).arrAt_eq_of_covers 9 _ (by decide +kernel) fun t hf y => ?_
  have ht := t_lt t
  have e : (win0_9.blk t).view.emb y = ix4 ⟨t.val / 16, by omega⟩ (y 1) (y 2) (y 3) := by
    blk_ext [blk_idx t]
  refine Eq.trans ?_ (congrArg (fun y : S2x20x256x128.Idx => Spec.tiles (Spec.dv (arg0 m c) (arg1 m c) (arg2 m c)) (y 0) (y 1) (y 2) (y 3)) e).symm
  blk_simp
  rw [after0_9]
  have ey : y = ix4 0 (y 1) (y 2) (y 3) := by blk_ext []
  exact (congrArg _ ey).trans (acc_dv m c t ((flush0_9 t).mp hf) (y 1) (y 2) (y 3))

theorem final_db : (dats m 0 c).arrAt 10 cfg0.N = fun y : S8x128x640.Idx => Spec.db (arg0 m c) (arg1 m c) (arg2 m c) (y 0) (y 1) (y 2) := by
  refine (dats m 0 c).arrAt_eq_of_covers 10 _ (by decide +kernel) fun t hf y => ?_
  have ht := t_lt t
  have e : (win0_10.blk t).view.emb y = ix3 (head t (y 0)) (y 1) (y 2) := by
    blk_ext [blk_idx t]
  refine Eq.trans ?_ (congrArg (fun y : S8x128x640.Idx => Spec.db (arg0 m c) (arg1 m c) (arg2 m c) (y 0) (y 1) (y 2)) e).symm
  blk_simp
  rw [after0_10]
  exact (congrArg _ (eq_ix3 (n0 := 4) (n1 := 128) (n2 := 640) y)).trans (acc_db m c t ((flush0_10 t).mp hf) (y 0) (y 1) (y 2))

end Cert.KernelIdeal.Gen
-- ==== Proof.Pre.lean ====
module

public import proofs.«01_k».proof.Defs
public import proofs.«01_k».proof.Proof.Finite
public import Idealize.ShloMosaic.Lib.ReduceAll
public import Idealize.ShloMosaic.Lib.Pipeline.ValueKit

@[expose] public section

set_option maxRecDepth 16384

noncomputable section

/-! What the precondition says: the queries, the keys and the biases are real numbers; and so the softmax's sums are
    positive real numbers. -/

namespace Cert.Pre_finite.Gen

open Idealize.ShloMosaic

instance facts : Cert.Pre_finite.Facts where
  slices_S2048x3072_S2048x1024_0_768 := by decide
  bcast_S_S2048x1024 := by decide
  reducesTo_S2048x1024_S_d0_1 := by decide
  h_S_ := by decide
  bcast_S_S8x128x640 := by decide
  reducesTo_S8x128x640_S_d0_1_2 := by decide

instance : Subsingleton S_.Idx := ⟨fun a b => funext fun d => d.elim0⟩

theorem inf_f32 : Ideal.ofBits .f32 0x7F800000#32 = ⊤ := by
  simp [Ideal.ofBits, Ideal.ieee]

/-- An absolute value below the infinity is a real number's. -/
theorem real_of_lt (x : EReal) (h : Ideal.cmp .olt (max x (-x)) (Ideal.ofBits .f32 0x7F800000#32) = 1#1) : Spec.IsR x := by
  rw [inf_f32] at h
  have h' : max x (-x) < ⊤ := by
    by_contra hn
    simp [Ideal.cmp, hn] at h
  refine Spec.IsR.of_ne (fun e => ?_) (fun e => ?_)
  · subst e; simp at h'
  · subst e; simp at h'

variable (x0 : Spec.A0) (x1 : Spec.A1) (x2 : Spec.A2)

/-- A column of the slice of the queries and the keys. -/
theorem slice_apply (hs : S2048x3072.Slices ![0, 768] S2048x1024) (t : Fin 2048) (j : Fin 1024) :
    extractStridedSlice S2048x1024 ![0, 768] x0 hs (ix2 t j) = x0 (ix2 t ⟨768 + j.val, by omega⟩) := by
  pointwise []

theorem both (h : fn (F := Ideal) x0 x1 x2 = fun _ => 1#1) :
    (∀ i : S2048x1024.Idx, Spec.IsR (extractStridedSlice S2048x1024 ![0, 768] x0 Facts.slices_S2048x3072_S2048x1024_0_768 i)) ∧ ∀ i, Spec.IsR (x1 i) := by
  have h0 := congrFun h (fun d => d.elim0)
  unfold fn at h0
  obtain ⟨ha, hb⟩ := IntOp.andi_eq_one.1 h0
  exact ⟨fun i => real_of_lt _ (Host.reduce_andi_all _ _ _ _ _ ha i), fun i => real_of_lt _ (Host.reduce_andi_all _ _ _ _ _ hb i)⟩

/-- The softmax's sums are positive real numbers. -/
theorem sm_pos (h : fn (F := Ideal) x0 x1 x2 = fun _ => 1#1) (hd : Fin 8) (t : Fin 2048) :
    ∃ L : ℝ, 0 < L ∧ Spec.sm x0 x1 hd t = L := by
  obtain ⟨ha, hb⟩ := both x0 x1 x2 h
  refine Spec.sm_real x0 x1 (fun h t d => ?_) (fun h t d => ?_) hb hd t
  · have e := ha (ix2 t ⟨64 * h.val + d.val, by omega⟩)
    rw [slice_apply] at e
    have e' : (⟨768 + (64 * h.val + d.val), by omega⟩ : Fin 3072) = ⟨768 + 64 * h.val + d.val, by omega⟩ := Fin.ext (by simp only; omega)
    rw [Spec.q, ← e']; exact e
  · have e := ha (ix2 t ⟨512 + 64 * h.val + d.val, by omega⟩)
    rw [slice_apply] at e
    have e' : (⟨768 + (512 + 64 * h.val + d.val), by omega⟩ : Fin 3072) = ⟨1280 + 64 * h.val + d.val, by omega⟩ := Fin.ext (by simp only; omega)
    rw [Spec.k, ← e']; exact e

end Cert.Pre_finite.Gen

end
-- ==== Proof.Words.lean ====
module

public import proofs.«01_k».proof.Defs
public import proofs.«01_k».proof.Proof.Gen.Kernel
public import proofs.«01_k».proof.Proof.Dats

@[expose] public section

set_option maxRecDepth 100000
set_option maxHeartbeats 4000000

noncomputable section

/-! The kernel at words is the idealized kernel with the named constant read as its word, and so has its run. -/

namespace Cert.Proof

open Idealize.ShloMosaic Idealize.SL.Sem

/-- A named constant at words is its word. -/
abbrev atWord : Named Bits where
  named _ _ {φ} bits := FloatOps.ofBits φ bits

attribute [local instance] atWord

theorem body_eq : @Cert.Kernel.cc0_chunk_bwd Bits _ _ = @Cert.KernelIdeal.cc0_chunk_bwd Bits _ _ _ := rfl

theorem defs₀_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

theorem defs_eq : Cert.Kernel.defs (F := Bits) = Cert.KernelIdeal.defs (F := Bits) :=
  congrArg (Pipeline.defs Cert.Kernel.pcfgs) defs₀_eq

/-- The kernel at words: every execution ends, the arguments and the counters as they were. -/
theorem frame_kernel : Cert.quiescent_Kernel := fun m g _ =>
  Eq.mpr (congrArg (fun d => θ_run d _ _ _) defs_eq) (Cert.KernelIdeal.Gen.frame (F := Bits) m g)

end Cert.Proof

end
-- ==== Proof.Adam.lean ====
/- One AdamW step of a value, and the kernels' factors, which are the reciprocals of the reference's divisors. -/
module

public import Idealize.ShloMosaic.PureOps.Ideal

@[expose] public section

noncomputable section

namespace Cert.Adam

open Idealize.ShloMosaic

theorem ofBits_d1 : Ideal.ofBits .f32 0x3F26BD02#32 = ((5463681 / 8388608 : ℝ) : EReal) := by
  simp [Ideal.ofBits, Ideal.ieee, -EReal.coe_mul]; norm_num

theorem ofBits_d2 : Ideal.ofBits .f32 0x3C231ACC#32 = ((2672307 / 268435456 : ℝ) : EReal) := by
  simp [Ideal.ofBits, Ideal.ieee, -EReal.coe_mul]; norm_num

/-- Dividing by the first divisor is multiplying by the first factor. -/
theorem div_d1 (x : EReal) : Ideal.div x (Ideal.ofBits .f32 0x3F26BD02#32) = x * ((8388608 / 5463681 : ℝ) : EReal) := by
  rw [ofBits_d1, Ideal.div_coe (by norm_num)]; norm_num

/-- And so for the second. -/
theorem div_d2 (x : EReal) : Ideal.div x (Ideal.ofBits .f32 0x3C231ACC#32) = x * ((268435456 / 2672307 : ℝ) : EReal) := by
  rw [ofBits_d2, Ideal.div_coe (by norm_num)]; norm_num

end Cert.Adam

end
-- ==== Proof.Adam18.lean ====
module

public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Read
public import proofs.«01_k».proof.Proof.Adam
public import Idealize.ShloMosaic.Lib.Pipeline.ValueKit

@[expose] public section

set_option maxRecDepth 16384

noncomputable section

namespace Cert.Kernel18Ideal.Value

open Cert.Kernel18Ideal Cert.Kernel18Ideal.Gen Idealize.ShloMosaic Idealize.ShloMosaic.TcCoe Idealize.SL.Sem
open Cert.Reference18Ideal.Read

variable (m : (ℓ : Loc nD τ sig) → Buf (Elt Ideal) ℓ)

theorem named_c1 : Named.named (F := Ideal) κ "c1" (φ := .f32) 0x3FC48605#32 = ((8388608 / 5463681 : ℝ) : EReal) := rfl
theorem named_c2 : Named.named (F := Ideal) κ "c2" (φ := .f32) 0x42C8E6D3#32 = ((268435456 / 2672307 : ℝ) : EReal) := rfl

variable (x0 x1 : S8x704x1024.Idx → EReal)

/-- The gradient: the sum over the devices of what each computed for the layer. -/
def grad (i : S2x1024x704.Idx) : EReal :=
  if (i 0).val = 0 then ∑ k : Fin 8, x0 (ix3 k (i 2) (i 1)) else ∑ k : Fin 8, x1 (ix3 k (i 2) (i 1))

theorem at_grad (a : Fin 2) (r : Fin 1024) (k : Fin 704) : val_main_v6 (F := Ideal) x0 x1 (ix3 a r k) = grad x0 x1 (ix3 a r k) := by
  unfold grad
  match a with
  | 0 =>
    pointwise [val_main_v6, val_main_v5, val_main_v4, val_main_v3, val_main_v2, val_main_v1, val_main_v0, val_main_cst, val_main_cst_0]
    all_goals blk_point []
  | 1 =>
    pointwise [val_main_v6, val_main_v5, val_main_v4, val_main_v3, val_main_v2, val_main_v1, val_main_v0, val_main_cst, val_main_cst_0]
    all_goals blk_point []

theorem ref_grad : val_main_v6 (F := Ideal) x0 x1 = grad x0 x1 :=
  funext fun i => (congrArg _ (eq_ix3 i)).trans ((at_grad x0 x1 (i 0) (i 1) (i 2)).trans (congrArg _ (eq_ix3 i)).symm)

/-- Which block each window holds at a grid point. -/
theorem idx : ∀ t : Fin cfg0.N, win0_0.index t = ![0, 0, 0 + min t.val 3, 0]
    ∧ win0_1.index t = ![0, 0, 0 + (t.val - 4), 0]
    ∧ win0_2.index t = ![t.val / 4, t.val % 4, 0]
    ∧ win0_3.index t = ![t.val / 4, t.val % 4, 0]
    ∧ win0_4.index t = ![t.val / 4, t.val % 4, 0]
    ∧ win0_5.index t = ![t.val / 4, t.val % 4, 0]
    ∧ win0_6.index t = ![t.val / 4, t.val % 4, 0]
    ∧ win0_7.index t = ![t.val / 4, t.val % 4, 0]
    ∧ win0_8.index t = ![t.val / 4, t.val % 4, 0] :=
  (by decide +kernel : ∀ t : Fin grid0.N, _)

/-- The layer a grid point's block belongs to. -/
theorem layer : ∀ t : Fin cfg0.N, Scalar.cmpi .eq (BitVec.ofNat 32 (grid0.coords t 0).val) 1#32 = if t.val < 4 then 0#1 else 1#1 :=
  (by decide +kernel : ∀ t : Fin grid0.N, _)

/-- What the block of a device's share of a layer's gradient holds. -/
abbrev part0 (c : Dev nD) (t : Fin cfg0.N) (x : S1x176x1024.Idx) (k : Fin 8) : EReal := iblk m c 0 t (ix4 k 0 (x 1) (x 2))
abbrev part1 (c : Dev nD) (t : Fin cfg0.N) (x : S1x176x1024.Idx) (k : Fin 8) : EReal := iblk m c 1 t (ix4 k 0 (x 1) (x 2))

theorem blk0 (c : Dev nD) (t : Fin cfg0.N) (hl : t.val < 4) (k : Fin 8) (x : S1x176x1024.Idx) :
    part0 m c t x k = (m ((c : Thread nD τ).loc main_arg0)) (ix3 k ⟨t.val % 4 * 176 + (x 1).val, by have h : (x 1).val < 176 := (x 1).isLt; omega⟩ (x 2)) := by
  have ht : t.val < 8 := t.isLt
  have h0 : (x 0).val < 1 := (x 0).isLt
  have h1 : (x 1).val < 176 := (x 1).isLt
  unfold part0
  blk_point [iblk, V, idx t]

theorem blk1 (c : Dev nD) (t : Fin cfg0.N) (hl : ¬ t.val < 4) (k : Fin 8) (x : S1x176x1024.Idx) :
    part1 m c t x k = (m ((c : Thread nD τ).loc main_arg1)) (ix3 k ⟨t.val % 4 * 176 + (x 1).val, by have h : (x 1).val < 176 := (x 1).isLt; omega⟩ (x 2)) := by
  have ht : t.val < 8 := t.isLt
  have h0 : (x 0).val < 1 := (x 0).isLt
  have h1 : (x 1).val < 176 := (x 1).isLt
  unfold part1
  blk_point [iblk, V, idx t]

/-- What the body sums at a grid point is the gradient of the point's layer. -/
theorem summed (c : Dev nD) (t : Fin cfg0.N) (x : S1x176x1024.Idx) :
    Scalar.select (if t.val < 4 then 0#1 else 1#1)
      (part1 m c t x 0 + part1 m c t x 1 + part1 m c t x 2 + part1 m c t x 3 + part1 m c t x 4 + part1 m c t x 5 + part1 m c t x 6 + part1 m c t x 7)
      (part0 m c t x 0 + part0 m c t x 1 + part0 m c t x 2 + part0 m c t x 3 + part0 m c t x 4 + part0 m c t x 5 + part0 m c t x 6 + part0 m c t x 7)
      = grad (m ((c : Thread nD τ).loc main_arg0)) (m ((c : Thread nD τ).loc main_arg1)) (ix3 ⟨t.val / 4, by have ht : t.val < 8 := t.isLt; omega⟩ (x 2) ⟨t.val % 4 * 176 + (x 1).val, by have h : (x 1).val < 176 := (x 1).isLt; omega⟩ ) := by
  have ht : t.val < 8 := t.isLt
  by_cases hl : t.val < 4
  · have h0 : t.val / 4 = 0 := by omega
    unfold grad
    rw [if_pos hl, if_pos (show (((ix3 ⟨t.val / 4, by have ht : t.val < 8 := t.isLt; omega⟩ (x 2) ⟨t.val % 4 * 176 + (x 1).val, by have h : (x 1).val < 176 := (x 1).isLt; omega⟩ ) : S2x1024x704.Idx) 0).val = 0 from h0), Fin.sum_univ_eight]
    simp only [blk0 m c t hl]
    rfl
  · have h0 : ¬ t.val / 4 = 0 := by omega
    unfold grad
    rw [if_neg hl, if_neg (show ¬ (((ix3 ⟨t.val / 4, by have ht : t.val < 8 := t.isLt; omega⟩ (x 2) ⟨t.val % 4 * 176 + (x 1).val, by have h : (x 1).val < 176 := (x 1).isLt; omega⟩ ) : S2x1024x704.Idx) 0).val = 0 from h0), Fin.sum_univ_eight]
    simp only [blk1 m c t hl]
    rfl

/-- A point's block of the gradient is the reference's. -/
theorem point_g (c : Dev nD) (t : Fin cfg0.N) (y : S1x176x1024.Idx) :
    out0_5 (F := Ideal) (grid0.coords t) (iblk m c 0 t) (iblk m c 1 t) (iblk m c 2 t) (iblk m c 3 t) (iblk m c 4 t) y
      = val_main_v31 (F := Ideal) (m ((c : Thread nD τ).loc main_arg0)) (m ((c : Thread nD τ).loc main_arg1)) (((cfg0.win 5).blk t).view.emb y) := by
  have ht : t.val < 8 := t.isLt
  unfold_out out0_5
  rw [layer t]
  canon_tiles x h
  open_payloads
  pointwise [val_main_v31]
  rw [ref_grad, summed m c t x]
  generalize grad (m ((c : Thread nD τ).loc main_arg0)) (m ((c : Thread nD τ).loc main_arg1)) = g
  blk_point [iblk, V, idx t]

/-- The kernel's gradient is the reference's. -/
theorem final_g (c : Dev nD) : (dats m 0 c).arrAt 5 (cfgs 0).N = val_main_v31 (F := Ideal) (m ((c : Thread nD τ).loc main_arg0)) (m ((c : Thread nD τ).loc main_arg1)) := by
  refine (dats m 0 c).arrAt_eq_of_covers 5 _ (by decide +kernel) fun t _ y => ?_
  blk_simp
  rw [after0_5]
  exact point_g m c t y

/-- A point's block of the step is the reference's. -/
theorem point_d (c : Dev nD) (t : Fin cfg0.N) (y : S1x176x1024.Idx) :
    out0_6 (F := Ideal) (grid0.coords t) (iblk m c 0 t) (iblk m c 1 t) (iblk m c 2 t) (iblk m c 3 t) (iblk m c 4 t) y
      = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  have ht : t.val < 8 := t.isLt
  unfold_out out0_6
  rw [layer t]
  canon_tiles x h
  open_payloads
  pointwise [val_main_v32, val_main_v30, val_main_v29, val_main_v28, val_main_v27, val_main_v26, val_main_v25, val_main_v24,
    val_main_v23, val_main_v22, val_main_v21, val_main_v20, val_main_v19, val_main_v18, val_main_v17, val_main_v16,
    val_main_v15, val_main_v14, val_main_v13, val_main_v12, val_main_v11, val_main_v10, val_main_v9, val_main_v8,
    val_main_v7, val_main_cst_1, val_main_cst_2, val_main_cst_3, val_main_cst_4, val_main_cst_5, val_main_cst_6,
    val_main_cst_7, val_main_cst_8, val_main_cst_9]
  rw [named_c1, named_c2, Cert.Adam.div_d1, Cert.Adam.div_d2]
  rw [ref_grad, summed m c t x]
  generalize grad (m ((c : Thread nD τ).loc main_arg0)) (m ((c : Thread nD τ).loc main_arg1)) = g
  blk_point [iblk, V, idx t]

/-- The kernel's step is the reference's. -/
theorem final_d (c : Dev nD) : (dats m 0 c).arrAt 6 (cfgs 0).N = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  exact point_d m c t y

/-- A point's block of the first moment is the reference's. -/
theorem point_m (c : Dev nD) (t : Fin cfg0.N) (y : S1x176x1024.Idx) :
    out0_7 (F := Ideal) (grid0.coords t) (iblk m c 0 t) (iblk m c 1 t) (iblk m c 2 t) (iblk m c 3 t) (iblk m c 4 t) y
      = val_main_v33 (F := Ideal) (m ((c : Thread nD τ).loc main_arg0)) (m ((c : Thread nD τ).loc main_arg1)) (m ((c : Thread nD τ).loc main_arg3)) (((cfg0.win 7).blk t).view.emb y) := by
  have ht : t.val < 8 := t.isLt
  unfold_out out0_7
  rw [layer t]
  canon_tiles x h
  open_payloads
  pointwise [val_main_v33, val_main_v11, val_main_v10, val_main_v9, val_main_v8, val_main_v7, val_main_cst_1, val_main_cst_2]
  rw [ref_grad, summed m c t x]
  generalize grad (m ((c : Thread nD τ).loc main_arg0)) (m ((c : Thread nD τ).loc main_arg1)) = g
  blk_point [iblk, V, idx t]

/-- The kernel's first moment is the reference's. -/
theorem final_m (c : Dev nD) : (dats m 0 c).arrAt 7 (cfgs 0).N = val_main_v33 (F := Ideal) (m ((c : Thread nD τ).loc main_arg0)) (m ((c : Thread nD τ).loc main_arg1)) (m ((c : Thread nD τ).loc main_arg3)) := by
  refine (dats m 0 c).arrAt_eq_of_covers 7 _ (by decide +kernel) fun t _ y => ?_
  blk_simp
  rw [after0_7]
  exact point_m m c t y

/-- A point's block of the second moment is the reference's. -/
theorem point_v (c : Dev nD) (t : Fin cfg0.N) (y : S1x176x1024.Idx) :
    out0_8 (F := Ideal) (grid0.coords t) (iblk m c 0 t) (iblk m c 1 t) (iblk m c 2 t) (iblk m c 3 t) (iblk m c 4 t) y
      = val_main_v34 (F := Ideal) (m ((c : Thread nD τ).loc main_arg0)) (m ((c : Thread nD τ).loc main_arg1)) (m ((c : Thread nD τ).loc main_arg4)) (((cfg0.win 8).blk t).view.emb y) := by
  have ht : t.val < 8 := t.isLt
  unfold_out out0_8
  rw [layer t]
  canon_tiles x h
  open_payloads
  pointwise [val_main_v34, val_main_v17, val_main_v16, val_main_v15, val_main_v14, val_main_v13, val_main_v12, val_main_cst_3,
    val_main_cst_4]
  rw [ref_grad, summed m c t x]
  generalize grad (m ((c : Thread nD τ).loc main_arg0)) (m ((c : Thread nD τ).loc main_arg1)) = g
  blk_point [iblk, V, idx t]

/-- The kernel's second moment is the reference's. -/
theorem final_v (c : Dev nD) : (dats m 0 c).arrAt 8 (cfgs 0).N = val_main_v34 (F := Ideal) (m ((c : Thread nD τ).loc main_arg0)) (m ((c : Thread nD τ).loc main_arg1)) (m ((c : Thread nD τ).loc main_arg4)) := by
  refine (dats m 0 c).arrAt_eq_of_covers 8 _ (by decide +kernel) fun t _ y => ?_
  blk_simp
  rw [after0_8]
  exact point_v m c t y

end Cert.Kernel18Ideal.Value

end
-- ==== Proof.Adam19.lean ====
module

public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Read
public import proofs.«01_k».proof.Proof.Adam
public import Idealize.ShloMosaic.Lib.Pipeline.ValueKit

@[expose] public section

set_option maxRecDepth 16384

noncomputable section

namespace Cert.Kernel19Ideal.Value

open Cert.Kernel19Ideal Cert.Kernel19Ideal.Gen Idealize.ShloMosaic Idealize.ShloMosaic.TcCoe Idealize.SL.Sem
open Cert.Reference19Ideal.Read

variable (m : (ℓ : Loc nD τ sig) → Buf (Elt Ideal) ℓ)

theorem named_c1 : Named.named (F := Ideal) κ "c1" (φ := .f32) 0x3FC48605#32 = ((8388608 / 5463681 : ℝ) : EReal) := rfl
theorem named_c2 : Named.named (F := Ideal) κ "c2" (φ := .f32) 0x42C8E6D3#32 = ((268435456 / 2672307 : ℝ) : EReal) := rfl

variable (x0 x1 : S8x352x1024.Idx → EReal)

/-- The gradient: the sum over the devices of what each computed for the layer. -/
def grad (i : S2x352x1024.Idx) : EReal :=
  if (i 0).val = 0 then ∑ k : Fin 8, x0 (ix3 k (i 1) (i 2)) else ∑ k : Fin 8, x1 (ix3 k (i 1) (i 2))

theorem at_grad (a : Fin 2) (r : Fin 352) (k : Fin 1024) : val_main_v4 (F := Ideal) x0 x1 (ix3 a r k) = grad x0 x1 (ix3 a r k) := by
  unfold grad
  match a with
  | 0 =>
    pointwise [val_main_v4, val_main_v3, val_main_v2, val_main_v1, val_main_v0, val_main_cst, val_main_cst_0]
    all_goals blk_point []
  | 1 =>
    pointwise [val_main_v4, val_main_v3, val_main_v2, val_main_v1, val_main_v0, val_main_cst, val_main_cst_0]
    all_goals blk_point []

theorem ref_grad : val_main_v4 (F := Ideal) x0 x1 = grad x0 x1 :=
  funext fun i => (congrArg _ (eq_ix3 i)).trans ((at_grad x0 x1 (i 0) (i 1) (i 2)).trans (congrArg _ (eq_ix3 i)).symm)

/-- Which block each window holds at a grid point. -/
theorem idx : ∀ t : Fin cfg0.N, win0_0.index t = ![0, 0, 0 + min t.val 1, 0]
    ∧ win0_1.index t = ![0, 0, 0 + (t.val - 2), 0]
    ∧ win0_2.index t = ![t.val / 2, t.val % 2, 0]
    ∧ win0_3.index t = ![t.val / 2, t.val % 2, 0]
    ∧ win0_4.index t = ![t.val / 2, t.val % 2, 0]
    ∧ win0_5.index t = ![t.val / 2, t.val % 2, 0]
    ∧ win0_6.index t = ![t.val / 2, t.val % 2, 0]
    ∧ win0_7.index t = ![t.val / 2, t.val % 2, 0]
    ∧ win0_8.index t = ![t.val / 2, t.val % 2, 0] :=
  (by decide +kernel : ∀ t : Fin grid0.N, _)

/-- The layer a grid point's block belongs to. -/
theorem layer : ∀ t : Fin cfg0.N, Scalar.cmpi .eq (BitVec.ofNat 32 (grid0.coords t 0).val) 1#32 = if t.val < 2 then 0#1 else 1#1 :=
  (by decide +kernel : ∀ t : Fin grid0.N, _)

/-- What the block of a device's share of a layer's gradient holds. -/
abbrev part0 (c : Dev nD) (t : Fin cfg0.N) (x : S1x176x1024.Idx) (k : Fin 8) : EReal := iblk m c 0 t (ix4 k 0 (x 1) (x 2))
abbrev part1 (c : Dev nD) (t : Fin cfg0.N) (x : S1x176x1024.Idx) (k : Fin 8) : EReal := iblk m c 1 t (ix4 k 0 (x 1) (x 2))

theorem blk0 (c : Dev nD) (t : Fin cfg0.N) (hl : t.val < 2) (k : Fin 8) (x : S1x176x1024.Idx) :
    part0 m c t x k = (m ((c : Thread nD τ).loc main_arg0)) (ix3 k ⟨t.val % 2 * 176 + (x 1).val, by have h : (x 1).val < 176 := (x 1).isLt; omega⟩ (x 2)) := by
  have ht : t.val < 4 := t.isLt
  have h0 : (x 0).val < 1 := (x 0).isLt
  have h1 : (x 1).val < 176 := (x 1).isLt
  unfold part0
  blk_point [iblk, V, idx t]

theorem blk1 (c : Dev nD) (t : Fin cfg0.N) (hl : ¬ t.val < 2) (k : Fin 8) (x : S1x176x1024.Idx) :
    part1 m c t x k = (m ((c : Thread nD τ).loc main_arg1)) (ix3 k ⟨t.val % 2 * 176 + (x 1).val, by have h : (x 1).val < 176 := (x 1).isLt; omega⟩ (x 2)) := by
  have ht : t.val < 4 := t.isLt
  have h0 : (x 0).val < 1 := (x 0).isLt
  have h1 : (x 1).val < 176 := (x 1).isLt
  unfold part1
  blk_point [iblk, V, idx t]

/-- What the body sums at a grid point is the gradient of the point's layer. -/
theorem summed (c : Dev nD) (t : Fin cfg0.N) (x : S1x176x1024.Idx) :
    Scalar.select (if t.val < 2 then 0#1 else 1#1)
      (part1 m c t x 0 + part1 m c t x 1 + part1 m c t x 2 + part1 m c t x 3 + part1 m c t x 4 + part1 m c t x 5 + part1 m c t x 6 + part1 m c t x 7)
      (part0 m c t x 0 + part0 m c t x 1 + part0 m c t x 2 + part0 m c t x 3 + part0 m c t x 4 + part0 m c t x 5 + part0 m c t x 6 + part0 m c t x 7)
      = grad (m ((c : Thread nD τ).loc main_arg0)) (m ((c : Thread nD τ).loc main_arg1)) (ix3 ⟨t.val / 2, by have ht : t.val < 4 := t.isLt; omega⟩ ⟨t.val % 2 * 176 + (x 1).val, by have h : (x 1).val < 176 := (x 1).isLt; omega⟩ (x 2)) := by
  have ht : t.val < 4 := t.isLt
  by_cases hl : t.val < 2
  · have h0 : t.val / 2 = 0 := by omega
    unfold grad
    rw [if_pos hl, if_pos (show (((ix3 ⟨t.val / 2, by have ht : t.val < 4 := t.isLt; omega⟩ ⟨t.val % 2 * 176 + (x 1).val, by have h : (x 1).val < 176 := (x 1).isLt; omega⟩ (x 2)) : S2x352x1024.Idx) 0).val = 0 from h0), Fin.sum_univ_eight]
    simp only [blk0 m c t hl]
    rfl
  · have h0 : ¬ t.val / 2 = 0 := by omega
    unfold grad
    rw [if_neg hl, if_neg (show ¬ (((ix3 ⟨t.val / 2, by have ht : t.val < 4 := t.isLt; omega⟩ ⟨t.val % 2 * 176 + (x 1).val, by have h : (x 1).val < 176 := (x 1).isLt; omega⟩ (x 2)) : S2x352x1024.Idx) 0).val = 0 from h0), Fin.sum_univ_eight]
    simp only [blk1 m c t hl]
    rfl

/-- A point's block of the gradient is the reference's. -/
theorem point_g (c : Dev nD) (t : Fin cfg0.N) (y : S1x176x1024.Idx) :
    out0_5 (F := Ideal) (grid0.coords t) (iblk m c 0 t) (iblk m c 1 t) (iblk m c 2 t) (iblk m c 3 t) (iblk m c 4 t) y
      = val_main_v4 (F := Ideal) (m ((c : Thread nD τ).loc main_arg0)) (m ((c : Thread nD τ).loc main_arg1)) (((cfg0.win 5).blk t).view.emb y) := by
  have ht : t.val < 4 := t.isLt
  unfold_out out0_5
  rw [layer t]
  canon_tiles x h
  open_payloads
  pointwise []
  rw [ref_grad, summed m c t x]
  generalize grad (m ((c : Thread nD τ).loc main_arg0)) (m ((c : Thread nD τ).loc main_arg1)) = g
  blk_point [iblk, V, idx t]

/-- The kernel's gradient is the reference's. -/
theorem final_g (c : Dev nD) : (dats m 0 c).arrAt 5 (cfgs 0).N = val_main_v4 (F := Ideal) (m ((c : Thread nD τ).loc main_arg0)) (m ((c : Thread nD τ).loc main_arg1)) := by
  refine (dats m 0 c).arrAt_eq_of_covers 5 _ (by decide +kernel) fun t _ y => ?_
  blk_simp
  rw [after0_5]
  exact point_g m c t y

/-- A point's block of the step is the reference's. -/
theorem point_d (c : Dev nD) (t : Fin cfg0.N) (y : S1x176x1024.Idx) :
    out0_6 (F := Ideal) (grid0.coords t) (iblk m c 0 t) (iblk m c 1 t) (iblk m c 2 t) (iblk m c 3 t) (iblk m c 4 t) y
      = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  have ht : t.val < 4 := t.isLt
  unfold_out out0_6
  rw [layer t]
  canon_tiles x h
  open_payloads
  pointwise [val_main_v28, val_main_v27, val_main_v26, val_main_v25, val_main_v24, val_main_v23, val_main_v22, val_main_v21,
    val_main_v20, val_main_v19, val_main_v18, val_main_v17, val_main_v16, val_main_v15, val_main_v14, val_main_v13,
    val_main_v12, val_main_v11, val_main_v10, val_main_v9, val_main_v8, val_main_v7, val_main_v6, val_main_v5,
    val_main_cst_1, val_main_cst_2, val_main_cst_3, val_main_cst_4, val_main_cst_5, val_main_cst_6, val_main_cst_7,
    val_main_cst_8, val_main_cst_9]
  rw [named_c1, named_c2, Cert.Adam.div_d1, Cert.Adam.div_d2]
  rw [ref_grad, summed m c t x]
  generalize grad (m ((c : Thread nD τ).loc main_arg0)) (m ((c : Thread nD τ).loc main_arg1)) = g
  blk_point [iblk, V, idx t]

/-- The kernel's step is the reference's. -/
theorem final_d (c : Dev nD) : (dats m 0 c).arrAt 6 (cfgs 0).N = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  exact point_d m c t y

/-- A point's block of the first moment is the reference's. -/
theorem point_m (c : Dev nD) (t : Fin cfg0.N) (y : S1x176x1024.Idx) :
    out0_7 (F := Ideal) (grid0.coords t) (iblk m c 0 t) (iblk m c 1 t) (iblk m c 2 t) (iblk m c 3 t) (iblk m c 4 t) y
      = val_main_v9 (F := Ideal) (m ((c : Thread nD τ).loc main_arg0)) (m ((c : Thread nD τ).loc main_arg1)) (m ((c : Thread nD τ).loc main_arg3)) (((cfg0.win 7).blk t).view.emb y) := by
  have ht : t.val < 4 := t.isLt
  unfold_out out0_7
  rw [layer t]
  canon_tiles x h
  open_payloads
  pointwise [val_main_v9, val_main_v8, val_main_v7, val_main_v6, val_main_v5, val_main_cst_1, val_main_cst_2]
  rw [ref_grad, summed m c t x]
  generalize grad (m ((c : Thread nD τ).loc main_arg0)) (m ((c : Thread nD τ).loc main_arg1)) = g
  blk_point [iblk, V, idx t]

/-- The kernel's first moment is the reference's. -/
theorem final_m (c : Dev nD) : (dats m 0 c).arrAt 7 (cfgs 0).N = val_main_v9 (F := Ideal) (m ((c : Thread nD τ).loc main_arg0)) (m ((c : Thread nD τ).loc main_arg1)) (m ((c : Thread nD τ).loc main_arg3)) := by
  refine (dats m 0 c).arrAt_eq_of_covers 7 _ (by decide +kernel) fun t _ y => ?_
  blk_simp
  rw [after0_7]
  exact point_m m c t y

/-- A point's block of the second moment is the reference's. -/
theorem point_v (c : Dev nD) (t : Fin cfg0.N) (y : S1x176x1024.Idx) :
    out0_8 (F := Ideal) (grid0.coords t) (iblk m c 0 t) (iblk m c 1 t) (iblk m c 2 t) (iblk m c 3 t) (iblk m c 4 t) y
      = val_main_v15 (F := Ideal) (m ((c : Thread nD τ).loc main_arg0)) (m ((c : Thread nD τ).loc main_arg1)) (m ((c : Thread nD τ).loc main_arg4)) (((cfg0.win 8).blk t).view.emb y) := by
  have ht : t.val < 4 := t.isLt
  unfold_out out0_8
  rw [layer t]
  canon_tiles x h
  open_payloads
  pointwise [val_main_v15, val_main_v14, val_main_v13, val_main_v12, val_main_v11, val_main_v10, val_main_cst_3, val_main_cst_4]
  rw [ref_grad, summed m c t x]
  generalize grad (m ((c : Thread nD τ).loc main_arg0)) (m ((c : Thread nD τ).loc main_arg1)) = g
  blk_point [iblk, V, idx t]

/-- The kernel's second moment is the reference's. -/
theorem final_v (c : Dev nD) : (dats m 0 c).arrAt 8 (cfgs 0).N = val_main_v15 (F := Ideal) (m ((c : Thread nD τ).loc main_arg0)) (m ((c : Thread nD τ).loc main_arg1)) (m ((c : Thread nD τ).loc main_arg4)) := by
  refine (dats m 0 c).arrAt_eq_of_covers 8 _ (by decide +kernel) fun t _ y => ?_
  blk_simp
  rw [after0_8]
  exact point_v m c t y

end Cert.Kernel19Ideal.Value

end
-- ==== Proof.Adam20.lean ====
module

public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Read
public import proofs.«01_k».proof.Proof.Adam
public import Idealize.ShloMosaic.Lib.Pipeline.ValueKit

@[expose] public section

set_option maxRecDepth 16384

noncomputable section

namespace Cert.Kernel20Ideal.Value

open Cert.Kernel20Ideal Cert.Kernel20Ideal.Gen Idealize.ShloMosaic Idealize.ShloMosaic.TcCoe Idealize.SL.Sem
open Cert.Reference20Ideal.Read

variable (m : (ℓ : Loc nD τ sig) → Buf (Elt Ideal) ℓ)

theorem named_c1 : Named.named (F := Ideal) κ "c1" (φ := .f32) 0x3FC48605#32 = ((8388608 / 5463681 : ℝ) : EReal) := rfl
theorem named_c2 : Named.named (F := Ideal) κ "c2" (φ := .f32) 0x42C8E6D3#32 = ((268435456 / 2672307 : ℝ) : EReal) := rfl

variable (x0 x1 : S8x128x1024.Idx → EReal)

/-- The gradient: the sum over the devices of what each computed for the layer. -/
def grad (i : S2x128x1024.Idx) : EReal :=
  if (i 0).val = 0 then ∑ k : Fin 8, x0 (ix3 k (i 1) (i 2)) else ∑ k : Fin 8, x1 (ix3 k (i 1) (i 2))

theorem at_grad (a : Fin 2) (r : Fin 128) (k : Fin 1024) : val_main_v4 (F := Ideal) x0 x1 (ix3 a r k) = grad x0 x1 (ix3 a r k) := by
  unfold grad
  match a with
  | 0 =>
    pointwise [val_main_v4, val_main_v3, val_main_v2, val_main_v1, val_main_v0, val_main_cst, val_main_cst_0]
    all_goals blk_point []
  | 1 =>
    pointwise [val_main_v4, val_main_v3, val_main_v2, val_main_v1, val_main_v0, val_main_cst, val_main_cst_0]
    all_goals blk_point []

theorem ref_grad : val_main_v4 (F := Ideal) x0 x1 = grad x0 x1 :=
  funext fun i => (congrArg _ (eq_ix3 i)).trans ((at_grad x0 x1 (i 0) (i 1) (i 2)).trans (congrArg _ (eq_ix3 i)).symm)

/-- Which block each window holds at a grid point. -/
theorem idx : ∀ t : Fin cfg0.N, win0_0.index t = ![0, 0, 0, 0]
    ∧ win0_1.index t = ![0, 0, 0, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0]
    ∧ win0_7.index t = ![t.val, 0, 0]
    ∧ win0_8.index t = ![t.val, 0, 0] :=
  (by decide +kernel : ∀ t : Fin grid0.N, _)

/-- The layer a grid point's block belongs to. -/
theorem layer : ∀ t : Fin cfg0.N, Scalar.cmpi .eq (BitVec.ofNat 32 (grid0.coords t 0).val) 1#32 = if t.val < 1 then 0#1 else 1#1 :=
  (by decide +kernel : ∀ t : Fin grid0.N, _)

/-- What the block of a device's share of a layer's gradient holds. -/
abbrev part0 (c : Dev nD) (t : Fin cfg0.N) (x : S1x128x1024.Idx) (k : Fin 8) : EReal := iblk m c 0 t (ix4 k 0 (x 1) (x 2))
abbrev part1 (c : Dev nD) (t : Fin cfg0.N) (x : S1x128x1024.Idx) (k : Fin 8) : EReal := iblk m c 1 t (ix4 k 0 (x 1) (x 2))

theorem blk0 (c : Dev nD) (t : Fin cfg0.N) (hl : t.val < 1) (k : Fin 8) (x : S1x128x1024.Idx) :
    part0 m c t x k = (m ((c : Thread nD τ).loc main_arg0)) (ix3 k ⟨t.val % 1 * 128 + (x 1).val, by have h : (x 1).val < 128 := (x 1).isLt; omega⟩ (x 2)) := by
  have ht : t.val < 2 := t.isLt
  have h0 : (x 0).val < 1 := (x 0).isLt
  have h1 : (x 1).val < 128 := (x 1).isLt
  unfold part0
  blk_point [iblk, V, idx t]

theorem blk1 (c : Dev nD) (t : Fin cfg0.N) (hl : ¬ t.val < 1) (k : Fin 8) (x : S1x128x1024.Idx) :
    part1 m c t x k = (m ((c : Thread nD τ).loc main_arg1)) (ix3 k ⟨t.val % 1 * 128 + (x 1).val, by have h : (x 1).val < 128 := (x 1).isLt; omega⟩ (x 2)) := by
  have ht : t.val < 2 := t.isLt
  have h0 : (x 0).val < 1 := (x 0).isLt
  have h1 : (x 1).val < 128 := (x 1).isLt
  unfold part1
  blk_point [iblk, V, idx t]

/-- What the body sums at a grid point is the gradient of the point's layer. -/
theorem summed (c : Dev nD) (t : Fin cfg0.N) (x : S1x128x1024.Idx) :
    Scalar.select (if t.val < 1 then 0#1 else 1#1)
      (part1 m c t x 0 + part1 m c t x 1 + part1 m c t x 2 + part1 m c t x 3 + part1 m c t x 4 + part1 m c t x 5 + part1 m c t x 6 + part1 m c t x 7)
      (part0 m c t x 0 + part0 m c t x 1 + part0 m c t x 2 + part0 m c t x 3 + part0 m c t x 4 + part0 m c t x 5 + part0 m c t x 6 + part0 m c t x 7)
      = grad (m ((c : Thread nD τ).loc main_arg0)) (m ((c : Thread nD τ).loc main_arg1)) (ix3 ⟨t.val / 1, by have ht : t.val < 2 := t.isLt; omega⟩ ⟨t.val % 1 * 128 + (x 1).val, by have h : (x 1).val < 128 := (x 1).isLt; omega⟩ (x 2)) := by
  have ht : t.val < 2 := t.isLt
  by_cases hl : t.val < 1
  · have h0 : t.val / 1 = 0 := by omega
    unfold grad
    rw [if_pos hl, if_pos (show (((ix3 ⟨t.val / 1, by have ht : t.val < 2 := t.isLt; omega⟩ ⟨t.val % 1 * 128 + (x 1).val, by have h : (x 1).val < 128 := (x 1).isLt; omega⟩ (x 2)) : S2x128x1024.Idx) 0).val = 0 from h0), Fin.sum_univ_eight]
    simp only [blk0 m c t hl]
    rfl
  · have h0 : ¬ t.val / 1 = 0 := by omega
    unfold grad
    rw [if_neg hl, if_neg (show ¬ (((ix3 ⟨t.val / 1, by have ht : t.val < 2 := t.isLt; omega⟩ ⟨t.val % 1 * 128 + (x 1).val, by have h : (x 1).val < 128 := (x 1).isLt; omega⟩ (x 2)) : S2x128x1024.Idx) 0).val = 0 from h0), Fin.sum_univ_eight]
    simp only [blk1 m c t hl]
    rfl

/-- A point's block of the gradient is the reference's. -/
theorem point_g (c : Dev nD) (t : Fin cfg0.N) (y : S1x128x1024.Idx) :
    out0_5 (F := Ideal) (grid0.coords t) (iblk m c 0 t) (iblk m c 1 t) (iblk m c 2 t) (iblk m c 3 t) (iblk m c 4 t) y
      = val_main_v4 (F := Ideal) (m ((c : Thread nD τ).loc main_arg0)) (m ((c : Thread nD τ).loc main_arg1)) (((cfg0.win 5).blk t).view.emb y) := by
  have ht : t.val < 2 := t.isLt
  unfold_out out0_5
  rw [layer t]
  canon_tiles x h
  open_payloads
  pointwise []
  rw [ref_grad, summed m c t x]
  generalize grad (m ((c : Thread nD τ).loc main_arg0)) (m ((c : Thread nD τ).loc main_arg1)) = g
  blk_point [iblk, V, idx t]

/-- The kernel's gradient is the reference's. -/
theorem final_g (c : Dev nD) : (dats m 0 c).arrAt 5 (cfgs 0).N = val_main_v4 (F := Ideal) (m ((c : Thread nD τ).loc main_arg0)) (m ((c : Thread nD τ).loc main_arg1)) := by
  refine (dats m 0 c).arrAt_eq_of_covers 5 _ (by decide +kernel) fun t _ y => ?_
  blk_simp
  rw [after0_5]
  exact point_g m c t y

/-- A point's block of the step is the reference's. -/
theorem point_d (c : Dev nD) (t : Fin cfg0.N) (y : S1x128x1024.Idx) :
    out0_6 (F := Ideal) (grid0.coords t) (iblk m c 0 t) (iblk m c 1 t) (iblk m c 2 t) (iblk m c 3 t) (iblk m c 4 t) y
      = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  have ht : t.val < 2 := t.isLt
  unfold_out out0_6
  rw [layer t]
  canon_tiles x h
  open_payloads
  pointwise [val_main_v28, val_main_v27, val_main_v26, val_main_v25, val_main_v24, val_main_v23, val_main_v22, val_main_v21,
    val_main_v20, val_main_v19, val_main_v18, val_main_v17, val_main_v16, val_main_v15, val_main_v14, val_main_v13,
    val_main_v12, val_main_v11, val_main_v10, val_main_v9, val_main_v8, val_main_v7, val_main_v6, val_main_v5,
    val_main_cst_1, val_main_cst_2, val_main_cst_3, val_main_cst_4, val_main_cst_5, val_main_cst_6, val_main_cst_7,
    val_main_cst_8, val_main_cst_9]
  rw [named_c1, named_c2, Cert.Adam.div_d1, Cert.Adam.div_d2]
  rw [ref_grad, summed m c t x]
  generalize grad (m ((c : Thread nD τ).loc main_arg0)) (m ((c : Thread nD τ).loc main_arg1)) = g
  blk_point [iblk, V, idx t]

/-- The kernel's step is the reference's. -/
theorem final_d (c : Dev nD) : (dats m 0 c).arrAt 6 (cfgs 0).N = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  exact point_d m c t y

/-- A point's block of the first moment is the reference's. -/
theorem point_m (c : Dev nD) (t : Fin cfg0.N) (y : S1x128x1024.Idx) :
    out0_7 (F := Ideal) (grid0.coords t) (iblk m c 0 t) (iblk m c 1 t) (iblk m c 2 t) (iblk m c 3 t) (iblk m c 4 t) y
      = val_main_v9 (F := Ideal) (m ((c : Thread nD τ).loc main_arg0)) (m ((c : Thread nD τ).loc main_arg1)) (m ((c : Thread nD τ).loc main_arg3)) (((cfg0.win 7).blk t).view.emb y) := by
  have ht : t.val < 2 := t.isLt
  unfold_out out0_7
  rw [layer t]
  canon_tiles x h
  open_payloads
  pointwise [val_main_v9, val_main_v8, val_main_v7, val_main_v6, val_main_v5, val_main_cst_1, val_main_cst_2]
  rw [ref_grad, summed m c t x]
  generalize grad (m ((c : Thread nD τ).loc main_arg0)) (m ((c : Thread nD τ).loc main_arg1)) = g
  blk_point [iblk, V, idx t]

/-- The kernel's first moment is the reference's. -/
theorem final_m (c : Dev nD) : (dats m 0 c).arrAt 7 (cfgs 0).N = val_main_v9 (F := Ideal) (m ((c : Thread nD τ).loc main_arg0)) (m ((c : Thread nD τ).loc main_arg1)) (m ((c : Thread nD τ).loc main_arg3)) := by
  refine (dats m 0 c).arrAt_eq_of_covers 7 _ (by decide +kernel) fun t _ y => ?_
  blk_simp
  rw [after0_7]
  exact point_m m c t y

/-- A point's block of the second moment is the reference's. -/
theorem point_v (c : Dev nD) (t : Fin cfg0.N) (y : S1x128x1024.Idx) :
    out0_8 (F := Ideal) (grid0.coords t) (iblk m c 0 t) (iblk m c 1 t) (iblk m c 2 t) (iblk m c 3 t) (iblk m c 4 t) y
      = val_main_v15 (F := Ideal) (m ((c : Thread nD τ).loc main_arg0)) (m ((c : Thread nD τ).loc main_arg1)) (m ((c : Thread nD τ).loc main_arg4)) (((cfg0.win 8).blk t).view.emb y) := by
  have ht : t.val < 2 := t.isLt
  unfold_out out0_8
  rw [layer t]
  canon_tiles x h
  open_payloads
  pointwise [val_main_v15, val_main_v14, val_main_v13, val_main_v12, val_main_v11, val_main_v10, val_main_cst_3, val_main_cst_4]
  rw [ref_grad, summed m c t x]
  generalize grad (m ((c : Thread nD τ).loc main_arg0)) (m ((c : Thread nD τ).loc main_arg1)) = g
  blk_point [iblk, V, idx t]

/-- The kernel's second moment is the reference's. -/
theorem final_v (c : Dev nD) : (dats m 0 c).arrAt 8 (cfgs 0).N = val_main_v15 (F := Ideal) (m ((c : Thread nD τ).loc main_arg0)) (m ((c : Thread nD τ).loc main_arg1)) (m ((c : Thread nD τ).loc main_arg4)) := by
  refine (dats m 0 c).arrAt_eq_of_covers 8 _ (by decide +kernel) fun t _ y => ?_
  blk_simp
  rw [after0_8]
  exact point_v m c t y

end Cert.Kernel20Ideal.Value

end
-- ==== Proof.Adam21.lean ====
module

public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Read
public import proofs.«01_k».proof.Proof.Adam
public import Idealize.ShloMosaic.Lib.Pipeline.ValueKit

@[expose] public section

set_option maxRecDepth 16384

noncomputable section

namespace Cert.Kernel21Ideal.Value

open Cert.Kernel21Ideal Cert.Kernel21Ideal.Gen Idealize.ShloMosaic Idealize.ShloMosaic.TcCoe Idealize.SL.Sem
open Cert.Reference21Ideal.Read

variable (m : (ℓ : Loc nD τ sig) → Buf (Elt Ideal) ℓ)

theorem named_c1 : Named.named (F := Ideal) κ "c1" (φ := .f32) 0x3FC48605#32 = ((8388608 / 5463681 : ℝ) : EReal) := rfl
theorem named_c2 : Named.named (F := Ideal) κ "c2" (φ := .f32) 0x42C8E6D3#32 = ((268435456 / 2672307 : ℝ) : EReal) := rfl

variable (x0 x1 : S8x1024x128.Idx → EReal)

/-- The gradient: the sum over the devices of what each computed for the layer. -/
def grad (i : S2x256x128.Idx) : EReal :=
  if (i 0).val = 0 then ∑ k : Fin 8, x0 (ix3 k ⟨(i 1).val, by have h : (i 1).val < 256 := (i 1).isLt; omega⟩ (i 2)) else ∑ k : Fin 8, x1 (ix3 k ⟨(i 1).val, by have h : (i 1).val < 256 := (i 1).isLt; omega⟩ (i 2))

theorem at_grad (a : Fin 2) (r : Fin 256) (k : Fin 128) : val_main_v5 (F := Ideal) x0 x1 (ix3 a r k) = grad x0 x1 (ix3 a r k) := by
  unfold grad
  match a with
  | 0 =>
    pointwise [val_main_v5, val_main_v4, val_main_v3, val_main_v2, val_main_v1, val_main_v0, val_main_cst, val_main_cst_0]
    all_goals blk_point []
  | 1 =>
    pointwise [val_main_v5, val_main_v4, val_main_v3, val_main_v2, val_main_v1, val_main_v0, val_main_cst, val_main_cst_0]
    all_goals blk_point []

theorem ref_grad : val_main_v5 (F := Ideal) x0 x1 = grad x0 x1 :=
  funext fun i => (congrArg _ (eq_ix3 i)).trans ((at_grad x0 x1 (i 0) (i 1) (i 2)).trans (congrArg _ (eq_ix3 i)).symm)

/-- Which block each window holds at a grid point. -/
theorem idx : ∀ t : Fin cfg0.N, win0_0.index t = ![0, 0, 0, 0]
    ∧ win0_1.index t = ![0, 0, 0, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0]
    ∧ win0_7.index t = ![t.val, 0, 0]
    ∧ win0_8.index t = ![t.val, 0, 0] :=
  (by decide +kernel : ∀ t : Fin grid0.N, _)

/-- The layer a grid point's block belongs to. -/
theorem layer : ∀ t : Fin cfg0.N, Scalar.cmpi .eq (BitVec.ofNat 32 (grid0.coords t 0).val) 1#32 = if t.val < 1 then 0#1 else 1#1 :=
  (by decide +kernel : ∀ t : Fin grid0.N, _)

/-- What the block of a device's share of a layer's gradient holds. -/
abbrev part0 (c : Dev nD) (t : Fin cfg0.N) (x : S1x256x128.Idx) (k : Fin 8) : EReal := iblk m c 0 t (ix4 k 0 (x 1) (x 2))
abbrev part1 (c : Dev nD) (t : Fin cfg0.N) (x : S1x256x128.Idx) (k : Fin 8) : EReal := iblk m c 1 t (ix4 k 0 (x 1) (x 2))

theorem blk0 (c : Dev nD) (t : Fin cfg0.N) (hl : t.val < 1) (k : Fin 8) (x : S1x256x128.Idx) :
    part0 m c t x k = (m ((c : Thread nD τ).loc main_arg0)) (ix3 k ⟨t.val % 1 * 256 + (x 1).val, by have h : (x 1).val < 256 := (x 1).isLt; omega⟩ (x 2)) := by
  have ht : t.val < 2 := t.isLt
  have h0 : (x 0).val < 1 := (x 0).isLt
  have h1 : (x 1).val < 256 := (x 1).isLt
  unfold part0
  blk_point [iblk, V, idx t]

theorem blk1 (c : Dev nD) (t : Fin cfg0.N) (hl : ¬ t.val < 1) (k : Fin 8) (x : S1x256x128.Idx) :
    part1 m c t x k = (m ((c : Thread nD τ).loc main_arg1)) (ix3 k ⟨t.val % 1 * 256 + (x 1).val, by have h : (x 1).val < 256 := (x 1).isLt; omega⟩ (x 2)) := by
  have ht : t.val < 2 := t.isLt
  have h0 : (x 0).val < 1 := (x 0).isLt
  have h1 : (x 1).val < 256 := (x 1).isLt
  unfold part1
  blk_point [iblk, V, idx t]

/-- What the body sums at a grid point is the gradient of the point's layer. -/
theorem summed (c : Dev nD) (t : Fin cfg0.N) (x : S1x256x128.Idx) :
    Scalar.select (if t.val < 1 then 0#1 else 1#1)
      (part1 m c t x 0 + part1 m c t x 1 + part1 m c t x 2 + part1 m c t x 3 + part1 m c t x 4 + part1 m c t x 5 + part1 m c t x 6 + part1 m c t x 7)
      (part0 m c t x 0 + part0 m c t x 1 + part0 m c t x 2 + part0 m c t x 3 + part0 m c t x 4 + part0 m c t x 5 + part0 m c t x 6 + part0 m c t x 7)
      = grad (m ((c : Thread nD τ).loc main_arg0)) (m ((c : Thread nD τ).loc main_arg1)) (ix3 ⟨t.val / 1, by have ht : t.val < 2 := t.isLt; omega⟩ ⟨t.val % 1 * 256 + (x 1).val, by have h : (x 1).val < 256 := (x 1).isLt; omega⟩ (x 2)) := by
  have ht : t.val < 2 := t.isLt
  by_cases hl : t.val < 1
  · have h0 : t.val / 1 = 0 := by omega
    unfold grad
    rw [if_pos hl, if_pos (show (((ix3 ⟨t.val / 1, by have ht : t.val < 2 := t.isLt; omega⟩ ⟨t.val % 1 * 256 + (x 1).val, by have h : (x 1).val < 256 := (x 1).isLt; omega⟩ (x 2)) : S2x256x128.Idx) 0).val = 0 from h0), Fin.sum_univ_eight]
    simp only [blk0 m c t hl]
    rfl
  · have h0 : ¬ t.val / 1 = 0 := by omega
    unfold grad
    rw [if_neg hl, if_neg (show ¬ (((ix3 ⟨t.val / 1, by have ht : t.val < 2 := t.isLt; omega⟩ ⟨t.val % 1 * 256 + (x 1).val, by have h : (x 1).val < 256 := (x 1).isLt; omega⟩ (x 2)) : S2x256x128.Idx) 0).val = 0 from h0), Fin.sum_univ_eight]
    simp only [blk1 m c t hl]
    rfl

/-- A point's block of the gradient is the reference's. -/
theorem point_g (c : Dev nD) (t : Fin cfg0.N) (y : S1x256x128.Idx) :
    out0_5 (F := Ideal) (grid0.coords t) (iblk m c 0 t) (iblk m c 1 t) (iblk m c 2 t) (iblk m c 3 t) (iblk m c 4 t) y
      = val_main_v5 (F := Ideal) (m ((c : Thread nD τ).loc main_arg0)) (m ((c : Thread nD τ).loc main_arg1)) (((cfg0.win 5).blk t).view.emb y) := by
  have ht : t.val < 2 := t.isLt
  unfold_out out0_5
  rw [layer t]
  canon_tiles x h
  open_payloads
  pointwise []
  rw [ref_grad, summed m c t x]
  generalize grad (m ((c : Thread nD τ).loc main_arg0)) (m ((c : Thread nD τ).loc main_arg1)) = g
  blk_point [iblk, V, idx t]

/-- The kernel's gradient is the reference's. -/
theorem final_g (c : Dev nD) : (dats m 0 c).arrAt 5 (cfgs 0).N = val_main_v5 (F := Ideal) (m ((c : Thread nD τ).loc main_arg0)) (m ((c : Thread nD τ).loc main_arg1)) := by
  refine (dats m 0 c).arrAt_eq_of_covers 5 _ (by decide +kernel) fun t _ y => ?_
  blk_simp
  rw [after0_5]
  exact point_g m c t y

/-- A point's block of the step is the reference's. -/
theorem point_d (c : Dev nD) (t : Fin cfg0.N) (y : S1x256x128.Idx) :
    out0_6 (F := Ideal) (grid0.coords t) (iblk m c 0 t) (iblk m c 1 t) (iblk m c 2 t) (iblk m c 3 t) (iblk m c 4 t) y
      = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  have ht : t.val < 2 := t.isLt
  unfold_out out0_6
  rw [layer t]
  canon_tiles x h
  open_payloads
  pointwise [val_main_v29, val_main_v28, val_main_v27, val_main_v26, val_main_v25, val_main_v24, val_main_v23, val_main_v22,
    val_main_v21, val_main_v20, val_main_v19, val_main_v18, val_main_v17, val_main_v16, val_main_v15, val_main_v14,
    val_main_v13, val_main_v12, val_main_v11, val_main_v10, val_main_v9, val_main_v8, val_main_v7, val_main_v6,
    val_main_cst_1, val_main_cst_2, val_main_cst_3, val_main_cst_4, val_main_cst_5, val_main_cst_6, val_main_cst_7,
    val_main_cst_8, val_main_cst_9]
  rw [named_c1, named_c2, Cert.Adam.div_d1, Cert.Adam.div_d2]
  rw [ref_grad, summed m c t x]
  generalize grad (m ((c : Thread nD τ).loc main_arg0)) (m ((c : Thread nD τ).loc main_arg1)) = g
  blk_point [iblk, V, idx t]

/-- The kernel's step is the reference's. -/
theorem final_d (c : Dev nD) : (dats m 0 c).arrAt 6 (cfgs 0).N = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  exact point_d m c t y

/-- A point's block of the first moment is the reference's. -/
theorem point_m (c : Dev nD) (t : Fin cfg0.N) (y : S1x256x128.Idx) :
    out0_7 (F := Ideal) (grid0.coords t) (iblk m c 0 t) (iblk m c 1 t) (iblk m c 2 t) (iblk m c 3 t) (iblk m c 4 t) y
      = val_main_v10 (F := Ideal) (m ((c : Thread nD τ).loc main_arg0)) (m ((c : Thread nD τ).loc main_arg1)) (m ((c : Thread nD τ).loc main_arg3)) (((cfg0.win 7).blk t).view.emb y) := by
  have ht : t.val < 2 := t.isLt
  unfold_out out0_7
  rw [layer t]
  canon_tiles x h
  open_payloads
  pointwise [val_main_v10, val_main_v9, val_main_v8, val_main_v7, val_main_v6, val_main_cst_1, val_main_cst_2]
  rw [ref_grad, summed m c t x]
  generalize grad (m ((c : Thread nD τ).loc main_arg0)) (m ((c : Thread nD τ).loc main_arg1)) = g
  blk_point [iblk, V, idx t]

/-- The kernel's first moment is the reference's. -/
theorem final_m (c : Dev nD) : (dats m 0 c).arrAt 7 (cfgs 0).N = val_main_v10 (F := Ideal) (m ((c : Thread nD τ).loc main_arg0)) (m ((c : Thread nD τ).loc main_arg1)) (m ((c : Thread nD τ).loc main_arg3)) := by
  refine (dats m 0 c).arrAt_eq_of_covers 7 _ (by decide +kernel) fun t _ y => ?_
  blk_simp
  rw [after0_7]
  exact point_m m c t y

/-- A point's block of the second moment is the reference's. -/
theorem point_v (c : Dev nD) (t : Fin cfg0.N) (y : S1x256x128.Idx) :
    out0_8 (F := Ideal) (grid0.coords t) (iblk m c 0 t) (iblk m c 1 t) (iblk m c 2 t) (iblk m c 3 t) (iblk m c 4 t) y
      = val_main_v16 (F := Ideal) (m ((c : Thread nD τ).loc main_arg0)) (m ((c : Thread nD τ).loc main_arg1)) (m ((c : Thread nD τ).loc main_arg4)) (((cfg0.win 8).blk t).view.emb y) := by
  have ht : t.val < 2 := t.isLt
  unfold_out out0_8
  rw [layer t]
  canon_tiles x h
  open_payloads
  pointwise [val_main_v16, val_main_v15, val_main_v14, val_main_v13, val_main_v12, val_main_v11, val_main_cst_3, val_main_cst_4]
  rw [ref_grad, summed m c t x]
  generalize grad (m ((c : Thread nD τ).loc main_arg0)) (m ((c : Thread nD τ).loc main_arg1)) = g
  blk_point [iblk, V, idx t]

/-- The kernel's second moment is the reference's. -/
theorem final_v (c : Dev nD) : (dats m 0 c).arrAt 8 (cfgs 0).N = val_main_v16 (F := Ideal) (m ((c : Thread nD τ).loc main_arg0)) (m ((c : Thread nD τ).loc main_arg1)) (m ((c : Thread nD τ).loc main_arg4)) := by
  refine (dats m 0 c).arrAt_eq_of_covers 8 _ (by decide +kernel) fun t _ y => ?_
  blk_simp
  rw [after0_8]
  exact point_v m c t y

end Cert.Kernel21Ideal.Value

end
-- ==== Proof.Adam22.lean ====
module

public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Read
public import proofs.«01_k».proof.Proof.Adam
public import Idealize.ShloMosaic.Lib.Pipeline.ValueKit

@[expose] public section

set_option maxRecDepth 16384

noncomputable section

namespace Cert.Kernel22Ideal.Value

open Cert.Kernel22Ideal Cert.Kernel22Ideal.Gen Idealize.ShloMosaic Idealize.ShloMosaic.TcCoe Idealize.SL.Sem
open Cert.Reference22Ideal.Read

variable (m : (ℓ : Loc nD τ sig) → Buf (Elt Ideal) ℓ)

theorem named_c1 : Named.named (F := Ideal) κ "c1" (φ := .f32) 0x3FC48605#32 = ((8388608 / 5463681 : ℝ) : EReal) := rfl
theorem named_c2 : Named.named (F := Ideal) κ "c2" (φ := .f32) 0x42C8E6D3#32 = ((268435456 / 2672307 : ℝ) : EReal) := rfl

variable (x0 x1 : S8x1024x128.Idx → EReal)

/-- The gradient: the sum over the devices of what each computed for the layer. -/
def grad (i : S2x512x128.Idx) : EReal :=
  if (i 0).val = 0 then ∑ k : Fin 8, x0 (ix3 k ⟨256 + (i 1).val, by have h : (i 1).val < 512 := (i 1).isLt; omega⟩ (i 2)) else ∑ k : Fin 8, x1 (ix3 k ⟨256 + (i 1).val, by have h : (i 1).val < 512 := (i 1).isLt; omega⟩ (i 2))

theorem at_grad (a : Fin 2) (r : Fin 512) (k : Fin 128) : val_main_v5 (F := Ideal) x0 x1 (ix3 a r k) = grad x0 x1 (ix3 a r k) := by
  unfold grad
  match a with
  | 0 =>
    pointwise [val_main_v5, val_main_v4, val_main_v3, val_main_v2, val_main_v1, val_main_v0, val_main_cst, val_main_cst_0]
    all_goals blk_point []
  | 1 =>
    pointwise [val_main_v5, val_main_v4, val_main_v3, val_main_v2, val_main_v1, val_main_v0, val_main_cst, val_main_cst_0]
    all_goals blk_point []

theorem ref_grad : val_main_v5 (F := Ideal) x0 x1 = grad x0 x1 :=
  funext fun i => (congrArg _ (eq_ix3 i)).trans ((at_grad x0 x1 (i 0) (i 1) (i 2)).trans (congrArg _ (eq_ix3 i)).symm)

/-- Which block each window holds at a grid point. -/
theorem idx : ∀ t : Fin cfg0.N, win0_0.index t = ![0, 0, 1 + min t.val 1, 0]
    ∧ win0_1.index t = ![0, 0, 1 + (t.val - 2), 0]
    ∧ win0_2.index t = ![t.val / 2, t.val % 2, 0]
    ∧ win0_3.index t = ![t.val / 2, t.val % 2, 0]
    ∧ win0_4.index t = ![t.val / 2, t.val % 2, 0]
    ∧ win0_5.index t = ![t.val / 2, t.val % 2, 0]
    ∧ win0_6.index t = ![t.val / 2, t.val % 2, 0]
    ∧ win0_7.index t = ![t.val / 2, t.val % 2, 0]
    ∧ win0_8.index t = ![t.val / 2, t.val % 2, 0] :=
  (by decide +kernel : ∀ t : Fin grid0.N, _)

/-- The layer a grid point's block belongs to. -/
theorem layer : ∀ t : Fin cfg0.N, Scalar.cmpi .eq (BitVec.ofNat 32 (grid0.coords t 0).val) 1#32 = if t.val < 2 then 0#1 else 1#1 :=
  (by decide +kernel : ∀ t : Fin grid0.N, _)

/-- What the block of a device's share of a layer's gradient holds. -/
abbrev part0 (c : Dev nD) (t : Fin cfg0.N) (x : S1x256x128.Idx) (k : Fin 8) : EReal := iblk m c 0 t (ix4 k 0 (x 1) (x 2))
abbrev part1 (c : Dev nD) (t : Fin cfg0.N) (x : S1x256x128.Idx) (k : Fin 8) : EReal := iblk m c 1 t (ix4 k 0 (x 1) (x 2))

theorem blk0 (c : Dev nD) (t : Fin cfg0.N) (hl : t.val < 2) (k : Fin 8) (x : S1x256x128.Idx) :
    part0 m c t x k = (m ((c : Thread nD τ).loc main_arg0)) (ix3 k ⟨256 + t.val % 2 * 256 + (x 1).val, by have h : (x 1).val < 256 := (x 1).isLt; omega⟩ (x 2)) := by
  have ht : t.val < 4 := t.isLt
  have h0 : (x 0).val < 1 := (x 0).isLt
  have h1 : (x 1).val < 256 := (x 1).isLt
  unfold part0
  blk_point [iblk, V, idx t]

theorem blk1 (c : Dev nD) (t : Fin cfg0.N) (hl : ¬ t.val < 2) (k : Fin 8) (x : S1x256x128.Idx) :
    part1 m c t x k = (m ((c : Thread nD τ).loc main_arg1)) (ix3 k ⟨256 + t.val % 2 * 256 + (x 1).val, by have h : (x 1).val < 256 := (x 1).isLt; omega⟩ (x 2)) := by
  have ht : t.val < 4 := t.isLt
  have h0 : (x 0).val < 1 := (x 0).isLt
  have h1 : (x 1).val < 256 := (x 1).isLt
  unfold part1
  blk_point [iblk, V, idx t]

/-- What the body sums at a grid point is the gradient of the point's layer. -/
theorem summed (c : Dev nD) (t : Fin cfg0.N) (x : S1x256x128.Idx) :
    Scalar.select (if t.val < 2 then 0#1 else 1#1)
      (part1 m c t x 0 + part1 m c t x 1 + part1 m c t x 2 + part1 m c t x 3 + part1 m c t x 4 + part1 m c t x 5 + part1 m c t x 6 + part1 m c t x 7)
      (part0 m c t x 0 + part0 m c t x 1 + part0 m c t x 2 + part0 m c t x 3 + part0 m c t x 4 + part0 m c t x 5 + part0 m c t x 6 + part0 m c t x 7)
      = grad (m ((c : Thread nD τ).loc main_arg0)) (m ((c : Thread nD τ).loc main_arg1)) (ix3 ⟨t.val / 2, by have ht : t.val < 4 := t.isLt; omega⟩ ⟨t.val % 2 * 256 + (x 1).val, by have h : (x 1).val < 256 := (x 1).isLt; omega⟩ (x 2)) := by
  have ht : t.val < 4 := t.isLt
  by_cases hl : t.val < 2
  · have h0 : t.val / 2 = 0 := by omega
    unfold grad
    rw [if_pos hl, if_pos (show (((ix3 ⟨t.val / 2, by have ht : t.val < 4 := t.isLt; omega⟩ ⟨t.val % 2 * 256 + (x 1).val, by have h : (x 1).val < 256 := (x 1).isLt; omega⟩ (x 2)) : S2x512x128.Idx) 0).val = 0 from h0), Fin.sum_univ_eight]
    simp only [blk0 m c t hl]
    simp only [Nat.add_assoc]; rfl
  · have h0 : ¬ t.val / 2 = 0 := by omega
    unfold grad
    rw [if_neg hl, if_neg (show ¬ (((ix3 ⟨t.val / 2, by have ht : t.val < 4 := t.isLt; omega⟩ ⟨t.val % 2 * 256 + (x 1).val, by have h : (x 1).val < 256 := (x 1).isLt; omega⟩ (x 2)) : S2x512x128.Idx) 0).val = 0 from h0), Fin.sum_univ_eight]
    simp only [blk1 m c t hl]
    simp only [Nat.add_assoc]; rfl

/-- A point's block of the gradient is the reference's. -/
theorem point_g (c : Dev nD) (t : Fin cfg0.N) (y : S1x256x128.Idx) :
    out0_5 (F := Ideal) (grid0.coords t) (iblk m c 0 t) (iblk m c 1 t) (iblk m c 2 t) (iblk m c 3 t) (iblk m c 4 t) y
      = val_main_v5 (F := Ideal) (m ((c : Thread nD τ).loc main_arg0)) (m ((c : Thread nD τ).loc main_arg1)) (((cfg0.win 5).blk t).view.emb y) := by
  have ht : t.val < 4 := t.isLt
  unfold_out out0_5
  rw [layer t]
  canon_tiles x h
  open_payloads
  pointwise []
  rw [ref_grad, summed m c t x]
  generalize grad (m ((c : Thread nD τ).loc main_arg0)) (m ((c : Thread nD τ).loc main_arg1)) = g
  blk_point [iblk, V, idx t]

/-- The kernel's gradient is the reference's. -/
theorem final_g (c : Dev nD) : (dats m 0 c).arrAt 5 (cfgs 0).N = val_main_v5 (F := Ideal) (m ((c : Thread nD τ).loc main_arg0)) (m ((c : Thread nD τ).loc main_arg1)) := by
  refine (dats m 0 c).arrAt_eq_of_covers 5 _ (by decide +kernel) fun t _ y => ?_
  blk_simp
  rw [after0_5]
  exact point_g m c t y

/-- A point's block of the step is the reference's. -/
theorem point_d (c : Dev nD) (t : Fin cfg0.N) (y : S1x256x128.Idx) :
    out0_6 (F := Ideal) (grid0.coords t) (iblk m c 0 t) (iblk m c 1 t) (iblk m c 2 t) (iblk m c 3 t) (iblk m c 4 t) y
      = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  have ht : t.val < 4 := t.isLt
  unfold_out out0_6
  rw [layer t]
  canon_tiles x h
  open_payloads
  pointwise [val_main_v29, val_main_v28, val_main_v27, val_main_v26, val_main_v25, val_main_v24, val_main_v23, val_main_v22,
    val_main_v21, val_main_v20, val_main_v19, val_main_v18, val_main_v17, val_main_v16, val_main_v15, val_main_v14,
    val_main_v13, val_main_v12, val_main_v11, val_main_v10, val_main_v9, val_main_v8, val_main_v7, val_main_v6,
    val_main_cst_1, val_main_cst_2, val_main_cst_3, val_main_cst_4, val_main_cst_5, val_main_cst_6, val_main_cst_7,
    val_main_cst_8, val_main_cst_9]
  rw [named_c1, named_c2, Cert.Adam.div_d1, Cert.Adam.div_d2]
  rw [ref_grad, summed m c t x]
  generalize grad (m ((c : Thread nD τ).loc main_arg0)) (m ((c : Thread nD τ).loc main_arg1)) = g
  blk_point [iblk, V, idx t]

/-- The kernel's step is the reference's. -/
theorem final_d (c : Dev nD) : (dats m 0 c).arrAt 6 (cfgs 0).N = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  exact point_d m c t y

/-- A point's block of the first moment is the reference's. -/
theorem point_m (c : Dev nD) (t : Fin cfg0.N) (y : S1x256x128.Idx) :
    out0_7 (F := Ideal) (grid0.coords t) (iblk m c 0 t) (iblk m c 1 t) (iblk m c 2 t) (iblk m c 3 t) (iblk m c 4 t) y
      = val_main_v10 (F := Ideal) (m ((c : Thread nD τ).loc main_arg0)) (m ((c : Thread nD τ).loc main_arg1)) (m ((c : Thread nD τ).loc main_arg3)) (((cfg0.win 7).blk t).view.emb y) := by
  have ht : t.val < 4 := t.isLt
  unfold_out out0_7
  rw [layer t]
  canon_tiles x h
  open_payloads
  pointwise [val_main_v10, val_main_v9, val_main_v8, val_main_v7, val_main_v6, val_main_cst_1, val_main_cst_2]
  rw [ref_grad, summed m c t x]
  generalize grad (m ((c : Thread nD τ).loc main_arg0)) (m ((c : Thread nD τ).loc main_arg1)) = g
  blk_point [iblk, V, idx t]

/-- The kernel's first moment is the reference's. -/
theorem final_m (c : Dev nD) : (dats m 0 c).arrAt 7 (cfgs 0).N = val_main_v10 (F := Ideal) (m ((c : Thread nD τ).loc main_arg0)) (m ((c : Thread nD τ).loc main_arg1)) (m ((c : Thread nD τ).loc main_arg3)) := by
  refine (dats m 0 c).arrAt_eq_of_covers 7 _ (by decide +kernel) fun t _ y => ?_
  blk_simp
  rw [after0_7]
  exact point_m m c t y

/-- A point's block of the second moment is the reference's. -/
theorem point_v (c : Dev nD) (t : Fin cfg0.N) (y : S1x256x128.Idx) :
    out0_8 (F := Ideal) (grid0.coords t) (iblk m c 0 t) (iblk m c 1 t) (iblk m c 2 t) (iblk m c 3 t) (iblk m c 4 t) y
      = val_main_v16 (F := Ideal) (m ((c : Thread nD τ).loc main_arg0)) (m ((c : Thread nD τ).loc main_arg1)) (m ((c : Thread nD τ).loc main_arg4)) (((cfg0.win 8).blk t).view.emb y) := by
  have ht : t.val < 4 := t.isLt
  unfold_out out0_8
  rw [layer t]
  canon_tiles x h
  open_payloads
  pointwise [val_main_v16, val_main_v15, val_main_v14, val_main_v13, val_main_v12, val_main_v11, val_main_cst_3, val_main_cst_4]
  rw [ref_grad, summed m c t x]
  generalize grad (m ((c : Thread nD τ).loc main_arg0)) (m ((c : Thread nD τ).loc main_arg1)) = g
  blk_point [iblk, V, idx t]

/-- The kernel's second moment is the reference's. -/
theorem final_v (c : Dev nD) : (dats m 0 c).arrAt 8 (cfgs 0).N = val_main_v16 (F := Ideal) (m ((c : Thread nD τ).loc main_arg0)) (m ((c : Thread nD τ).loc main_arg1)) (m ((c : Thread nD τ).loc main_arg4)) := by
  refine (dats m 0 c).arrAt_eq_of_covers 8 _ (by decide +kernel) fun t _ y => ?_
  blk_simp
  rw [after0_8]
  exact point_v m c t y

end Cert.Kernel22Ideal.Value

end
-- ==== Proof.Adam23.lean ====
module

public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Read
public import proofs.«01_k».proof.Proof.Adam
public import Idealize.ShloMosaic.Lib.Pipeline.ValueKit

@[expose] public section

set_option maxRecDepth 16384

noncomputable section

namespace Cert.Kernel23Ideal.Value

open Cert.Kernel23Ideal Cert.Kernel23Ideal.Gen Idealize.ShloMosaic Idealize.ShloMosaic.TcCoe Idealize.SL.Sem
open Cert.Reference23Ideal.Read

variable (m : (ℓ : Loc nD τ sig) → Buf (Elt Ideal) ℓ)

theorem named_c1 : Named.named (F := Ideal) κ "c1" (φ := .f32) 0x3FC48605#32 = ((8388608 / 5463681 : ℝ) : EReal) := rfl
theorem named_c2 : Named.named (F := Ideal) κ "c2" (φ := .f32) 0x42C8E6D3#32 = ((268435456 / 2672307 : ℝ) : EReal) := rfl

variable (x0 x1 : S8x1024x128.Idx → EReal)

/-- The gradient: the sum over the devices of what each computed for the layer. -/
def grad (i : S2x256x128.Idx) : EReal :=
  if (i 0).val = 0 then ∑ k : Fin 8, x0 (ix3 k ⟨768 + (i 1).val, by have h : (i 1).val < 256 := (i 1).isLt; omega⟩ (i 2)) else ∑ k : Fin 8, x1 (ix3 k ⟨768 + (i 1).val, by have h : (i 1).val < 256 := (i 1).isLt; omega⟩ (i 2))

theorem at_grad (a : Fin 2) (r : Fin 256) (k : Fin 128) : val_main_v5 (F := Ideal) x0 x1 (ix3 a r k) = grad x0 x1 (ix3 a r k) := by
  unfold grad
  match a with
  | 0 =>
    pointwise [val_main_v5, val_main_v4, val_main_v3, val_main_v2, val_main_v1, val_main_v0, val_main_cst, val_main_cst_0]
    all_goals blk_point []
  | 1 =>
    pointwise [val_main_v5, val_main_v4, val_main_v3, val_main_v2, val_main_v1, val_main_v0, val_main_cst, val_main_cst_0]
    all_goals blk_point []

theorem ref_grad : val_main_v5 (F := Ideal) x0 x1 = grad x0 x1 :=
  funext fun i => (congrArg _ (eq_ix3 i)).trans ((at_grad x0 x1 (i 0) (i 1) (i 2)).trans (congrArg _ (eq_ix3 i)).symm)

/-- Which block each window holds at a grid point. -/
theorem idx : ∀ t : Fin cfg0.N, win0_0.index t = ![0, 0, 3, 0]
    ∧ win0_1.index t = ![0, 0, 3, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0]
    ∧ win0_7.index t = ![t.val, 0, 0]
    ∧ win0_8.index t = ![t.val, 0, 0] :=
  (by decide +kernel : ∀ t : Fin grid0.N, _)

/-- The layer a grid point's block belongs to. -/
theorem layer : ∀ t : Fin cfg0.N, Scalar.cmpi .eq (BitVec.ofNat 32 (grid0.coords t 0).val) 1#32 = if t.val < 1 then 0#1 else 1#1 :=
  (by decide +kernel : ∀ t : Fin grid0.N, _)

/-- What the block of a device's share of a layer's gradient holds. -/
abbrev part0 (c : Dev nD) (t : Fin cfg0.N) (x : S1x256x128.Idx) (k : Fin 8) : EReal := iblk m c 0 t (ix4 k 0 (x 1) (x 2))
abbrev part1 (c : Dev nD) (t : Fin cfg0.N) (x : S1x256x128.Idx) (k : Fin 8) : EReal := iblk m c 1 t (ix4 k 0 (x 1) (x 2))

theorem blk0 (c : Dev nD) (t : Fin cfg0.N) (hl : t.val < 1) (k : Fin 8) (x : S1x256x128.Idx) :
    part0 m c t x k = (m ((c : Thread nD τ).loc main_arg0)) (ix3 k ⟨768 + t.val % 1 * 256 + (x 1).val, by have h : (x 1).val < 256 := (x 1).isLt; omega⟩ (x 2)) := by
  have ht : t.val < 2 := t.isLt
  have h0 : (x 0).val < 1 := (x 0).isLt
  have h1 : (x 1).val < 256 := (x 1).isLt
  unfold part0
  blk_point [iblk, V, idx t]

theorem blk1 (c : Dev nD) (t : Fin cfg0.N) (hl : ¬ t.val < 1) (k : Fin 8) (x : S1x256x128.Idx) :
    part1 m c t x k = (m ((c : Thread nD τ).loc main_arg1)) (ix3 k ⟨768 + t.val % 1 * 256 + (x 1).val, by have h : (x 1).val < 256 := (x 1).isLt; omega⟩ (x 2)) := by
  have ht : t.val < 2 := t.isLt
  have h0 : (x 0).val < 1 := (x 0).isLt
  have h1 : (x 1).val < 256 := (x 1).isLt
  unfold part1
  blk_point [iblk, V, idx t]

/-- What the body sums at a grid point is the gradient of the point's layer. -/
theorem summed (c : Dev nD) (t : Fin cfg0.N) (x : S1x256x128.Idx) :
    Scalar.select (if t.val < 1 then 0#1 else 1#1)
      (part1 m c t x 0 + part1 m c t x 1 + part1 m c t x 2 + part1 m c t x 3 + part1 m c t x 4 + part1 m c t x 5 + part1 m c t x 6 + part1 m c t x 7)
      (part0 m c t x 0 + part0 m c t x 1 + part0 m c t x 2 + part0 m c t x 3 + part0 m c t x 4 + part0 m c t x 5 + part0 m c t x 6 + part0 m c t x 7)
      = grad (m ((c : Thread nD τ).loc main_arg0)) (m ((c : Thread nD τ).loc main_arg1)) (ix3 ⟨t.val / 1, by have ht : t.val < 2 := t.isLt; omega⟩ ⟨t.val % 1 * 256 + (x 1).val, by have h : (x 1).val < 256 := (x 1).isLt; omega⟩ (x 2)) := by
  have ht : t.val < 2 := t.isLt
  by_cases hl : t.val < 1
  · have h0 : t.val / 1 = 0 := by omega
    unfold grad
    rw [if_pos hl, if_pos (show (((ix3 ⟨t.val / 1, by have ht : t.val < 2 := t.isLt; omega⟩ ⟨t.val % 1 * 256 + (x 1).val, by have h : (x 1).val < 256 := (x 1).isLt; omega⟩ (x 2)) : S2x256x128.Idx) 0).val = 0 from h0), Fin.sum_univ_eight]
    simp only [blk0 m c t hl]
    simp only [Nat.add_assoc]; rfl
  · have h0 : ¬ t.val / 1 = 0 := by omega
    unfold grad
    rw [if_neg hl, if_neg (show ¬ (((ix3 ⟨t.val / 1, by have ht : t.val < 2 := t.isLt; omega⟩ ⟨t.val % 1 * 256 + (x 1).val, by have h : (x 1).val < 256 := (x 1).isLt; omega⟩ (x 2)) : S2x256x128.Idx) 0).val = 0 from h0), Fin.sum_univ_eight]
    simp only [blk1 m c t hl]
    simp only [Nat.add_assoc]; rfl

/-- A point's block of the gradient is the reference's. -/
theorem point_g (c : Dev nD) (t : Fin cfg0.N) (y : S1x256x128.Idx) :
    out0_5 (F := Ideal) (grid0.coords t) (iblk m c 0 t) (iblk m c 1 t) (iblk m c 2 t) (iblk m c 3 t) (iblk m c 4 t) y
      = val_main_v5 (F := Ideal) (m ((c : Thread nD τ).loc main_arg0)) (m ((c : Thread nD τ).loc main_arg1)) (((cfg0.win 5).blk t).view.emb y) := by
  have ht : t.val < 2 := t.isLt
  unfold_out out0_5
  rw [layer t]
  canon_tiles x h
  open_payloads
  pointwise []
  rw [ref_grad, summed m c t x]
  generalize grad (m ((c : Thread nD τ).loc main_arg0)) (m ((c : Thread nD τ).loc main_arg1)) = g
  blk_point [iblk, V, idx t]

/-- The kernel's gradient is the reference's. -/
theorem final_g (c : Dev nD) : (dats m 0 c).arrAt 5 (cfgs 0).N = val_main_v5 (F := Ideal) (m ((c : Thread nD τ).loc main_arg0)) (m ((c : Thread nD τ).loc main_arg1)) := by
  refine (dats m 0 c).arrAt_eq_of_covers 5 _ (by decide +kernel) fun t _ y => ?_
  blk_simp
  rw [after0_5]
  exact point_g m c t y

/-- A point's block of the step is the reference's. -/
theorem point_d (c : Dev nD) (t : Fin cfg0.N) (y : S1x256x128.Idx) :
    out0_6 (F := Ideal) (grid0.coords t) (iblk m c 0 t) (iblk m c 1 t) (iblk m c 2 t) (iblk m c 3 t) (iblk m c 4 t) y
      = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  have ht : t.val < 2 := t.isLt
  unfold_out out0_6
  rw [layer t]
  canon_tiles x h
  open_payloads
  pointwise [val_main_v29, val_main_v28, val_main_v27, val_main_v26, val_main_v25, val_main_v24, val_main_v23, val_main_v22,
    val_main_v21, val_main_v20, val_main_v19, val_main_v18, val_main_v17, val_main_v16, val_main_v15, val_main_v14,
    val_main_v13, val_main_v12, val_main_v11, val_main_v10, val_main_v9, val_main_v8, val_main_v7, val_main_v6,
    val_main_cst_1, val_main_cst_2, val_main_cst_3, val_main_cst_4, val_main_cst_5, val_main_cst_6, val_main_cst_7,
    val_main_cst_8, val_main_cst_9]
  rw [named_c1, named_c2, Cert.Adam.div_d1, Cert.Adam.div_d2]
  rw [ref_grad, summed m c t x]
  generalize grad (m ((c : Thread nD τ).loc main_arg0)) (m ((c : Thread nD τ).loc main_arg1)) = g
  blk_point [iblk, V, idx t]

/-- The kernel's step is the reference's. -/
theorem final_d (c : Dev nD) : (dats m 0 c).arrAt 6 (cfgs 0).N = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  exact point_d m c t y

/-- A point's block of the first moment is the reference's. -/
theorem point_m (c : Dev nD) (t : Fin cfg0.N) (y : S1x256x128.Idx) :
    out0_7 (F := Ideal) (grid0.coords t) (iblk m c 0 t) (iblk m c 1 t) (iblk m c 2 t) (iblk m c 3 t) (iblk m c 4 t) y
      = val_main_v10 (F := Ideal) (m ((c : Thread nD τ).loc main_arg0)) (m ((c : Thread nD τ).loc main_arg1)) (m ((c : Thread nD τ).loc main_arg3)) (((cfg0.win 7).blk t).view.emb y) := by
  have ht : t.val < 2 := t.isLt
  unfold_out out0_7
  rw [layer t]
  canon_tiles x h
  open_payloads
  pointwise [val_main_v10, val_main_v9, val_main_v8, val_main_v7, val_main_v6, val_main_cst_1, val_main_cst_2]
  rw [ref_grad, summed m c t x]
  generalize grad (m ((c : Thread nD τ).loc main_arg0)) (m ((c : Thread nD τ).loc main_arg1)) = g
  blk_point [iblk, V, idx t]

/-- The kernel's first moment is the reference's. -/
theorem final_m (c : Dev nD) : (dats m 0 c).arrAt 7 (cfgs 0).N = val_main_v10 (F := Ideal) (m ((c : Thread nD τ).loc main_arg0)) (m ((c : Thread nD τ).loc main_arg1)) (m ((c : Thread nD τ).loc main_arg3)) := by
  refine (dats m 0 c).arrAt_eq_of_covers 7 _ (by decide +kernel) fun t _ y => ?_
  blk_simp
  rw [after0_7]
  exact point_m m c t y

/-- A point's block of the second moment is the reference's. -/
theorem point_v (c : Dev nD) (t : Fin cfg0.N) (y : S1x256x128.Idx) :
    out0_8 (F := Ideal) (grid0.coords t) (iblk m c 0 t) (iblk m c 1 t) (iblk m c 2 t) (iblk m c 3 t) (iblk m c 4 t) y
      = val_main_v16 (F := Ideal) (m ((c : Thread nD τ).loc main_arg0)) (m ((c : Thread nD τ).loc main_arg1)) (m ((c : Thread nD τ).loc main_arg4)) (((cfg0.win 8).blk t).view.emb y) := by
  have ht : t.val < 2 := t.isLt
  unfold_out out0_8
  rw [layer t]
  canon_tiles x h
  open_payloads
  pointwise [val_main_v16, val_main_v15, val_main_v14, val_main_v13, val_main_v12, val_main_v11, val_main_cst_3, val_main_cst_4]
  rw [ref_grad, summed m c t x]
  generalize grad (m ((c : Thread nD τ).loc main_arg0)) (m ((c : Thread nD τ).loc main_arg1)) = g
  blk_point [iblk, V, idx t]

/-- The kernel's second moment is the reference's. -/
theorem final_v (c : Dev nD) : (dats m 0 c).arrAt 8 (cfgs 0).N = val_main_v16 (F := Ideal) (m ((c : Thread nD τ).loc main_arg0)) (m ((c : Thread nD τ).loc main_arg1)) (m ((c : Thread nD τ).loc main_arg4)) := by
  refine (dats m 0 c).arrAt_eq_of_covers 8 _ (by decide +kernel) fun t _ y => ?_
  blk_simp
  rw [after0_8]
  exact point_v m c t y

end Cert.Kernel23Ideal.Value

end
-- ==== Proof.Adam24.lean ====
module

public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Read
public import proofs.«01_k».proof.Proof.Adam
public import Idealize.ShloMosaic.Lib.Pipeline.ValueKit

@[expose] public section

set_option maxRecDepth 16384

noncomputable section

namespace Cert.Kernel24Ideal.Value

open Cert.Kernel24Ideal Cert.Kernel24Ideal.Gen Idealize.ShloMosaic Idealize.ShloMosaic.TcCoe Idealize.SL.Sem
open Cert.Reference24Ideal.Read

variable (m : (ℓ : Loc nD τ sig) → Buf (Elt Ideal) ℓ)

theorem named_c1 : Named.named (F := Ideal) κ "c1" (φ := .f32) 0x3FC48605#32 = ((8388608 / 5463681 : ℝ) : EReal) := rfl
theorem named_c2 : Named.named (F := Ideal) κ "c2" (φ := .f32) 0x42C8E6D3#32 = ((268435456 / 2672307 : ℝ) : EReal) := rfl

/-- Which block each window holds at a grid point. -/
theorem idx : ∀ t : Fin cfg0.N, win0_0.index t = ![0, t.val, 0, 0]
    ∧ win0_1.index t = ![t.val, 0, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0]
    ∧ win0_7.index t = ![t.val, 0, 0] :=
  (by decide +kernel : ∀ t : Fin grid0.N, _)

/-- A point's block of the gradient is the reference's. -/
theorem point_g (c : Dev nD) (t : Fin cfg0.N) (y : S1537x2x128.Idx) :
    out0_4 (F := Ideal) (iblk m c 0 t) (iblk m c 1 t) (iblk m c 2 t) (iblk m c 3 t) y
      = val_main_v24 (F := Ideal) (m ((c : Thread nD τ).loc main_arg0)) (((cfg0.win 4).blk t).view.emb y) := by
  unfold out0_4
  canon_tiles x h
  open_payloads
  pointwise [val_main_v24]
  blk_point [iblk, V, idx t]

/-- The kernel's gradient is the reference's. -/
theorem final_g (c : Dev nD) : (dats m 0 c).arrAt 4 (cfgs 0).N = val_main_v24 (F := Ideal) (m ((c : Thread nD τ).loc main_arg0)) := by
  refine (dats m 0 c).arrAt_eq_of_covers 4 _ (by decide +kernel) fun t _ y => ?_
  blk_simp
  rw [after0_4]
  exact point_g m c t y

/-- A point's block of the step is the reference's. -/
theorem point_d (c : Dev nD) (t : Fin cfg0.N) (y : S1537x2x128.Idx) :
    out0_5 (F := Ideal) (iblk m c 0 t) (iblk m c 1 t) (iblk m c 2 t) (iblk m c 3 t) y
      = val_main_v25 (F := Ideal) (m ((c : Thread nD τ).loc main_arg0)) (m ((c : Thread nD τ).loc main_arg1)) (m ((c : Thread nD τ).loc main_arg2)) (m ((c : Thread nD τ).loc main_arg3)) (((cfg0.win 5).blk t).view.emb y) := by
  unfold out0_5
  canon_tiles x h
  open_payloads
  pointwise [val_main_v25, val_main_v23, val_main_v22, val_main_v21, val_main_v20, val_main_v19, val_main_v18, val_main_v17,
    val_main_v16, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1, val_main_cst_2, val_main_cst_3, val_main_cst_4, val_main_cst_5,
    val_main_cst_6, val_main_cst_7]
  rw [named_c1, named_c2, Cert.Adam.div_d1, Cert.Adam.div_d2]
  blk_point [iblk, V, idx t]

/-- The kernel's step is the reference's. -/
theorem final_d (c : Dev nD) : (dats m 0 c).arrAt 5 (cfgs 0).N = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact point_d m c t y

/-- A point's block of the first moment is the reference's. -/
theorem point_m (c : Dev nD) (t : Fin cfg0.N) (y : S1537x2x128.Idx) :
    out0_6 (F := Ideal) (iblk m c 0 t) (iblk m c 1 t) (iblk m c 2 t) (iblk m c 3 t) y
      = val_main_v26 (F := Ideal) (m ((c : Thread nD τ).loc main_arg0)) (m ((c : Thread nD τ).loc main_arg2)) (((cfg0.win 6).blk t).view.emb y) := by
  unfold out0_6
  canon_tiles x h
  open_payloads
  pointwise [val_main_v26, val_main_v4, val_main_v3, val_main_v2, val_main_v1, val_main_v0, val_main_cst, val_main_cst_0]
  blk_point [iblk, V, idx t]

/-- The kernel's first moment is the reference's. -/
theorem final_m (c : Dev nD) : (dats m 0 c).arrAt 6 (cfgs 0).N = val_main_v26 (F := Ideal) (m ((c : Thread nD τ).loc main_arg0)) (m ((c : Thread nD τ).loc main_arg2)) := by
  refine (dats m 0 c).arrAt_eq_of_covers 6 _ (by decide +kernel) fun t _ y => ?_
  blk_simp
  rw [after0_6]
  exact point_m m c t y

/-- A point's block of the second moment is the reference's. -/
theorem point_v (c : Dev nD) (t : Fin cfg0.N) (y : S1537x2x128.Idx) :
    out0_7 (F := Ideal) (iblk m c 0 t) (iblk m c 1 t) (iblk m c 2 t) (iblk m c 3 t) y
      = val_main_v27 (F := Ideal) (m ((c : Thread nD τ).loc main_arg0)) (m ((c : Thread nD τ).loc main_arg3)) (((cfg0.win 7).blk t).view.emb y) := by
  unfold out0_7
  canon_tiles x h
  open_payloads
  pointwise [val_main_v27, val_main_v10, val_main_v9, val_main_v8, val_main_v7, val_main_v6, val_main_v5, val_main_cst_1,
    val_main_cst_2]
  blk_point [iblk, V, idx t]

/-- The kernel's second moment is the reference's. -/
theorem final_v (c : Dev nD) : (dats m 0 c).arrAt 7 (cfgs 0).N = val_main_v27 (F := Ideal) (m ((c : Thread nD τ).loc main_arg0)) (m ((c : Thread nD τ).loc main_arg3)) := by
  refine (dats m 0 c).arrAt_eq_of_covers 7 _ (by decide +kernel) fun t _ y => ?_
  blk_simp
  rw [after0_7]
  exact point_v m c t y

end Cert.Kernel24Ideal.Value

end
-- ==== Proof.Adam25.lean ====
module

public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Read
public import proofs.«01_k».proof.Proof.Adam
public import Idealize.ShloMosaic.Lib.Pipeline.ValueKit

@[expose] public section

set_option maxRecDepth 16384

noncomputable section

namespace Cert.Kernel25Ideal.Value

open Cert.Kernel25Ideal Cert.Kernel25Ideal.Gen Idealize.ShloMosaic Idealize.ShloMosaic.TcCoe Idealize.SL.Sem
open Cert.Reference25Ideal.Read

variable (m : (ℓ : Loc nD τ sig) → Buf (Elt Ideal) ℓ)

theorem named_c1 : Named.named (F := Ideal) κ "c1" (φ := .f32) 0x3FC48605#32 = ((8388608 / 5463681 : ℝ) : EReal) := rfl
theorem named_c2 : Named.named (F := Ideal) κ "c2" (φ := .f32) 0x42C8E6D3#32 = ((268435456 / 2672307 : ℝ) : EReal) := rfl

/-- Which block each window holds at a grid point. -/
theorem idx : ∀ t : Fin cfg0.N, win0_0.index t = ![0, 0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0] :=
  (by decide +kernel : ∀ t : Fin grid0.N, _)

/-- A point's block of the gradient is the reference's. -/
theorem point_g (c : Dev nD) (t : Fin cfg0.N) (y : S192x128.Idx) :
    out0_4 (F := Ideal) (iblk m c 0 t) (iblk m c 1 t) (iblk m c 2 t) (iblk m c 3 t) y
      = (m ((c : Thread nD τ).loc main_arg0)) (((cfg0.win 4).blk t).view.emb y) := by
  unfold out0_4
  canon_tiles x h
  open_payloads
  pointwise []
  blk_point [iblk, V, idx t]

/-- The kernel's gradient is the reference's. -/
theorem final_g (c : Dev nD) : (dats m 0 c).arrAt 4 (cfgs 0).N = m ((c : Thread nD τ).loc main_arg0) := by
  refine (dats m 0 c).arrAt_eq_of_covers 4 _ (by decide +kernel) fun t _ y => ?_
  blk_simp
  rw [after0_4]
  exact point_g m c t y

/-- A point's block of the step is the reference's. -/
theorem point_d (c : Dev nD) (t : Fin cfg0.N) (y : S192x128.Idx) :
    out0_5 (F := Ideal) (iblk m c 0 t) (iblk m c 1 t) (iblk m c 2 t) (iblk m c 3 t) y
      = val_main_v23 (F := Ideal) (m ((c : Thread nD τ).loc main_arg0)) (m ((c : Thread nD τ).loc main_arg1)) (m ((c : Thread nD τ).loc main_arg2)) (m ((c : Thread nD τ).loc main_arg3)) (((cfg0.win 5).blk t).view.emb y) := by
  unfold out0_5
  canon_tiles x h
  open_payloads
  pointwise [val_main_v23, val_main_v22, val_main_v21, val_main_v20, val_main_v19, val_main_v18, val_main_v17, val_main_v16,
    val_main_v15, val_main_v14, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1, val_main_cst_2, val_main_cst_3, val_main_cst_4, val_main_cst_5, val_main_cst_6,
    val_main_cst_7]
  rw [named_c1, named_c2, Cert.Adam.div_d1, Cert.Adam.div_d2]
  blk_point [iblk, V, idx t]

/-- The kernel's step is the reference's. -/
theorem final_d (c : Dev nD) : (dats m 0 c).arrAt 5 (cfgs 0).N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact point_d m c t y

/-- A point's block of the first moment is the reference's. -/
theorem point_m (c : Dev nD) (t : Fin cfg0.N) (y : S192x128.Idx) :
    out0_6 (F := Ideal) (iblk m c 0 t) (iblk m c 1 t) (iblk m c 2 t) (iblk m c 3 t) y
      = val_main_v4 (F := Ideal) (m ((c : Thread nD τ).loc main_arg0)) (m ((c : Thread nD τ).loc main_arg2)) (((cfg0.win 6).blk t).view.emb y) := by
  unfold out0_6
  canon_tiles x h
  open_payloads
  pointwise [val_main_v4, val_main_v3, val_main_v2, val_main_v1, val_main_v0, val_main_cst, val_main_cst_0]
  blk_point [iblk, V, idx t]

/-- The kernel's first moment is the reference's. -/
theorem final_m (c : Dev nD) : (dats m 0 c).arrAt 6 (cfgs 0).N = val_main_v4 (F := Ideal) (m ((c : Thread nD τ).loc main_arg0)) (m ((c : Thread nD τ).loc main_arg2)) := by
  refine (dats m 0 c).arrAt_eq_of_covers 6 _ (by decide +kernel) fun t _ y => ?_
  blk_simp
  rw [after0_6]
  exact point_m m c t y

/-- A point's block of the second moment is the reference's. -/
theorem point_v (c : Dev nD) (t : Fin cfg0.N) (y : S192x128.Idx) :
    out0_7 (F := Ideal) (iblk m c 0 t) (iblk m c 1 t) (iblk m c 2 t) (iblk m c 3 t) y
      = val_main_v10 (F := Ideal) (m ((c : Thread nD τ).loc main_arg0)) (m ((c : Thread nD τ).loc main_arg3)) (((cfg0.win 7).blk t).view.emb y) := by
  unfold out0_7
  canon_tiles x h
  open_payloads
  pointwise [val_main_v10, val_main_v9, val_main_v8, val_main_v7, val_main_v6, val_main_v5, val_main_cst_1, val_main_cst_2]
  blk_point [iblk, V, idx t]

/-- The kernel's second moment is the reference's. -/
theorem final_v (c : Dev nD) : (dats m 0 c).arrAt 7 (cfgs 0).N = val_main_v10 (F := Ideal) (m ((c : Thread nD τ).loc main_arg0)) (m ((c : Thread nD τ).loc main_arg3)) := by
  refine (dats m 0 c).arrAt_eq_of_covers 7 _ (by decide +kernel) fun t _ y => ?_
  blk_simp
  rw [after0_7]
  exact point_v m c t y

end Cert.Kernel25Ideal.Value

end
-- ==== Proof.Adam26.lean ====
module

public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Read
public import proofs.«01_k».proof.Proof.Adam
public import Idealize.ShloMosaic.Lib.Pipeline.ValueKit

@[expose] public section

set_option maxRecDepth 16384

noncomputable section

namespace Cert.Kernel26Ideal.Value

open Cert.Kernel26Ideal Cert.Kernel26Ideal.Gen Idealize.ShloMosaic Idealize.ShloMosaic.TcCoe Idealize.SL.Sem
open Cert.Reference26Ideal.Read

variable (m : (ℓ : Loc nD τ sig) → Buf (Elt Ideal) ℓ)

/-- Which block each window holds at a grid point. -/
theorem idx : ∀ t : Fin cfg0.N, win0_0.index t = ![0, 0, 0, 0]
    ∧ win0_1.index t = ![0, 0, 0, 0]
    ∧ win0_2.index t = ![0, 0, 0, 0]
    ∧ win0_3.index t = ![0, 0]
    ∧ win0_4.index t = ![0, 0]
    ∧ win0_5.index t = ![0, 0] :=
  (by decide +kernel : ∀ t : Fin grid0.N, _)

/-- A point's block of the first sum is the reference's. -/
theorem point_q (c : Dev nD) (t : Fin cfg0.N) (y : S128x3072.Idx) :
    out0_3 (F := Ideal) (iblk m c 0 t) (iblk m c 1 t) (iblk m c 2 t) y
      = val_main_v0 (F := Ideal) (m ((c : Thread nD τ).loc main_arg0)) (((cfg0.win 3).blk t).view.emb y) := by
  unfold out0_3
  canon_tiles x h
  open_payloads
  pointwise [val_main_v0, val_main_cst]
  all_goals rw [Fin.sum_univ_eight]
  blk_point [iblk, V, idx t]

/-- The kernel's first sum is the reference's. -/
theorem final_q (c : Dev nD) : (dats m 0 c).arrAt 3 (cfgs 0).N = val_main_v0 (F := Ideal) (m ((c : Thread nD τ).loc main_arg0)) := by
  refine (dats m 0 c).arrAt_eq_of_covers 3 _ (by decide +kernel) fun t _ y => ?_
  blk_simp
  rw [after0_3]
  exact point_q m c t y

/-- A point's block of the second sum is the reference's. -/
theorem point_f (c : Dev nD) (t : Fin cfg0.N) (y : S128x128.Idx) :
    out0_4 (F := Ideal) (iblk m c 0 t) (iblk m c 1 t) (iblk m c 2 t) y
      = val_main_v1 (F := Ideal) (m ((c : Thread nD τ).loc main_arg1)) (((cfg0.win 4).blk t).view.emb y) := by
  unfold out0_4
  canon_tiles x h
  open_payloads
  pointwise [val_main_v1, val_main_cst_0]
  all_goals rw [Fin.sum_univ_eight]
  blk_point [iblk, V, idx t]

/-- The kernel's second sum is the reference's. -/
theorem final_f (c : Dev nD) : (dats m 0 c).arrAt 4 (cfgs 0).N = val_main_v1 (F := Ideal) (m ((c : Thread nD τ).loc main_arg1)) := by
  refine (dats m 0 c).arrAt_eq_of_covers 4 _ (by decide +kernel) fun t _ y => ?_
  blk_simp
  rw [after0_4]
  exact point_f m c t y

/-- A point's block of the third sum is the reference's. -/
theorem point_k (c : Dev nD) (t : Fin cfg0.N) (y : S128x3072.Idx) :
    out0_5 (F := Ideal) (iblk m c 0 t) (iblk m c 1 t) (iblk m c 2 t) y
      = val_main_v2 (F := Ideal) (m ((c : Thread nD τ).loc main_arg2)) (((cfg0.win 5).blk t).view.emb y) := by
  unfold out0_5
  canon_tiles x h
  open_payloads
  pointwise [val_main_v2, val_main_cst_1]
  all_goals rw [Fin.sum_univ_eight]
  blk_point [iblk, V, idx t]

/-- The kernel's third sum is the reference's. -/
theorem final_k (c : Dev nD) : (dats m 0 c).arrAt 5 (cfgs 0).N = val_main_v2 (F := Ideal) (m ((c : Thread nD τ).loc main_arg2)) := by
  refine (dats m 0 c).arrAt_eq_of_covers 5 _ (by decide +kernel) fun t _ y => ?_
  blk_simp
  rw [after0_5]
  exact point_k m c t y

end Cert.Kernel26Ideal.Value

end
-- ==== Proof.FfnDwIn.lean ====
/- The gradient of the feed-forward layer's first weights: one block of columns per grid point. -/
module

public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Read
public import Idealize.ShloMosaic.Lib.Pipeline.ValueKit

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Cert.Reference2Ideal.Read (val_main_v4)

variable (m : (ℓ : Loc nD τ sig) → Buf (Elt Ideal) ℓ)

/-- Which block each window holds at a grid point. -/
theorem idx : ∀ t : Fin cfg0.N, win0_0.index t = ![t.val % 4, t.val / 4, 0, 0] ∧ win0_1.index t = ![0, 0]
    ∧ win0_2.index t = ![t.val, 0, 0] :=
  (by decide +kernel : ∀ t : Fin grid0.N, _)

theorem point (c : Dev nD) (t : Fin cfg0.N) (y : S1x704x1024.Idx) :
    k0_pay1 (F := Ideal) (iblk m c 1 t) (iblk m c 0 t) y
      = val_main_v4 (F := Ideal) (m ((c : Thread nD τ).loc main_arg0)) (m ((c : Thread nD τ).loc main_arg1))
          (((cfg0.win 2).blk t).view.emb y) := by
  pointwise [k0_pay1, val_main_v4, Cert.Reference2Ideal.Read.val_main_v3, Cert.Reference2Ideal.Read.val_main_v2,
    Cert.Reference2Ideal.Read.val_main_v1, Cert.Reference2Ideal.Read.val_main_v0]
  have ht : t.val < 8 := t.isLt
  blk_point [iblk, V, idx t]

/-- The kernel's result is the reference's. -/
theorem final (c : Dev nD) :
    (dats m 0 c).arrAt 2 (cfgs 0).N
      = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel2Ideal.Value

end
-- ==== Proof.FfnIn.lean ====
/- The feed-forward layer's first half: the projection, and the gated activation, a block of rows and of columns per grid point. -/
module

public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Read
public import Idealize.ShloMosaic.Lib.Pipeline.ValueKit

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Cert.Reference3Ideal.Read

variable (m : (ℓ : Loc nD τ sig) → Buf (Elt Ideal) ℓ)

/-- One value of the projection. -/
def proj (x0 : S2048x1024.Idx → EReal) (x1 : S1024x5632.Idx → EReal) (r : Fin 2048) (j : Fin 5632) : EReal :=
  ∑ q : Fin 1024, x0 (ix2 r q) * x1 (ix2 q j)

/-- The gated activation of a gate and of what it lets through. -/
def gated (g u : EReal) : EReal := g * Ideal.div 1 (1 + Ideal.exp (-g)) * u

variable (x0 : S2048x1024.Idx → EReal) (x1 : S1024x5632.Idx → EReal)

/-- The projection by blocks of columns, the gates and then what they let through. -/
def gu (i : S4x2x2048x704.Idx) : EReal :=
  proj x0 x1 (i 2) ⟨((i 1).val * 4 + (i 0).val) * 704 + (i 3).val, by
    have h0 : (i 0).val < 4 := (i 0).isLt; have h1 : (i 1).val < 2 := (i 1).isLt; have h3 : (i 3).val < 704 := (i 3).isLt; omega⟩

/-- The activation by blocks of columns. -/
def act (i : S4x2048x704.Idx) : EReal :=
  gated (proj x0 x1 (i 1) ⟨(i 0).val * 704 + (i 2).val, by have h0 : (i 0).val < 4 := (i 0).isLt; have h2 : (i 2).val < 704 := (i 2).isLt; omega⟩)
    (proj x0 x1 (i 1) ⟨(4 + (i 0).val) * 704 + (i 2).val, by have h0 : (i 0).val < 4 := (i 0).isLt; have h2 : (i 2).val < 704 := (i 2).isLt; omega⟩)

theorem at_gu (a : Fin 4) (b : Fin 2) (r : Fin 2048) (k : Fin 704) : val_main_v10 (F := Ideal) x0 x1 (ix4 a b r k) = gu x0 x1 (ix4 a b r k) := by
  unfold gu proj
  match b with
  | 0 =>
    pointwise [val_main_v10, val_main_v9, val_main_v8, val_main_v7, val_main_v6, val_main_v5, val_main_v2, val_main_v1, val_main_v0]
    all_goals blk_point []
  | 1 =>
    pointwise [val_main_v10, val_main_v9, val_main_v8, val_main_v7, val_main_v6, val_main_v5, val_main_v2, val_main_v1, val_main_v0]
    all_goals blk_point []

theorem ref_gu : val_main_v10 (F := Ideal) x0 x1 = gu x0 x1 :=
  funext fun i => (congrArg _ (eq_ix4 i)).trans ((at_gu x0 x1 (i 0) (i 1) (i 2) (i 3)).trans (congrArg _ (eq_ix4 i)).symm)

theorem at_act (a : Fin 4) (r : Fin 2048) (k : Fin 704) : val_main_v13 (F := Ideal) x0 x1 (ix3 a r k) = act x0 x1 (ix3 a r k) := by
  unfold act gated proj
  pointwise [val_main_v13, val_main_v12, val_main_v11, val_main_v4, val_main_v3, val_main_v2, val_main_v1, val_main_v0, val_main_call0_v0,
    val_main_call0_v1, val_main_call0_v2, val_main_call0_v3, val_main_call0_v4, val_main_call0_v5, val_main_call0_cst, val_main_call0_cst_0]
  all_goals blk_point []

theorem ref_act : val_main_v13 (F := Ideal) x0 x1 = act x0 x1 :=
  funext fun i => (congrArg _ (eq_ix3 i)).trans ((at_act x0 x1 (i 0) (i 1) (i 2)).trans (congrArg _ (eq_ix3 i)).symm)

/-- Which block each window holds at a grid point. -/
theorem idx : ∀ t : Fin cfg0.N, win0_0.index t = ![t.val / 4, 0] ∧ win0_1.index t = ![0, t.val % 4, 0, 0]
    ∧ win0_2.index t = ![0, t.val % 4 + 4, 0, 0] ∧ win0_3.index t = ![t.val % 4, 0, t.val / 4, 0] ∧ win0_4.index t = ![t.val % 4, t.val / 4, 0] :=
  (by decide +kernel : ∀ t : Fin grid0.N, _)

theorem point_gu (c : Dev nD) (t : Fin cfg0.N) (y : S1x2x1024x704.Idx) :
    out0_3 (F := Ideal) (iblk m c 0 t) (iblk m c 1 t) (iblk m c 2 t) y = gu (m ((c : Thread nD τ).loc main_arg0)) (m ((c : Thread nD τ).loc main_arg1)) (((cfg0.win 3).blk t).view.emb y) := by
  have ht : t.val < 8 := t.isLt
  unfold out0_3
  canon_tiles x h
  all_goals
    open_payloads
    unfold gu proj
    pointwise []
    blk_point [iblk, V, idx t]

theorem point_act (c : Dev nD) (t : Fin cfg0.N) (y : S1x1024x704.Idx) :
    out0_4 (F := Ideal) (iblk m c 0 t) (iblk m c 1 t) (iblk m c 2 t) y = act (m ((c : Thread nD τ).loc main_arg0)) (m ((c : Thread nD τ).loc main_arg1)) (((cfg0.win 4).blk t).view.emb y) := by
  have ht : t.val < 8 := t.isLt
  unfold out0_4
  canon_tiles x h
  all_goals
    open_payloads
    unfold act gated proj
    pointwise []
    rw [zero_sub]
    blk_point [iblk, V, idx t]

/-- The kernel's first result is the reference's. -/
theorem final_gu (c : Dev nD) : (dats m 0 c).arrAt 3 (cfgs 0).N = val_main_v10 (F := Ideal) (m ((c : Thread nD τ).loc main_arg0)) (m ((c : Thread nD τ).loc main_arg1)) := by
  rw [ref_gu]
  refine (dats m 0 c).arrAt_eq_of_covers 3 _ (by decide +kernel) fun t _ y => ?_
  blk_simp
  rw [after0_3]
  exact point_gu m c t y

/-- The kernel's second result is the reference's. -/
theorem final_act (c : Dev nD) : (dats m 0 c).arrAt 4 (cfgs 0).N = val_main_v13 (F := Ideal) (m ((c : Thread nD τ).loc main_arg0)) (m ((c : Thread nD τ).loc main_arg1)) := by
  rw [ref_act]
  refine (dats m 0 c).arrAt_eq_of_covers 4 _ (by decide +kernel) fun t _ y => ?_
  blk_simp
  rw [after0_4]
  exact point_act m c t y

end Cert.Kernel3Ideal.Value

end
-- ==== Proof.Half.lean ====
/- The constants of the feed-forward layer, and a half moved into a sum. -/
module

public import proofs.«01_k».proof.Proof.Finite

@[expose] public section

noncomputable section

namespace Cert.Spec

open Idealize.ShloMosaic

theorem half_f32 : Ideal.ofBits .f32 0x3F000000#32 = ((1 / 2 : ℝ) : EReal) := by
  simp [Ideal.ofBits, Ideal.ieee, -EReal.coe_mul]; norm_num

theorem one_f32 : Ideal.ofBits .f32 0x3F800000#32 = ((1 : ℝ) : EReal) := by
  simp [Ideal.ofBits, Ideal.ieee, -EReal.coe_mul]; norm_num

theorem zero_f32 : Ideal.ofBits .f32 0x00000000#32 = ((0 : ℝ) : EReal) := by
  simp [Ideal.ofBits, Ideal.ieee, -EReal.coe_mul]

theorem half_mul_sum {ι : Type} (s : Finset ι) (f : ι → EReal) :
    Ideal.ofBits .f32 0x3F000000#32 * ∑ i ∈ s, f i = ∑ i ∈ s, Ideal.ofBits .f32 0x3F000000#32 * f i := by
  rw [half_f32]
  exact coe_mul_sum s _ (by norm_num) f

end Cert.Spec

end
-- ==== Proof.Gate.lean ====
/- The gate of the feed-forward layer and its gradient. -/
module

public import proofs.«01_k».proof.Proof.Half

@[expose] public section

noncomputable section

namespace Cert.Spec

open Idealize.ShloMosaic

/-- The logistic function. -/
def sg (g : EReal) : EReal := Ideal.div 1 (1 + Ideal.exp (-g))

theorem exp_bot : Ideal.exp ⊥ = 0 := rfl

theorem exp_top : Ideal.exp ⊤ = ⊤ := rfl

theorem sg_top : sg ⊤ = 1 := by
  rw [sg, EReal.neg_top, exp_bot]; simp [Ideal.div]

theorem sg_bot : sg ⊥ = 0 := by
  rw [sg, EReal.neg_bot, exp_top, EReal.add_top_of_ne_bot (by decide)]; simp [Ideal.div]

theorem sg_real (g : ℝ) : ∃ s : ℝ, sg g = s := by
  refine ⟨(1 + Real.exp (-g))⁻¹, ?_⟩
  have h : ((1 : EReal) + Ideal.exp (-(g : EReal))) = ((1 + Real.exp (-g) : ℝ) : EReal) := by
    rw [← EReal.coe_neg]; push_cast; rfl
  have hp : (1 + Real.exp (-g) : ℝ) ≠ 0 := by positivity
  rw [sg, h, Ideal.div, if_neg (by exact_mod_cast hp), one_mul, ← EReal.coe_inv]

/-- The gate's gradient, as a sum and as a product: where the number that it multiplies is real, the two agree for every gate. -/
theorem dgate (w g : EReal) (hw : IsR w) : w * sg g + g * w * (sg g * (1 - sg g)) = w * (sg g * (1 + g * (1 - sg g))) := by
  obtain ⟨w, rfl⟩ := hw
  induction g using EReal.rec with
  | bot => rw [sg_bot]; simp
  | top =>
    have h : (1 : EReal) - 1 = 0 := by
      have : ((1 : ℝ) : EReal) - ((1 : ℝ) : EReal) = 0 := by rw [← EReal.coe_sub]; simp
      simpa using this
    rw [sg_top, h]; simp
  | coe g =>
    obtain ⟨s, hs⟩ := sg_real g
    rw [hs]
    have h1 : (1 : EReal) = ((1 : ℝ) : EReal) := rfl
    rw [h1]
    norm_cast
    ring

end Cert.Spec

end
-- ==== Proof.FfnDact.lean ====
/- The gradient of the gated activation, a block of rows and of columns per grid point. -/
module

public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Read
public import proofs.«01_k».proof.Proof.Gate
public import Idealize.ShloMosaic.Lib.Pipeline.ValueKit

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Cert.Reference4Ideal.Read

variable (m : (ℓ : Loc nD τ sig) → Buf (Elt Ideal) ℓ)

/-- The activation's cotangent. -/
def da (x1 : S2816x1024.Idx → EReal) (x2 : S2048x1024.Idx → EReal) (r : Fin 2048) (k : Fin 2816) : EReal :=
  Ideal.ofBits .f32 0x3F000000#32 * ∑ q : Fin 1024, x2 (ix2 r q) * x1 (ix2 k q)

/-- The two halves' gradients, of a cotangent, a gate and what the gate lets through. -/
def dgate (d g u : EReal) : EReal := d * u * (Spec.sg g * (1 + g * (1 - Spec.sg g)))
def dup (d g : EReal) : EReal := d * g * Spec.sg g

theorem half_dot_congr {f f' g g' : Fin 1024 → EReal} (hf : ∀ q, f q = f' q) (hg : ∀ q, g q = g' q) :
    Ideal.ofBits .f32 0x3F000000#32 * ∑ q, f q * g q = Ideal.ofBits .f32 0x3F000000#32 * ∑ q, f' q * g' q := by
  rw [funext hf, funext hg]

theorem dgate_congr {d d' g g' u u' : EReal} (hd : d = d') (hg : g = g') (hu : u = u') : dgate d g u = dgate d' g' u' := by
  rw [hd, hg, hu]

variable (x0 : S2048x5632.Idx → EReal) (x1 : S2816x1024.Idx → EReal) (x2 : S2048x1024.Idx → EReal)

/-- A column of the halves, in its block. -/
def col (i : S4x2x2048x704.Idx) : Fin 2816 :=
  ⟨(i 0).val * 704 + (i 3).val, by have h0 : (i 0).val < 4 := (i 0).isLt; have h3 : (i 3).val < 704 := (i 3).isLt; omega⟩

/-- The gradient by blocks of columns, the gates' and then that of what they let through. -/
def dgu (i : S4x2x2048x704.Idx) : EReal :=
  if (i 1).val = 0 then dgate (da x1 x2 (i 2) (col i)) (x0 (ix2 (i 2) ⟨(col i).val, by omega⟩)) (x0 (ix2 (i 2) ⟨2816 + (col i).val, by omega⟩))
  else dup (da x1 x2 (i 2) (col i)) (x0 (ix2 (i 2) ⟨(col i).val, by omega⟩))

theorem dgu_gate (i : S4x2x2048x704.Idx) (r : Fin 2048) (k : Fin 2816) (h : (i 1).val = 0) (hr : i 2 = r) (hk : (i 0).val * 704 + (i 3).val = k.val) :
    dgu x0 x1 x2 i = dgate (da x1 x2 r k) (x0 (ix2 r ⟨k.val, by omega⟩)) (x0 (ix2 r ⟨2816 + k.val, by omega⟩)) := by
  subst hr
  obtain rfl : col i = k := Fin.ext hk
  exact if_pos h

theorem dgu_up (i : S4x2x2048x704.Idx) (r : Fin 2048) (k : Fin 2816) (h : ¬(i 1).val = 0) (hr : i 2 = r) (hk : (i 0).val * 704 + (i 3).val = k.val) :
    dgu x0 x1 x2 i = dup (da x1 x2 r k) (x0 (ix2 r ⟨k.val, by omega⟩)) := by
  subst hr
  obtain rfl : col i = k := Fin.ext hk
  exact if_neg h

/-- What the reference's product is. -/
theorem ref_da (r : Fin 2048) (k : Fin 2816) : val_main_v9 (F := Ideal) x1 x2 (ix2 r k) = da x1 x2 r k := by
  unfold da
  rw [Spec.half_mul_sum]
  pointwise [val_main_v9, val_main_v8, val_main_v7, val_main_cst_0]
  simp only [mul_assoc]
  try blk_point []

theorem ref_sg (r : Fin 2048) (k : Fin 2816) : val_main_v2_2 (F := Ideal) x0 (ix2 r k) = Spec.sg (x0 (ix2 r ⟨k.val, by omega⟩)) := by
  unfold Spec.sg
  pointwise [val_main_v2_2, val_main_v0, val_main_call0_v0, val_main_call0_v1, val_main_call0_v2, val_main_call0_v3, val_main_call0_v4,
    val_main_call0_cst, val_main_call0_cst_0]
  all_goals blk_point []

theorem ref_gate (r : Fin 2048) (k : Fin 2816) (hw : Spec.IsR (da x1 x2 r k * x0 (ix2 r ⟨2816 + k.val, by omega⟩))) :
    val_main_v12 (F := Ideal) x0 x1 x2 (ix2 r k) = dgate (da x1 x2 r k) (x0 (ix2 r ⟨k.val, by omega⟩)) (x0 (ix2 r ⟨2816 + k.val, by omega⟩)) := by
  have e : val_main_v11 (F := Ideal) x0 x1 x2 (ix2 r k) = da x1 x2 r k * x0 (ix2 r ⟨2816 + k.val, by omega⟩) := by
    rw [val_main_v11_apply, ref_da]
    refine congrArg (da x1 x2 r k * ·) ?_
    pointwise [val_main_v1]
    all_goals blk_point []
  have e0 : val_main_v0 (F := Ideal) x0 (ix2 r k) = x0 (ix2 r ⟨k.val, by omega⟩) := by
    pointwise [val_main_v0]
    all_goals blk_point []
  have e1 : val_main_call0_v6 (F := Ideal) (ix2 r k) = 1 := by
    pointwise [val_main_call0_v6, val_main_call0_cst_1]
  unfold dgate
  rw [← Spec.dgate _ _ hw, val_main_v12_apply, val_main_call1_v1_apply, val_main_call1_v2_apply, val_main_call1_v0_apply, val_main_v2_1_apply, val_main_call0_v7_apply,
    e, e0, e1, ref_sg]
  rfl

theorem ref_up (r : Fin 2048) (k : Fin 2816) :
    val_main_v10 (F := Ideal) x0 x1 x2 (ix2 r k) = dup (da x1 x2 r k) (x0 (ix2 r ⟨k.val, by omega⟩)) := by
  have e0 : val_main_v0 (F := Ideal) x0 (ix2 r k) = x0 (ix2 r ⟨k.val, by omega⟩) := by
    pointwise [val_main_v0]
    all_goals blk_point []
  unfold dup
  rw [val_main_v10_apply, val_main_v2_0_apply, ref_da, ref_sg, e0]
  exact (mul_comm _ _).trans (mul_assoc _ _ _).symm

/-- The numbers that the precondition makes real. -/
def Real4 : Prop := ∀ r k, Spec.IsR (da x1 x2 r k * x0 (ix2 r ⟨2816 + k.val, by omega⟩))

theorem at_dgu (h : Real4 x0 x1 x2) (a : Fin 4) (b : Fin 2) (r : Fin 2048) (k : Fin 704) :
    val_main_v16 (F := Ideal) x0 x1 x2 (ix4 a b r k) = dgu x0 x1 x2 (ix4 a b r k) := by
  have ha := a.isLt
  have hk := k.isLt
  match b with
  | 0 =>
    refine Eq.trans (b := val_main_v12 (F := Ideal) x0 x1 x2 (ix2 r ⟨a.val * 704 + k.val, by omega⟩)) ?_ ?_
    · pointwise [val_main_v16, val_main_v15, val_main_v14, val_main_v13]
      all_goals blk_point []
      all_goals (exfalso; omega)
    · exact (ref_gate _ _ _ _ _ (h _ _)).trans (dgu_gate x0 x1 x2 (ix4 a 0 r k) r ⟨a.val * 704 + k.val, by omega⟩ rfl rfl rfl).symm
  | 1 =>
    refine Eq.trans (b := val_main_v10 (F := Ideal) x0 x1 x2 (ix2 r ⟨a.val * 704 + k.val, by omega⟩)) ?_ ?_
    · pointwise [val_main_v16, val_main_v15, val_main_v14, val_main_v13]
      all_goals blk_point []
      all_goals (exfalso; omega)
    · exact (ref_up _ _ _ _ _).trans (dgu_up x0 x1 x2 (ix4 a 1 r k) r ⟨a.val * 704 + k.val, by omega⟩ (by show ¬(1 : ℕ) = 0; decide) rfl rfl).symm

theorem ref_eq (h : Real4 x0 x1 x2) : val_main_v16 (F := Ideal) x0 x1 x2 = dgu x0 x1 x2 :=
  funext fun i => (congrArg _ (eq_ix4 i)).trans ((at_dgu x0 x1 x2 h (i 0) (i 1) (i 2) (i 3)).trans (congrArg _ (eq_ix4 i)).symm)

/-- Which block each window holds at a grid point. -/
theorem idx : ∀ t : Fin cfg0.N, win0_0.index t = ![t.val / 4, 0] ∧ win0_1.index t = ![0, t.val % 4, 0, 0]
    ∧ win0_2.index t = ![t.val % 4, 0, t.val / 4, 0] ∧ win0_3.index t = ![t.val % 4, 0, t.val / 4, 0] :=
  (by decide +kernel : ∀ t : Fin grid0.N, _)

/-! What the blocks hold at a grid point. -/

theorem read_ct (c : Dev nD) (t : Fin cfg0.N) (r : Fin 2048) (a q : Fin 1024) (hr : r.val = t.val / 4 * 1024 + a.val) :
    iblk m c 0 t (ix2 a q) = m ((c : Thread nD τ).loc main_arg2) (ix2 r q) := by
  have ht : t.val < 8 := t.isLt
  blk_point [iblk, V, idx t]

theorem read_w (c : Dev nD) (t : Fin cfg0.N) (k : Fin 2816) (a : Fin 704) (q : Fin 1024) (hk : k.val = t.val % 4 * 704 + a.val) :
    iblk m c 1 t (ix4 0 0 a q) = m ((c : Thread nD τ).loc main_arg1) (ix2 k q) := by
  have ht : t.val < 8 := t.isLt
  blk_point [iblk, V, idx t]

theorem read_gate (c : Dev nD) (t : Fin cfg0.N) (r : Fin 2048) (k : Fin 5632) (a : Fin 1024) (b : Fin 704)
    (hr : r.val = t.val / 4 * 1024 + a.val) (hk : k.val = t.val % 4 * 704 + b.val) :
    iblk m c 2 t (ix4 0 0 a b) = m ((c : Thread nD τ).loc main_arg0) (ix2 r k) := by
  have ht : t.val < 8 := t.isLt
  blk_point [iblk, V, idx t]

theorem read_up (c : Dev nD) (t : Fin cfg0.N) (r : Fin 2048) (k : Fin 5632) (a : Fin 1024) (b : Fin 704)
    (hr : r.val = t.val / 4 * 1024 + a.val) (hk : k.val = 2816 + (t.val % 4 * 704 + b.val)) :
    iblk m c 2 t (ix4 0 1 a b) = m ((c : Thread nD τ).loc main_arg0) (ix2 r k) := by
  have ht : t.val < 8 := t.isLt
  blk_point [iblk, V, idx t]

theorem point (c : Dev nD) (t : Fin cfg0.N) (y : S1x2x1024x704.Idx) :
    out0_3 (F := Ideal) (iblk m c 0 t) (iblk m c 1 t) (iblk m c 2 t) y
      = dgu (m ((c : Thread nD τ).loc main_arg0)) (m ((c : Thread nD τ).loc main_arg1)) (m ((c : Thread nD τ).loc main_arg2)) (((cfg0.win 3).blk t).view.emb y) := by
  have ht : t.val < 8 := t.isLt
  have hy2 : (y 2).val < 1024 := (y 2).isLt
  have hy3 : (y 3).val < 704 := (y 3).isLt
  have e0 : ((((cfg0.win 3).blk t).view.emb y) 0).val = t.val % 4 := by
    blk_point [idx t]
  have e1 : ((((cfg0.win 3).blk t).view.emb y) 1).val = (y 1).val := by
    blk_point [idx t]
  have e2 : ((((cfg0.win 3).blk t).view.emb y) 2).val = t.val / 4 * 1024 + (y 2).val := by
    blk_point [idx t]
  have e3 : ((((cfg0.win 3).blk t).view.emb y) 3).val = (y 3).val := by
    blk_point [idx t]
  generalize hi : ((cfg0.win 3).blk t).view.emb y = i at e0 e1 e2 e3 ⊢
  clear hi
  unfold out0_3
  canon_tiles x h
  · rw [dgu_up _ _ _ i ⟨t.val / 4 * 1024 + (y 2).val, by omega⟩ ⟨t.val % 4 * 704 + (y 3).val, by omega⟩ (by omega) (Fin.ext e2) (by rw [e0, e3])]
    open_payloads
    unfold dup da Spec.sg
    pointwise []
    rw [zero_sub]
    have E0 : ∀ q, iblk m c 0 t (ix2 (x 2) q) = m ((c : Thread nD τ).loc main_arg2) (ix2 ⟨t.val / 4 * 1024 + (y 2).val, by omega⟩ q) :=
      fun q => read_ct m c t _ _ q (congrArg (t.val / 4 * 1024 + ·) h2)
    have E1 : ∀ q, iblk m c 1 t (ix4 0 0 (x 3) q) = m ((c : Thread nD τ).loc main_arg1) (ix2 ⟨t.val % 4 * 704 + (y 3).val, by omega⟩ q) :=
      fun q => read_w m c t _ _ q (congrArg (t.val % 4 * 704 + ·) h3)
    have ED := half_dot_congr E0 E1
    have EG := read_gate m c t ⟨t.val / 4 * 1024 + (y 2).val, by omega⟩ ⟨t.val % 4 * 704 + (y 3).val, by omega⟩ (x 2) (x 3)
      (congrArg (t.val / 4 * 1024 + ·) h2) (congrArg (t.val % 4 * 704 + ·) h3)
    exact congrArg₂ dup ED EG
  · rw [dgu_gate _ _ _ i ⟨t.val / 4 * 1024 + (y 2).val, by omega⟩ ⟨t.val % 4 * 704 + (y 3).val, by omega⟩ (by omega) (Fin.ext e2) (by rw [e0, e3])]
    open_payloads
    unfold dgate da Spec.sg
    pointwise []
    rw [zero_sub]
    have E0 : ∀ q, iblk m c 0 t (ix2 (x 2) q) = m ((c : Thread nD τ).loc main_arg2) (ix2 ⟨t.val / 4 * 1024 + (y 2).val, by omega⟩ q) :=
      fun q => read_ct m c t _ _ q (congrArg (t.val / 4 * 1024 + ·) h2)
    have E1 : ∀ q, iblk m c 1 t (ix4 0 0 (x 3) q) = m ((c : Thread nD τ).loc main_arg1) (ix2 ⟨t.val % 4 * 704 + (y 3).val, by omega⟩ q) :=
      fun q => read_w m c t _ _ q (congrArg (t.val % 4 * 704 + ·) h3)
    have ED := half_dot_congr E0 E1
    have EG := read_gate m c t ⟨t.val / 4 * 1024 + (y 2).val, by omega⟩ ⟨t.val % 4 * 704 + (y 3).val, by omega⟩ (x 2) (x 3)
      (congrArg (t.val / 4 * 1024 + ·) h2) (congrArg (t.val % 4 * 704 + ·) h3)
    have EU := read_up m c t ⟨t.val / 4 * 1024 + (y 2).val, by omega⟩ ⟨2816 + (t.val % 4 * 704 + (y 3).val), by omega⟩ (x 2) (x 3)
      (congrArg (t.val / 4 * 1024 + ·) h2) (congrArg (fun z => 2816 + (t.val % 4 * 704 + z)) h3)
    exact dgate_congr ED EG EU

/-- The kernel's result is the reference's. -/
theorem final (c : Dev nD) (h : Real4 (m ((c : Thread nD τ).loc main_arg0)) (m ((c : Thread nD τ).loc main_arg1)) (m ((c : Thread nD τ).loc main_arg2))) :
    (dats m 0 c).arrAt 3 (cfgs 0).N = val_main_v16 (F := Ideal) (m ((c : Thread nD τ).loc main_arg0)) (m ((c : Thread nD τ).loc main_arg1)) (m ((c : Thread nD τ).loc main_arg2)) := by
  rw [ref_eq _ _ _ h]
  refine (dats m 0 c).arrAt_eq_of_covers 3 _ (by decide +kernel) fun t _ y => ?_
  blk_simp
  rw [after0_3]
  exact point m c t y

end Cert.Kernel4Ideal.Value

end
-- ==== Proof.Pre4.lean ====
module

public import proofs.«01_k».proof.Proof.Pre
public import proofs.«01_k».proof.Proof.FfnDact

@[expose] public section

set_option maxRecDepth 16384

noncomputable section

/-! What the precondition of the gated activation's gradient says: what the gate lets through, the weights and the cotangent
    are real numbers; and so the product of the activation's cotangent and of what the gate lets through is one. -/

namespace Cert.Pre_finite4.Gen

open Idealize.ShloMosaic

instance facts : Cert.Pre_finite4.Facts where
  slices_S2048x5632_S2048x2816_0_2816 := by decide
  bcast_S_S2048x2816 := by decide
  reducesTo_S2048x2816_S_d0_1 := by decide
  h_S_ := by decide
  bcast_S_S2816x1024 := by decide
  reducesTo_S2816x1024_S_d0_1 := by decide
  bcast_S_S2048x1024 := by decide
  reducesTo_S2048x1024_S_d0_1 := by decide

instance : Subsingleton S_.Idx := ⟨fun a b => funext fun d => d.elim0⟩

variable (x0 : S2048x5632.Idx → EReal) (x1 : S2816x1024.Idx → EReal) (x2 : S2048x1024.Idx → EReal)

/-- A column of the slice of what the gates let through. -/
theorem slice_apply (hs : S2048x5632.Slices ![0, 2816] S2048x2816) (r : Fin 2048) (k : Fin 2816) :
    extractStridedSlice S2048x2816 ![0, 2816] (show FVec Ideal S2048x5632 .f32 from x0) hs (ix2 r k) = x0 (ix2 r ⟨2816 + k.val, by omega⟩) := by
  pointwise []

theorem real (h : fn (F := Ideal) x0 x1 x2 = fun _ => 1#1) : Cert.Kernel4Ideal.Value.Real4 x0 x1 x2 := by
  have h0 := congrFun h (fun d => d.elim0)
  unfold fn at h0
  obtain ⟨hab, hc⟩ := IntOp.andi_eq_one.1 h0
  obtain ⟨ha, hb⟩ := IntOp.andi_eq_one.1 hab
  have h1 : ∀ i, Spec.IsR (x1 i) := fun i => Cert.Pre_finite.Gen.real_of_lt _ (Host.reduce_andi_all _ _ _ _ _ hb i)
  have h2 : ∀ i, Spec.IsR (x2 i) := fun i => Cert.Pre_finite.Gen.real_of_lt _ (Host.reduce_andi_all _ _ _ _ _ hc i)
  intro r k
  have hu : Spec.IsR (x0 (ix2 r ⟨2816 + k.val, by omega⟩)) := by
    rw [← slice_apply x0 (by decide) r k]
    exact Cert.Pre_finite.Gen.real_of_lt _ (Host.reduce_andi_all _ _ _ _ _ ha (ix2 r k))
  refine Spec.IsR.mul (Spec.IsR.mul ⟨1 / 2, Spec.half_f32⟩ (Spec.IsR.sum _ _ fun q => (h2 _).mul (h1 _))) hu

end Cert.Pre_finite4.Gen

end
-- ==== Proof.FfnDwOut.lean ====
/- The gradient of the feed-forward layer's second weights: one block of rows per grid point. -/
module

public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Read
public import proofs.«01_k».proof.Proof.Half
public import Idealize.ShloMosaic.Lib.Pipeline.ValueKit

@[expose] public section

set_option maxRecDepth 16384

noncomputable section

namespace Cert.Kernel5Ideal.Value

open Cert.Kernel5Ideal Cert.Kernel5Ideal.Gen Idealize.ShloMosaic Idealize.ShloMosaic.TcCoe Idealize.SL.Sem
open Cert.Reference5Ideal.Read

variable (m : (ℓ : Loc nD τ sig) → Buf (Elt Ideal) ℓ)

/-- Which block each window holds at a grid point. -/
theorem idx : ∀ t : Fin cfg0.N, win0_0.index t = ![t.val, 0, 0] ∧ win0_1.index t = ![0, 0] ∧ win0_2.index t = ![t.val, 0, 0] :=
  (by decide +kernel : ∀ t : Fin grid0.N, _)

theorem point (c : Dev nD) (t : Fin cfg0.N) (y : S1x704x1024.Idx) :
    k0_pay1 (F := Ideal) (iblk m c 1 t) (iblk m c 0 t) y
      = val_main_v5 (F := Ideal) (m ((c : Thread nD τ).loc main_arg0)) (m ((c : Thread nD τ).loc main_arg1)) (((cfg0.win 2).blk t).view.emb y) := by
  have ht : t.val < 4 := t.isLt
  pointwise [k0_pay1, val_main_v5, val_main_v4, val_main_v3, val_main_v2, val_main_v1, val_main_v0, val_main_cst]
  rw [mul_comm, Spec.half_mul_sum]
  refine Fin.sum_fin_congr fun k => ?_
  rw [← mul_assoc, mul_right_comm]
  blk_point [iblk, V, idx t]

/-- The kernel's result is the reference's. -/
theorem final (c : Dev nD) : (dats m 0 c).arrAt 2 (cfgs 0).N = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel5Ideal.Value

end
-- ==== Proof.FfnOut.lean ====
/- The feed-forward layer's second half: the product of the activation, by its four blocks, halved and added to the residual. -/
module

public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Read
public import Idealize.ShloMosaic.Lib.Pipeline.ValueKit

@[expose] public section

set_option maxRecDepth 16384

noncomputable section

namespace Cert.Kernel6Ideal.Value

open Cert.Kernel6Ideal Cert.Kernel6Ideal.Gen Idealize.ShloMosaic Idealize.ShloMosaic.TcCoe Idealize.SL.Sem
open Cert.Reference6Ideal.Read

variable (m : (ℓ : Loc nD τ sig) → Buf (Elt Ideal) ℓ)

/-- Which block each window holds at a grid point. -/
theorem idx : ∀ t : Fin cfg0.N, win0_0.index t = ![0, t.val, 0] ∧ win0_1.index t = ![0, 0, 0, 0] ∧ win0_2.index t = ![t.val, 0]
    ∧ win0_3.index t = ![t.val, 0] :=
  (by decide +kernel : ∀ t : Fin grid0.N, _)

theorem point (c : Dev nD) (t : Fin cfg0.N) (y : S1024x1024.Idx) :
    out0_3 (F := Ideal) (iblk m c 0 t) (iblk m c 1 t) (iblk m c 2 t) y
      = val_main_v3 (F := Ideal) (m ((c : Thread nD τ).loc main_arg0)) (m ((c : Thread nD τ).loc main_arg1)) (m ((c : Thread nD τ).loc main_arg2)) (((cfg0.win 3).blk t).view.emb y) := by
  have ht : t.val < 2 := t.isLt
  unfold out0_3
  frame_out
  pointwise [k0_pay1, k0_pay2, val_main_v3, val_main_v2, val_main_v1, val_main_v0, val_main_cst]
  rw [Fin.sum_univ_tiles 4 704 rfl, Fin.sum_univ_four]
  blk_point [iblk, V, idx t]

/-- The kernel's result is the reference's. -/
theorem final (c : Dev nD) : (dats m 0 c).arrAt 3 (cfgs 0).N = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.Kernel6Ideal.Value

end
-- ==== Proof.Norm.lean ====
/- The gradient of the norm of a row, in the two forms in which it is written: equal for all rows, real or not. -/
module

public import proofs.«01_k».proof.Proof.Half

@[expose] public section

noncomputable section

namespace Cert.Spec

open Idealize.ShloMosaic

theorem n_f32 : Ideal.ofBits .f32 0x44800000#32 = ((1024 : ℝ) : EReal) := by
  simp [Ideal.ofBits, Ideal.ieee, -EReal.coe_mul]; norm_num

theorem neg_half_f32 : Ideal.ofBits .f32 0xBF000000#32 = ((-(1 / 2) : ℝ) : EReal) := by
  simp [Ideal.ofBits, Ideal.ieee, -EReal.coe_mul]; norm_num

theorem eps_f32 : ∃ e : ℝ, 0 < e ∧ Ideal.ofBits .f32 0x358637BD#32 = (e : EReal) := by
  refine ⟨_, ?_, by simp [Ideal.ofBits, Ideal.ieee, -EReal.coe_mul]; rfl⟩
  positivity

/-- A square is not negative. -/
theorem sq_nonneg (x : EReal) : 0 ≤ x * x := by
  induction x with
  | bot => simp
  | top => simp
  | coe x => exact_mod_cast mul_self_nonneg x

/-- Twice a real multiple, of any number. -/
theorem mul_coe_twice (z : EReal) (k : ℝ) : z * (k : EReal) + z * (k : EReal) = z * ((k + k : ℝ) : EReal) := by
  have pos : ∀ (z : EReal) (k : ℝ), 0 ≤ k → z * (k : EReal) + z * (k : EReal) = z * ((k + k : ℝ) : EReal) := fun z k h => by
    have h' : (0 : EReal) ≤ (k : EReal) := by exact_mod_cast h
    rw [EReal.coe_add, mul_comm z, mul_comm z, EReal.right_distrib_of_nonneg h' h']
  rcases le_total 0 k with h | h
  · exact pos z k h
  · have := pos (-z) (-k) (by linarith)
    rw [show -k + -k = -(k + k) by ring] at this
    simpa only [EReal.coe_neg, neg_mul_neg] using this

/-- A real number of no sign may be taken out of a sum of products. -/
theorem sum_mul_coe {n : Nat} (f : Fin n → EReal) (r : ℝ) (h : 0 ≤ r) :
    ∑ j, f j * (r : EReal) = (∑ j, f j) * (r : EReal) := by
  have h' : (0 : EReal) ≤ (r : EReal) := by exact_mod_cast h
  rw [mul_comm, coe_mul_sum _ _ h]
  exact Finset.sum_congr rfl fun j _ => mul_comm _ _

/-- The mean square of a row and a little more, and the reciprocal of its root. -/
def ms (x : Fin 1024 → EReal) : EReal :=
  Ideal.div (∑ j, x j * x j) (Ideal.ofBits .f32 0x44800000#32) + Ideal.ofBits .f32 0x358637BD#32

def rs (x : Fin 1024 → EReal) : EReal := Ideal.rsqrt (ms x)

/-- The gradient of the norm, with what comes in beside it: the cotangent less its part along the normed row. -/
def normA (x d g : Fin 1024 → EReal) (res : EReal) (q : Fin 1024) : EReal :=
  res + rs x * (d q * g q - x q * rs x * Ideal.div (∑ j, d j * g j * (x j * rs x)) (Ideal.ofBits .f32 0x44800000#32))

/-- The cotangent of the mean square, and the gradient as a sum of what comes through each factor. -/
def normC (x d g : Fin 1024 → EReal) : EReal :=
  Ideal.div ((∑ j, x j * (d j * g j)) * (Ideal.ofBits .f32 0xBF000000#32 * Ideal.div (rs x) (ms x))) (Ideal.ofBits .f32 0x44800000#32)

def normB (x d g : Fin 1024 → EReal) (res : EReal) (q : Fin 1024) : EReal :=
  res + d q * g q * rs x + x q * normC x d g + normC x d g * x q

theorem div_n (z : EReal) : Ideal.div z (Ideal.ofBits .f32 0x44800000#32) = z * ((1024⁻¹ : ℝ) : EReal) := by
  rw [n_f32, Ideal.div, if_neg (by exact_mod_cast (by norm_num : (1024 : ℝ) ≠ 0)), EReal.coe_inv]

/-- Either the mean square is infinite, or it is a positive real number. -/
theorem ms_cases (x : Fin 1024 → EReal) : ms x = ⊤ ∨ ∃ a : ℝ, 0 < a ∧ ms x = (a : EReal) := by
  obtain ⟨e, he, h⟩ := eps_f32
  have hs : (0 : EReal) ≤ ∑ j, x j * x j := Finset.sum_nonneg fun j _ => sq_nonneg _
  unfold ms
  rw [h, div_n]
  generalize ∑ j, x j * x j = s at hs
  induction s with
  | bot => exact absurd hs (by simp)
  | top =>
    left
    rw [EReal.top_mul_of_pos (by exact_mod_cast (by norm_num : (0 : ℝ) < 1024⁻¹))]
    exact EReal.top_add_of_ne_bot (EReal.coe_ne_bot _)
  | coe s =>
    right
    have hs' : (0 : ℝ) ≤ s := by exact_mod_cast hs
    exact ⟨s * 1024⁻¹ + e, by positivity, by rw [EReal.coe_add, EReal.coe_mul]⟩

/-- The two forms agree. -/
theorem norm_eq (x d g : Fin 1024 → EReal) (res : EReal) (q : Fin 1024) : normA x d g res q = normB x d g res q := by
  unfold normA normB
  rcases ms_cases x with h | ⟨a, ha, h⟩
  · have hr : rs x = 0 := by unfold rs; rw [h, Ideal.rsqrt_top]
    have hc : normC x d g = 0 := by
      unfold normC
      rw [hr, h, div_n, Ideal.div, if_neg EReal.top_ne_zero, zero_mul, mul_zero, mul_zero, zero_mul]
    rw [hr, hc, zero_mul, mul_zero, mul_zero, zero_mul, add_zero, add_zero, add_zero]
  · have hq : 0 < (Real.sqrt a)⁻¹ := inv_pos.2 (Real.sqrt_pos.2 ha)
    have hr : rs x = (((Real.sqrt a)⁻¹ : ℝ) : EReal) := by
      unfold rs; rw [h, Ideal.rsqrt_coe, if_neg (not_lt.2 ha.le), if_neg ha.ne']
    have hc : normC x d g = (∑ j, x j * (d j * g j)) * ((-(1 / 2) * ((Real.sqrt a)⁻¹ * a⁻¹) * 1024⁻¹ : ℝ) : EReal) := by
      unfold normC
      rw [hr, h, div_n, neg_half_f32, Ideal.div, if_neg (by exact_mod_cast ha.ne')]
      rw [← EReal.coe_inv, ← EReal.coe_mul, ← EReal.coe_mul, mul_assoc, ← EReal.coe_mul]
    have hs : ∑ j, d j * g j * (x j * rs x) = (∑ j, x j * (d j * g j)) * (((Real.sqrt a)⁻¹ : ℝ) : EReal) := by
      rw [← sum_mul_coe _ _ hq.le, hr]
      exact Finset.sum_congr rfl fun j _ => by rw [← mul_assoc, mul_comm (d j * g j) (x j)]
    rw [hs, hc, hr, div_n]
    generalize ∑ j, x j * (d j * g j) = u
    generalize d q * g q = p
    generalize x q = y
    have hsq : (Real.sqrt a)⁻¹ * (Real.sqrt a)⁻¹ = a⁻¹ := by
      rw [← mul_inv, Real.mul_self_sqrt ha.le]
    generalize (Real.sqrt a)⁻¹ = r at hq hsq
    rw [sub_eq_add_neg, EReal.left_distrib_of_nonneg_of_ne_top (by exact_mod_cast hq.le) (EReal.coe_ne_top _), add_assoc, add_assoc, mul_comm (r : EReal) p]
    refine congrArg (fun z => res + (p * (r : EReal) + z)) ?_
    rw [mul_comm (u * _) y, ← mul_assoc y, mul_coe_twice]
    have e : (-(1 / 2) * (r * a⁻¹) * 1024⁻¹ + -(1 / 2) * (r * a⁻¹) * 1024⁻¹ : ℝ) = -(r * r * 1024⁻¹ * r) := by
      rw [← hsq]; ring
    rw [e, EReal.coe_neg, mul_neg, mul_neg, EReal.coe_mul, EReal.coe_mul, EReal.coe_mul]
    refine congrArg (- ·) ?_
    ac_rfl

end Cert.Spec

end
-- ==== Proof.FfnDh.lean ====
/- The gradient of the feed-forward layer's norm and of what it norms, through the product with the weights, a block of rows per grid point. -/
module

public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Read
public import proofs.«01_k».proof.Proof.Norm
public import Idealize.ShloMosaic.Lib.Pipeline.ValueKit

@[expose] public section

set_option maxRecDepth 16384

noncomputable section

namespace Cert.Kernel7Ideal.Value

open Cert.Kernel7Ideal Cert.Kernel7Ideal.Gen Idealize.ShloMosaic Idealize.ShloMosaic.TcCoe Idealize.SL.Sem
open Cert.Reference7Ideal.Read

variable (m : (ℓ : Loc nD τ sig) → Buf (Elt Ideal) ℓ)

/-- The cotangent of a normed row. -/
def dh (x2 : S1024x5632.Idx → EReal) (x3 : S2048x5632.Idx → EReal) (r : Fin 2048) (q : Fin 1024) : EReal :=
  ∑ j : Fin 5632, x3 (ix2 r j) * x2 (ix2 q j)

variable (x0 : S2048x1024.Idx → EReal) (x1 : S1024.Idx → EReal) (x2 : S1024x5632.Idx → EReal) (x3 : S2048x5632.Idx → EReal) (x4 : S2048x1024.Idx → EReal)

/-! ## The reference -/

theorem ref_dh (r : Fin 2048) (q : Fin 1024) : val_main_v17 (F := Ideal) x2 x3 (ix2 r q) = dh x2 x3 r q := by
  unfold dh
  pointwise [val_main_v17, val_main_v16, val_main_v15]
  try blk_point []

theorem ref_ms (r : Fin 2048) : val_main_v6 (F := Ideal) x0 (ix2 r 0) = Spec.ms (fun j => x0 (ix2 r j)) := by
  unfold Spec.ms
  pointwise [val_main_v6, val_main_v5, val_main_v4, val_main_v3, val_main_v2, val_main_v1, val_main_v0, val_main_cst, val_main_cst_0, val_main_cst_1]

theorem ref_rs (r : Fin 2048) : val_main_v7 (F := Ideal) x0 (ix2 r 0) = Spec.rs (fun j => x0 (ix2 r j)) := by
  unfold Spec.rs
  rw [val_main_v7_apply, ref_ms]
  rfl

theorem ref_dgain (r : Fin 2048) (q : Fin 1024) : val_main_v22 (F := Ideal) x1 x2 x3 (ix2 r q) = dh x2 x3 r q * x1 (ix1 q) := by
  rw [val_main_v22_apply, ref_dh]
  refine congrArg (dh x2 x3 r q * ·) ?_
  pointwise [val_main_v21, val_main_v13]

theorem ref_c (r : Fin 2048) : val_main_v32 (F := Ideal) x0 x1 x2 x3 (ix2 r 0)
    = Spec.normC (fun j => x0 (ix2 r j)) (fun j => dh x2 x3 r j) (fun j => x1 (ix1 j)) := by
  have e : val_main_v26 (F := Ideal) x0 x1 x2 x3 (ix2 r 0) = ∑ j, x0 (ix2 r j) * (dh x2 x3 r j * x1 (ix1 j)) := by
    refine Eq.trans (b := ∑ j, x0 (ix2 r j) * val_main_v22 (F := Ideal) x1 x2 x3 (ix2 r j)) ?_ (Fin.sum_fin_congr fun j => congrArg (x0 (ix2 r j) * ·) (ref_dgain x1 x2 x3 r j))
    pointwise [val_main_v26, val_main_v25, val_main_v24, val_main_cst_5]
    all_goals blk_point []
  have e31 : val_main_v31 (F := Ideal) (ix2 r 0) = Ideal.ofBits .f32 0x44800000#32 := by
    pointwise [val_main_v31, val_main_cst_6]
  have e9 : val_main_v9 (F := Ideal) (ix2 r 0) = Ideal.ofBits .f32 0xBF000000#32 := by
    pointwise [val_main_v9, val_main_cst_2]
  unfold Spec.normC
  rw [val_main_v32_apply, val_main_v30_apply, val_main_v10_apply, val_main_v8_apply, ref_ms, ref_rs, e, e31, e9]
  rfl

theorem ref_dx (r : Fin 2048) (q : Fin 1024) : val_main_v38 (F := Ideal) x0 x1 x2 x3 x4 (ix2 r q)
    = Spec.normB (fun j => x0 (ix2 r j)) (fun j => dh x2 x3 r j) (fun j => x1 (ix1 j)) (x4 (ix2 r q)) q := by
  have e27 : val_main_v27 (F := Ideal) x0 (ix2 r q) = Spec.rs (fun j => x0 (ix2 r j)) := by
    rw [← ref_rs]
    pointwise [val_main_v27]
  have e34 : val_main_v34 (F := Ideal) x0 x1 x2 x3 (ix2 r q) = Spec.normC (fun j => x0 (ix2 r j)) (fun j => dh x2 x3 r j) (fun j => x1 (ix1 j)) := by
    rw [← ref_c]
    pointwise [val_main_v34, val_main_v33, val_main_cst_7]
    rw [Fin.sum_univ_one]
    all_goals blk_point []
  unfold Spec.normB
  rw [val_main_v38_apply, val_main_v37_apply, val_main_v36_apply, val_main_v35_apply, val_main_v29_apply, val_main_v28_apply, ref_dgain, e27, e34]
  rfl

theorem ref_dg (q : Fin 1024) : val_main_v39 (F := Ideal) x0 x2 x3 (ix2 0 q)
    = ∑ r, dh x2 x3 r q * (x0 (ix2 r q) * Spec.rs (fun j => x0 (ix2 r j))) := by
  have e11 : ∀ r, val_main_v11 (F := Ideal) x0 (ix2 r q) = Spec.rs (fun j => x0 (ix2 r j)) := fun r => by
    rw [← ref_rs]
    pointwise [val_main_v11]
  refine Eq.trans (b := ∑ r, val_main_v18 (F := Ideal) x0 x2 x3 (ix2 r q)) ?_ (Fin.sum_fin_congr fun r => ?_)
  · pointwise [val_main_v39, val_main_v23, val_main_v20, val_main_v19, val_main_cst_3, val_main_cst_4]
    rw [Fin.sum_univ_one]
  · rw [val_main_v18_apply, val_main_v12_apply, e11, ref_dh]
    exact mul_comm _ _

/-! ## The kernel's block -/

theorem pay5_at (D X : FVec Ideal S512x1024 .f32) (G : FVec Ideal S1x1024 .f32) (R : FVec Ideal S512x1024 .f32) (a : Fin 512) (q : Fin 1024) :
    k0_pay5 (F := Ideal) D X G R (ix2 a q) = Spec.normA (fun j => X (ix2 a j)) (fun j => D (ix2 a j)) (fun j => G (ix2 0 j)) (R (ix2 a q)) q := by
  unfold Spec.normA Spec.rs Spec.ms
  pointwise [k0_pay5, k0_pay4, k0_pay3]
  all_goals blk_point []

theorem pay6_at (D X : FVec Ideal S512x1024 .f32) (q : Fin 1024) :
    k0_pay6 (F := Ideal) D X (ix2 0 q) = ∑ a, D (ix2 a q) * (X (ix2 a q) * Spec.rs (fun j => X (ix2 a j))) := by
  unfold Spec.rs Spec.ms
  pointwise [k0_pay6, k0_pay4, k0_pay3]
  all_goals blk_point []

/-- Which block each window holds at a grid point. -/
theorem idx : ∀ t : Fin cfg0.N, win0_0.index t = ![0, 0, t.val, 0] ∧ win0_1.index t = ![0, 0, 0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

theorem read_ct (c : Dev nD) (t : Fin cfg0.N) (b : Fin 4) (p : Fin 2) (a : Fin 512) (k : Fin 704) (r : Fin 2048) (j : Fin 5632)
    (hr : r.val = t.val * 512 + a.val) (hj : j.val = (p.val * 4 + b.val) * 704 + k.val) :
    iblk m c 0 t (ix4 b p a k) = m ((c : Thread nD τ).loc main_arg3) (ix2 r j) := by
  have ht : t.val < 4 := t.isLt
  blk_point [iblk, V, idx t]

theorem read_w (c : Dev nD) (t : Fin cfg0.N) (b : Fin 8) (q : Fin 1024) (k : Fin 704) (j : Fin 5632) (hj : j.val = b.val * 704 + k.val) :
    iblk m c 1 t (ix4 0 b q k) = m ((c : Thread nD τ).loc main_arg2) (ix2 q j) := by
  have ht : t.val < 4 := t.isLt
  blk_point [iblk, V, idx t]

theorem read_x (c : Dev nD) (t : Fin cfg0.N) (a : Fin 512) (q : Fin 1024) (r : Fin 2048) (hr : r.val = t.val * 512 + a.val) :
    iblk m c 2 t (ix2 a q) = m ((c : Thread nD τ).loc main_arg0) (ix2 r q) := by
  have ht : t.val < 4 := t.isLt
  blk_point [iblk, V, idx t]

theorem read_gain (c : Dev nD) (t : Fin cfg0.N) (q : Fin 1024) : iblk m c 3 t (ix2 0 q) = m ((c : Thread nD τ).loc main_arg1) (ix1 q) := by
  have ht : t.val < 4 := t.isLt
  blk_point [iblk, V, idx t]

theorem read_res (c : Dev nD) (t : Fin cfg0.N) (a : Fin 512) (q : Fin 1024) (r : Fin 2048) (hr : r.val = t.val * 512 + a.val) :
    iblk m c 4 t (ix2 a q) = m ((c : Thread nD τ).loc main_arg4) (ix2 r q) := by
  have ht : t.val < 4 := t.isLt
  blk_point [iblk, V, idx t]

/-- The cotangent of a block of normed rows: eight products, added one to another. -/
def blkDh (x : Vec Ideal S4x2x512x704 .bf16) (w : Vec Ideal S1x8x1024x704 .bf16) : FVec Ideal S512x1024 .f32 :=
  k0_pay2 (F := Ideal)
    (k0_pay1 (F := Ideal)
      (View.ld x (Rect.unit ![0, 0, 0, 0] ![1, 1, 512, 704] inb_S4x2x512x704_S1x1x512x704_0_0_0_0))
      (View.ld w (Rect.unit ![0, 0, 0, 0] ![1, 1, 1024, 704] inb_S1x8x1024x704_S1x1x1024x704_0_0_0_0))
      (View.ld x (Rect.unit ![1, 0, 0, 0] ![1, 1, 512, 704] inb_S4x2x512x704_S1x1x512x704_1_0_0_0))
      (View.ld w (Rect.unit ![0, 1, 0, 0] ![1, 1, 1024, 704] inb_S1x8x1024x704_S1x1x1024x704_0_1_0_0))
      (View.ld x (Rect.unit ![2, 0, 0, 0] ![1, 1, 512, 704] inb_S4x2x512x704_S1x1x512x704_2_0_0_0))
      (View.ld w (Rect.unit ![0, 2, 0, 0] ![1, 1, 1024, 704] inb_S1x8x1024x704_S1x1x1024x704_0_2_0_0))
      (View.ld x (Rect.unit ![3, 0, 0, 0] ![1, 1, 512, 704] inb_S4x2x512x704_S1x1x512x704_3_0_0_0))
      (View.ld w (Rect.unit ![0, 3, 0, 0] ![1, 1, 1024, 704] inb_S1x8x1024x704_S1x1x1024x704_0_3_0_0)))
      (View.ld x (Rect.unit ![0, 1, 0, 0] ![1, 1, 512, 704] inb_S4x2x512x704_S1x1x512x704_0_1_0_0))
      (View.ld w (Rect.unit ![0, 4, 0, 0] ![1, 1, 1024, 704] inb_S1x8x1024x704_S1x1x1024x704_0_4_0_0))
      (View.ld x (Rect.unit ![1, 1, 0, 0] ![1, 1, 512, 704] inb_S4x2x512x704_S1x1x512x704_1_1_0_0))
      (View.ld w (Rect.unit ![0, 5, 0, 0] ![1, 1, 1024, 704] inb_S1x8x1024x704_S1x1x1024x704_0_5_0_0))
      (View.ld x (Rect.unit ![2, 1, 0, 0] ![1, 1, 512, 704] inb_S4x2x512x704_S1x1x512x704_2_1_0_0))
      (View.ld w (Rect.unit ![0, 6, 0, 0] ![1, 1, 1024, 704] inb_S1x8x1024x704_S1x1x1024x704_0_6_0_0))
      (View.ld x (Rect.unit ![3, 1, 0, 0] ![1, 1, 512, 704] inb_S4x2x512x704_S1x1x512x704_3_1_0_0))
      (View.ld w (Rect.unit ![0, 7, 0, 0] ![1, 1, 1024, 704] inb_S1x8x1024x704_S1x1x1024x704_0_7_0_0))

theorem blkDh_at (x : Vec Ideal S4x2x512x704 .bf16) (w : Vec Ideal S1x8x1024x704 .bf16) (a : Fin 512) (q : Fin 1024) :
    blkDh x w (ix2 a q) = (∑ k, x (ix4 0 0 a k) * w (ix4 0 0 q k)) + (∑ k, x (ix4 1 0 a k) * w (ix4 0 1 q k)) + (∑ k, x (ix4 2 0 a k) * w (ix4 0 2 q k)) + (∑ k, x (ix4 3 0 a k) * w (ix4 0 3 q k)) + (∑ k, x (ix4 0 1 a k) * w (ix4 0 4 q k)) + (∑ k, x (ix4 1 1 a k) * w (ix4 0 5 q k)) + (∑ k, x (ix4 2 1 a k) * w (ix4 0 6 q k)) + (∑ k, x (ix4 3 1 a k) * w (ix4 0 7 q k)) := by
  unfold blkDh
  pointwise [k0_pay2, k0_pay1]
  all_goals blk_point []

theorem tile_congr {f f' g g' : Fin 704 → EReal} (hf : ∀ k, f k = f' k) (hg : ∀ k, g k = g' k) : ∑ k, f k * g k = ∑ k, f' k * g' k := by
  rw [funext hf, funext hg]

/-- The product of two numbers. -/
def prod (y z : EReal) : EReal := y * z

theorem tile (c : Dev nD) (t : Fin cfg0.N) (b : Fin 4) (p : Fin 2) (e : Fin 8) (a : Fin 512) (q : Fin 1024) (r : Fin 2048) (hr : r.val = t.val * 512 + a.val) (he : e.val = p.val * 4 + b.val) :
    ∑ k : Fin 704, prod (iblk m c 0 t (ix4 b p a k)) (iblk m c 1 t (ix4 0 e q k))
      = ∑ k : Fin 704, prod (m ((c : Thread nD τ).loc main_arg3) (ix2 r ⟨e.val * 704 + k.val, by omega⟩)) (m ((c : Thread nD τ).loc main_arg2) (ix2 q ⟨e.val * 704 + k.val, by omega⟩)) :=
  tile_congr (fun k => read_ct m c t b p a k r _ hr (congrArg (· * 704 + k.val) he)) (fun k => read_w m c t e q k _ rfl)

theorem blk_dh (c : Dev nD) (t : Fin cfg0.N) (a : Fin 512) (q : Fin 1024) (r : Fin 2048) (hr : r.val = t.val * 512 + a.val) :
    blkDh (iblk m c 0 t) (iblk m c 1 t) (ix2 a q) = dh (m ((c : Thread nD τ).loc main_arg2)) (m ((c : Thread nD τ).loc main_arg3)) r q := by
  rw [blkDh_at]
  unfold dh
  rw [Fin.sum_univ_tiles 8 704 rfl, Fin.sum_univ_eight]
  refine congrArg₂ (fun y z : EReal => y + z) (congrArg₂ (fun y z : EReal => y + z) (congrArg₂ (fun y z : EReal => y + z) (congrArg₂ (fun y z : EReal => y + z) (congrArg₂ (fun y z : EReal => y + z)
    (congrArg₂ (fun y z : EReal => y + z) (congrArg₂ (fun y z : EReal => y + z) ?_ ?_) ?_) ?_) ?_) ?_) ?_) ?_
  · exact tile m c t 0 0 0 a q r hr rfl
  · exact tile m c t 1 0 1 a q r hr rfl
  · exact tile m c t 2 0 2 a q r hr rfl
  · exact tile m c t 3 0 3 a q r hr rfl
  · exact tile m c t 0 1 4 a q r hr rfl
  · exact tile m c t 1 1 5 a q r hr rfl
  · exact tile m c t 2 1 6 a q r hr rfl
  · exact tile m c t 3 1 7 a q r hr rfl

theorem normA_congr {x x' d d' g g' : Fin 1024 → EReal} {s s' : EReal} (q : Fin 1024) (hx : ∀ j, x j = x' j) (hd : ∀ j, d j = d' j) (hg : ∀ j, g j = g' j) (hs : s = s') :
    Spec.normA x d g s q = Spec.normA x' d' g' s' q := by
  rw [funext hx, funext hd, funext hg, hs]

theorem point_dx (c : Dev nD) (t : Fin cfg0.N) (y : S512x1024.Idx) :
    k0_pay5 (F := Ideal) (blkDh (iblk m c 0 t) (iblk m c 1 t)) (iblk m c 2 t) (iblk m c 3 t) (iblk m c 4 t) y
      = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  have ht : t.val < 4 := t.isLt
  have hy : (y 0).val < 512 := (y 0).isLt
  have hr : ((cfg0.win 5).blk t).view.emb y = ix2 (⟨t.val * 512 + (y 0).val, by omega⟩ : Fin 2048) (y 1 : Fin 1024) := by
    blk_ext [idx t]
  rw [hr]
  refine Eq.trans ((congrArg _ (eq_ix2 y)).trans (pay5_at _ _ _ _ (y 0) (y 1))) (Eq.trans ?_ ((Spec.norm_eq _ _ _ _ _).trans (ref_dx _ _ _ _ _ _ _).symm))
  exact normA_congr _ (fun j => read_x m c t (y 0) j _ rfl) (fun j => blk_dh m c t (y 0) j _ rfl) (fun j => read_gain m c t j) (read_res m c t (y 0) (y 1) _ rfl)

theorem final_dx (c : Dev nD) : (dats m 0 c).arrAt 5 (cfgs 0).N = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  by_cases h0 : t.val % 4 = 0
  · rw [outsAt0_A m c t h0 (by have ht : t.val < 4 := t.isLt; omega)]
    frame_out
    exact point_dx m c t y
  · rw [outsAt0_B m c t h0 (by omega)]
    frame_out
    exact point_dx m c t y

/-- What a row adds to the gain's gradient. -/
def gterm (q : Fin 1024) (r : Fin 2048) : EReal := dh x2 x3 r q * (x0 (ix2 r q) * Spec.rs (fun j => x0 (ix2 r j)))

theorem gterm_congr {x0 : S2048x1024.Idx → EReal} {x2 : S1024x5632.Idx → EReal} {x3 : S2048x5632.Idx → EReal} {q : Fin 1024} {r : Fin 2048} {d : EReal} {x : Fin 1024 → EReal}
    (hx : ∀ j, x j = x0 (ix2 r j)) (hd : d = dh x2 x3 r q) : d * (x q * Spec.rs x) = gterm x0 x2 x3 q r := by
  rw [funext hx, hd]
  rfl

theorem pay7_at (D X : FVec Ideal S512x1024 .f32) (A : FVec Ideal S1x1024 .f32) (j : S1x1024.Idx) :
    k0_pay7 (F := Ideal) D X A j = A j + k0_pay6 (F := Ideal) D X j := by
  pointwise [k0_pay7]

theorem point_dg (c : Dev nD) (t : Fin cfg0.N) (q : Fin 1024) :
    k0_pay6 (F := Ideal) (blkDh (iblk m c 0 t) (iblk m c 1 t)) (iblk m c 2 t) (ix2 0 q)
      = ∑ a : Fin 512, gterm (m ((c : Thread nD τ).loc main_arg0)) (m ((c : Thread nD τ).loc main_arg2)) (m ((c : Thread nD τ).loc main_arg3)) q ⟨t.val * 512 + a.val, by have ht : t.val < 4 := t.isLt; omega⟩ := by
  refine (pay6_at _ _ q).trans (Fin.sum_fin_congr fun a => ?_)
  exact gterm_congr (fun j => read_x m c t a j _ rfl) (blk_dh m c t a q _ rfl)

theorem final_dg (c : Dev nD) : (dats m 0 c).arrAt 6 (cfgs 0).N = val_main_v39 (F := Ideal) (m ((c : Thread nD τ).loc main_arg0)) (m ((c : Thread nD τ).loc main_arg2)) (m ((c : Thread nD τ).loc main_arg3)) := by
  refine (dats m 0 c).arrAt_eq_of_after_last 6 t0_3 (by decide +kernel) _ fun j => ?_
  blk_simp
  rw [after0_6, Pipeline.eq_sum_fin_of_reset_step_apply_last (fun n h => (outsAt0 m c n h).2) 4 (fun _ => 0)
    (fun t j => k0_pay6 (F := Ideal) (blkDh (iblk m c 0 t) (iblk m c 1 t)) (iblk m c 2 t) j)
    (fun t h j => by
      rw [outsAt0_A m c t h (by have ht : t.val < 4 := t.isLt; omega)]; frame_out; exact (zero_add _).symm)
    (fun t h j => by
      rw [outsAt0_B m c t h (by omega)]; frame_out; exact pay7_at _ _ _ _)
    (le_of_eq N_0) t0_3 rfl j, zero_add]
  have hj : j = ix2 (0 : Fin 1) (j 1 : Fin 1024) := by
    have h0 : (j 0).val < 1 := (j 0).isLt
    blk_ext []
  rw [hj]
  refine Eq.trans ?_ (ref_dg _ _ _ (j 1)).symm
  refine Eq.trans ?_ (Fin.sum_univ_tiles 4 512 rfl (gterm (m ((c : Thread nD τ).loc main_arg0)) (m ((c : Thread nD τ).loc main_arg2)) (m ((c : Thread nD τ).loc main_arg3)) (j 1))).symm
  exact Fin.sum_fin_congr fun t : Fin 4 => point_dg m c t (j 1)

end Cert.Kernel7Ideal.Value

end
-- ==== Proof.MixDw.lean ====
/- The gradient of the mixers' projection: a third of the columns of the weights and of the biases per grid point. -/
module

public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Read
public import Idealize.ShloMosaic.Lib.Pipeline.ValueKit

@[expose] public section

set_option maxRecDepth 16384

noncomputable section

namespace Cert.Kernel8Ideal.Value

open Cert.Kernel8Ideal Cert.Kernel8Ideal.Gen Idealize.ShloMosaic Idealize.ShloMosaic.TcCoe Idealize.SL.Sem
open Cert.Reference8Ideal.Read

variable (m : (ℓ : Loc nD τ sig) → Buf (Elt Ideal) ℓ)

/-- Which block each window holds at a grid point. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

theorem point_w (c : Dev nD) (t : Fin cfg0.N) (y : S1024x1024.Idx) :
    k0_pay4 (F := Ideal) (iblk m c 1 t) (iblk m c 0 t) y
      = val_main_v6 (F := Ideal) (m ((c : Thread nD τ).loc main_arg0)) (m ((c : Thread nD τ).loc main_arg1)) (((cfg0.win 2).blk t).view.emb y) := by
  have ht : t.val < 3 := t.isLt
  pointwise [k0_pay4, k0_pay1, val_main_v6, val_main_v5, val_main_v4, val_main_v0]
  refine Fin.sum_fin_congr fun k => Eq.trans ?_ (mul_comm _ _)
  blk_point [iblk, V, idx t]

theorem point_b (c : Dev nD) (t : Fin cfg0.N) (y : S1x1024.Idx) :
    k0_pay2 (F := Ideal) (iblk m c 1 t) y
      = val_main_v7 (F := Ideal) (m ((c : Thread nD τ).loc main_arg1)) (((cfg0.win 3).blk t).view.emb y) := by
  have ht : t.val < 3 := t.isLt
  pointwise [k0_pay2, k0_pay1, val_main_v7, val_main_v3, val_main_v2, val_main_v1, val_main_cst, val_main_cst_0]
  rw [Fin.sum_univ_one]
  blk_point [iblk, V, idx t]

/-- The kernel's result is the reference's. -/
theorem final_w (c : Dev nD) : (dats m 0 c).arrAt 2 (cfgs 0).N = val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point_w m c t y

/-- The kernel's result is the reference's. -/
theorem final_b (c : Dev nD) : (dats m 0 c).arrAt 3 (cfgs 0).N = val_main_v7 (F := Ideal) (m ((c : Thread nD τ).loc main_arg1)) := by
  refine (dats m 0 c).arrAt_eq_of_covers 3 _ (by decide +kernel) fun t _ y => ?_
  blk_simp
  rw [after0_3]
  unfold outsAt0
  frame_out
  exact point_b m c t y

end Cert.Kernel8Ideal.Value

end
-- ==== Proof.MixDhm.lean ====
/- The gradient of the normed input through the mixers' projection: one block of rows per grid point. -/
module

public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Read
public import Idealize.ShloMosaic.Lib.Pipeline.ValueKit

@[expose] public section

set_option maxRecDepth 16384

noncomputable section

namespace Cert.Kernel9Ideal.Value

open Cert.Kernel9Ideal Cert.Kernel9Ideal.Gen Idealize.ShloMosaic Idealize.ShloMosaic.TcCoe Idealize.SL.Sem
open Cert.Reference9Ideal.Read

variable (m : (ℓ : Loc nD τ sig) → Buf (Elt Ideal) ℓ)

/-- Which block each window holds at a grid point. -/
theorem idx : ∀ t : Fin cfg0.N, win0_0.index t = ![t.val, 0] ∧ win0_1.index t = ![0, 0, 0] ∧ win0_2.index t = ![t.val, 0] :=
  (by decide +kernel : ∀ t : Fin grid0.N, _)

theorem point (c : Dev nD) (t : Fin cfg0.N) (y : S512x1024.Idx) :
    k0_pay1 (F := Ideal) (iblk m c 1 t) (iblk m c 0 t) y
      = val_main_v2 (F := Ideal) (m ((c : Thread nD τ).loc main_arg0)) (m ((c : Thread nD τ).loc main_arg1)) (((cfg0.win 2).blk t).view.emb y) := by
  have ht : t.val < 4 := t.isLt
  pointwise [k0_pay1, val_main_v2, val_main_v1, val_main_v0]
  blk_point [iblk, V, idx t]

/-- The kernel's result is the reference's. -/
theorem final (c : Dev nD) : (dats m 0 c).arrAt 2 (cfgs 0).N = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel9Ideal.Value

end
-- ==== Proof.MixQkv.lean ====
/- The mixers' projection to queries, keys and values, its columns scaled, and its transpose: a block of rows and a third of the columns per grid point. -/
module

public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Read
public import Idealize.ShloMosaic.Lib.Pipeline.ValueKit

@[expose] public section

set_option maxRecDepth 16384

noncomputable section

namespace Cert.Kernel10Ideal.Value

open Cert.Kernel10Ideal Cert.Kernel10Ideal.Gen Idealize.ShloMosaic Idealize.ShloMosaic.TcCoe Idealize.SL.Sem
open Cert.Reference10Ideal.Read

variable (m : (ℓ : Loc nD τ sig) → Buf (Elt Ideal) ℓ)

/-- Which block each window holds at a grid point. -/
theorem idx : ∀ t : Fin cfg0.N, win0_0.index t = ![t.val / 3, 0] ∧ win0_1.index t = ![0, 0, t.val % 3] ∧ win0_2.index t = ![0, t.val % 3] ∧ win0_3.index t = ![0, t.val % 3] ∧ win0_4.index t = ![t.val / 3, t.val % 3] ∧ win0_5.index t = ![t.val % 3, t.val / 3] :=
  (by decide +kernel : ∀ t : Fin grid0.N, _)

theorem point (c : Dev nD) (t : Fin cfg0.N) (y : S1024x1024.Idx) :
    k0_pay2 (F := Ideal) (iblk m c 1 t) (iblk m c 0 t) (iblk m c 2 t) (iblk m c 3 t) y
      = val_main_v9 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  have ht : t.val < 6 := t.isLt
  pointwise [k0_pay2, k0_pay1, val_main_v9, val_main_v8, val_main_v7, val_main_v6, val_main_v5, val_main_v4, val_main_v3, val_main_v2, val_main_v1, val_main_v0]
  blk_point [iblk, V, idx t]

theorem point_t (c : Dev nD) (t : Fin cfg0.N) (y : S1024x1024.Idx) :
    k0_pay3 (F := Ideal) (iblk m c 1 t) (iblk m c 0 t) (iblk m c 2 t) (iblk m c 3 t) y
      = val_main_v10 (F := Ideal) (m ((c : Thread nD τ).loc main_arg0)) (m ((c : Thread nD τ).loc main_arg1)) (m ((c : Thread nD τ).loc main_arg2)) (m ((c : Thread nD τ).loc main_arg3)) (((cfg0.win 5).blk t).view.emb y) := by
  have ht : t.val < 6 := t.isLt
  pointwise [k0_pay3, k0_pay1, val_main_v10, val_main_v9, val_main_v8, val_main_v7, val_main_v6, val_main_v5, val_main_v4, val_main_v3, val_main_v2, val_main_v1, val_main_v0]
  blk_point [iblk, V, idx t]

/-- The kernel's result is the reference's. -/
theorem final (c : Dev nD) : (dats m 0 c).arrAt 4 (cfgs 0).N = val_main_v9 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point m c t y

/-- The kernel's result is the reference's. -/
theorem final_t (c : Dev nD) : (dats m 0 c).arrAt 5 (cfgs 0).N = val_main_v10 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  exact point_t m c t y

end Cert.Kernel10Ideal.Value

end
-- ==== Proof.MixDh.lean ====
/- The gradient of the mixers' norm and of what it norms, through the products with the gates' and the forget logits' weights, a block of rows per grid point. -/
module

public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Read
public import proofs.«01_k».proof.Proof.Norm
public import Idealize.ShloMosaic.Lib.Pipeline.ValueKit

@[expose] public section

set_option maxRecDepth 16384

noncomputable section

namespace Cert.Kernel11Ideal.Value

open Cert.Kernel11Ideal Cert.Kernel11Ideal.Gen Idealize.ShloMosaic Idealize.ShloMosaic.TcCoe Idealize.SL.Sem
open Cert.Reference11Ideal.Read

variable (m : (ℓ : Loc nD τ sig) → Buf (Elt Ideal) ℓ)

/-- The cotangent of a normed row: what came in, the forget logits' and the gates'. -/
def dh (x2 : S2x1024x3072.Idx → EReal) (x3 : S1x1024x128.Idx → EReal) (x4 : S2048x1024.Idx → EReal) (x5 : S2048x3072.Idx → EReal) (x6 : S2048x128.Idx → EReal)
    (r : Fin 2048) (q : Fin 1024) : EReal :=
  x4 (ix2 r q) + (∑ j : Fin 128, x6 (ix2 r j) * x3 (ix3 0 q j)) + ∑ j : Fin 3072, x5 (ix2 r j) * x2 (ix3 1 q j)

variable (x0 : S2048x1024.Idx → EReal) (x1 : S1024.Idx → EReal) (x2 : S2x1024x3072.Idx → EReal) (x3 : S1x1024x128.Idx → EReal) (x4 : S2048x1024.Idx → EReal)
  (x5 : S2048x3072.Idx → EReal) (x6 : S2048x128.Idx → EReal) (x7 : S2048x1024.Idx → EReal)

/-! ## The reference -/

theorem ref_dh (r : Fin 2048) (q : Fin 1024) : val_main_v24 (F := Ideal) x2 x3 x4 x5 x6 (ix2 r q) = dh x2 x3 x4 x5 x6 r q := by
  unfold dh
  pointwise [val_main_v24, val_main_v23, val_main_v22, val_main_v21, val_main_v19, val_main_v17, val_main_v16]
  try blk_point []

theorem ref_ms (r : Fin 2048) : val_main_v6 (F := Ideal) x0 (ix2 r 0) = Spec.ms (fun j => x0 (ix2 r j)) := by
  unfold Spec.ms
  pointwise [val_main_v6, val_main_v5, val_main_v4, val_main_v3, val_main_v2, val_main_v1, val_main_v0, val_main_cst, val_main_cst_0, val_main_cst_1]

theorem ref_rs (r : Fin 2048) : val_main_v7 (F := Ideal) x0 (ix2 r 0) = Spec.rs (fun j => x0 (ix2 r j)) := by
  unfold Spec.rs
  rw [val_main_v7_apply, ref_ms]
  rfl

theorem ref_dgain (r : Fin 2048) (q : Fin 1024) : val_main_v29 (F := Ideal) x1 x2 x3 x4 x5 x6 (ix2 r q) = dh x2 x3 x4 x5 x6 r q * x1 (ix1 q) := by
  rw [val_main_v29_apply, ref_dh]
  refine congrArg (dh x2 x3 x4 x5 x6 r q * ·) ?_
  pointwise [val_main_v28, val_main_v13]

theorem ref_c (r : Fin 2048) : val_main_v39 (F := Ideal) x0 x1 x2 x3 x4 x5 x6 (ix2 r 0)
    = Spec.normC (fun j => x0 (ix2 r j)) (fun j => dh x2 x3 x4 x5 x6 r j) (fun j => x1 (ix1 j)) := by
  have e : val_main_v33 (F := Ideal) x0 x1 x2 x3 x4 x5 x6 (ix2 r 0) = ∑ j, x0 (ix2 r j) * (dh x2 x3 x4 x5 x6 r j * x1 (ix1 j)) := by
    refine Eq.trans (b := ∑ j, x0 (ix2 r j) * val_main_v29 (F := Ideal) x1 x2 x3 x4 x5 x6 (ix2 r j)) ?_ (Fin.sum_fin_congr fun j => congrArg (x0 (ix2 r j) * ·) (ref_dgain x1 x2 x3 x4 x5 x6 r j))
    pointwise [val_main_v33, val_main_v32, val_main_v31, val_main_cst_5]
    all_goals blk_point []
  have e31 : val_main_v38 (F := Ideal) (ix2 r 0) = Ideal.ofBits .f32 0x44800000#32 := by
    pointwise [val_main_v38, val_main_cst_6]
  have e9 : val_main_v9 (F := Ideal) (ix2 r 0) = Ideal.ofBits .f32 0xBF000000#32 := by
    pointwise [val_main_v9, val_main_cst_2]
  unfold Spec.normC
  rw [val_main_v39_apply, val_main_v37_apply, val_main_v10_apply, val_main_v8_apply, ref_ms, ref_rs, e, e31, e9]
  rfl

theorem ref_dx (r : Fin 2048) (q : Fin 1024) : val_main_v45 (F := Ideal) x0 x1 x2 x3 x4 x5 x6 x7 (ix2 r q)
    = Spec.normB (fun j => x0 (ix2 r j)) (fun j => dh x2 x3 x4 x5 x6 r j) (fun j => x1 (ix1 j)) (x7 (ix2 r q)) q := by
  have e27 : val_main_v34 (F := Ideal) x0 (ix2 r q) = Spec.rs (fun j => x0 (ix2 r j)) := by
    rw [← ref_rs]
    pointwise [val_main_v34]
  have e34 : val_main_v41 (F := Ideal) x0 x1 x2 x3 x4 x5 x6 (ix2 r q) = Spec.normC (fun j => x0 (ix2 r j)) (fun j => dh x2 x3 x4 x5 x6 r j) (fun j => x1 (ix1 j)) := by
    rw [← ref_c]
    pointwise [val_main_v41, val_main_v40, val_main_cst_7]
    rw [Fin.sum_univ_one]
    all_goals blk_point []
  unfold Spec.normB
  rw [val_main_v45_apply, val_main_v44_apply, val_main_v43_apply, val_main_v42_apply, val_main_v36_apply, val_main_v35_apply, ref_dgain, e27, e34]
  rfl

theorem ref_dg (q : Fin 1024) : val_main_v46 (F := Ideal) x0 x2 x3 x4 x5 x6 (ix2 0 q)
    = ∑ r, dh x2 x3 x4 x5 x6 r q * (x0 (ix2 r q) * Spec.rs (fun j => x0 (ix2 r j))) := by
  have e11 : ∀ r, val_main_v11 (F := Ideal) x0 (ix2 r q) = Spec.rs (fun j => x0 (ix2 r j)) := fun r => by
    rw [← ref_rs]
    pointwise [val_main_v11]
  refine Eq.trans (b := ∑ r, val_main_v25 (F := Ideal) x0 x2 x3 x4 x5 x6 (ix2 r q)) ?_ (Fin.sum_fin_congr fun r => ?_)
  · pointwise [val_main_v46, val_main_v30, val_main_v27, val_main_v26, val_main_cst_3, val_main_cst_4]
    rw [Fin.sum_univ_one]
  · rw [val_main_v25_apply, val_main_v12_apply, e11, ref_dh]
    exact mul_comm _ _

/-! ## The kernel's block -/

/-- The kernel's block of the norm's gradient. -/
def blkDx (P : Vec Ideal S512x1024 .f32) (Q : Vec Ideal S512x3072 .bf16) (W : Vec Ideal S1x1024x3072 .bf16) (E : Vec Ideal S512x128 .f32) (U : Vec Ideal S1x1024x128 .bf16)
    (X : Vec Ideal S512x1024 .f32) (G : Vec Ideal S1x1024 .f32) (R : Vec Ideal S512x1024 .f32) : FVec Ideal S512x1024 .f32 :=
  k0_pay1 (F := Ideal) (k0_pay5 (F := Ideal) X) (k0_pay6 (F := Ideal) X) (k0_pay7 (F := Ideal) P Q W E U G) R (k0_pay8 (F := Ideal) P Q W E U X G)

theorem pay4_at (P : Vec Ideal S512x1024 .f32) (Q : Vec Ideal S512x3072 .bf16) (W : Vec Ideal S1x1024x3072 .bf16) (E : Vec Ideal S512x128 .f32) (U : Vec Ideal S1x1024x128 .bf16)
    (a : Fin 512) (q : Fin 1024) :
    k0_pay4 (F := Ideal) P Q W E U (ix2 a q) = P (ix2 a q) + (∑ j, Q (ix2 a j) * W (ix3 0 q j)) + ∑ j, E (ix2 a j) * U (ix3 0 q j) := by
  pointwise [k0_pay4]
  all_goals blk_point []

theorem pay5_at (X : Vec Ideal S512x1024 .f32) (a : Fin 512) : k0_pay5 (F := Ideal) X (ix2 a 0) = Spec.rs (fun j => X (ix2 a j)) := by
  unfold Spec.rs Spec.ms
  pointwise [k0_pay5]
  all_goals blk_point []

theorem pay6_at (X : Vec Ideal S512x1024 .f32) (a : Fin 512) (q : Fin 1024) : k0_pay6 (F := Ideal) X (ix2 a q) = X (ix2 a q) * Spec.rs (fun j => X (ix2 a j)) := by
  rw [← pay5_at]
  pointwise [k0_pay6]
  all_goals blk_point []

theorem blkDx_at (P : Vec Ideal S512x1024 .f32) (Q : Vec Ideal S512x3072 .bf16) (W : Vec Ideal S1x1024x3072 .bf16) (E : Vec Ideal S512x128 .f32) (U : Vec Ideal S1x1024x128 .bf16)
    (X : Vec Ideal S512x1024 .f32) (G : Vec Ideal S1x1024 .f32) (R : Vec Ideal S512x1024 .f32) (a : Fin 512) (q : Fin 1024) :
    blkDx P Q W E U X G R (ix2 a q)
      = Spec.normA (fun j => X (ix2 a j)) (fun j => k0_pay4 (F := Ideal) P Q W E U (ix2 a j)) (fun j => G (ix2 0 j)) (R (ix2 a q)) q := by
  unfold blkDx Spec.normA
  simp only [← pay5_at]
  pointwise [k0_pay1, k0_pay8, k0_pay7, k0_pay6]
  all_goals blk_point []

theorem pay2_at (D X : FVec Ideal S512x1024 .f32) (q : Fin 1024) : k0_pay2 (F := Ideal) D X (ix2 0 q) = ∑ a, D (ix2 a q) * X (ix2 a q) := by
  pointwise [k0_pay2]
  all_goals blk_point []

theorem pay3_at (D X : FVec Ideal S512x1024 .f32) (A : FVec Ideal S1x1024 .f32) (j : S1x1024.Idx) :
    k0_pay3 (F := Ideal) D X A j = A j + k0_pay2 (F := Ideal) D X j := by
  pointwise [k0_pay3]

/-- Which block each window holds at a grid point. -/
theorem idx : ∀ t : Fin cfg0.N, win0_0.index t = ![t.val, 0] ∧ win0_1.index t = ![t.val, 0] ∧ win0_2.index t = ![1, 0, 0]
    ∧ win0_3.index t = ![t.val, 0] ∧ win0_4.index t = ![0, 0, 0] ∧ win0_5.index t = ![t.val, 0] ∧ win0_6.index t = ![0, 0] ∧ win0_7.index t = ![t.val, 0]
    ∧ win0_8.index t = ![t.val, 0] ∧ win0_9.index t = ![0, 0] :=
  (by decide +kernel : ∀ t : Fin grid0.N, _)

theorem read_part (c : Dev nD) (t : Fin cfg0.N) (a : Fin 512) (q : Fin 1024) (r : Fin 2048) (hr : r.val = t.val * 512 + a.val) :
    iblk m c 0 t (ix2 a q) = m ((c : Thread nD τ).loc main_arg4) (ix2 r q) := by
  have ht : t.val < 4 := t.isLt
  blk_point [iblk, V, idx t]

theorem read_gates (c : Dev nD) (t : Fin cfg0.N) (a : Fin 512) (q : Fin 3072) (r : Fin 2048) (hr : r.val = t.val * 512 + a.val) :
    iblk m c 1 t (ix2 a q) = m ((c : Thread nD τ).loc main_arg5) (ix2 r q) := by
  have ht : t.val < 4 := t.isLt
  blk_point [iblk, V, idx t]

theorem read_df (c : Dev nD) (t : Fin cfg0.N) (a : Fin 512) (q : Fin 128) (r : Fin 2048) (hr : r.val = t.val * 512 + a.val) :
    iblk m c 3 t (ix2 a q) = m ((c : Thread nD τ).loc main_arg6) (ix2 r q) := by
  have ht : t.val < 4 := t.isLt
  blk_point [iblk, V, idx t]

theorem read_x (c : Dev nD) (t : Fin cfg0.N) (a : Fin 512) (q : Fin 1024) (r : Fin 2048) (hr : r.val = t.val * 512 + a.val) :
    iblk m c 5 t (ix2 a q) = m ((c : Thread nD τ).loc main_arg0) (ix2 r q) := by
  have ht : t.val < 4 := t.isLt
  blk_point [iblk, V, idx t]

theorem read_res (c : Dev nD) (t : Fin cfg0.N) (a : Fin 512) (q : Fin 1024) (r : Fin 2048) (hr : r.val = t.val * 512 + a.val) :
    iblk m c 7 t (ix2 a q) = m ((c : Thread nD τ).loc main_arg7) (ix2 r q) := by
  have ht : t.val < 4 := t.isLt
  blk_point [iblk, V, idx t]

theorem read_w (c : Dev nD) (t : Fin cfg0.N) (q : Fin 1024) (k : Fin 3072) :
    iblk m c 2 t (ix3 0 q k) = m ((c : Thread nD τ).loc main_arg2) (ix3 1 q k) := by
  have ht : t.val < 4 := t.isLt
  blk_point [iblk, V, idx t]

theorem read_wf (c : Dev nD) (t : Fin cfg0.N) (q : Fin 1024) (k : Fin 128) :
    iblk m c 4 t (ix3 0 q k) = m ((c : Thread nD τ).loc main_arg3) (ix3 0 q k) := by
  have ht : t.val < 4 := t.isLt
  blk_point [iblk, V, idx t]

theorem read_gain (c : Dev nD) (t : Fin cfg0.N) (q : Fin 1024) : iblk m c 6 t (ix2 0 q) = m ((c : Thread nD τ).loc main_arg1) (ix1 q) := by
  have ht : t.val < 4 := t.isLt
  blk_point [iblk, V, idx t]

theorem sum_congr {n : Nat} {f f' g g' : Fin n → EReal} (hf : ∀ k, f k = f' k) (hg : ∀ k, g k = g' k) : ∑ k, f k * g k = ∑ k, f' k * g' k := by
  rw [funext hf, funext hg]

theorem add_swap {p p' y y' z z' : EReal} (hp : p = p') (hy : y = y') (hz : z = z') : p + y + z = p' + z' + y' := by
  rw [hp, hy, hz, add_right_comm]

theorem blk_dh (c : Dev nD) (t : Fin cfg0.N) (a : Fin 512) (q : Fin 1024) (r : Fin 2048) (hr : r.val = t.val * 512 + a.val) :
    k0_pay4 (F := Ideal) (iblk m c 0 t) (iblk m c 1 t) (iblk m c 2 t) (iblk m c 3 t) (iblk m c 4 t) (ix2 a q)
      = dh (m ((c : Thread nD τ).loc main_arg2)) (m ((c : Thread nD τ).loc main_arg3)) (m ((c : Thread nD τ).loc main_arg4)) (m ((c : Thread nD τ).loc main_arg5)) (m ((c : Thread nD τ).loc main_arg6)) r q := by
  refine (pay4_at _ _ _ _ _ a q).trans (add_swap (read_part m c t a q r hr) ?_ ?_)
  · exact sum_congr (fun k => read_gates m c t a k r hr) (fun k => read_w m c t q k)
  · exact sum_congr (fun k => read_df m c t a k r hr) (fun k => read_wf m c t q k)

theorem normA_congr {x x' d d' g g' : Fin 1024 → EReal} {s s' : EReal} (q : Fin 1024) (hx : ∀ j, x j = x' j) (hd : ∀ j, d j = d' j) (hg : ∀ j, g j = g' j) (hs : s = s') :
    Spec.normA x d g s q = Spec.normA x' d' g' s' q := by
  rw [funext hx, funext hd, funext hg, hs]

theorem point_dx (c : Dev nD) (t : Fin cfg0.N) (y : S512x1024.Idx) :
    blkDx (iblk m c 0 t) (iblk m c 1 t) (iblk m c 2 t) (iblk m c 3 t) (iblk m c 4 t) (iblk m c 5 t) (iblk m c 6 t) (iblk m c 7 t) y
      = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 8).blk t).view.emb y) := by
  have ht : t.val < 4 := t.isLt
  have hy : (y 0).val < 512 := (y 0).isLt
  have hr : ((cfg0.win 8).blk t).view.emb y = ix2 (⟨t.val * 512 + (y 0).val, by omega⟩ : Fin 2048) (y 1 : Fin 1024) := by
    blk_ext [idx t]
  rw [hr]
  refine Eq.trans ((congrArg _ (eq_ix2 y)).trans (blkDx_at _ _ _ _ _ _ _ _ (y 0) (y 1))) (Eq.trans ?_ ((Spec.norm_eq _ _ _ _ _).trans (ref_dx _ _ _ _ _ _ _ _ _ _).symm))
  exact normA_congr _ (fun j => read_x m c t (y 0) j _ rfl) (fun j => blk_dh m c t (y 0) j _ rfl) (fun j => read_gain m c t j) (read_res m c t (y 0) (y 1) _ rfl)

theorem final_dx (c : Dev nD) : (dats m 0 c).arrAt 8 (cfgs 0).N = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  by_cases h0 : t.val % 4 = 0
  · rw [outsAt0_A m c t h0 (by have ht : t.val < 4 := t.isLt; omega)]
    frame_out
    exact point_dx m c t y
  · rw [outsAt0_B m c t h0 (by omega)]
    frame_out
    exact point_dx m c t y

/-- What a row adds to the gain's gradient. -/
def gterm (q : Fin 1024) (r : Fin 2048) : EReal := dh x2 x3 x4 x5 x6 r q * (x0 (ix2 r q) * Spec.rs (fun j => x0 (ix2 r j)))

theorem gterm_congr {x0 : S2048x1024.Idx → EReal} {x2 : S2x1024x3072.Idx → EReal} {x3 : S1x1024x128.Idx → EReal} {x4 : S2048x1024.Idx → EReal} {x5 : S2048x3072.Idx → EReal} {x6 : S2048x128.Idx → EReal} {q : Fin 1024} {r : Fin 2048} {d : EReal} {x : Fin 1024 → EReal}
    (hx : ∀ j, x j = x0 (ix2 r j)) (hd : d = dh x2 x3 x4 x5 x6 r q) : d * (x q * Spec.rs x) = gterm x0 x2 x3 x4 x5 x6 q r := by
  rw [funext hx, hd]
  rfl

theorem point_dg (c : Dev nD) (t : Fin cfg0.N) (q : Fin 1024) :
    k0_pay2 (F := Ideal) (k0_pay4 (F := Ideal) (iblk m c 0 t) (iblk m c 1 t) (iblk m c 2 t) (iblk m c 3 t) (iblk m c 4 t)) (k0_pay6 (F := Ideal) (iblk m c 5 t)) (ix2 0 q)
      = ∑ a : Fin 512, gterm (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) q ⟨t.val * 512 + a.val, by have ht : t.val < 4 := t.isLt; omega⟩ := by
  refine (pay2_at _ _ q).trans (Fin.sum_fin_congr fun a => (congrArg (_ * ·) (pay6_at _ a q)).trans ?_)
  exact gterm_congr (fun j => read_x m c t a j _ rfl) (blk_dh m c t a q _ rfl)

theorem final_dg (c : Dev nD) : (dats m 0 c).arrAt 9 (cfgs 0).N = val_main_v46 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 9 t0_3 (by decide +kernel) _ fun j => ?_
  blk_simp
  rw [after0_9, Pipeline.eq_sum_fin_of_reset_step_apply_last (fun n h => (outsAt0 m c n h).2) 4 (fun _ => 0)
    (fun t j => k0_pay2 (F := Ideal) (k0_pay4 (F := Ideal) (iblk m c 0 t) (iblk m c 1 t) (iblk m c 2 t) (iblk m c 3 t) (iblk m c 4 t)) (k0_pay6 (F := Ideal) (iblk m c 5 t)) j)
    (fun t h j => by
      rw [outsAt0_A m c t h (by have ht : t.val < 4 := t.isLt; omega)]; frame_out; exact (zero_add _).symm)
    (fun t h j => by
      rw [outsAt0_B m c t h (by omega)]; frame_out; exact pay3_at _ _ _ _)
    (le_of_eq N_0) t0_3 rfl j, zero_add]
  have hj : j = ix2 (0 : Fin 1) (j 1 : Fin 1024) := by
    have h0 : (j 0).val < 1 := (j 0).isLt
    blk_ext []
  rw [hj]
  refine Eq.trans ?_ (ref_dg _ _ _ _ _ _ (j 1)).symm
  refine Eq.trans ?_ (Fin.sum_univ_tiles 4 512 rfl (gterm (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (j 1))).symm
  exact Fin.sum_fin_congr fun t : Fin 4 => point_dg m c t (j 1)

end Cert.Kernel11Ideal.Value

end
-- ==== Proof.MixOut.lean ====
/- The mixers' output product, with the residual: a block of rows per grid point. -/
module

public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Read
public import Idealize.ShloMosaic.Lib.Pipeline.ValueKit

@[expose] public section

set_option maxRecDepth 16384

noncomputable section

namespace Cert.Kernel12Ideal.Value

open Cert.Kernel12Ideal Cert.Kernel12Ideal.Gen Idealize.ShloMosaic Idealize.ShloMosaic.TcCoe Idealize.SL.Sem
open Cert.Reference12Ideal.Read

variable (m : (ℓ : Loc nD τ sig) → Buf (Elt Ideal) ℓ)

/-- Which block each window holds at a grid point. -/
theorem idx : ∀ t : Fin cfg0.N, win0_0.index t = ![t.val, 0] ∧ win0_1.index t = ![0, 0, 0] ∧ win0_2.index t = ![t.val, 0] ∧ win0_3.index t = ![t.val, 0] :=
  (by decide +kernel : ∀ t : Fin grid0.N, _)

theorem point (c : Dev nD) (t : Fin cfg0.N) (y : S512x1024.Idx) :
    k0_pay1 (F := Ideal) (iblk m c 1 t) (iblk m c 0 t) (iblk m c 2 t) y
      = val_main_v1 (F := Ideal) (m ((c : Thread nD τ).loc main_arg0)) (m ((c : Thread nD τ).loc main_arg1)) (m ((c : Thread nD τ).loc main_arg2)) (((cfg0.win 3).blk t).view.emb y) := by
  have ht : t.val < 4 := t.isLt
  pointwise [k0_pay1, val_main_v1, val_main_v0]
  rw [add_comm]
  blk_point [iblk, V, idx t]

/-- The kernel's result is the reference's. -/
theorem final (c : Dev nD) : (dats m 0 c).arrAt 3 (cfgs 0).N = val_main_v1 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

end Cert.Kernel12Ideal.Value

end
-- ==== Proof.MixDwOut.lean ====
/- The gradient of the mixers' output weights. -/
module

public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Read
public import Idealize.ShloMosaic.Lib.Pipeline.ValueKit

@[expose] public section

set_option maxRecDepth 16384

noncomputable section

namespace Cert.Kernel13Ideal.Value

open Cert.Kernel13Ideal Cert.Kernel13Ideal.Gen Idealize.ShloMosaic Idealize.ShloMosaic.TcCoe Idealize.SL.Sem
open Cert.Reference13Ideal.Read

variable (m : (ℓ : Loc nD τ sig) → Buf (Elt Ideal) ℓ)

/-- Which block each window holds at a grid point. -/
theorem idx : ∀ t : Fin cfg0.N, win0_0.index t = ![0, 0] ∧ win0_1.index t = ![0, 0] ∧ win0_2.index t = ![0, 0] :=
  (by decide +kernel : ∀ t : Fin grid0.N, _)

theorem point (c : Dev nD) (t : Fin cfg0.N) (y : S1024x1024.Idx) :
    k0_pay1 (F := Ideal) (iblk m c 1 t) (iblk m c 0 t) y
      = val_main_v2 (F := Ideal) (m ((c : Thread nD τ).loc main_arg0)) (m ((c : Thread nD τ).loc main_arg1)) (((cfg0.win 2).blk t).view.emb y) := by
  have ht : t.val < 1 := t.isLt
  pointwise [k0_pay1, val_main_v2, val_main_v1, val_main_v0]
  refine Fin.sum_fin_congr fun k => Eq.trans ?_ (mul_comm _ _)
  blk_point [iblk, V, idx t]

/-- The kernel's result is the reference's. -/
theorem final (c : Dev nD) : (dats m 0 c).arrAt 2 (cfgs 0).N = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel13Ideal.Value

end
-- ==== Proof.MixMerge.lean ====
/- The three mixers' branches and their gated sum: a block of rows per grid point. -/
module

public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Read
public import Idealize.ShloMosaic.Lib.Pipeline.ValueKit

@[expose] public section

set_option maxRecDepth 16384

noncomputable section

namespace Cert.Kernel14Ideal.Value

open Cert.Kernel14Ideal Cert.Kernel14Ideal.Gen Idealize.ShloMosaic Idealize.ShloMosaic.TcCoe Idealize.SL.Sem
open Cert.Reference14Ideal.Read

variable (m : (ℓ : Loc nD τ sig) → Buf (Elt Ideal) ℓ)

/-- Which block each window holds at a grid point. -/
theorem idx : ∀ t : Fin cfg0.N, win0_0.index t = ![t.val, 0] ∧ win0_1.index t = ![t.val, 0] ∧ win0_2.index t = ![t.val, 0] ∧ win0_3.index t = ![0, 0, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

theorem point_a (c : Dev nD) (t : Fin cfg0.N) (y : S512x1024.Idx) :
    out0_5 (F := Ideal) (iblk m c 0 t) (iblk m c 1 t) (iblk m c 2 t) (iblk m c 3 t) (iblk m c 4 t) y
      = val_main_v6 (F := Ideal) (m ((c : Thread nD τ).loc main_arg0)) (m ((c : Thread nD τ).loc main_arg3)) (((cfg0.win 5).blk t).view.emb y) := by
  have ht : t.val < 4 := t.isLt
  unfold out0_5
  frame_out
  pointwise [k0_pay3, k0_pay4, k0_pay1, val_main_v6, val_main_v0]
  blk_point [iblk, V, idx t]

/-- The kernel's result is the reference's. -/
theorem final_a (c : Dev nD) : (dats m 0 c).arrAt 5 (cfgs 0).N = val_main_v6 (F := Ideal) (m ((c : Thread nD τ).loc main_arg0)) (m ((c : Thread nD τ).loc main_arg3)) := by
  refine (dats m 0 c).arrAt_eq_of_covers 5 _ (by decide +kernel) fun t _ y => ?_
  blk_simp
  rw [after0_5]
  exact point_a m c t y

theorem point_b (c : Dev nD) (t : Fin cfg0.N) (y : S512x1024.Idx) :
    out0_6 (F := Ideal) (iblk m c 0 t) (iblk m c 1 t) (iblk m c 2 t) (iblk m c 3 t) (iblk m c 4 t) y
      = val_main_v7 (F := Ideal) (m ((c : Thread nD τ).loc main_arg1)) (m ((c : Thread nD τ).loc main_arg3)) (((cfg0.win 6).blk t).view.emb y) := by
  have ht : t.val < 4 := t.isLt
  unfold out0_6
  frame_out
  pointwise [k0_pay3, k0_pay4, k0_pay1, val_main_v7, val_main_v1]
  blk_point [iblk, V, idx t]

/-- The kernel's result is the reference's. -/
theorem final_b (c : Dev nD) : (dats m 0 c).arrAt 6 (cfgs 0).N = val_main_v7 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  exact point_b m c t y

theorem point_c (c : Dev nD) (t : Fin cfg0.N) (y : S512x1024.Idx) :
    out0_7 (F := Ideal) (iblk m c 0 t) (iblk m c 1 t) (iblk m c 2 t) (iblk m c 3 t) (iblk m c 4 t) y
      = val_main_v8 (F := Ideal) (m ((c : Thread nD τ).loc main_arg2)) (m ((c : Thread nD τ).loc main_arg3)) (((cfg0.win 7).blk t).view.emb y) := by
  have ht : t.val < 4 := t.isLt
  unfold out0_7
  frame_out
  pointwise [k0_pay3, k0_pay4, k0_pay1, val_main_v8, val_main_v2]
  blk_point [iblk, V, idx t]

/-- The kernel's result is the reference's. -/
theorem final_c (c : Dev nD) : (dats m 0 c).arrAt 7 (cfgs 0).N = val_main_v8 (F := Ideal) (m ((c : Thread nD τ).loc main_arg2)) (m ((c : Thread nD τ).loc main_arg3)) := by
  refine (dats m 0 c).arrAt_eq_of_covers 7 _ (by decide +kernel) fun t _ y => ?_
  blk_simp
  rw [after0_7]
  exact point_c m c t y

theorem point (c : Dev nD) (t : Fin cfg0.N) (y : S512x1024.Idx) :
    out0_8 (F := Ideal) (iblk m c 0 t) (iblk m c 1 t) (iblk m c 2 t) (iblk m c 3 t) (iblk m c 4 t) y
      = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 8).blk t).view.emb y) := by
  have ht : t.val < 4 := t.isLt
  unfold out0_8
  frame_out
  pointwise [k0_pay2, k0_pay5, k0_pay1, k0_pay3, k0_pay4, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]
  simp only [zero_sub]
  blk_point [iblk, V, idx t]

/-- The kernel's result is the reference's. -/
theorem final (c : Dev nD) : (dats m 0 c).arrAt 8 (cfgs 0).N = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  exact point m c t y

end Cert.Kernel14Ideal.Value

end
-- ==== Proof.MixDmerged.lean ====
/- The gradient of the mixers' gated sum, through the output product: the gates' by thirds of the columns, and the branches', a block of rows per grid point. -/
module

public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Read
public import Idealize.ShloMosaic.Lib.Pipeline.ValueKit

@[expose] public section

set_option maxRecDepth 16384

noncomputable section

namespace Cert.Kernel15Ideal.Value

open Cert.Kernel15Ideal Cert.Kernel15Ideal.Gen Idealize.ShloMosaic Idealize.ShloMosaic.TcCoe Idealize.SL.Sem
open Cert.Reference15Ideal.Read

variable (m : (ℓ : Loc nD τ sig) → Buf (Elt Ideal) ℓ)

/-- The gated sum's cotangent. -/
def dm (x0 : S2048x1024.Idx → EReal) (x1 : S1024x1024.Idx → EReal) (r : Fin 2048) (q : Fin 1024) : EReal :=
  ∑ j : Fin 1024, x0 (ix2 r j) * x1 (ix2 q j)

/-- The gate's activation. -/
def sg (g : EReal) : EReal := Ideal.div 1 (1 + Ideal.exp (-g))

/-- The gradients of a gate and of a branch, of a cotangent, a gate and the branch. -/
def dgate (d g y : EReal) : EReal := d * y * (sg g * (1 - sg g))
def dbranch (d g : EReal) : EReal := d * sg g

theorem dgate_congr {d d' g g' y y' : EReal} (hd : d = d') (hg : g = g') (hy : y = y') : dgate d g y = dgate d' g' y' := by
  rw [hd, hg, hy]

theorem dbranch_congr {d d' g g' : EReal} (hd : d = d') (hg : g = g') : dbranch d g = dbranch d' g' := by
  rw [hd, hg]

theorem dot_congr {f f' g g' : Fin 1024 → EReal} (hf : ∀ q, f q = f' q) (hg : ∀ q, g q = g' q) : ∑ q, f q * g q = ∑ q, f' q * g' q := by
  rw [funext hf, funext hg]

variable (x0 : S2048x1024.Idx → EReal) (x1 : S1024x1024.Idx → EReal) (x2 : S2048x3072.Idx → EReal) (x3 x4 x5 : S2048x1024.Idx → EReal)

theorem ref_dm (r : Fin 2048) (q : Fin 1024) : val_main_v36 (F := Ideal) x0 x1 (ix2 r q) = dm x0 x1 r q := by
  unfold dm
  pointwise [val_main_v36]
  try blk_point []

theorem sg_a (r : Fin 2048) (k : Fin 1024) : val_main_v8 (F := Ideal) x2 (ix2 r k) = sg (x2 (ix2 r ⟨k.val, by omega⟩)) := by
  unfold sg
  pointwise [val_main_v8, val_main_v7, val_main_v6, val_main_v5, val_main_v4, val_main_v3, val_main_v0, val_main_cst, val_main_cst_0]
  all_goals blk_point []

theorem dgate_a (r : Fin 2048) (k : Fin 1024) :
    val_main_v47 (F := Ideal) x0 x1 x2 x3 x4 x5 (ix2 r ⟨k.val, by omega⟩) = dgate (dm x0 x1 r k) (x2 (ix2 r ⟨k.val, by omega⟩)) (x3 (ix2 r k)) := by
  have one : val_main_v9 (F := Ideal) (ix2 r k) = 1 := by
    pointwise [val_main_v9, val_main_cst_1]
  refine Eq.trans (b := val_main_v45 (F := Ideal) x0 x1 x2 x3 (ix2 r k)) ?_ ?_
  · pointwise [val_main_v47, val_main_v46]
    all_goals blk_point []
    all_goals (exfalso; omega)
  · unfold dgate
    rw [val_main_v45_apply, val_main_v44_apply, val_main_v11_apply, val_main_v10_apply, one, sg_a, ref_dm]
    rfl

theorem dbranch_a (r : Fin 2048) (k : Fin 1024) :
    val_main_v48 (F := Ideal) x0 x1 x2 (ix2 r k) = dbranch (dm x0 x1 r k) (x2 (ix2 r ⟨k.val, by omega⟩)) := by
  unfold dbranch
  rw [val_main_v48_apply, val_main_v43_apply, sg_a, ref_dm]
  exact mul_comm _ _

theorem sg_b (r : Fin 2048) (k : Fin 1024) : val_main_v18 (F := Ideal) x2 (ix2 r k) = sg (x2 (ix2 r ⟨1024 + k.val, by omega⟩)) := by
  unfold sg
  pointwise [val_main_v18, val_main_v17, val_main_v16, val_main_v15, val_main_v14, val_main_v13, val_main_v1, val_main_cst_2, val_main_cst_3]
  all_goals blk_point []

theorem dgate_b (r : Fin 2048) (k : Fin 1024) :
    val_main_v47 (F := Ideal) x0 x1 x2 x3 x4 x5 (ix2 r ⟨1024 + k.val, by omega⟩) = dgate (dm x0 x1 r k) (x2 (ix2 r ⟨1024 + k.val, by omega⟩)) (x4 (ix2 r k)) := by
  have one : val_main_v19 (F := Ideal) (ix2 r k) = 1 := by
    pointwise [val_main_v19, val_main_cst_4]
  refine Eq.trans (b := val_main_v42 (F := Ideal) x0 x1 x2 x4 (ix2 r k)) ?_ ?_
  · pointwise [val_main_v47, val_main_v46]
    all_goals blk_point []
    all_goals (exfalso; omega)
  · unfold dgate
    rw [val_main_v42_apply, val_main_v41_apply, val_main_v21_apply, val_main_v20_apply, one, sg_b, ref_dm]
    rfl

theorem dbranch_b (r : Fin 2048) (k : Fin 1024) :
    val_main_v49 (F := Ideal) x0 x1 x2 (ix2 r k) = dbranch (dm x0 x1 r k) (x2 (ix2 r ⟨1024 + k.val, by omega⟩)) := by
  unfold dbranch
  rw [val_main_v49_apply, val_main_v40_apply, sg_b, ref_dm]
  exact mul_comm _ _

theorem sg_c (r : Fin 2048) (k : Fin 1024) : val_main_v29 (F := Ideal) x2 (ix2 r k) = sg (x2 (ix2 r ⟨2048 + k.val, by omega⟩)) := by
  unfold sg
  pointwise [val_main_v29, val_main_v28, val_main_v27, val_main_v26, val_main_v25, val_main_v24, val_main_v2, val_main_cst_5, val_main_cst_6]
  all_goals blk_point []

theorem dgate_c (r : Fin 2048) (k : Fin 1024) :
    val_main_v47 (F := Ideal) x0 x1 x2 x3 x4 x5 (ix2 r ⟨2048 + k.val, by omega⟩) = dgate (dm x0 x1 r k) (x2 (ix2 r ⟨2048 + k.val, by omega⟩)) (x5 (ix2 r k)) := by
  have one : val_main_v30 (F := Ideal) (ix2 r k) = 1 := by
    pointwise [val_main_v30, val_main_cst_7]
  refine Eq.trans (b := val_main_v39 (F := Ideal) x0 x1 x2 x5 (ix2 r k)) ?_ ?_
  · pointwise [val_main_v47, val_main_v46]
    all_goals blk_point []
    all_goals (exfalso; omega)
  · unfold dgate
    rw [val_main_v39_apply, val_main_v38_apply, val_main_v32_apply, val_main_v31_apply, one, sg_c, ref_dm]
    rfl

theorem dbranch_c (r : Fin 2048) (k : Fin 1024) :
    val_main_v50 (F := Ideal) x0 x1 x2 (ix2 r k) = dbranch (dm x0 x1 r k) (x2 (ix2 r ⟨2048 + k.val, by omega⟩)) := by
  unfold dbranch
  rw [val_main_v50_apply, val_main_v37_apply, sg_c, ref_dm]
  exact mul_comm _ _

/-- Which block each window holds at a grid point. -/
theorem idx : ∀ t : Fin cfg0.N, win0_0.index t = ![t.val, 0] ∧ win0_1.index t = ![0, 0, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] :=
  (by decide +kernel : ∀ t : Fin grid0.N, _)

theorem read_ct (c : Dev nD) (t : Fin cfg0.N) (a : Fin 256) (q q' : Fin 1024) (r : Fin 2048) (hr : r.val = t.val * 256 + a.val) (hq : q.val = q'.val) :
    iblk m c 0 t (ix2 a q) = m ((c : Thread nD τ).loc main_arg0) (ix2 r q') := by
  have ht : t.val < 8 := t.isLt
  blk_point [iblk, V, idx t]

theorem read_gate (c : Dev nD) (t : Fin cfg0.N) (a : Fin 256) (q q' : Fin 3072) (r : Fin 2048) (hr : r.val = t.val * 256 + a.val) (hq : q.val = q'.val) :
    iblk m c 2 t (ix2 a q) = m ((c : Thread nD τ).loc main_arg2) (ix2 r q') := by
  have ht : t.val < 8 := t.isLt
  blk_point [iblk, V, idx t]

theorem read_a (c : Dev nD) (t : Fin cfg0.N) (a : Fin 256) (q q' : Fin 1024) (r : Fin 2048) (hr : r.val = t.val * 256 + a.val) (hq : q.val = q'.val) :
    iblk m c 3 t (ix2 a q) = m ((c : Thread nD τ).loc main_arg3) (ix2 r q') := by
  have ht : t.val < 8 := t.isLt
  blk_point [iblk, V, idx t]

theorem read_b (c : Dev nD) (t : Fin cfg0.N) (a : Fin 256) (q q' : Fin 1024) (r : Fin 2048) (hr : r.val = t.val * 256 + a.val) (hq : q.val = q'.val) :
    iblk m c 4 t (ix2 a q) = m ((c : Thread nD τ).loc main_arg4) (ix2 r q') := by
  have ht : t.val < 8 := t.isLt
  blk_point [iblk, V, idx t]

theorem read_c (c : Dev nD) (t : Fin cfg0.N) (a : Fin 256) (q q' : Fin 1024) (r : Fin 2048) (hr : r.val = t.val * 256 + a.val) (hq : q.val = q'.val) :
    iblk m c 5 t (ix2 a q) = m ((c : Thread nD τ).loc main_arg5) (ix2 r q') := by
  have ht : t.val < 8 := t.isLt
  blk_point [iblk, V, idx t]

theorem read_w (c : Dev nD) (t : Fin cfg0.N) (q q' k : Fin 1024) (hq : q.val = q'.val) :
    iblk m c 1 t (ix3 0 q k) = m ((c : Thread nD τ).loc main_arg1) (ix2 q' k) := by
  have ht : t.val < 8 := t.isLt
  blk_point [iblk, V, idx t]

theorem point_a (c : Dev nD) (t : Fin cfg0.N) (y : S256x1024.Idx) :
    out0_7 (F := Ideal) (iblk m c 0 t) (iblk m c 1 t) (iblk m c 2 t) (iblk m c 3 t) (iblk m c 4 t) (iblk m c 5 t) y
      = val_main_v48 (F := Ideal) (m ((c : Thread nD τ).loc main_arg0)) (m ((c : Thread nD τ).loc main_arg1)) (m ((c : Thread nD τ).loc main_arg2)) (((cfg0.win 7).blk t).view.emb y) := by
  have ht : t.val < 8 := t.isLt
  have hy : (y 0).val < 256 := (y 0).isLt
  have hy1 : (y 1).val < 1024 := (y 1).isLt
  have hr : ((cfg0.win 7).blk t).view.emb y = ix2 (⟨t.val * 256 + (y 0).val, by omega⟩ : Fin 2048) (y 1 : Fin 1024) := by
    blk_ext [idx t]
  rw [hr]
  refine Eq.trans ?_ (dbranch_a _ _ _ _ _).symm
  unfold out0_7
  frame_out
  open_payloads
  pointwise []
  rw [zero_sub]
  exact dbranch_congr (dot_congr (fun q => read_ct m c t _ q q _ rfl rfl) (fun q => read_w m c t _ _ q rfl)) (read_gate m c t _ _ ⟨(y 1).val, by omega⟩ _ rfl rfl)

/-- The kernel's result is the reference's. -/
theorem final_a (c : Dev nD) : (dats m 0 c).arrAt 7 (cfgs 0).N = val_main_v48 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  exact point_a m c t y

theorem point_b (c : Dev nD) (t : Fin cfg0.N) (y : S256x1024.Idx) :
    out0_8 (F := Ideal) (iblk m c 0 t) (iblk m c 1 t) (iblk m c 2 t) (iblk m c 3 t) (iblk m c 4 t) (iblk m c 5 t) y
      = val_main_v49 (F := Ideal) (m ((c : Thread nD τ).loc main_arg0)) (m ((c : Thread nD τ).loc main_arg1)) (m ((c : Thread nD τ).loc main_arg2)) (((cfg0.win 8).blk t).view.emb y) := by
  have ht : t.val < 8 := t.isLt
  have hy : (y 0).val < 256 := (y 0).isLt
  have hy1 : (y 1).val < 1024 := (y 1).isLt
  have hr : ((cfg0.win 8).blk t).view.emb y = ix2 (⟨t.val * 256 + (y 0).val, by omega⟩ : Fin 2048) (y 1 : Fin 1024) := by
    blk_ext [idx t]
  rw [hr]
  refine Eq.trans ?_ (dbranch_b _ _ _ _ _).symm
  unfold out0_8
  frame_out
  open_payloads
  pointwise []
  rw [zero_sub]
  exact dbranch_congr (dot_congr (fun q => read_ct m c t _ q q _ rfl rfl) (fun q => read_w m c t _ _ q rfl)) (read_gate m c t _ _ ⟨1024 + (y 1).val, by omega⟩ _ rfl rfl)

/-- The kernel's result is the reference's. -/
theorem final_b (c : Dev nD) : (dats m 0 c).arrAt 8 (cfgs 0).N = val_main_v49 (F := Ideal) (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  exact point_b m c t y

theorem point_c (c : Dev nD) (t : Fin cfg0.N) (y : S256x1024.Idx) :
    out0_9 (F := Ideal) (iblk m c 0 t) (iblk m c 1 t) (iblk m c 2 t) (iblk m c 3 t) (iblk m c 4 t) (iblk m c 5 t) y
      = val_main_v50 (F := Ideal) (m ((c : Thread nD τ).loc main_arg0)) (m ((c : Thread nD τ).loc main_arg1)) (m ((c : Thread nD τ).loc main_arg2)) (((cfg0.win 9).blk t).view.emb y) := by
  have ht : t.val < 8 := t.isLt
  have hy : (y 0).val < 256 := (y 0).isLt
  have hy1 : (y 1).val < 1024 := (y 1).isLt
  have hr : ((cfg0.win 9).blk t).view.emb y = ix2 (⟨t.val * 256 + (y 0).val, by omega⟩ : Fin 2048) (y 1 : Fin 1024) := by
    blk_ext [idx t]
  rw [hr]
  refine Eq.trans ?_ (dbranch_c _ _ _ _ _).symm
  unfold out0_9
  frame_out
  open_payloads
  pointwise []
  rw [zero_sub]
  exact dbranch_congr (dot_congr (fun q => read_ct m c t _ q q _ rfl rfl) (fun q => read_w m c t _ _ q rfl)) (read_gate m c t _ _ ⟨2048 + (y 1).val, by omega⟩ _ rfl rfl)

/-- The kernel's result is the reference's. -/
theorem final_c (c : Dev nD) : (dats m 0 c).arrAt 9 (cfgs 0).N = val_main_v50 (F := Ideal) (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  exact point_c m c t y

theorem point (c : Dev nD) (t : Fin cfg0.N) (y : S256x3072.Idx) :
    out0_6 (F := Ideal) (iblk m c 0 t) (iblk m c 1 t) (iblk m c 2 t) (iblk m c 3 t) (iblk m c 4 t) (iblk m c 5 t) y
      = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y) := by
  have ht : t.val < 8 := t.isLt
  have hy0 : (y 0).val < 256 := (y 0).isLt
  have hy1 : (y 1).val < 3072 := (y 1).isLt
  have hr : ((cfg0.win 6).blk t).view.emb y = ix2 (⟨t.val * 256 + (y 0).val, by omega⟩ : Fin 2048) (y 1 : Fin 3072) := by
    blk_ext [idx t]
  rw [hr]
  clear hr
  unfold out0_6
  canon_tiles x h
  · have hz : (y 0).val = (x 0).val := by simpa using h0
    have hx : (x 1).val < 1024 := (x 1).isLt
    have e : (y 1 : Fin 3072) = ⟨2048 + (x 1).val, by omega⟩ := Fin.ext (by omega)
    rw [e]
    refine Eq.trans ?_ (dgate_c _ _ _ _ _ _ _ (x 1)).symm
    open_payloads
    pointwise []
    rw [zero_sub, mul_assoc]
    exact dgate_congr (dot_congr (fun q => read_ct m c t _ q q _ (congrArg (t.val * 256 + ·) hz) rfl) (fun q => read_w m c t _ _ q rfl)) (read_gate m c t _ _ _ _ (congrArg (t.val * 256 + ·) hz) rfl) ((congrArg _ (eq_ix2 x)).trans (read_c m c t _ _ _ _ (congrArg (t.val * 256 + ·) hz) rfl))
  · have hz : (y 0).val = (x 0).val := by simpa using h0
    have hx : (x 1).val < 1024 := (x 1).isLt
    have e : (y 1 : Fin 3072) = ⟨1024 + (x 1).val, by omega⟩ := Fin.ext (by omega)
    rw [e]
    refine Eq.trans ?_ (dgate_b _ _ _ _ _ _ _ (x 1)).symm
    open_payloads
    pointwise []
    rw [zero_sub, mul_assoc]
    exact dgate_congr (dot_congr (fun q => read_ct m c t _ q q _ (congrArg (t.val * 256 + ·) hz) rfl) (fun q => read_w m c t _ _ q rfl)) (read_gate m c t _ _ _ _ (congrArg (t.val * 256 + ·) hz) rfl) ((congrArg _ (eq_ix2 x)).trans (read_b m c t _ _ _ _ (congrArg (t.val * 256 + ·) hz) rfl))
  · have hz : (y 0).val = (x 0).val := by simpa using h0
    have hx : (x 1).val < 1024 := (x 1).isLt
    have e : (y 1 : Fin 3072) = ⟨(x 1).val, by omega⟩ := Fin.ext (by omega)
    rw [e]
    refine Eq.trans ?_ (dgate_a _ _ _ _ _ _ _ (x 1)).symm
    open_payloads
    pointwise []
    rw [zero_sub, mul_assoc]
    exact dgate_congr (dot_congr (fun q => read_ct m c t _ q q _ (congrArg (t.val * 256 + ·) hz) rfl) (fun q => read_w m c t _ _ q rfl)) (read_gate m c t _ _ _ _ (congrArg (t.val * 256 + ·) hz) rfl) ((congrArg _ (eq_ix2 x)).trans (read_a m c t _ _ _ _ (congrArg (t.val * 256 + ·) hz) rfl))

/-- The kernel's result is the reference's. -/
theorem final (c : Dev nD) : (dats m 0 c).arrAt 6 (cfgs 0).N = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  exact point m c t y

end Cert.Kernel15Ideal.Value

end
-- ==== Proof.MixBranch.lean ====
/- The gradient of the branches: of the mixers' results by groups of columns, its transpose, and of the weights by groups of rows, summed over the blocks of rows in an array carried from one grid point to the next. -/
module

public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Read
public import Idealize.ShloMosaic.Lib.Pipeline.ValueKit

@[expose] public section

set_option maxRecDepth 16384

noncomputable section

namespace Cert.Kernel16Ideal.Value

open Cert.Kernel16Ideal Cert.Kernel16Ideal.Gen Idealize.ShloMosaic Idealize.ShloMosaic.TcCoe Idealize.SL.Sem
open Cert.Reference16Ideal.Read

variable (m : (ℓ : Loc nD τ sig) → Buf (Elt Ideal) ℓ)

theorem dot_congr {n : ℕ} {f f' g g' : Fin n → EReal} (hf : ∀ q, f q = f' q) (hg : ∀ q, g q = g' q) : ∑ q, f q * g q = ∑ q, f' q * g' q := by
  rw [funext hf, funext hg]

section

variable (x0 x1 x2 : S2048x1024.Idx → EReal) (x3 : S2048x256.Idx → EReal) (x4 : S2048x512.Idx → EReal) (x5 : S2048x256.Idx → EReal) (x6 : S1024x1024.Idx → EReal)

/-- What a row adds to the weights' gradient, the branch given by the weights' row. -/
def term (p q : Fin 1024) (r : Fin 2048) : EReal :=
  if ha : p.val < 256 then x3 (ix2 r ⟨p.val, ha⟩) * x0 (ix2 r q)
  else if hb : p.val < 768 then x4 (ix2 r ⟨p.val - 256, by omega⟩) * x1 (ix2 r q)
  else x5 (ix2 r ⟨p.val - 768, by omega⟩) * x2 (ix2 r q)

theorem term_a (p q q' : Fin 1024) (r : Fin 2048) (k : Fin 256) (hp : p.val = k.val) (hq : q.val = q'.val) : term x0 x1 x2 x3 x4 x5 p q r = x3 (ix2 r k) * x0 (ix2 r q') := by
  have eq : q = q' := Fin.ext hq
  have e : ∀ h : p.val < 256, (⟨p.val, h⟩ : Fin 256) = k := fun h => Fin.ext hp
  unfold term
  rw [eq, dif_pos (by omega), e]

theorem term_b (p q q' : Fin 1024) (r : Fin 2048) (k : Fin 512) (hp : p.val = 256 + k.val) (hq : q.val = q'.val) : term x0 x1 x2 x3 x4 x5 p q r = x4 (ix2 r k) * x1 (ix2 r q') := by
  have eq : q = q' := Fin.ext hq
  have e : ∀ h : p.val - 256 < 512, (⟨p.val - 256, h⟩ : Fin 512) = k := fun h => Fin.ext (by show p.val - 256 = k.val; omega)
  unfold term
  rw [eq, dif_neg (by omega), dif_pos (by omega), e]

theorem term_c (p q q' : Fin 1024) (r : Fin 2048) (k : Fin 256) (hp : p.val = 768 + k.val) (hq : q.val = q'.val) : term x0 x1 x2 x3 x4 x5 p q r = x5 (ix2 r k) * x2 (ix2 r q') := by
  have eq : q = q' := Fin.ext hq
  have e : ∀ h : p.val - 768 < 256, (⟨p.val - 768, h⟩ : Fin 256) = k := fun h => Fin.ext (by show p.val - 768 = k.val; omega)
  unfold term
  rw [eq, dif_neg (by omega), dif_neg (by omega), e]

theorem ref_do_a (r : Fin 2048) (k : Fin 256) : val_main_v17 (F := Ideal) x0 x1 x2 x6 (ix2 r ⟨k.val, by omega⟩) = ∑ j : Fin 1024, x0 (ix2 r j) * x6 (ix2 ⟨k.val, by omega⟩ j) := by
  refine Eq.trans (b := val_main_v14 (F := Ideal) x0 x6 (ix2 r k)) ?_ ?_
  · pointwise [val_main_v17, val_main_v16]
    all_goals blk_point []
    all_goals (exfalso; omega)
  · pointwise [val_main_v14, val_main_v0]
    all_goals blk_point []

theorem ref_dw_a (k : Fin 256) (q : Fin 1024) : val_main_v19 (F := Ideal) x0 x1 x2 x3 x4 x5 (ix2 ⟨k.val, by omega⟩ q) = ∑ r : Fin 2048, x0 (ix2 r q) * x3 (ix2 r k) := by
  refine Eq.trans (b := val_main_v13 (F := Ideal) x0 x3 (ix2 k q)) ?_ ?_
  · pointwise [val_main_v19, val_main_v15]
    all_goals blk_point []
    all_goals (exfalso; omega)
  · pointwise [val_main_v13, val_main_v12]
    all_goals blk_point []

theorem ref_do_b (r : Fin 2048) (k : Fin 512) : val_main_v17 (F := Ideal) x0 x1 x2 x6 (ix2 r ⟨256 + k.val, by omega⟩) = ∑ j : Fin 1024, x1 (ix2 r j) * x6 (ix2 ⟨256 + k.val, by omega⟩ j) := by
  refine Eq.trans (b := val_main_v11 (F := Ideal) x1 x6 (ix2 r k)) ?_ ?_
  · pointwise [val_main_v17, val_main_v16]
    all_goals blk_point []
    all_goals (exfalso; omega)
  · pointwise [val_main_v11, val_main_v1]
    all_goals blk_point []

theorem ref_dw_b (k : Fin 512) (q : Fin 1024) : val_main_v19 (F := Ideal) x0 x1 x2 x3 x4 x5 (ix2 ⟨256 + k.val, by omega⟩ q) = ∑ r : Fin 2048, x1 (ix2 r q) * x4 (ix2 r k) := by
  refine Eq.trans (b := val_main_v10 (F := Ideal) x1 x4 (ix2 k q)) ?_ ?_
  · pointwise [val_main_v19, val_main_v15]
    all_goals blk_point []
    all_goals (exfalso; omega)
  · pointwise [val_main_v10, val_main_v9]
    all_goals blk_point []

theorem ref_do_c (r : Fin 2048) (k : Fin 256) : val_main_v17 (F := Ideal) x0 x1 x2 x6 (ix2 r ⟨768 + k.val, by omega⟩) = ∑ j : Fin 1024, x2 (ix2 r j) * x6 (ix2 ⟨768 + k.val, by omega⟩ j) := by
  refine Eq.trans (b := val_main_v8 (F := Ideal) x2 x6 (ix2 r k)) ?_ ?_
  · pointwise [val_main_v17, val_main_v16]
    all_goals blk_point []
    all_goals (exfalso; omega)
  · pointwise [val_main_v8, val_main_v2]
    all_goals blk_point []

theorem ref_dw_c (k : Fin 256) (q : Fin 1024) : val_main_v19 (F := Ideal) x0 x1 x2 x3 x4 x5 (ix2 ⟨768 + k.val, by omega⟩ q) = ∑ r : Fin 2048, x2 (ix2 r q) * x5 (ix2 r k) := by
  refine Eq.trans (b := val_main_v7 (F := Ideal) x2 x5 (ix2 k q)) ?_ ?_
  · pointwise [val_main_v19, val_main_v15]
    all_goals blk_point []
    all_goals (exfalso; omega)
  · pointwise [val_main_v7, val_main_v6]
    all_goals blk_point []

theorem ref_t (r : Fin 2048) (p : Fin 1024) : val_main_v18 (F := Ideal) x0 x1 x2 x6 (ix2 p r) = val_main_v17 (F := Ideal) x0 x1 x2 x6 (ix2 r p) := by
  pointwise [val_main_v18]

theorem ref_dw (p q : Fin 1024) : val_main_v19 (F := Ideal) x0 x1 x2 x3 x4 x5 (ix2 p q) = ∑ r : Fin 2048, term x0 x1 x2 x3 x4 x5 p q r := by
  by_cases ha : p.val < 256
  · refine (ref_dw_a x0 x1 x2 x3 x4 x5 ⟨p.val, ha⟩ q).trans (Fin.sum_fin_congr fun r => ?_)
    exact (mul_comm _ _).trans (term_a _ _ _ _ _ _ p q q r ⟨p.val, ha⟩ rfl rfl).symm
  by_cases hb : p.val < 768
  · have e : p = ⟨256 + (⟨p.val - 256, by omega⟩ : Fin 512).val, by show 256 + (p.val - 256) < 1024; omega⟩ := Fin.ext (by show p.val = 256 + (p.val - 256); omega)
    refine (congrArg (fun p => val_main_v19 (F := Ideal) x0 x1 x2 x3 x4 x5 (ix2 p q)) e).trans ?_
    refine (ref_dw_b x0 x1 x2 x3 x4 x5 ⟨p.val - 256, by omega⟩ q).trans (Fin.sum_fin_congr fun r => ?_)
    exact (mul_comm _ _).trans (term_b _ _ _ _ _ _ p q q r ⟨p.val - 256, by omega⟩ (by show p.val = 256 + (p.val - 256); omega) rfl).symm
  · have e : p = ⟨768 + (⟨p.val - 768, by omega⟩ : Fin 256).val, by show 768 + (p.val - 768) < 1024; omega⟩ := Fin.ext (by show p.val = 768 + (p.val - 768); omega)
    refine (congrArg (fun p => val_main_v19 (F := Ideal) x0 x1 x2 x3 x4 x5 (ix2 p q)) e).trans ?_
    refine (ref_dw_c x0 x1 x2 x3 x4 x5 ⟨p.val - 768, by omega⟩ q).trans (Fin.sum_fin_congr fun r => ?_)
    exact (mul_comm _ _).trans (term_c _ _ _ _ _ _ p q q r ⟨p.val - 768, by omega⟩ (by show p.val = 768 + (p.val - 768); omega) rfl).symm

end

/-- Which block each window holds at a grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![0, 0, 0] ∧ win0_7.index t = ![t.val, 0] ∧ win0_8.index t = ![0, t.val] ∧ win0_9.index t = ![0, 0] :=
  (by decide +kernel : ∀ t : Fin grid0.N, _)

theorem read_dy_a (c : Dev nD) (t : Fin cfg0.N) (a : Fin 512) (q : Fin 1024) (r : Fin 2048) (hr : r.val = t.val * 512 + a.val) :
    iblk m c 0 t (ix2 a q) = m ((c : Thread nD τ).loc main_arg0) (ix2 r q) := by
  have ht : t.val < 4 := t.isLt
  blk_point [iblk, V, idx t]

theorem read_o_a (c : Dev nD) (t : Fin cfg0.N) (a : Fin 512) (q : Fin 256) (r : Fin 2048) (hr : r.val = t.val * 512 + a.val) :
    iblk m c 3 t (ix2 a q) = m ((c : Thread nD τ).loc main_arg3) (ix2 r q) := by
  have ht : t.val < 4 := t.isLt
  blk_point [iblk, V, idx t]

theorem read_dy_b (c : Dev nD) (t : Fin cfg0.N) (a : Fin 512) (q : Fin 1024) (r : Fin 2048) (hr : r.val = t.val * 512 + a.val) :
    iblk m c 1 t (ix2 a q) = m ((c : Thread nD τ).loc main_arg1) (ix2 r q) := by
  have ht : t.val < 4 := t.isLt
  blk_point [iblk, V, idx t]

theorem read_o_b (c : Dev nD) (t : Fin cfg0.N) (a : Fin 512) (q : Fin 512) (r : Fin 2048) (hr : r.val = t.val * 512 + a.val) :
    iblk m c 4 t (ix2 a q) = m ((c : Thread nD τ).loc main_arg4) (ix2 r q) := by
  have ht : t.val < 4 := t.isLt
  blk_point [iblk, V, idx t]

theorem read_dy_c (c : Dev nD) (t : Fin cfg0.N) (a : Fin 512) (q : Fin 1024) (r : Fin 2048) (hr : r.val = t.val * 512 + a.val) :
    iblk m c 2 t (ix2 a q) = m ((c : Thread nD τ).loc main_arg2) (ix2 r q) := by
  have ht : t.val < 4 := t.isLt
  blk_point [iblk, V, idx t]

theorem read_o_c (c : Dev nD) (t : Fin cfg0.N) (a : Fin 512) (q : Fin 256) (r : Fin 2048) (hr : r.val = t.val * 512 + a.val) :
    iblk m c 5 t (ix2 a q) = m ((c : Thread nD τ).loc main_arg5) (ix2 r q) := by
  have ht : t.val < 4 := t.isLt
  blk_point [iblk, V, idx t]

theorem read_w (c : Dev nD) (t : Fin cfg0.N) (p q : Fin 1024) : iblk m c 6 t (ix3 0 p q) = m ((c : Thread nD τ).loc main_arg6) (ix2 p q) := by
  have ht : t.val < 4 := t.isLt
  blk_point [iblk, V, idx t]

/-! ## The stored pieces -/

theorem pay_do_a (D : Vec Ideal S512x1024 .bf16) (W : Vec Ideal S1x1024x1024 .bf16) (a : Fin 512) (k : Fin 256) :
    k0_pay5 (F := Ideal) D (View.ld W (Rect.unit (s := S1x1024x1024) ![0, 0, 0] S1x256x1024.size inb_S1x1024x1024_S1x256x1024_0_0_0)) (ix2 a k) = ∑ j : Fin 1024, D (ix2 a j) * W (ix3 0 ⟨k.val, by omega⟩ j) := by
  open_payloads
  pointwise []
  all_goals blk_point []

theorem pay_dot_a (D : Vec Ideal S512x1024 .bf16) (W : Vec Ideal S1x1024x1024 .bf16) (a : Fin 512) (k : Fin 256) :
    k0_pay6 (F := Ideal) D (View.ld W (Rect.unit (s := S1x1024x1024) ![0, 0, 0] S1x256x1024.size inb_S1x1024x1024_S1x256x1024_0_0_0)) (ix2 k a) = ∑ j : Fin 1024, D (ix2 a j) * W (ix3 0 ⟨k.val, by omega⟩ j) := by
  open_payloads
  pointwise []
  all_goals blk_point []

theorem pay_first_a (D : Vec Ideal S512x1024 .bf16) (O : Vec Ideal S512x256 .bf16) (k : Fin 256) (q : Fin 1024) :
    k0_pay8 (F := Ideal) D O (ix2 k q) = ∑ a : Fin 512, O (ix2 a k) * D (ix2 a q) := by
  open_payloads
  pointwise []
  all_goals blk_point []

theorem pay_acc_a (D : Vec Ideal S512x1024 .bf16) (O : Vec Ideal S512x256 .bf16) (Z : Vec Ideal S256x1024 .f32) (k : Fin 256) (q : Fin 1024) :
    k0_pay9 (F := Ideal) D O Z (ix2 k q) = Z (ix2 k q) + ∑ a : Fin 512, O (ix2 a k) * D (ix2 a q) := by
  open_payloads
  pointwise []
  all_goals blk_point []

theorem pay_do_b (D : Vec Ideal S512x1024 .bf16) (W : Vec Ideal S1x1024x1024 .bf16) (a : Fin 512) (k : Fin 512) :
    k0_pay12 (F := Ideal) D (View.ld W (Rect.unit (s := S1x1024x1024) ![0, 256, 0] S1x512x1024.size inb_S1x1024x1024_S1x512x1024_0_256_0)) (ix2 a k) = ∑ j : Fin 1024, D (ix2 a j) * W (ix3 0 ⟨256 + k.val, by omega⟩ j) := by
  open_payloads
  pointwise []
  all_goals blk_point []

theorem pay_dot_b (D : Vec Ideal S512x1024 .bf16) (W : Vec Ideal S1x1024x1024 .bf16) (a : Fin 512) (k : Fin 512) :
    k0_pay13 (F := Ideal) D (View.ld W (Rect.unit (s := S1x1024x1024) ![0, 256, 0] S1x512x1024.size inb_S1x1024x1024_S1x512x1024_0_256_0)) (ix2 k a) = ∑ j : Fin 1024, D (ix2 a j) * W (ix3 0 ⟨256 + k.val, by omega⟩ j) := by
  open_payloads
  pointwise []
  all_goals blk_point []

theorem pay_first_b (D : Vec Ideal S512x1024 .bf16) (O : Vec Ideal S512x512 .bf16) (k : Fin 512) (q : Fin 1024) :
    k0_pay15 (F := Ideal) (k0_pay10 (F := Ideal) D) O (ix2 k q) = ∑ a : Fin 512, O (ix2 a k) * D (ix2 a q) := by
  open_payloads
  pointwise []
  all_goals blk_point []

theorem pay_acc_b (D : Vec Ideal S512x1024 .bf16) (O : Vec Ideal S512x512 .bf16) (Z : Vec Ideal S512x1024 .f32) (k : Fin 512) (q : Fin 1024) :
    k0_pay16 (F := Ideal) (k0_pay10 (F := Ideal) D) O Z (ix2 k q) = Z (ix2 k q) + ∑ a : Fin 512, O (ix2 a k) * D (ix2 a q) := by
  open_payloads
  pointwise []
  all_goals blk_point []

theorem pay_do_c (D : Vec Ideal S512x1024 .bf16) (W : Vec Ideal S1x1024x1024 .bf16) (a : Fin 512) (k : Fin 256) :
    k0_pay19 (F := Ideal) D (View.ld W (Rect.unit (s := S1x1024x1024) ![0, 768, 0] S1x256x1024.size inb_S1x1024x1024_S1x256x1024_0_768_0)) (ix2 a k) = ∑ j : Fin 1024, D (ix2 a j) * W (ix3 0 ⟨768 + k.val, by omega⟩ j) := by
  open_payloads
  pointwise []
  all_goals blk_point []

theorem pay_dot_c (D : Vec Ideal S512x1024 .bf16) (W : Vec Ideal S1x1024x1024 .bf16) (a : Fin 512) (k : Fin 256) :
    k0_pay20 (F := Ideal) D (View.ld W (Rect.unit (s := S1x1024x1024) ![0, 768, 0] S1x256x1024.size inb_S1x1024x1024_S1x256x1024_0_768_0)) (ix2 k a) = ∑ j : Fin 1024, D (ix2 a j) * W (ix3 0 ⟨768 + k.val, by omega⟩ j) := by
  open_payloads
  pointwise []
  all_goals blk_point []

theorem pay_first_c (D : Vec Ideal S512x1024 .bf16) (O : Vec Ideal S512x256 .bf16) (k : Fin 256) (q : Fin 1024) :
    k0_pay22 (F := Ideal) D O (ix2 k q) = ∑ a : Fin 512, O (ix2 a k) * D (ix2 a q) := by
  open_payloads
  pointwise []
  all_goals blk_point []

theorem pay_acc_c (D : Vec Ideal S512x1024 .bf16) (O : Vec Ideal S512x256 .bf16) (Z : Vec Ideal S256x1024 .f32) (k : Fin 256) (q : Fin 1024) :
    k0_pay1 (F := Ideal) (k0_pay21 (F := Ideal) D O) Z (ix2 k q) = Z (ix2 k q) + ∑ a : Fin 512, O (ix2 a k) * D (ix2 a q) := by
  open_payloads
  pointwise []
  all_goals blk_point []

/-! ## The gradient of the mixers' results -/

theorem block_do (c : Dev nD) (t : Fin cfg0.N) (y : S512x1024.Idx) :
    View.canon (Val := Elt Ideal) (s := S512x1024) (e := .bf16)
      [⟨Rect.unit (s := S512x1024) ![0, 768] S512x256.size inb_S512x1024_S512x256_0_768, k0_pay19 (F := Ideal) (iblk m c 2 t) (View.ld (iblk m c 6 t) (Rect.unit (s := S1x1024x1024) ![0, 768, 0] S1x256x1024.size inb_S1x1024x1024_S1x256x1024_0_768_0))⟩,
       ⟨Rect.unit (s := S512x1024) ![0, 256] S512x512.size inb_S512x1024_S512x512_0_256, k0_pay12 (F := Ideal) (iblk m c 1 t) (View.ld (iblk m c 6 t) (Rect.unit (s := S1x1024x1024) ![0, 256, 0] S1x512x1024.size inb_S1x1024x1024_S1x512x1024_0_256_0))⟩,
       ⟨Rect.unit (s := S512x1024) ![0, 0] S512x256.size inb_S512x1024_S512x256_0_0, k0_pay5 (F := Ideal) (iblk m c 0 t) (View.ld (iblk m c 6 t) (Rect.unit (s := S1x1024x1024) ![0, 0, 0] S1x256x1024.size inb_S1x1024x1024_S1x256x1024_0_0_0))⟩] y
      = val_main_v17 (F := Ideal) (m ((c : Thread nD τ).loc main_arg0)) (m ((c : Thread nD τ).loc main_arg1)) (m ((c : Thread nD τ).loc main_arg2)) (m ((c : Thread nD τ).loc main_arg6)) (((cfg0.win 7).blk t).view.emb y) := by
  have ht : t.val < 4 := t.isLt
  have hy : (y 0).val < 512 := (y 0).isLt
  have hr : ((cfg0.win 7).blk t).view.emb y = ix2 (⟨t.val * 512 + (y 0).val, by omega⟩ : Fin 2048) (y 1 : Fin 1024) := by
    blk_ext [idx t]
  rw [hr]
  clear hr
  canon_tiles x h using View.cover_of_tiledBy _ ![512, 256] (by sl_kernel_rfl) y
  · have hz : (y 0).val = (x 0).val := by simpa using h0
    have e : (y 1 : Fin 1024) = ⟨768 + (x 1).val, by omega⟩ := Fin.ext (by omega)
    rw [e]
    refine ((congrArg _ (eq_ix2 x)).trans (pay_do_c _ _ (x 0) (x 1))).trans ?_
    exact (dot_congr (fun q => read_dy_c m c t _ q _ (congrArg (t.val * 512 + ·) hz)) (fun q => read_w m c t _ q)).trans (ref_do_c _ _ _ _ _ _).symm
  · have hz : (y 0).val = (x 0).val := by simpa using h0
    have e : (y 1 : Fin 1024) = ⟨256 + (x 1).val, by omega⟩ := Fin.ext (by omega)
    rw [e]
    refine ((congrArg _ (eq_ix2 x)).trans (pay_do_b _ _ (x 0) (x 1))).trans ?_
    exact (dot_congr (fun q => read_dy_b m c t _ q _ (congrArg (t.val * 512 + ·) hz)) (fun q => read_w m c t _ q)).trans (ref_do_b _ _ _ _ _ _).symm
  · have hz : (y 0).val = (x 0).val := by simpa using h0
    have e : (y 1 : Fin 1024) = ⟨(x 1).val, by omega⟩ := Fin.ext (by omega)
    rw [e]
    refine ((congrArg _ (eq_ix2 x)).trans (pay_do_a _ _ (x 0) (x 1))).trans ?_
    exact (dot_congr (fun q => read_dy_a m c t _ q _ (congrArg (t.val * 512 + ·) hz)) (fun q => read_w m c t _ q)).trans (ref_do_a _ _ _ _ _ _).symm

theorem final (c : Dev nD) : (dats m 0 c).arrAt 7 (cfgs 0).N = val_main_v17 (F := Ideal) (m ((c : Thread nD τ).loc main_arg0)) (m ((c : Thread nD τ).loc main_arg1)) (m ((c : Thread nD τ).loc main_arg2)) (m ((c : Thread nD τ).loc main_arg6)) := by
  refine (dats m 0 c).arrAt_eq_of_covers 7 _ (by decide +kernel) fun t _ y => ?_
  have ht : t.val < 4 := t.isLt
  blk_simp
  rw [after0_7]
  by_cases g0 : t.val % 4 = 0
  · have g1 : ¬1 ≤ t.val := by omega
    have g6 : ¬t.val % 4 = 3 := by omega
    rw [outsAt0_A m c t g0 g1 g0 g1 g0 g1 g6]
    frame_out
    exact block_do m c t y
  have g1 : 1 ≤ t.val := by omega
  by_cases g6 : t.val % 4 = 3
  · rw [outsAt0_C m c t g0 g1 g0 g1 g0 g1 g6]
    frame_out
    exact block_do m c t y
  · rw [outsAt0_B m c t g0 g1 g0 g1 g0 g1 g6]
    frame_out
    exact block_do m c t y

theorem block_do_t (c : Dev nD) (t : Fin cfg0.N) (y : S1024x512.Idx) :
    View.canon (Val := Elt Ideal) (s := S1024x512) (e := .bf16)
      [⟨Rect.unit (s := S1024x512) ![768, 0] S256x512.size inb_S1024x512_S256x512_768_0, k0_pay20 (F := Ideal) (iblk m c 2 t) (View.ld (iblk m c 6 t) (Rect.unit (s := S1x1024x1024) ![0, 768, 0] S1x256x1024.size inb_S1x1024x1024_S1x256x1024_0_768_0))⟩,
       ⟨Rect.unit (s := S1024x512) ![256, 0] S512x512.size inb_S1024x512_S512x512_256_0, k0_pay13 (F := Ideal) (iblk m c 1 t) (View.ld (iblk m c 6 t) (Rect.unit (s := S1x1024x1024) ![0, 256, 0] S1x512x1024.size inb_S1x1024x1024_S1x512x1024_0_256_0))⟩,
       ⟨Rect.unit (s := S1024x512) ![0, 0] S256x512.size inb_S1024x512_S256x512_0_0, k0_pay6 (F := Ideal) (iblk m c 0 t) (View.ld (iblk m c 6 t) (Rect.unit (s := S1x1024x1024) ![0, 0, 0] S1x256x1024.size inb_S1x1024x1024_S1x256x1024_0_0_0))⟩] y
      = val_main_v18 (F := Ideal) (m ((c : Thread nD τ).loc main_arg0)) (m ((c : Thread nD τ).loc main_arg1)) (m ((c : Thread nD τ).loc main_arg2)) (m ((c : Thread nD τ).loc main_arg6)) (((cfg0.win 8).blk t).view.emb y) := by
  have ht : t.val < 4 := t.isLt
  have hy : (y 1).val < 512 := (y 1).isLt
  have hr : ((cfg0.win 8).blk t).view.emb y = ix2 (y 0 : Fin 1024) (⟨t.val * 512 + (y 1).val, by omega⟩ : Fin 2048) := by
    blk_ext [idx t]
  rw [hr]
  clear hr
  refine Eq.trans ?_ (ref_t _ _ _ _ _ _).symm
  canon_tiles x h using View.cover_of_tiledBy _ ![256, 512] (by sl_kernel_rfl) y
  · have hz : (y 1).val = (x 1).val := by simpa using h1
    have e : (y 0 : Fin 1024) = ⟨768 + (x 0).val, by omega⟩ := Fin.ext (by omega)
    rw [e]
    refine ((congrArg _ (eq_ix2 x)).trans (pay_dot_c _ _ (x 1) (x 0))).trans ?_
    exact (dot_congr (fun q => read_dy_c m c t _ q _ (congrArg (t.val * 512 + ·) hz)) (fun q => read_w m c t _ q)).trans (ref_do_c _ _ _ _ _ _).symm
  · have hz : (y 1).val = (x 1).val := by simpa using h1
    have e : (y 0 : Fin 1024) = ⟨256 + (x 0).val, by omega⟩ := Fin.ext (by omega)
    rw [e]
    refine ((congrArg _ (eq_ix2 x)).trans (pay_dot_b _ _ (x 1) (x 0))).trans ?_
    exact (dot_congr (fun q => read_dy_b m c t _ q _ (congrArg (t.val * 512 + ·) hz)) (fun q => read_w m c t _ q)).trans (ref_do_b _ _ _ _ _ _).symm
  · have hz : (y 1).val = (x 1).val := by simpa using h1
    have e : (y 0 : Fin 1024) = ⟨(x 0).val, by omega⟩ := Fin.ext (by omega)
    rw [e]
    refine ((congrArg _ (eq_ix2 x)).trans (pay_dot_a _ _ (x 1) (x 0))).trans ?_
    exact (dot_congr (fun q => read_dy_a m c t _ q _ (congrArg (t.val * 512 + ·) hz)) (fun q => read_w m c t _ q)).trans (ref_do_a _ _ _ _ _ _).symm

theorem final_t (c : Dev nD) : (dats m 0 c).arrAt 8 (cfgs 0).N = val_main_v18 (F := Ideal) (m ((c : Thread nD τ).loc main_arg0)) (m ((c : Thread nD τ).loc main_arg1)) (m ((c : Thread nD τ).loc main_arg2)) (m ((c : Thread nD τ).loc main_arg6)) := by
  refine (dats m 0 c).arrAt_eq_of_covers 8 _ (by decide +kernel) fun t _ y => ?_
  have ht : t.val < 4 := t.isLt
  blk_simp
  rw [after0_8]
  by_cases g0 : t.val % 4 = 0
  · have g1 : ¬1 ≤ t.val := by omega
    have g6 : ¬t.val % 4 = 3 := by omega
    rw [outsAt0_A m c t g0 g1 g0 g1 g0 g1 g6]
    frame_out
    exact block_do_t m c t y
  have g1 : 1 ≤ t.val := by omega
  by_cases g6 : t.val % 4 = 3
  · rw [outsAt0_C m c t g0 g1 g0 g1 g0 g1 g6]
    frame_out
    exact block_do_t m c t y
  · rw [outsAt0_B m c t g0 g1 g0 g1 g0 g1 g6]
    frame_out
    exact block_do_t m c t y

/-! ## The gradient of the branches' weights -/

/-- What a block of rows adds to the weights' gradient. -/
def blockSum (c : Dev nD) (t : Fin cfg0.N) (j : S1024x1024.Idx) : EReal :=
  ∑ a : Fin 512, term (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (j 0 : Fin 1024) (j 1 : Fin 1024) ⟨t.val * 512 + a.val, by have ht : t.val < 4 := t.isLt; omega⟩

theorem blockSum_a (c : Dev nD) (t : Fin cfg0.N) (j : S1024x1024.Idx) (k : Fin 256) (q : Fin 1024) (hp : (j 0).val = k.val) (hq : (j 1).val = q.val)
    (f g : Fin 512 → EReal) (hf : ∀ a, f a = iblk m c 3 t (ix2 a k)) (hg : ∀ a, g a = iblk m c 0 t (ix2 a q)) :
    ∑ a : Fin 512, f a * g a = blockSum m c t j := by
  unfold blockSum
  refine Fin.sum_fin_congr fun a => ?_
  exact (congrArg₂ (· * ·) ((hf a).trans (read_o_a m c t a k _ rfl)) ((hg a).trans (read_dy_a m c t a q _ rfl))).trans (term_a _ _ _ _ _ _ _ _ _ _ k hp hq).symm

theorem blockSum_b (c : Dev nD) (t : Fin cfg0.N) (j : S1024x1024.Idx) (k : Fin 512) (q : Fin 1024) (hp : (j 0).val = 256 + k.val) (hq : (j 1).val = q.val)
    (f g : Fin 512 → EReal) (hf : ∀ a, f a = iblk m c 4 t (ix2 a k)) (hg : ∀ a, g a = iblk m c 1 t (ix2 a q)) :
    ∑ a : Fin 512, f a * g a = blockSum m c t j := by
  unfold blockSum
  refine Fin.sum_fin_congr fun a => ?_
  exact (congrArg₂ (· * ·) ((hf a).trans (read_o_b m c t a k _ rfl)) ((hg a).trans (read_dy_b m c t a q _ rfl))).trans (term_b _ _ _ _ _ _ _ _ _ _ k hp hq).symm

theorem blockSum_c (c : Dev nD) (t : Fin cfg0.N) (j : S1024x1024.Idx) (k : Fin 256) (q : Fin 1024) (hp : (j 0).val = 768 + k.val) (hq : (j 1).val = q.val)
    (f g : Fin 512 → EReal) (hf : ∀ a, f a = iblk m c 5 t (ix2 a k)) (hg : ∀ a, g a = iblk m c 2 t (ix2 a q)) :
    ∑ a : Fin 512, f a * g a = blockSum m c t j := by
  unfold blockSum
  refine Fin.sum_fin_congr fun a => ?_
  exact (congrArg₂ (· * ·) ((hf a).trans (read_o_c m c t a k _ rfl)) ((hg a).trans (read_dy_c m c t a q _ rfl))).trans (term_c _ _ _ _ _ _ _ _ _ _ k hp hq).symm

theorem block_first (c : Dev nD) (t : Fin cfg0.N) (j : S1024x1024.Idx) :
    View.canon (Val := Elt Ideal) (s := S1024x1024) (e := .f32)
      [⟨Rect.unit (s := S1024x1024) ![768, 0] S256x1024.size inb_S1024x1024_S256x1024_768_0, k0_pay22 (F := Ideal) (iblk m c 2 t) (iblk m c 5 t)⟩,
       ⟨Rect.unit (s := S1024x1024) ![256, 0] S512x1024.size inb_S1024x1024_S512x1024_256_0, k0_pay15 (F := Ideal) (k0_pay10 (F := Ideal) (iblk m c 1 t)) (iblk m c 4 t)⟩,
       ⟨Rect.unit (s := S1024x1024) ![0, 0] S256x1024.size inb_S1024x1024_S256x1024_0_0, k0_pay8 (F := Ideal) (iblk m c 0 t) (iblk m c 3 t)⟩] j
      = blockSum m c t j := by
  canon_tiles x h using View.cover_of_tiledBy _ ![256, 1024] (by sl_kernel_rfl) j
  · refine ((congrArg _ (eq_ix2 x)).trans (pay_first_c _ _ (x 0) (x 1))).trans ?_
    exact blockSum_c m c t j (x 0) (x 1) h0 h1 _ _ (fun _ => rfl) (fun _ => rfl)
  · refine ((congrArg _ (eq_ix2 x)).trans (pay_first_b _ _ (x 0) (x 1))).trans ?_
    exact blockSum_b m c t j (x 0) (x 1) h0 h1 _ _ (fun _ => rfl) (fun _ => rfl)
  · refine ((congrArg _ (eq_ix2 x)).trans (pay_first_a _ _ (x 0) (x 1))).trans ?_
    exact blockSum_a m c t j (x 0) (x 1) h0 h1 _ _ (fun _ => rfl) (fun _ => rfl)

theorem block_step (c : Dev nD) (t : Fin cfg0.N) (Z : Vec Ideal S1024x1024 .f32) (j : S1024x1024.Idx) :
    View.canon (Val := Elt Ideal) (s := S1024x1024) (e := .f32)
      [⟨Rect.unit (s := S1024x1024) ![768, 0] S256x1024.size inb_S1024x1024_S256x1024_768_0, k0_pay1 (F := Ideal) (k0_pay21 (F := Ideal) (iblk m c 2 t) (iblk m c 5 t)) (View.ld Z (Rect.unit (s := S1024x1024) ![768, 0] S256x1024.size inb_S1024x1024_S256x1024_768_0))⟩,
       ⟨Rect.unit (s := S1024x1024) ![256, 0] S512x1024.size inb_S1024x1024_S512x1024_256_0, k0_pay16 (F := Ideal) (k0_pay10 (F := Ideal) (iblk m c 1 t)) (iblk m c 4 t) (View.ld Z (Rect.unit (s := S1024x1024) ![256, 0] S512x1024.size inb_S1024x1024_S512x1024_256_0))⟩,
       ⟨Rect.unit (s := S1024x1024) ![0, 0] S256x1024.size inb_S1024x1024_S256x1024_0_0, k0_pay9 (F := Ideal) (iblk m c 0 t) (iblk m c 3 t) (View.ld Z (Rect.unit (s := S1024x1024) ![0, 0] S256x1024.size inb_S1024x1024_S256x1024_0_0))⟩] j
      = Z j + blockSum m c t j := by
  canon_tiles x h using View.cover_of_tiledBy _ ![256, 1024] (by sl_kernel_rfl) j
  · have e : (ix2 (⟨768 + (x 0).val, by omega⟩ : Fin 1024) (x 1 : Fin 1024) : S1024x1024.Idx) = j := by
      refine Eq.trans ?_ (eq_ix2 j).symm
      exact congrArg₂ ix2 (Fin.ext h0.symm) (Fin.ext h1.symm)
    have hZ : View.ld Z (Rect.unit (s := S1024x1024) ![768, 0] S256x1024.size inb_S1024x1024_S256x1024_768_0) (ix2 (x 0) (x 1)) = Z j := by
      rw [← e]
      pointwise []
      all_goals blk_point []
    refine ((congrArg _ (eq_ix2 x)).trans (pay_acc_c _ _ _ (x 0) (x 1))).trans ?_
    exact congrArg₂ (· + ·) hZ (blockSum_c m c t j (x 0) (x 1) h0 h1 _ _ (fun _ => rfl) (fun _ => rfl))
  · have e : (ix2 (⟨256 + (x 0).val, by omega⟩ : Fin 1024) (x 1 : Fin 1024) : S1024x1024.Idx) = j := by
      refine Eq.trans ?_ (eq_ix2 j).symm
      exact congrArg₂ ix2 (Fin.ext h0.symm) (Fin.ext h1.symm)
    have hZ : View.ld Z (Rect.unit (s := S1024x1024) ![256, 0] S512x1024.size inb_S1024x1024_S512x1024_256_0) (ix2 (x 0) (x 1)) = Z j := by
      rw [← e]
      pointwise []
      all_goals blk_point []
    refine ((congrArg _ (eq_ix2 x)).trans (pay_acc_b _ _ _ (x 0) (x 1))).trans ?_
    exact congrArg₂ (· + ·) hZ (blockSum_b m c t j (x 0) (x 1) h0 h1 _ _ (fun _ => rfl) (fun _ => rfl))
  · have e : (ix2 (⟨(x 0).val, by omega⟩ : Fin 1024) (x 1 : Fin 1024) : S1024x1024.Idx) = j := by
      refine Eq.trans ?_ (eq_ix2 j).symm
      exact congrArg₂ ix2 (Fin.ext h0.symm) (Fin.ext h1.symm)
    have hZ : View.ld Z (Rect.unit (s := S1024x1024) ![0, 0] S256x1024.size inb_S1024x1024_S256x1024_0_0) (ix2 (x 0) (x 1)) = Z j := by
      rw [← e]
      pointwise []
      all_goals blk_point []
    refine ((congrArg _ (eq_ix2 x)).trans (pay_acc_a _ _ _ (x 0) (x 1))).trans ?_
    exact congrArg₂ (· + ·) hZ (blockSum_a m c t j (x 0) (x 1) h0 h1 _ _ (fun _ => rfl) (fun _ => rfl))

/-- At the first point the carried array is the block's sum. -/
theorem acc_first (c : Dev nD) (t : Fin cfg0.N) (h : t.val % 4 = 0) (j : S1024x1024.Idx) : (outsAt0 m c t.val t.isLt).2.2.2 j = blockSum m c t j := by
  have ht : t.val < 4 := t.isLt
  have g1 : ¬1 ≤ t.val := by omega
  have g6 : ¬t.val % 4 = 3 := by omega
  rw [outsAt0_A m c t h g1 h g1 h g1 g6]
  frame_out
  exact block_first m c t j

/-- At each later point the block's sum is added to it. -/
theorem acc_step (c : Dev nD) (t : Fin cfg0.N) (h : ¬t.val % 4 = 0) (j : S1024x1024.Idx) :
    (outsAt0 m c t.val t.isLt).2.2.2 j = (outsAt0 m c (t.val - 1) (lt_of_le_of_lt (Nat.sub_le _ _) t.isLt)).2.2.2 j + blockSum m c t j := by
  have ht : t.val < 4 := t.isLt
  have g1 : 1 ≤ t.val := by omega
  by_cases g6 : t.val % 4 = 3
  · rw [outsAt0_C m c t h g1 h g1 h g1 g6]
    frame_out
    exact (block_step m c t _ j).trans (congrArg (· + blockSum m c t j) (congrFun (Memref.IsWhole.read_unread _ _) _))
  · rw [outsAt0_B m c t h g1 h g1 h g1 g6]
    frame_out
    exact (block_step m c t _ j).trans (congrArg (· + blockSum m c t j) (congrFun (Memref.IsWhole.read_unread _ _) _))

theorem pay_whole {sp : Space} (v : View sig .tc sp S1024x1024 .f32) (L : List (View.Piece (Elt Ideal) S1024x1024 .f32)) (j : S1024x1024.Idx) :
    k0_pay2 (F := Ideal) (v.readCov L (Rect.unit (s := S1024x1024) ![0, 0] S1024x1024.size inb_S1024x1024_S1024x1024_0_0).toLoadRect) j = View.canon L j := by
  rw [View.readCov_eq_canon']
  generalize View.canon L = Z
  show Z ((Rect.unit (s := S1024x1024) ![0, 0] S1024x1024.size inb_S1024x1024_S1024x1024_0_0).toLoadRect.idx j) = Z j
  refine congrArg Z ?_
  blk_ext []
  · show 0 + 1 * (j 0).val = (j 0).val
    omega
  · show 0 + 1 * (j 1).val = (j 1).val
    omega

/-- At the last point the result is the carried array. -/
theorem last (c : Dev nD) (t : Fin cfg0.N) (h : t.val % 4 = 3) (j : S1024x1024.Idx) : (outsAt0 m c t.val t.isLt).2.2.1 j = (outsAt0 m c t.val t.isLt).2.2.2 j := by
  have g0 : ¬t.val % 4 = 0 := by omega
  have g1 : 1 ≤ t.val := by omega
  rw [outsAt0_C m c t g0 g1 g0 g1 g0 g1 h]
  frame_out
  exact pay_whole _ _ j

theorem final_w (c : Dev nD) : (dats m 0 c).arrAt 9 (cfgs 0).N = val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 9 t0_3 (by decide +kernel) _ fun j => ?_
  blk_simp
  rw [after0_9, last m c t0_3 rfl, Pipeline.eq_sum_fin_of_reset_step_apply_last (fun n h => (outsAt0 m c n h).2.2.2) 4 (fun _ => 0)
    (fun t j => blockSum m c t j)
    (fun t h j => (acc_first m c t h j).trans (zero_add _).symm)
    (fun t h j => acc_step m c t h j)
    (le_of_eq N_0) t0_3 rfl j, zero_add]
  refine Eq.trans ?_ ((congrArg _ (eq_ix2 j)).trans (ref_dw _ _ _ _ _ _ (j 0 : Fin 1024) (j 1 : Fin 1024))).symm
  refine Eq.trans ?_ (Fin.sum_univ_tiles 4 512 rfl (term (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (j 0 : Fin 1024) (j 1 : Fin 1024))).symm
  exact Fin.sum_fin_congr fun t : Fin 4 => rfl

end Cert.Kernel16Ideal.Value

end
-- ==== Proof.NormFwd.lean ====
/- The norm of a block of rows per grid point. -/
module

public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Read
public import Idealize.ShloMosaic.Lib.Pipeline.ValueKit

@[expose] public section

set_option maxRecDepth 16384

noncomputable section

namespace Cert.Kernel17Ideal.Value

open Cert.Kernel17Ideal Cert.Kernel17Ideal.Gen Idealize.ShloMosaic Idealize.ShloMosaic.TcCoe Idealize.SL.Sem
open Cert.Reference17Ideal.Read

variable (m : (ℓ : Loc nD τ sig) → Buf (Elt Ideal) ℓ)

/-- Which block each window holds at a grid point. -/
theorem idx : ∀ t : Fin cfg0.N, win0_0.index t = ![t.val, 0] ∧ win0_1.index t = ![0, 0] ∧ win0_2.index t = ![t.val, 0] :=
  (by decide +kernel : ∀ t : Fin grid0.N, _)

theorem point (c : Dev nD) (t : Fin cfg0.N) (y : S512x1024.Idx) :
    k0_pay1 (F := Ideal) (iblk m c 0 t) (iblk m c 1 t) y
      = val_main_v13 (F := Ideal) (m ((c : Thread nD τ).loc main_arg0)) (m ((c : Thread nD τ).loc main_arg1)) (((cfg0.win 2).blk t).view.emb y) := by
  have ht : t.val < 4 := t.isLt
  pointwise [k0_pay1, val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  blk_point [iblk, V, idx t]

/-- The kernel's result is the reference's. -/
theorem final (c : Dev nD) : (dats m 0 c).arrAt 2 (cfgs 0).N = val_main_v13 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel17Ideal.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.RefB
public import proofs.«01_k».proof.Proof.Final
public import proofs.«01_k».proof.Proof.Pre
public import proofs.«01_k».proof.Proof.Words
public import proofs.«01_k».proof.Proof.Gen.Kernel2.Frame
public import proofs.«01_k».proof.Proof.Gen.Kernel2Ideal.Frame
public import proofs.«01_k».proof.Proof.Gen.Kernel2Ideal.Skeleton
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Skeleton
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Skeleton
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Skeleton
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Skeleton
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Skeleton
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Skeleton
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Skeleton
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Skeleton
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Skeleton
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Skeleton
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Skeleton
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Skeleton
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Kernel15Ideal.Skeleton
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Kernel16Ideal.Skeleton
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Kernel17Ideal.Skeleton
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Kernel18Ideal.Skeleton
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Kernel19Ideal.Skeleton
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Kernel20Ideal.Skeleton
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Kernel21Ideal.Skeleton
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Frame
public import proofs.«01_k».proof.Proof.Gen.Kernel22Ideal.Skeleton
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Frame
public import proofs.«01_k».proof.Proof.Gen.Kernel23Ideal.Skeleton
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Frame
public import proofs.«01_k».proof.Proof.Gen.Kernel24Ideal.Skeleton
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25.Frame
public import proofs.«01_k».proof.Proof.Gen.Kernel25Ideal.Frame
public import proofs.«01_k».proof.Proof.Gen.Kernel25Ideal.Skeleton
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26.Frame
public import proofs.«01_k».proof.Proof.Gen.Kernel26Ideal.Frame
public import proofs.«01_k».proof.Proof.Gen.Kernel26Ideal.Skeleton
public import proofs.«01_k».proof.Proof.Gen.Kernel26Ideal.Value
public import proofs.«01_k».proof.Proof.Gen.Reference26Ideal.Run
public import proofs.«01_k».proof.Proof.Gen.Reference26Ideal.Read
public import proofs.«01_k».proof.Proof.Adam18
public import proofs.«01_k».proof.Proof.Adam19
public import proofs.«01_k».proof.Proof.Adam20
public import proofs.«01_k».proof.Proof.Adam21
public import proofs.«01_k».proof.Proof.Adam22
public import proofs.«01_k».proof.Proof.Adam23
public import proofs.«01_k».proof.Proof.Adam24
public import proofs.«01_k».proof.Proof.Adam25
public import proofs.«01_k».proof.Proof.Adam26
public import Idealize.ShloMosaic.Adequacy
public import Idealize.ShloMosaic.Init
public import proofs.«01_k».proof.Proof.FfnDwIn
public import proofs.«01_k».proof.Proof.FfnIn
public import proofs.«01_k».proof.Proof.Pre4
public import proofs.«01_k».proof.Proof.FfnDwOut
public import proofs.«01_k».proof.Proof.FfnOut
public import proofs.«01_k».proof.Proof.FfnDh
public import proofs.«01_k».proof.Proof.MixDw
public import proofs.«01_k».proof.Proof.MixDhm
public import proofs.«01_k».proof.Proof.MixQkv
public import proofs.«01_k».proof.Proof.MixDh
public import proofs.«01_k».proof.Proof.MixOut
public import proofs.«01_k».proof.Proof.MixDwOut
public import proofs.«01_k».proof.Proof.MixMerge
public import proofs.«01_k».proof.Proof.MixDmerged
public import proofs.«01_k».proof.Proof.MixBranch
public import proofs.«01_k».proof.Proof.NormFwd

@[expose] public section

set_option maxRecDepth 16384

noncomputable section

namespace Cert.Proof

open Idealize.ShloMosaic Idealize.SL.Sem

/-- The idealized kernel: every execution ends, the arguments and the counters as they were. -/
theorem frame_ideal : Cert.quiescent_KernelIdeal := fun m g _ => Cert.KernelIdeal.Gen.frame m g

theorem frame_ideal_finite : Cert.quiescent_KernelIdeal_pre_finite := fun m g _ => Cert.KernelIdeal.Gen.frame m g

/-- The same of the reference, which declares no semaphore. -/
theorem frame_reference : Cert.quiescent_ReferenceIdeal := fun m g _ =>
  (θ_run Cert.ReferenceIdeal.defs _ _).mono
    (fun r h => ⟨fun c => (h c).2.2.2.2, sem_eq_zero_of_no_sems (by decide) r.2⟩)
    (Cert.ReferenceIdeal.Value.run m g)

theorem frame_reference_finite : Cert.quiescent_ReferenceIdeal_pre_finite := fun m g _ => frame_reference m g trivial

/-- The one rewrite names the mask's constant. -/
theorem preserves : Cert.preserves_Kernel_KernelIdeal :=
  IdealRules.named_const.statement Cert.KernelIdeal.κ "mask" .f32 0xF149F2CA#32 ⊥ rfl

set_option maxHeartbeats 2000000 in
/-- The kernel's four results are the reference's. -/
theorem algebraic : Cert.algebraic_KernelIdeal_ReferenceIdeal_pre_finite := by
  intro m g m' g' hpre hagree
  refine ⟨fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N, ?_, ?_⟩
  · exact (θ_run Cert.KernelIdeal.defs _ _).mono (fun r h c => ⟨(h.1 c).1 7, (h.1 c).1 8, (h.1 c).1 9, (h.1 c).1 10, h.2 c⟩)
      (θ_run_and (Cert.KernelIdeal.Gen.run_main m g) (Cert.KernelIdeal.Gen.unchanged m g))
  · refine (θ_run Cert.ReferenceIdeal.defs _ _).mono (fun r h c => ?_) (Cert.ReferenceIdeal.Value.run m' g')
    obtain ⟨h0, h1, h2, h3, hargs⟩ := h c
    obtain ⟨e0, e1, e2⟩ := hagree c
    have hL := Cert.Pre_finite.Gen.sm_pos _ _ _ (hpre c)
    refine ⟨h0.trans ?_, h1.trans ?_, h2.trans ?_, h3.trans ?_, hargs⟩
    · rw [Cert.ReferenceIdeal.Read.val_main_v100_eq, e0, e1, e2]
      refine Eq.trans ?_ (Cert.KernelIdeal.Gen.final_dq m c).symm
      funext y
      exact (congrArg _ (eq_ix2 y)).trans (Cert.ReferenceIdeal.Read.at_dq _ _ _ hL (y 0) (y 1))
    · rw [Cert.ReferenceIdeal.Read.val_main_v103_eq, e0, e1, e2]
      refine Eq.trans ?_ (Cert.KernelIdeal.Gen.final_dk m c).symm
      funext y
      exact (congrArg _ (eq_ix4 y)).trans (Cert.ReferenceIdeal.Read.at_dk _ _ _ hL (y 0) (y 1) (y 2) (y 3))
    · rw [Cert.ReferenceIdeal.Read.val_main_v106_eq, e0, e1, e2]
      refine Eq.trans ?_ (Cert.KernelIdeal.Gen.final_dv m c).symm
      funext y
      exact (congrArg _ (eq_ix4 y)).trans (Cert.ReferenceIdeal.Read.at_dv _ _ _ hL (y 0) (y 1) (y 2) (y 3))
    · rw [Cert.ReferenceIdeal.Read.val_main_v99_eq, e0, e1, e2]
      refine Eq.trans ?_ (Cert.KernelIdeal.Gen.final_db m c).symm
      funext y
      exact (congrArg _ (eq_ix3 y)).trans (Cert.ReferenceIdeal.Read.at_db _ _ _ hL (y 0) (y 1) (y 2))

/-! ## The gradient of the feed-forward layer's first weights -/

theorem frame_kernel2 : Cert.quiescent_Kernel2 := fun m g _ => Cert.Kernel2.Gen.frame m g

theorem frame_ideal2 : Cert.quiescent_Kernel2Ideal := fun m g _ => Cert.Kernel2Ideal.Gen.frame m g

theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)

set_option maxHeartbeats 2000000 in
/-- Of the gradient of the feed-forward layer's first weights: the kernel's results are the reference's. -/
theorem algebraic2 : Cert.algebraic_Kernel2Ideal_Reference2Ideal := by
  intro m g m' g' _ hagree
  refine ⟨fun c => (Cert.Kernel2Ideal.Gen.dats m 0 c).arrAt 2 Cert.Kernel2Ideal.cfg0.N, Cert.Kernel2Ideal.Value.run_blocks m g, ?_⟩
  refine (θ_run Cert.Reference2Ideal.defs _ _).mono (fun r h c => ?_) (Cert.Reference2Ideal.Value.run m' g')
  obtain ⟨h0, hargs⟩ := h c
  obtain ⟨e0, e1⟩ := hagree c
  refine ⟨h0.trans ?_, hargs⟩
  rw [Cert.Reference2Ideal.Read.val_main_v4_eq, e0, e1]; exact (Cert.Kernel2Ideal.Value.final m c).symm

/-! ## The feed-forward layer's first half -/

theorem frame_kernel3 : Cert.quiescent_Kernel3 := fun m g _ => Cert.Kernel3.Gen.frame m g

theorem frame_ideal3 : Cert.quiescent_Kernel3Ideal := fun m g _ => Cert.Kernel3Ideal.Gen.frame m g

theorem frame_reference3 : Cert.quiescent_Reference3Ideal := fun m g _ =>
  (θ_run Cert.Reference3Ideal.defs _ _).mono (fun r h => ⟨fun c => (h c).2.2, sem_eq_zero_of_no_sems (by decide) r.2⟩)
    (Cert.Reference3Ideal.Value.run m g)

set_option maxHeartbeats 2000000 in
/-- Of the feed-forward layer's first half: the kernel's results are the reference's. -/
theorem algebraic3 : Cert.algebraic_Kernel3Ideal_Reference3Ideal := by
  intro m g m' g' _ hagree
  refine ⟨fun c => (Cert.Kernel3Ideal.Gen.dats m 0 c).arrAt 3 Cert.Kernel3Ideal.cfg0.N, fun c => (Cert.Kernel3Ideal.Gen.dats m 0 c).arrAt 4 Cert.Kernel3Ideal.cfg0.N, Cert.Kernel3Ideal.Value.run_blocks m g, ?_⟩
  refine (θ_run Cert.Reference3Ideal.defs _ _).mono (fun r h c => ?_) (Cert.Reference3Ideal.Value.run m' g')
  obtain ⟨h0, h1, hargs⟩ := h c
  obtain ⟨e0, e1⟩ := hagree c
  refine ⟨h0.trans ?_, h1.trans ?_, hargs⟩
  · rw [Cert.Reference3Ideal.Read.val_main_v10_eq, e0, e1]; exact (Cert.Kernel3Ideal.Value.final_gu m c).symm
  · rw [Cert.Reference3Ideal.Read.val_main_v13_eq, e0, e1]; exact (Cert.Kernel3Ideal.Value.final_act m c).symm

/-! ## The gradient of the gated activation -/

theorem frame_kernel4 : Cert.quiescent_Kernel4 := fun m g _ => Cert.Kernel4.Gen.frame m g

theorem frame_ideal4 : Cert.quiescent_Kernel4Ideal := fun m g _ => Cert.Kernel4Ideal.Gen.frame m g

theorem frame_reference4 : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

set_option maxHeartbeats 2000000 in
/-- Of the gradient of the gated activation: the kernel's results are the reference's. -/
theorem algebraic4 : Cert.algebraic_Kernel4Ideal_Reference4Ideal_pre_finite4 := by
  intro m g m' g' hpre hagree
  refine ⟨fun c => (Cert.Kernel4Ideal.Gen.dats m 0 c).arrAt 3 Cert.Kernel4Ideal.cfg0.N, Cert.Kernel4Ideal.Value.run_blocks m g, ?_⟩
  refine (θ_run Cert.Reference4Ideal.defs _ _).mono (fun r h c => ?_) (Cert.Reference4Ideal.Value.run m' g')
  obtain ⟨h0, hargs⟩ := h c
  obtain ⟨e0, e1, e2⟩ := hagree c
  have hr := Cert.Pre_finite4.Gen.real _ _ _ (hpre c)
  refine ⟨h0.trans ?_, hargs⟩
  rw [Cert.Reference4Ideal.Read.val_main_v16_eq, e0, e1, e2]; exact (Cert.Kernel4Ideal.Value.final m c hr).symm

/-! ## The gradient of the feed-forward layer's second weights -/

theorem frame_kernel5 : Cert.quiescent_Kernel5 := fun m g _ => Cert.Kernel5.Gen.frame m g

theorem frame_ideal5 : Cert.quiescent_Kernel5Ideal := fun m g _ => Cert.Kernel5Ideal.Gen.frame m g

theorem frame_reference5 : Cert.quiescent_Reference5Ideal := fun m g _ =>
  (θ_run Cert.Reference5Ideal.defs _ _).mono (fun r h => ⟨fun c => (h c).2, sem_eq_zero_of_no_sems (by decide) r.2⟩)
    (Cert.Reference5Ideal.Value.run m g)

set_option maxHeartbeats 2000000 in
/-- Of the gradient of the feed-forward layer's second weights: the kernel's results are the reference's. -/
theorem algebraic5 : Cert.algebraic_Kernel5Ideal_Reference5Ideal := by
  intro m g m' g' _ hagree
  refine ⟨fun c => (Cert.Kernel5Ideal.Gen.dats m 0 c).arrAt 2 Cert.Kernel5Ideal.cfg0.N, Cert.Kernel5Ideal.Value.run_blocks m g, ?_⟩
  refine (θ_run Cert.Reference5Ideal.defs _ _).mono (fun r h c => ?_) (Cert.Reference5Ideal.Value.run m' g')
  obtain ⟨h0, hargs⟩ := h c
  obtain ⟨e0, e1⟩ := hagree c
  refine ⟨h0.trans ?_, hargs⟩
  rw [Cert.Reference5Ideal.Read.val_main_v5_eq, e0, e1]; exact (Cert.Kernel5Ideal.Value.final m c).symm

/-! ## The feed-forward layer's second half -/

theorem frame_kernel6 : Cert.quiescent_Kernel6 := fun m g _ => Cert.Kernel6.Gen.frame m g

theorem frame_ideal6 : Cert.quiescent_Kernel6Ideal := fun m g _ => Cert.Kernel6Ideal.Gen.frame m g

theorem frame_reference6 : Cert.quiescent_Reference6Ideal := fun m g _ =>
  (θ_run Cert.Reference6Ideal.defs _ _).mono (fun r h => ⟨fun c => (h c).2, sem_eq_zero_of_no_sems (by decide) r.2⟩)
    (Cert.Reference6Ideal.Value.run m g)

set_option maxHeartbeats 2000000 in
/-- Of the feed-forward layer's second half: the kernel's results are the reference's. -/
theorem algebraic6 : Cert.algebraic_Kernel6Ideal_Reference6Ideal := by
  intro m g m' g' _ hagree
  refine ⟨fun c => (Cert.Kernel6Ideal.Gen.dats m 0 c).arrAt 3 Cert.Kernel6Ideal.cfg0.N, Cert.Kernel6Ideal.Value.run_blocks m g, ?_⟩
  refine (θ_run Cert.Reference6Ideal.defs _ _).mono (fun r h c => ?_) (Cert.Reference6Ideal.Value.run m' g')
  obtain ⟨h0, hargs⟩ := h c
  obtain ⟨e0, e1, e2⟩ := hagree c
  refine ⟨h0.trans ?_, hargs⟩
  rw [Cert.Reference6Ideal.Read.val_main_v3_eq, e0, e1, e2]; exact (Cert.Kernel6Ideal.Value.final m c).symm

/-! ## The gradient of the feed-forward layer's norm and projection -/

theorem frame_kernel7 : Cert.quiescent_Kernel7 := fun m g _ => Cert.Kernel7.Gen.frame m g

theorem frame_ideal7 : Cert.quiescent_Kernel7Ideal := fun m g _ => Cert.Kernel7Ideal.Gen.frame m g

theorem frame_reference7 : Cert.quiescent_Reference7Ideal := fun m g _ =>
  (θ_run Cert.Reference7Ideal.defs _ _).mono (fun r h => ⟨fun c => (h c).2.2, sem_eq_zero_of_no_sems (by decide) r.2⟩)
    (Cert.Reference7Ideal.Value.run m g)

set_option maxHeartbeats 2000000 in
/-- Of the gradient of the feed-forward layer's norm and projection: the kernel's results are the reference's. -/
theorem algebraic7 : Cert.algebraic_Kernel7Ideal_Reference7Ideal := by
  intro m g m' g' _ hagree
  refine ⟨fun c => (Cert.Kernel7Ideal.Gen.dats m 0 c).arrAt 5 Cert.Kernel7Ideal.cfg0.N, fun c => (Cert.Kernel7Ideal.Gen.dats m 0 c).arrAt 6 Cert.Kernel7Ideal.cfg0.N, Cert.Kernel7Ideal.Value.run_blocks m g, ?_⟩
  refine (θ_run Cert.Reference7Ideal.defs _ _).mono (fun r h c => ?_) (Cert.Reference7Ideal.Value.run m' g')
  obtain ⟨h0, h1, hargs⟩ := h c
  obtain ⟨e0, e1, e2, e3, e4⟩ := hagree c
  refine ⟨h0.trans ?_, h1.trans ?_, hargs⟩
  · rw [Cert.Reference7Ideal.Read.val_main_v38_eq, e0, e1, e2, e3, e4]; exact (Cert.Kernel7Ideal.Value.final_dx m c).symm
  · rw [Cert.Reference7Ideal.Read.val_main_v39_eq, e0, e2, e3]; exact (Cert.Kernel7Ideal.Value.final_dg m c).symm

/-! ## The gradient of the mixers' projection -/

theorem frame_kernel8 : Cert.quiescent_Kernel8 := fun m g _ => Cert.Kernel8.Gen.frame m g

theorem frame_ideal8 : Cert.quiescent_Kernel8Ideal := fun m g _ => Cert.Kernel8Ideal.Gen.frame m g

theorem frame_reference8 : Cert.quiescent_Reference8Ideal := fun m g _ =>
  (θ_run Cert.Reference8Ideal.defs _ _).mono (fun r h => ⟨fun c => (h c).2.2, sem_eq_zero_of_no_sems (by decide) r.2⟩)
    (Cert.Reference8Ideal.Value.run m g)

set_option maxHeartbeats 2000000 in
/-- Of the gradient of the mixers' projection: the kernel's results are the reference's. -/
theorem algebraic8 : Cert.algebraic_Kernel8Ideal_Reference8Ideal := by
  intro m g m' g' _ hagree
  refine ⟨fun c => (Cert.Kernel8Ideal.Gen.dats m 0 c).arrAt 2 Cert.Kernel8Ideal.cfg0.N, fun c => (Cert.Kernel8Ideal.Gen.dats m 0 c).arrAt 3 Cert.Kernel8Ideal.cfg0.N, Cert.Kernel8Ideal.Value.run_blocks m g, ?_⟩
  refine (θ_run Cert.Reference8Ideal.defs _ _).mono (fun r h c => ?_) (Cert.Reference8Ideal.Value.run m' g')
  obtain ⟨h0, h1, hargs⟩ := h c
  obtain ⟨e0, e1⟩ := hagree c
  refine ⟨h0.trans ?_, h1.trans ?_, hargs⟩
  · rw [Cert.Reference8Ideal.Read.val_main_v6_eq, e0, e1]; exact (Cert.Kernel8Ideal.Value.final_w m c).symm
  · rw [Cert.Reference8Ideal.Read.val_main_v7_eq, e1]; exact (Cert.Kernel8Ideal.Value.final_b m c).symm

/-! ## The gradient of the normed input through the mixers' projection -/

theorem frame_kernel9 : Cert.quiescent_Kernel9 := fun m g _ => Cert.Kernel9.Gen.frame m g

theorem frame_ideal9 : Cert.quiescent_Kernel9Ideal := fun m g _ => Cert.Kernel9Ideal.Gen.frame m g

theorem frame_reference9 : Cert.quiescent_Reference9Ideal := fun m g _ =>
  (θ_run Cert.Reference9Ideal.defs _ _).mono (fun r h => ⟨fun c => (h c).2, sem_eq_zero_of_no_sems (by decide) r.2⟩)
    (Cert.Reference9Ideal.Value.run m g)

set_option maxHeartbeats 2000000 in
/-- Of the gradient of the normed input through the mixers' projection: the kernel's results are the reference's. -/
theorem algebraic9 : Cert.algebraic_Kernel9Ideal_Reference9Ideal := by
  intro m g m' g' _ hagree
  refine ⟨fun c => (Cert.Kernel9Ideal.Gen.dats m 0 c).arrAt 2 Cert.Kernel9Ideal.cfg0.N, Cert.Kernel9Ideal.Value.run_blocks m g, ?_⟩
  refine (θ_run Cert.Reference9Ideal.defs _ _).mono (fun r h c => ?_) (Cert.Reference9Ideal.Value.run m' g')
  obtain ⟨h0, hargs⟩ := h c
  obtain ⟨e0, e1⟩ := hagree c
  refine ⟨h0.trans ?_, hargs⟩
  rw [Cert.Reference9Ideal.Read.val_main_v2_eq, e0, e1]; exact (Cert.Kernel9Ideal.Value.final m c).symm

/-! ## The mixers' projection to queries, keys and values -/

theorem frame_kernel10 : Cert.quiescent_Kernel10 := fun m g _ => Cert.Kernel10.Gen.frame m g

theorem frame_ideal10 : Cert.quiescent_Kernel10Ideal := fun m g _ => Cert.Kernel10Ideal.Gen.frame m g

theorem frame_reference10 : Cert.quiescent_Reference10Ideal := fun m g _ =>
  (θ_run Cert.Reference10Ideal.defs _ _).mono (fun r h => ⟨fun c => (h c).2.2, sem_eq_zero_of_no_sems (by decide) r.2⟩)
    (Cert.Reference10Ideal.Value.run m g)

set_option maxHeartbeats 2000000 in
/-- Of the mixers' projection to queries, keys and values: the kernel's results are the reference's. -/
theorem algebraic10 : Cert.algebraic_Kernel10Ideal_Reference10Ideal := by
  intro m g m' g' _ hagree
  refine ⟨fun c => (Cert.Kernel10Ideal.Gen.dats m 0 c).arrAt 4 Cert.Kernel10Ideal.cfg0.N, fun c => (Cert.Kernel10Ideal.Gen.dats m 0 c).arrAt 5 Cert.Kernel10Ideal.cfg0.N, Cert.Kernel10Ideal.Value.run_blocks m g, ?_⟩
  refine (θ_run Cert.Reference10Ideal.defs _ _).mono (fun r h c => ?_) (Cert.Reference10Ideal.Value.run m' g')
  obtain ⟨h0, h1, hargs⟩ := h c
  obtain ⟨e0, e1, e2, e3⟩ := hagree c
  refine ⟨h0.trans ?_, h1.trans ?_, hargs⟩
  · rw [Cert.Reference10Ideal.Read.val_main_v9_eq, e0, e1, e2, e3]; exact (Cert.Kernel10Ideal.Value.final m c).symm
  · rw [Cert.Reference10Ideal.Read.val_main_v10_eq, e0, e1, e2, e3]; exact (Cert.Kernel10Ideal.Value.final_t m c).symm

/-! ## The gradient of the mixers' norm -/

theorem frame_kernel11 : Cert.quiescent_Kernel11 := fun m g _ => Cert.Kernel11.Gen.frame m g

theorem frame_ideal11 : Cert.quiescent_Kernel11Ideal := fun m g _ => Cert.Kernel11Ideal.Gen.frame m g

theorem frame_reference11 : Cert.quiescent_Reference11Ideal := fun m g _ =>
  (θ_run Cert.Reference11Ideal.defs _ _).mono (fun r h => ⟨fun c => (h c).2.2, sem_eq_zero_of_no_sems (by decide) r.2⟩)
    (Cert.Reference11Ideal.Value.run m g)

set_option maxHeartbeats 2000000 in
/-- Of the gradient of the mixers' norm: the kernel's results are the reference's. -/
theorem algebraic11 : Cert.algebraic_Kernel11Ideal_Reference11Ideal := by
  intro m g m' g' _ hagree
  refine ⟨fun c => (Cert.Kernel11Ideal.Gen.dats m 0 c).arrAt 8 Cert.Kernel11Ideal.cfg0.N, fun c => (Cert.Kernel11Ideal.Gen.dats m 0 c).arrAt 9 Cert.Kernel11Ideal.cfg0.N, Cert.Kernel11Ideal.Value.run_blocks m g, ?_⟩
  refine (θ_run Cert.Reference11Ideal.defs _ _).mono (fun r h c => ?_) (Cert.Reference11Ideal.Value.run m' g')
  obtain ⟨h0, h1, hargs⟩ := h c
  obtain ⟨e0, e1, e2, e3, e4, e5, e6, e7⟩ := hagree c
  refine ⟨h0.trans ?_, h1.trans ?_, hargs⟩
  · rw [Cert.Reference11Ideal.Read.val_main_v45_eq, e0, e1, e2, e3, e4, e5, e6, e7]; exact (Cert.Kernel11Ideal.Value.final_dx m c).symm
  · rw [Cert.Reference11Ideal.Read.val_main_v46_eq, e0, e2, e3, e4, e5, e6]; exact (Cert.Kernel11Ideal.Value.final_dg m c).symm

/-! ## The mixers' output product -/

theorem frame_kernel12 : Cert.quiescent_Kernel12 := fun m g _ => Cert.Kernel12.Gen.frame m g

theorem frame_ideal12 : Cert.quiescent_Kernel12Ideal := fun m g _ => Cert.Kernel12Ideal.Gen.frame m g

theorem frame_reference12 : Cert.quiescent_Reference12Ideal := fun m g _ =>
  (θ_run Cert.Reference12Ideal.defs _ _).mono (fun r h => ⟨fun c => (h c).2, sem_eq_zero_of_no_sems (by decide) r.2⟩)
    (Cert.Reference12Ideal.Value.run m g)

set_option maxHeartbeats 2000000 in
/-- Of the mixers' output product: the kernel's results are the reference's. -/
theorem algebraic12 : Cert.algebraic_Kernel12Ideal_Reference12Ideal := by
  intro m g m' g' _ hagree
  refine ⟨fun c => (Cert.Kernel12Ideal.Gen.dats m 0 c).arrAt 3 Cert.Kernel12Ideal.cfg0.N, Cert.Kernel12Ideal.Value.run_blocks m g, ?_⟩
  refine (θ_run Cert.Reference12Ideal.defs _ _).mono (fun r h c => ?_) (Cert.Reference12Ideal.Value.run m' g')
  obtain ⟨h0, hargs⟩ := h c
  obtain ⟨e0, e1, e2⟩ := hagree c
  refine ⟨h0.trans ?_, hargs⟩
  rw [Cert.Reference12Ideal.Read.val_main_v1_eq, e0, e1, e2]; exact (Cert.Kernel12Ideal.Value.final m c).symm

/-! ## The gradient of the mixers' output weights -/

theorem frame_kernel13 : Cert.quiescent_Kernel13 := fun m g _ => Cert.Kernel13.Gen.frame m g

theorem frame_ideal13 : Cert.quiescent_Kernel13Ideal := fun m g _ => Cert.Kernel13Ideal.Gen.frame m g

theorem frame_reference13 : Cert.quiescent_Reference13Ideal := fun m g _ =>
  (θ_run Cert.Reference13Ideal.defs _ _).mono (fun r h => ⟨fun c => (h c).2, sem_eq_zero_of_no_sems (by decide) r.2⟩)
    (Cert.Reference13Ideal.Value.run m g)

set_option maxHeartbeats 2000000 in
/-- Of the gradient of the mixers' output weights: the kernel's results are the reference's. -/
theorem algebraic13 : Cert.algebraic_Kernel13Ideal_Reference13Ideal := by
  intro m g m' g' _ hagree
  refine ⟨fun c => (Cert.Kernel13Ideal.Gen.dats m 0 c).arrAt 2 Cert.Kernel13Ideal.cfg0.N, Cert.Kernel13Ideal.Value.run_blocks m g, ?_⟩
  refine (θ_run Cert.Reference13Ideal.defs _ _).mono (fun r h c => ?_) (Cert.Reference13Ideal.Value.run m' g')
  obtain ⟨h0, hargs⟩ := h c
  obtain ⟨e0, e1⟩ := hagree c
  refine ⟨h0.trans ?_, hargs⟩
  rw [Cert.Reference13Ideal.Read.val_main_v2_eq, e0, e1]; exact (Cert.Kernel13Ideal.Value.final m c).symm

/-! ## The branches and their gated sum -/

theorem frame_kernel14 : Cert.quiescent_Kernel14 := fun m g _ => Cert.Kernel14.Gen.frame m g

theorem frame_ideal14 : Cert.quiescent_Kernel14Ideal := fun m g _ => Cert.Kernel14Ideal.Gen.frame m g

theorem frame_reference14 : Cert.quiescent_Reference14Ideal := fun m g _ =>
  (θ_run Cert.Reference14Ideal.defs _ _).mono (fun r h => ⟨fun c => (h c).2.2.2.2, sem_eq_zero_of_no_sems (by decide) r.2⟩)
    (Cert.Reference14Ideal.Value.run m g)

set_option maxHeartbeats 2000000 in
/-- Of the branches and their gated sum: the kernel's results are the reference's. -/
theorem algebraic14 : Cert.algebraic_Kernel14Ideal_Reference14Ideal := by
  intro m g m' g' _ hagree
  refine ⟨fun c => (Cert.Kernel14Ideal.Gen.dats m 0 c).arrAt 5 Cert.Kernel14Ideal.cfg0.N, fun c => (Cert.Kernel14Ideal.Gen.dats m 0 c).arrAt 6 Cert.Kernel14Ideal.cfg0.N, fun c => (Cert.Kernel14Ideal.Gen.dats m 0 c).arrAt 7 Cert.Kernel14Ideal.cfg0.N, fun c => (Cert.Kernel14Ideal.Gen.dats m 0 c).arrAt 8 Cert.Kernel14Ideal.cfg0.N, Cert.Kernel14Ideal.Value.run_blocks m g, ?_⟩
  refine (θ_run Cert.Reference14Ideal.defs _ _).mono (fun r h c => ?_) (Cert.Reference14Ideal.Value.run m' g')
  obtain ⟨h0, h1, h2, h3, hargs⟩ := h c
  obtain ⟨e0, e1, e2, e3, e4⟩ := hagree c
  refine ⟨h0.trans ?_, h1.trans ?_, h2.trans ?_, h3.trans ?_, hargs⟩
  · rw [Cert.Reference14Ideal.Read.val_main_v6_eq, e0, e3]; exact (Cert.Kernel14Ideal.Value.final_a m c).symm
  · rw [Cert.Reference14Ideal.Read.val_main_v7_eq, e1, e3]; exact (Cert.Kernel14Ideal.Value.final_b m c).symm
  · rw [Cert.Reference14Ideal.Read.val_main_v8_eq, e2, e3]; exact (Cert.Kernel14Ideal.Value.final_c m c).symm
  · rw [Cert.Reference14Ideal.Read.val_main_v32_eq, e0, e1, e2, e3, e4]; exact (Cert.Kernel14Ideal.Value.final m c).symm

/-! ## The gradient of the gated sum -/

theorem frame_kernel15 : Cert.quiescent_Kernel15 := fun m g _ => Cert.Kernel15.Gen.frame m g

theorem frame_ideal15 : Cert.quiescent_Kernel15Ideal := fun m g _ => Cert.Kernel15Ideal.Gen.frame m g

theorem frame_reference15 : Cert.quiescent_Reference15Ideal := fun m g _ =>
  (θ_run Cert.Reference15Ideal.defs _ _).mono (fun r h => ⟨fun c => (h c).2.2.2.2, sem_eq_zero_of_no_sems (by decide) r.2⟩)
    (Cert.Reference15Ideal.Value.run m g)

set_option maxHeartbeats 2000000 in
/-- Of the gradient of the gated sum: the kernel's results are the reference's. -/
theorem algebraic15 : Cert.algebraic_Kernel15Ideal_Reference15Ideal := by
  intro m g m' g' _ hagree
  refine ⟨fun c => (Cert.Kernel15Ideal.Gen.dats m 0 c).arrAt 6 Cert.Kernel15Ideal.cfg0.N, fun c => (Cert.Kernel15Ideal.Gen.dats m 0 c).arrAt 7 Cert.Kernel15Ideal.cfg0.N, fun c => (Cert.Kernel15Ideal.Gen.dats m 0 c).arrAt 8 Cert.Kernel15Ideal.cfg0.N, fun c => (Cert.Kernel15Ideal.Gen.dats m 0 c).arrAt 9 Cert.Kernel15Ideal.cfg0.N, Cert.Kernel15Ideal.Value.run_blocks m g, ?_⟩
  refine (θ_run Cert.Reference15Ideal.defs _ _).mono (fun r h c => ?_) (Cert.Reference15Ideal.Value.run m' g')
  obtain ⟨h0, h1, h2, h3, hargs⟩ := h c
  obtain ⟨e0, e1, e2, e3, e4, e5⟩ := hagree c
  refine ⟨h0.trans ?_, h1.trans ?_, h2.trans ?_, h3.trans ?_, hargs⟩
  · rw [Cert.Reference15Ideal.Read.val_main_v47_eq, e0, e1, e2, e3, e4, e5]; exact (Cert.Kernel15Ideal.Value.final m c).symm
  · rw [Cert.Reference15Ideal.Read.val_main_v48_eq, e0, e1, e2]; exact (Cert.Kernel15Ideal.Value.final_a m c).symm
  · rw [Cert.Reference15Ideal.Read.val_main_v49_eq, e0, e1, e2]; exact (Cert.Kernel15Ideal.Value.final_b m c).symm
  · rw [Cert.Reference15Ideal.Read.val_main_v50_eq, e0, e1, e2]; exact (Cert.Kernel15Ideal.Value.final_c m c).symm

/-! ## The gradient of the branches -/

theorem frame_kernel16 : Cert.quiescent_Kernel16 := fun m g _ => Cert.Kernel16.Gen.frame m g

theorem frame_ideal16 : Cert.quiescent_Kernel16Ideal := fun m g _ => Cert.Kernel16Ideal.Gen.frame m g

theorem frame_reference16 : Cert.quiescent_Reference16Ideal := fun m g _ =>
  (θ_run Cert.Reference16Ideal.defs _ _).mono (fun r h => ⟨fun c => (h c).2.2.2, sem_eq_zero_of_no_sems (by decide) r.2⟩)
    (Cert.Reference16Ideal.Value.run m g)

set_option maxHeartbeats 2000000 in
/-- Of the gradient of the branches: the kernel's results are the reference's. -/
theorem algebraic16 : Cert.algebraic_Kernel16Ideal_Reference16Ideal := by
  intro m g m' g' _ hagree
  refine ⟨fun c => (Cert.Kernel16Ideal.Gen.dats m 0 c).arrAt 7 Cert.Kernel16Ideal.cfg0.N, fun c => (Cert.Kernel16Ideal.Gen.dats m 0 c).arrAt 8 Cert.Kernel16Ideal.cfg0.N, fun c => (Cert.Kernel16Ideal.Gen.dats m 0 c).arrAt 9 Cert.Kernel16Ideal.cfg0.N, Cert.Kernel16Ideal.Value.run_blocks m g, ?_⟩
  refine (θ_run Cert.Reference16Ideal.defs _ _).mono (fun r h c => ?_) (Cert.Reference16Ideal.Value.run m' g')
  obtain ⟨h0, h1, h2, hargs⟩ := h c
  obtain ⟨e0, e1, e2, e3, e4, e5, e6⟩ := hagree c
  refine ⟨h0.trans ?_, h1.trans ?_, h2.trans ?_, hargs⟩
  · rw [Cert.Reference16Ideal.Read.val_main_v17_eq, e0, e1, e2, e6]; exact (Cert.Kernel16Ideal.Value.final m c).symm
  · rw [Cert.Reference16Ideal.Read.val_main_v18_eq, e0, e1, e2, e6]; exact (Cert.Kernel16Ideal.Value.final_t m c).symm
  · rw [Cert.Reference16Ideal.Read.val_main_v19_eq, e0, e1, e2, e3, e4, e5]; exact (Cert.Kernel16Ideal.Value.final_w m c).symm

/-! ## The norm -/

theorem frame_kernel17 : Cert.quiescent_Kernel17 := fun m g _ => Cert.Kernel17.Gen.frame m g

theorem frame_ideal17 : Cert.quiescent_Kernel17Ideal := fun m g _ => Cert.Kernel17Ideal.Gen.frame m g

theorem frame_reference17 : Cert.quiescent_Reference17Ideal := fun m g _ =>
  (θ_run Cert.Reference17Ideal.defs _ _).mono (fun r h => ⟨fun c => (h c).2, sem_eq_zero_of_no_sems (by decide) r.2⟩)
    (Cert.Reference17Ideal.Value.run m g)

set_option maxHeartbeats 2000000 in
/-- Of the norm: the kernel's results are the reference's. -/
theorem algebraic17 : Cert.algebraic_Kernel17Ideal_Reference17Ideal := by
  intro m g m' g' _ hagree
  refine ⟨fun c => (Cert.Kernel17Ideal.Gen.dats m 0 c).arrAt 2 Cert.Kernel17Ideal.cfg0.N, Cert.Kernel17Ideal.Value.run_blocks m g, ?_⟩
  refine (θ_run Cert.Reference17Ideal.defs _ _).mono (fun r h c => ?_) (Cert.Reference17Ideal.Value.run m' g')
  obtain ⟨h0, hargs⟩ := h c
  obtain ⟨e0, e1⟩ := hagree c
  refine ⟨h0.trans ?_, hargs⟩
  rw [Cert.Reference17Ideal.Read.val_main_v13_eq, e0, e1]; exact (Cert.Kernel17Ideal.Value.final m c).symm

/-! ## The optimiser's step of the feed-forward layers' first weights -/

theorem frame_kernel18 : Cert.quiescent_Kernel18 := fun m g _ => Cert.Kernel18.Gen.frame m g

theorem frame_ideal18 : Cert.quiescent_Kernel18Ideal := fun m g _ => Cert.Kernel18Ideal.Gen.frame m g

theorem frame_reference18 : Cert.quiescent_Reference18Ideal := fun m g _ =>
  (θ_run Cert.Reference18Ideal.defs _ _).mono (fun r h => ⟨fun c => (h c).2.2.2.2, sem_eq_zero_of_no_sems (by decide) r.2⟩)
    (Cert.Reference18Ideal.Value.run m g)

/-- The two rewrites name the reciprocals of the bias corrections. -/
theorem preserves18 : Cert.preserves_Kernel18_Kernel18Ideal :=
  ⟨IdealRules.named_const.statement Cert.Kernel18Ideal.κ "c1" .f32 0x3FC48605#32 ((8388608 / 5463681 : ℝ) : EReal) rfl,
    IdealRules.named_const.statement Cert.Kernel18Ideal.κ "c2" .f32 0x42C8E6D3#32 ((268435456 / 2672307 : ℝ) : EReal) rfl⟩

set_option maxHeartbeats 2000000 in
/-- Of the optimiser's step of the feed-forward layers' first weights: the kernel's results are the reference's. -/
theorem algebraic18 : Cert.algebraic_Kernel18Ideal_Reference18Ideal := by
  intro m g m' g' _ hagree
  refine ⟨fun c => (Cert.Kernel18Ideal.Gen.dats m 0 c).arrAt 5 Cert.Kernel18Ideal.cfg0.N, fun c => (Cert.Kernel18Ideal.Gen.dats m 0 c).arrAt 6 Cert.Kernel18Ideal.cfg0.N, fun c => (Cert.Kernel18Ideal.Gen.dats m 0 c).arrAt 7 Cert.Kernel18Ideal.cfg0.N, fun c => (Cert.Kernel18Ideal.Gen.dats m 0 c).arrAt 8 Cert.Kernel18Ideal.cfg0.N, Cert.Kernel18Ideal.Value.run_blocks m g, ?_⟩
  refine (θ_run Cert.Reference18Ideal.defs _ _).mono (fun r h c => ?_) (Cert.Reference18Ideal.Value.run m' g')
  obtain ⟨h0, h1, h2, h3, hargs⟩ := h c
  obtain ⟨e0, e1, e2, e3, e4⟩ := hagree c
  refine ⟨h0.trans ?_, h1.trans ?_, h2.trans ?_, h3.trans ?_, hargs⟩
  · rw [Cert.Reference18Ideal.Read.val_main_v31_eq, e0, e1]; exact (Cert.Kernel18Ideal.Value.final_g m c).symm
  · rw [Cert.Reference18Ideal.Read.val_main_v32_eq, e0, e1, e2, e3, e4]; exact (Cert.Kernel18Ideal.Value.final_d m c).symm
  · rw [Cert.Reference18Ideal.Read.val_main_v33_eq, e0, e1, e3]; exact (Cert.Kernel18Ideal.Value.final_m m c).symm
  · rw [Cert.Reference18Ideal.Read.val_main_v34_eq, e0, e1, e4]; exact (Cert.Kernel18Ideal.Value.final_v m c).symm

/-! ## The optimiser's step of the feed-forward layers' second weights -/

theorem frame_kernel19 : Cert.quiescent_Kernel19 := fun m g _ => Cert.Kernel19.Gen.frame m g

theorem frame_ideal19 : Cert.quiescent_Kernel19Ideal := fun m g _ => Cert.Kernel19Ideal.Gen.frame m g

theorem frame_reference19 : Cert.quiescent_Reference19Ideal := fun m g _ =>
  (θ_run Cert.Reference19Ideal.defs _ _).mono (fun r h => ⟨fun c => (h c).2.2.2.2, sem_eq_zero_of_no_sems (by decide) r.2⟩)
    (Cert.Reference19Ideal.Value.run m g)

/-- The two rewrites name the reciprocals of the bias corrections. -/
theorem preserves19 : Cert.preserves_Kernel19_Kernel19Ideal :=
  ⟨IdealRules.named_const.statement Cert.Kernel19Ideal.κ "c1" .f32 0x3FC48605#32 ((8388608 / 5463681 : ℝ) : EReal) rfl,
    IdealRules.named_const.statement Cert.Kernel19Ideal.κ "c2" .f32 0x42C8E6D3#32 ((268435456 / 2672307 : ℝ) : EReal) rfl⟩

set_option maxHeartbeats 2000000 in
/-- Of the optimiser's step of the feed-forward layers' second weights: the kernel's results are the reference's. -/
theorem algebraic19 : Cert.algebraic_Kernel19Ideal_Reference19Ideal := by
  intro m g m' g' _ hagree
  refine ⟨fun c => (Cert.Kernel19Ideal.Gen.dats m 0 c).arrAt 5 Cert.Kernel19Ideal.cfg0.N, fun c => (Cert.Kernel19Ideal.Gen.dats m 0 c).arrAt 6 Cert.Kernel19Ideal.cfg0.N, fun c => (Cert.Kernel19Ideal.Gen.dats m 0 c).arrAt 7 Cert.Kernel19Ideal.cfg0.N, fun c => (Cert.Kernel19Ideal.Gen.dats m 0 c).arrAt 8 Cert.Kernel19Ideal.cfg0.N, Cert.Kernel19Ideal.Value.run_blocks m g, ?_⟩
  refine (θ_run Cert.Reference19Ideal.defs _ _).mono (fun r h c => ?_) (Cert.Reference19Ideal.Value.run m' g')
  obtain ⟨h0, h1, h2, h3, hargs⟩ := h c
  obtain ⟨e0, e1, e2, e3, e4⟩ := hagree c
  refine ⟨h0.trans ?_, h1.trans ?_, h2.trans ?_, h3.trans ?_, hargs⟩
  · rw [Cert.Reference19Ideal.Read.val_main_v4_eq, e0, e1]; exact (Cert.Kernel19Ideal.Value.final_g m c).symm
  · rw [Cert.Reference19Ideal.Read.val_main_v28_eq, e0, e1, e2, e3, e4]; exact (Cert.Kernel19Ideal.Value.final_d m c).symm
  · rw [Cert.Reference19Ideal.Read.val_main_v9_eq, e0, e1, e3]; exact (Cert.Kernel19Ideal.Value.final_m m c).symm
  · rw [Cert.Reference19Ideal.Read.val_main_v15_eq, e0, e1, e4]; exact (Cert.Kernel19Ideal.Value.final_v m c).symm

/-! ## The optimiser's step of the mixers' output weights -/

theorem frame_kernel20 : Cert.quiescent_Kernel20 := fun m g _ => Cert.Kernel20.Gen.frame m g

theorem frame_ideal20 : Cert.quiescent_Kernel20Ideal := fun m g _ => Cert.Kernel20Ideal.Gen.frame m g

theorem frame_reference20 : Cert.quiescent_Reference20Ideal := fun m g _ =>
  (θ_run Cert.Reference20Ideal.defs _ _).mono (fun r h => ⟨fun c => (h c).2.2.2.2, sem_eq_zero_of_no_sems (by decide) r.2⟩)
    (Cert.Reference20Ideal.Value.run m g)

/-- The two rewrites name the reciprocals of the bias corrections. -/
theorem preserves20 : Cert.preserves_Kernel20_Kernel20Ideal :=
  ⟨IdealRules.named_const.statement Cert.Kernel20Ideal.κ "c1" .f32 0x3FC48605#32 ((8388608 / 5463681 : ℝ) : EReal) rfl,
    IdealRules.named_const.statement Cert.Kernel20Ideal.κ "c2" .f32 0x42C8E6D3#32 ((268435456 / 2672307 : ℝ) : EReal) rfl⟩

set_option maxHeartbeats 2000000 in
/-- Of the optimiser's step of the mixers' output weights: the kernel's results are the reference's. -/
theorem algebraic20 : Cert.algebraic_Kernel20Ideal_Reference20Ideal := by
  intro m g m' g' _ hagree
  refine ⟨fun c => (Cert.Kernel20Ideal.Gen.dats m 0 c).arrAt 5 Cert.Kernel20Ideal.cfg0.N, fun c => (Cert.Kernel20Ideal.Gen.dats m 0 c).arrAt 6 Cert.Kernel20Ideal.cfg0.N, fun c => (Cert.Kernel20Ideal.Gen.dats m 0 c).arrAt 7 Cert.Kernel20Ideal.cfg0.N, fun c => (Cert.Kernel20Ideal.Gen.dats m 0 c).arrAt 8 Cert.Kernel20Ideal.cfg0.N, Cert.Kernel20Ideal.Value.run_blocks m g, ?_⟩
  refine (θ_run Cert.Reference20Ideal.defs _ _).mono (fun r h c => ?_) (Cert.Reference20Ideal.Value.run m' g')
  obtain ⟨h0, h1, h2, h3, hargs⟩ := h c
  obtain ⟨e0, e1, e2, e3, e4⟩ := hagree c
  refine ⟨h0.trans ?_, h1.trans ?_, h2.trans ?_, h3.trans ?_, hargs⟩
  · rw [Cert.Reference20Ideal.Read.val_main_v4_eq, e0, e1]; exact (Cert.Kernel20Ideal.Value.final_g m c).symm
  · rw [Cert.Reference20Ideal.Read.val_main_v28_eq, e0, e1, e2, e3, e4]; exact (Cert.Kernel20Ideal.Value.final_d m c).symm
  · rw [Cert.Reference20Ideal.Read.val_main_v9_eq, e0, e1, e3]; exact (Cert.Kernel20Ideal.Value.final_m m c).symm
  · rw [Cert.Reference20Ideal.Read.val_main_v15_eq, e0, e1, e4]; exact (Cert.Kernel20Ideal.Value.final_v m c).symm

/-! ## The optimiser's step of the stick-breaking branch's weights -/

theorem frame_kernel21 : Cert.quiescent_Kernel21 := fun m g _ => Cert.Kernel21.Gen.frame m g

theorem frame_ideal21 : Cert.quiescent_Kernel21Ideal := fun m g _ => Cert.Kernel21Ideal.Gen.frame m g

theorem frame_reference21 : Cert.quiescent_Reference21Ideal := fun m g _ =>
  (θ_run Cert.Reference21Ideal.defs _ _).mono (fun r h => ⟨fun c => (h c).2.2.2.2, sem_eq_zero_of_no_sems (by decide) r.2⟩)
    (Cert.Reference21Ideal.Value.run m g)

/-- The two rewrites name the reciprocals of the bias corrections. -/
theorem preserves21 : Cert.preserves_Kernel21_Kernel21Ideal :=
  ⟨IdealRules.named_const.statement Cert.Kernel21Ideal.κ "c1" .f32 0x3FC48605#32 ((8388608 / 5463681 : ℝ) : EReal) rfl,
    IdealRules.named_const.statement Cert.Kernel21Ideal.κ "c2" .f32 0x42C8E6D3#32 ((268435456 / 2672307 : ℝ) : EReal) rfl⟩

set_option maxHeartbeats 2000000 in
/-- Of the optimiser's step of the stick-breaking branch's weights: the kernel's results are the reference's. -/
theorem algebraic21 : Cert.algebraic_Kernel21Ideal_Reference21Ideal := by
  intro m g m' g' _ hagree
  refine ⟨fun c => (Cert.Kernel21Ideal.Gen.dats m 0 c).arrAt 5 Cert.Kernel21Ideal.cfg0.N, fun c => (Cert.Kernel21Ideal.Gen.dats m 0 c).arrAt 6 Cert.Kernel21Ideal.cfg0.N, fun c => (Cert.Kernel21Ideal.Gen.dats m 0 c).arrAt 7 Cert.Kernel21Ideal.cfg0.N, fun c => (Cert.Kernel21Ideal.Gen.dats m 0 c).arrAt 8 Cert.Kernel21Ideal.cfg0.N, Cert.Kernel21Ideal.Value.run_blocks m g, ?_⟩
  refine (θ_run Cert.Reference21Ideal.defs _ _).mono (fun r h c => ?_) (Cert.Reference21Ideal.Value.run m' g')
  obtain ⟨h0, h1, h2, h3, hargs⟩ := h c
  obtain ⟨e0, e1, e2, e3, e4⟩ := hagree c
  refine ⟨h0.trans ?_, h1.trans ?_, h2.trans ?_, h3.trans ?_, hargs⟩
  · rw [Cert.Reference21Ideal.Read.val_main_v5_eq, e0, e1]; exact (Cert.Kernel21Ideal.Value.final_g m c).symm
  · rw [Cert.Reference21Ideal.Read.val_main_v29_eq, e0, e1, e2, e3, e4]; exact (Cert.Kernel21Ideal.Value.final_d m c).symm
  · rw [Cert.Reference21Ideal.Read.val_main_v10_eq, e0, e1, e3]; exact (Cert.Kernel21Ideal.Value.final_m m c).symm
  · rw [Cert.Reference21Ideal.Read.val_main_v16_eq, e0, e1, e4]; exact (Cert.Kernel21Ideal.Value.final_v m c).symm

/-! ## The optimiser's step of the chunked branch's weights -/

theorem frame_kernel22 : Cert.quiescent_Kernel22 := fun m g _ => Cert.Kernel22.Gen.frame m g

theorem frame_ideal22 : Cert.quiescent_Kernel22Ideal := fun m g _ => Cert.Kernel22Ideal.Gen.frame m g

theorem frame_reference22 : Cert.quiescent_Reference22Ideal := fun m g _ =>
  (θ_run Cert.Reference22Ideal.defs _ _).mono (fun r h => ⟨fun c => (h c).2.2.2.2, sem_eq_zero_of_no_sems (by decide) r.2⟩)
    (Cert.Reference22Ideal.Value.run m g)

/-- The two rewrites name the reciprocals of the bias corrections. -/
theorem preserves22 : Cert.preserves_Kernel22_Kernel22Ideal :=
  ⟨IdealRules.named_const.statement Cert.Kernel22Ideal.κ "c1" .f32 0x3FC48605#32 ((8388608 / 5463681 : ℝ) : EReal) rfl,
    IdealRules.named_const.statement Cert.Kernel22Ideal.κ "c2" .f32 0x42C8E6D3#32 ((268435456 / 2672307 : ℝ) : EReal) rfl⟩

set_option maxHeartbeats 2000000 in
/-- Of the optimiser's step of the chunked branch's weights: the kernel's results are the reference's. -/
theorem algebraic22 : Cert.algebraic_Kernel22Ideal_Reference22Ideal := by
  intro m g m' g' _ hagree
  refine ⟨fun c => (Cert.Kernel22Ideal.Gen.dats m 0 c).arrAt 5 Cert.Kernel22Ideal.cfg0.N, fun c => (Cert.Kernel22Ideal.Gen.dats m 0 c).arrAt 6 Cert.Kernel22Ideal.cfg0.N, fun c => (Cert.Kernel22Ideal.Gen.dats m 0 c).arrAt 7 Cert.Kernel22Ideal.cfg0.N, fun c => (Cert.Kernel22Ideal.Gen.dats m 0 c).arrAt 8 Cert.Kernel22Ideal.cfg0.N, Cert.Kernel22Ideal.Value.run_blocks m g, ?_⟩
  refine (θ_run Cert.Reference22Ideal.defs _ _).mono (fun r h c => ?_) (Cert.Reference22Ideal.Value.run m' g')
  obtain ⟨h0, h1, h2, h3, hargs⟩ := h c
  obtain ⟨e0, e1, e2, e3, e4⟩ := hagree c
  refine ⟨h0.trans ?_, h1.trans ?_, h2.trans ?_, h3.trans ?_, hargs⟩
  · rw [Cert.Reference22Ideal.Read.val_main_v5_eq, e0, e1]; exact (Cert.Kernel22Ideal.Value.final_g m c).symm
  · rw [Cert.Reference22Ideal.Read.val_main_v29_eq, e0, e1, e2, e3, e4]; exact (Cert.Kernel22Ideal.Value.final_d m c).symm
  · rw [Cert.Reference22Ideal.Read.val_main_v10_eq, e0, e1, e3]; exact (Cert.Kernel22Ideal.Value.final_m m c).symm
  · rw [Cert.Reference22Ideal.Read.val_main_v16_eq, e0, e1, e4]; exact (Cert.Kernel22Ideal.Value.final_v m c).symm

/-! ## The optimiser's step of the forgetting branch's weights -/

theorem frame_kernel23 : Cert.quiescent_Kernel23 := fun m g _ => Cert.Kernel23.Gen.frame m g

theorem frame_ideal23 : Cert.quiescent_Kernel23Ideal := fun m g _ => Cert.Kernel23Ideal.Gen.frame m g

theorem frame_reference23 : Cert.quiescent_Reference23Ideal := fun m g _ =>
  (θ_run Cert.Reference23Ideal.defs _ _).mono (fun r h => ⟨fun c => (h c).2.2.2.2, sem_eq_zero_of_no_sems (by decide) r.2⟩)
    (Cert.Reference23Ideal.Value.run m g)

/-- The two rewrites name the reciprocals of the bias corrections. -/
theorem preserves23 : Cert.preserves_Kernel23_Kernel23Ideal :=
  ⟨IdealRules.named_const.statement Cert.Kernel23Ideal.κ "c1" .f32 0x3FC48605#32 ((8388608 / 5463681 : ℝ) : EReal) rfl,
    IdealRules.named_const.statement Cert.Kernel23Ideal.κ "c2" .f32 0x42C8E6D3#32 ((268435456 / 2672307 : ℝ) : EReal) rfl⟩

set_option maxHeartbeats 2000000 in
/-- Of the optimiser's step of the forgetting branch's weights: the kernel's results are the reference's. -/
theorem algebraic23 : Cert.algebraic_Kernel23Ideal_Reference23Ideal := by
  intro m g m' g' _ hagree
  refine ⟨fun c => (Cert.Kernel23Ideal.Gen.dats m 0 c).arrAt 5 Cert.Kernel23Ideal.cfg0.N, fun c => (Cert.Kernel23Ideal.Gen.dats m 0 c).arrAt 6 Cert.Kernel23Ideal.cfg0.N, fun c => (Cert.Kernel23Ideal.Gen.dats m 0 c).arrAt 7 Cert.Kernel23Ideal.cfg0.N, fun c => (Cert.Kernel23Ideal.Gen.dats m 0 c).arrAt 8 Cert.Kernel23Ideal.cfg0.N, Cert.Kernel23Ideal.Value.run_blocks m g, ?_⟩
  refine (θ_run Cert.Reference23Ideal.defs _ _).mono (fun r h c => ?_) (Cert.Reference23Ideal.Value.run m' g')
  obtain ⟨h0, h1, h2, h3, hargs⟩ := h c
  obtain ⟨e0, e1, e2, e3, e4⟩ := hagree c
  refine ⟨h0.trans ?_, h1.trans ?_, h2.trans ?_, h3.trans ?_, hargs⟩
  · rw [Cert.Reference23Ideal.Read.val_main_v5_eq, e0, e1]; exact (Cert.Kernel23Ideal.Value.final_g m c).symm
  · rw [Cert.Reference23Ideal.Read.val_main_v29_eq, e0, e1, e2, e3, e4]; exact (Cert.Kernel23Ideal.Value.final_d m c).symm
  · rw [Cert.Reference23Ideal.Read.val_main_v10_eq, e0, e1, e3]; exact (Cert.Kernel23Ideal.Value.final_m m c).symm
  · rw [Cert.Reference23Ideal.Read.val_main_v16_eq, e0, e1, e4]; exact (Cert.Kernel23Ideal.Value.final_v m c).symm

/-! ## The optimiser's step of the mixers' first projection -/

theorem frame_kernel24 : Cert.quiescent_Kernel24 := fun m g _ => Cert.Kernel24.Gen.frame m g

theorem frame_ideal24 : Cert.quiescent_Kernel24Ideal := fun m g _ => Cert.Kernel24Ideal.Gen.frame m g

theorem frame_reference24 : Cert.quiescent_Reference24Ideal := fun m g _ =>
  (θ_run Cert.Reference24Ideal.defs _ _).mono (fun r h => ⟨fun c => (h c).2.2.2.2, sem_eq_zero_of_no_sems (by decide) r.2⟩)
    (Cert.Reference24Ideal.Value.run m g)

/-- The two rewrites name the reciprocals of the bias corrections. -/
theorem preserves24 : Cert.preserves_Kernel24_Kernel24Ideal :=
  ⟨IdealRules.named_const.statement Cert.Kernel24Ideal.κ "c1" .f32 0x3FC48605#32 ((8388608 / 5463681 : ℝ) : EReal) rfl,
    IdealRules.named_const.statement Cert.Kernel24Ideal.κ "c2" .f32 0x42C8E6D3#32 ((268435456 / 2672307 : ℝ) : EReal) rfl⟩

set_option maxHeartbeats 2000000 in
/-- Of the optimiser's step of the mixers' first projection: the kernel's results are the reference's. -/
theorem algebraic24 : Cert.algebraic_Kernel24Ideal_Reference24Ideal := by
  intro m g m' g' _ hagree
  refine ⟨fun c => (Cert.Kernel24Ideal.Gen.dats m 0 c).arrAt 4 Cert.Kernel24Ideal.cfg0.N, fun c => (Cert.Kernel24Ideal.Gen.dats m 0 c).arrAt 5 Cert.Kernel24Ideal.cfg0.N, fun c => (Cert.Kernel24Ideal.Gen.dats m 0 c).arrAt 6 Cert.Kernel24Ideal.cfg0.N, fun c => (Cert.Kernel24Ideal.Gen.dats m 0 c).arrAt 7 Cert.Kernel24Ideal.cfg0.N, Cert.Kernel24Ideal.Value.run_blocks m g, ?_⟩
  refine (θ_run Cert.Reference24Ideal.defs _ _).mono (fun r h c => ?_) (Cert.Reference24Ideal.Value.run m' g')
  obtain ⟨h0, h1, h2, h3, hargs⟩ := h c
  obtain ⟨e0, e1, e2, e3⟩ := hagree c
  refine ⟨h0.trans ?_, h1.trans ?_, h2.trans ?_, h3.trans ?_, hargs⟩
  · rw [Cert.Reference24Ideal.Read.val_main_v24_eq, e0]; exact (Cert.Kernel24Ideal.Value.final_g m c).symm
  · rw [Cert.Reference24Ideal.Read.val_main_v25_eq, e0, e1, e2, e3]; exact (Cert.Kernel24Ideal.Value.final_d m c).symm
  · rw [Cert.Reference24Ideal.Read.val_main_v26_eq, e0, e2]; exact (Cert.Kernel24Ideal.Value.final_m m c).symm
  · rw [Cert.Reference24Ideal.Read.val_main_v27_eq, e0, e3]; exact (Cert.Kernel24Ideal.Value.final_v m c).symm

/-! ## The optimiser's step of the small weights -/

theorem frame_kernel25 : Cert.quiescent_Kernel25 := fun m g _ => Cert.Kernel25.Gen.frame m g

theorem frame_ideal25 : Cert.quiescent_Kernel25Ideal := fun m g _ => Cert.Kernel25Ideal.Gen.frame m g

theorem frame_reference25 : Cert.quiescent_Reference25Ideal := fun m g _ =>
  (θ_run Cert.Reference25Ideal.defs _ _).mono (fun r h => ⟨fun c => (h c).2.2.2.2, sem_eq_zero_of_no_sems (by decide) r.2⟩)
    (Cert.Reference25Ideal.Value.run m g)

/-- The two rewrites name the reciprocals of the bias corrections. -/
theorem preserves25 : Cert.preserves_Kernel25_Kernel25Ideal :=
  ⟨IdealRules.named_const.statement Cert.Kernel25Ideal.κ "c1" .f32 0x3FC48605#32 ((8388608 / 5463681 : ℝ) : EReal) rfl,
    IdealRules.named_const.statement Cert.Kernel25Ideal.κ "c2" .f32 0x42C8E6D3#32 ((268435456 / 2672307 : ℝ) : EReal) rfl⟩

set_option maxHeartbeats 2000000 in
/-- Of the optimiser's step of the small weights: the kernel's results are the reference's. -/
theorem algebraic25 : Cert.algebraic_Kernel25Ideal_Reference25Ideal := by
  intro m g m' g' _ hagree
  refine ⟨fun c => (Cert.Kernel25Ideal.Gen.dats m 0 c).arrAt 4 Cert.Kernel25Ideal.cfg0.N, fun c => (Cert.Kernel25Ideal.Gen.dats m 0 c).arrAt 5 Cert.Kernel25Ideal.cfg0.N, fun c => (Cert.Kernel25Ideal.Gen.dats m 0 c).arrAt 6 Cert.Kernel25Ideal.cfg0.N, fun c => (Cert.Kernel25Ideal.Gen.dats m 0 c).arrAt 7 Cert.Kernel25Ideal.cfg0.N, Cert.Kernel25Ideal.Value.run_blocks m g, ?_⟩
  refine (θ_run Cert.Reference25Ideal.defs _ _).mono (fun r h c => ?_) (Cert.Reference25Ideal.Value.run m' g')
  obtain ⟨h0, h1, h2, h3, hargs⟩ := h c
  obtain ⟨e0, e1, e2, e3⟩ := hagree c
  refine ⟨h0.trans ?_, h1.trans ?_, h2.trans ?_, h3.trans ?_, hargs⟩
  · exact e0.trans (Cert.Kernel25Ideal.Value.final_g m c).symm
  · rw [Cert.Reference25Ideal.Read.val_main_v23_eq, e0, e1, e2, e3]; exact (Cert.Kernel25Ideal.Value.final_d m c).symm
  · rw [Cert.Reference25Ideal.Read.val_main_v4_eq, e0, e2]; exact (Cert.Kernel25Ideal.Value.final_m m c).symm
  · rw [Cert.Reference25Ideal.Read.val_main_v10_eq, e0, e3]; exact (Cert.Kernel25Ideal.Value.final_v m c).symm

/-! ## The sums of the devices' gradients of the mixers' first projection -/

theorem frame_kernel26 : Cert.quiescent_Kernel26 := fun m g _ => Cert.Kernel26.Gen.frame m g

theorem frame_ideal26 : Cert.quiescent_Kernel26Ideal := fun m g _ => Cert.Kernel26Ideal.Gen.frame m g

theorem frame_reference26 : Cert.quiescent_Reference26Ideal := fun m g _ =>
  (θ_run Cert.Reference26Ideal.defs _ _).mono (fun r h => ⟨fun c => (h c).2.2.2, sem_eq_zero_of_no_sems (by decide) r.2⟩)
    (Cert.Reference26Ideal.Value.run m g)

set_option maxHeartbeats 2000000 in
/-- Of the sums of the devices' gradients of the mixers' first projection: the kernel's results are the reference's. -/
theorem algebraic26 : Cert.algebraic_Kernel26Ideal_Reference26Ideal := by
  intro m g m' g' _ hagree
  refine ⟨fun c => (Cert.Kernel26Ideal.Gen.dats m 0 c).arrAt 3 Cert.Kernel26Ideal.cfg0.N, fun c => (Cert.Kernel26Ideal.Gen.dats m 0 c).arrAt 4 Cert.Kernel26Ideal.cfg0.N, fun c => (Cert.Kernel26Ideal.Gen.dats m 0 c).arrAt 5 Cert.Kernel26Ideal.cfg0.N, Cert.Kernel26Ideal.Value.run_blocks m g, ?_⟩
  refine (θ_run Cert.Reference26Ideal.defs _ _).mono (fun r h c => ?_) (Cert.Reference26Ideal.Value.run m' g')
  obtain ⟨h0, h1, h2, hargs⟩ := h c
  obtain ⟨e0, e1, e2⟩ := hagree c
  refine ⟨h0.trans ?_, h1.trans ?_, h2.trans ?_, hargs⟩
  · rw [Cert.Reference26Ideal.Read.val_main_v0_eq, e0]; exact (Cert.Kernel26Ideal.Value.final_q m c).symm
  · rw [Cert.Reference26Ideal.Read.val_main_v1_eq, e1]; exact (Cert.Kernel26Ideal.Value.final_f m c).symm
  · rw [Cert.Reference26Ideal.Read.val_main_v2_eq, e2]; exact (Cert.Kernel26Ideal.Value.final_k m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts,
  Cert.Kernel3Ideal.Gen.facts, Cert.Reference3Ideal.Gen.facts, Cert.Kernel4.Gen.facts, Cert.Kernel4Ideal.Gen.facts,
  Cert.Reference4Ideal.Gen.facts, Cert.Kernel5.Gen.facts, Cert.Kernel5Ideal.Gen.facts,
  Cert.Reference5Ideal.Gen.facts, Cert.Kernel6.Gen.facts, Cert.Kernel6Ideal.Gen.facts,
  Cert.Reference6Ideal.Gen.facts, Cert.Kernel7.Gen.facts, Cert.Kernel7Ideal.Gen.facts,
  Cert.Reference7Ideal.Gen.facts, Cert.Kernel8.Gen.facts, Cert.Kernel8Ideal.Gen.facts,
  Cert.Reference8Ideal.Gen.facts, Cert.Kernel9.Gen.facts, Cert.Kernel9Ideal.Gen.facts,
  Cert.Reference9Ideal.Gen.facts, Cert.Kernel10.Gen.facts, Cert.Kernel10Ideal.Gen.facts,
  Cert.Reference10Ideal.Gen.facts, Cert.Kernel11.Gen.facts, Cert.Kernel11Ideal.Gen.facts,
  Cert.Reference11Ideal.Gen.facts, Cert.Kernel12.Gen.facts, Cert.Kernel12Ideal.Gen.facts,
  Cert.Reference12Ideal.Gen.facts, Cert.Kernel13.Gen.facts, Cert.Kernel13Ideal.Gen.facts,
  Cert.Reference13Ideal.Gen.facts, Cert.Kernel14.Gen.facts, Cert.Kernel14Ideal.Gen.facts,
  Cert.Reference14Ideal.Gen.facts, Cert.Kernel15.Gen.facts, Cert.Kernel15Ideal.Gen.facts,
  Cert.Reference15Ideal.Gen.facts, Cert.Kernel16.Gen.facts, Cert.Kernel16Ideal.Gen.facts,
  Cert.Reference16Ideal.Gen.facts, Cert.Kernel17.Gen.facts, Cert.Kernel17Ideal.Gen.facts,
  Cert.Reference17Ideal.Gen.facts, Cert.Kernel18.Gen.facts, Cert.Kernel18Ideal.Gen.facts,
  Cert.Reference18Ideal.Gen.facts, Cert.Kernel19.Gen.facts, Cert.Kernel19Ideal.Gen.facts,
  Cert.Reference19Ideal.Gen.facts, Cert.Kernel20.Gen.facts, Cert.Kernel20Ideal.Gen.facts,
  Cert.Reference20Ideal.Gen.facts, Cert.Kernel21.Gen.facts, Cert.Kernel21Ideal.Gen.facts,
  Cert.Reference21Ideal.Gen.facts, Cert.Kernel22.Gen.facts, Cert.Kernel22Ideal.Gen.facts,
  Cert.Reference22Ideal.Gen.facts, Cert.Kernel23.Gen.facts, Cert.Kernel23Ideal.Gen.facts,
  Cert.Reference23Ideal.Gen.facts, Cert.Kernel24.Gen.facts, Cert.Kernel24Ideal.Gen.facts,
  Cert.Reference24Ideal.Gen.facts, Cert.Kernel25.Gen.facts, Cert.Kernel25Ideal.Gen.facts,
  Cert.Reference25Ideal.Gen.facts, Cert.Kernel26.Gen.facts, Cert.Kernel26Ideal.Gen.facts,
  Cert.Reference26Ideal.Gen.facts, Cert.Pre_finite.Gen.facts, Cert.Pre_finite4.Gen.facts,
  frame_kernel, frame_ideal, frame_ideal_finite, frame_reference, frame_reference_finite, frame_kernel2,
  frame_ideal2, frame_reference2, frame_kernel3, frame_ideal3, frame_reference3, frame_kernel4, frame_ideal4,
  fun m g _ => frame_ideal4 m g trivial, frame_reference4, fun m g _ => frame_reference4 m g trivial, frame_kernel5,
  frame_ideal5, frame_reference5, frame_kernel6, frame_ideal6, frame_reference6, frame_kernel7, frame_ideal7,
  frame_reference7, frame_kernel8, frame_ideal8, frame_reference8, frame_kernel9, frame_ideal9, frame_reference9,
  frame_kernel10, frame_ideal10, frame_reference10, frame_kernel11, frame_ideal11, frame_reference11,
  frame_kernel12, frame_ideal12, frame_reference12, frame_kernel13, frame_ideal13, frame_reference13,
  frame_kernel14, frame_ideal14, frame_reference14, frame_kernel15, frame_ideal15, frame_reference15,
  frame_kernel16, frame_ideal16, frame_reference16, frame_kernel17, frame_ideal17, frame_reference17,
  frame_kernel18, frame_ideal18, frame_reference18, frame_kernel19, frame_ideal19, frame_reference19,
  frame_kernel20, frame_ideal20, frame_reference20, frame_kernel21, frame_ideal21, frame_reference21,
  frame_kernel22, frame_ideal22, frame_reference22, frame_kernel23, frame_ideal23, frame_reference23,
  frame_kernel24, frame_ideal24, frame_reference24, frame_kernel25, frame_ideal25, frame_reference25,
  frame_kernel26, frame_ideal26, frame_reference26,
  preserves, algebraic, trivial, algebraic2, trivial, algebraic3, trivial, algebraic4, trivial, algebraic5, trivial,
  algebraic6, trivial, algebraic7, trivial, algebraic8, trivial, algebraic9, trivial, algebraic10, trivial,
  algebraic11, trivial, algebraic12, trivial, algebraic13, trivial, algebraic14, trivial, algebraic15, trivial,
  algebraic16, trivial, algebraic17, preserves18, algebraic18, preserves19, algebraic19, preserves20, algebraic20,
  preserves21, algebraic21, preserves22, algebraic22, preserves23, algebraic23, preserves24, algebraic24,
  preserves25, algebraic25, trivial, algebraic26⟩

end Cert.Proof

end
